-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S16x13x13x12 : Shape := ⟨4, ![16, 13, 13, 12]⟩
abbrev S16x13x13x3 : Shape := ⟨4, ![16, 13, 13, 3]⟩
abbrev S16x13x13x240 : Shape := ⟨4, ![16, 13, 13, 240]⟩
abbrev S16x26x26x12 : Shape := ⟨4, ![16, 26, 26, 12]⟩
abbrev S16x26x26x3 : Shape := ⟨4, ![16, 26, 26, 3]⟩
abbrev S16x26x26x240 : Shape := ⟨4, ![16, 26, 26, 240]⟩
abbrev S16x52x52x12 : Shape := ⟨4, ![16, 52, 52, 12]⟩
abbrev S16x52x52x3 : Shape := ⟨4, ![16, 52, 52, 3]⟩
abbrev S16x52x52x240 : Shape := ⟨4, ![16, 52, 52, 240]⟩
abbrev S_ : Shape := ⟨0, ![]⟩

class Facts : Prop where
  bcast_S_S16x13x13x12 : S_.BroadcastsInDim S16x13x13x12 (![] : Fin 0 → Fin S16x13x13x12.rank)
  reducesTo_S16x13x13x12_S_d0_1_2_3 : S16x13x13x12.ReducesTo [0, 1, 2, 3] S_
  h_S_ : 0 < S_.numel
  bcast_S_S16x26x26x12 : S_.BroadcastsInDim S16x26x26x12 (![] : Fin 0 → Fin S16x26x26x12.rank)
  reducesTo_S16x26x26x12_S_d0_1_2_3 : S16x26x26x12.ReducesTo [0, 1, 2, 3] S_
  bcast_S_S16x52x52x12 : S_.BroadcastsInDim S16x52x52x12 (![] : Fin 0 → Fin S16x52x52x12.rank)
  reducesTo_S16x52x52x12_S_d0_1_2_3 : S16x52x52x12.ReducesTo [0, 1, 2, 3] S_

variable [Facts]

def fn {F : FTy → Type} [FloatOps F] (main_arg0 : FVec F S16x13x13x12 .f32) (main_arg1 : FVec F S16x13x13x3 .f32) (main_arg2 : FVec F S16x13x13x240 .f32) (main_arg3 : FVec F S16x26x26x12 .f32) (main_arg4 : FVec F S16x26x26x3 .f32) (main_arg5 : FVec F S16x26x26x240 .f32) (main_arg6 : FVec F S16x52x52x12 .f32) (main_arg7 : FVec F S16x52x52x3 .f32) (main_arg8 : FVec F S16x52x52x240 .f32) : IVec S_ 1 :=
  let main_v0 : FVec F S16x13x13x12 .f32 := Host.absf main_arg0
  let main_cst : FVec F S_ .f32 := constant S_ .f32 0x7F800000#32
  let main_v1 : FVec F S16x13x13x12 .f32 := broadcastInDim S16x13x13x12 ![] bcast_S_S16x13x13x12 main_cst
  let main_v2 : IVec S16x13x13x12 1 := cmpf .olt main_v0 main_v1
  let main_c : IVec S_ 1 := constantI S_ 1 1#1
  let main_v3 : IVec S_ 1 := (fun x v => Host.reduce IntOp.andi x v reducesTo_S16x13x13x12_S_d0_1_2_3 h_S_) main_v2 main_c
  let main_v4 : FVec F S16x26x26x12 .f32 := Host.absf main_arg3
  let main_cst_0 : FVec F S_ .f32 := constant S_ .f32 0x7F800000#32
  let main_v5 : FVec F S16x26x26x12 .f32 := broadcastInDim S16x26x26x12 ![] bcast_S_S16x26x26x12 main_cst_0
  let main_v6 : IVec S16x26x26x12 1 := cmpf .olt main_v4 main_v5
  let main_c_1 : IVec S_ 1 := constantI S_ 1 1#1
  let main_v7 : IVec S_ 1 := (fun x v => Host.reduce IntOp.andi x v reducesTo_S16x26x26x12_S_d0_1_2_3 h_S_) main_v6 main_c_1
  let main_v8 : IVec S_ 1 := andi main_v3 main_v7
  let main_v9 : FVec F S16x52x52x12 .f32 := Host.absf main_arg6
  let main_cst_2 : FVec F S_ .f32 := constant S_ .f32 0x7F800000#32
  let main_v10 : FVec F S16x52x52x12 .f32 := broadcastInDim S16x52x52x12 ![] bcast_S_S16x52x52x12 main_cst_2
  let main_v11 : IVec S16x52x52x12 1 := cmpf .olt main_v9 main_v10
  let main_c_3 : IVec S_ 1 := constantI S_ 1 1#1
  let main_v12 : IVec S_ 1 := (fun x v => Host.reduce IntOp.andi x v reducesTo_S16x52x52x12_S_d0_1_2_3 h_S_) main_v11 main_c_3
  let main_v13 : IVec S_ 1 := andi main_v8 main_v12
  main_v13
-- ==== Kernel.lean ====
abbrev S16x13x13x12 : Shape := ⟨4, ![16, 13, 13, 12]⟩
abbrev S16x13x13x3 : Shape := ⟨4, ![16, 13, 13, 3]⟩
abbrev S16x13x13x240 : Shape := ⟨4, ![16, 13, 13, 240]⟩
abbrev S16x26x26x12 : Shape := ⟨4, ![16, 26, 26, 12]⟩
abbrev S16x26x26x3 : Shape := ⟨4, ![16, 26, 26, 3]⟩
abbrev S16x26x26x240 : Shape := ⟨4, ![16, 26, 26, 240]⟩
abbrev S16x52x52x12 : Shape := ⟨4, ![16, 52, 52, 12]⟩
abbrev S16x52x52x3 : Shape := ⟨4, ![16, 52, 52, 3]⟩
abbrev S16x52x52x240 : Shape := ⟨4, ![16, 52, 52, 240]⟩
abbrev S16x507x4 : Shape := ⟨3, ![16, 507, 4]⟩
abbrev S16x2028x4 : Shape := ⟨3, ![16, 2028, 4]⟩
abbrev S16x8112x4 : Shape := ⟨3, ![16, 8112, 4]⟩
abbrev S16x10647x4 : Shape := ⟨3, ![16, 10647, 4]⟩
abbrev S16x507x1 : Shape := ⟨3, ![16, 507, 1]⟩
abbrev S16x2028x1 : Shape := ⟨3, ![16, 2028, 1]⟩
abbrev S16x8112x1 : Shape := ⟨3, ![16, 8112, 1]⟩
abbrev S16x10647x1 : Shape := ⟨3, ![16, 10647, 1]⟩
abbrev S16x507x80 : Shape := ⟨3, ![16, 507, 80]⟩
abbrev S16x2028x80 : Shape := ⟨3, ![16, 2028, 80]⟩
abbrev S16x8112x80 : Shape := ⟨3, ![16, 8112, 80]⟩
abbrev S16x10647x80 : Shape := ⟨3, ![16, 10647, 80]⟩
abbrev S16x10752x1 : Shape := ⟨3, ![16, 10752, 1]⟩
abbrev S1x1344x80 : Shape := ⟨3, ![1, 1344, 80]⟩
abbrev S1x1344x1 : Shape := ⟨3, ![1, 1344, 1]⟩
abbrev S1344x80 : Shape := ⟨2, ![1344, 80]⟩
abbrev S1344 : Shape := ⟨1, ![1344]⟩
abbrev S1344x1 : Shape := ⟨2, ![1344, 1]⟩
abbrev S16x10752 : Shape := ⟨2, ![16, 10752]⟩
abbrev S16x10647 : Shape := ⟨2, ![16, 10647]⟩
abbrev S_ : Shape := ⟨0, ![]⟩
abbrev S16x128 : Shape := ⟨2, ![16, 128]⟩
abbrev S16x1 : Shape := ⟨2, ![16, 1]⟩
abbrev S16 : Shape := ⟨1, ![16]⟩
abbrev S16x128x1 : Shape := ⟨3, ![16, 128, 1]⟩
abbrev S16x128x4 : Shape := ⟨3, ![16, 128, 4]⟩
abbrev S16x100x4 : Shape := ⟨3, ![16, 100, 4]⟩
abbrev S16x100 : Shape := ⟨2, ![16, 100]⟩
abbrev S16x100x1 : Shape := ⟨3, ![16, 100, 1]⟩
abbrev S16x100x6 : Shape := ⟨3, ![16, 100, 6]⟩

abbrev nBuf : Space → Nat
  | .hbm => 62
  | .vmem => 18
  | .smem => 0
  | _ => 0

abbrev bufTy : (tb : Table) → Fin (tcTables nBuf tb) → BufTy
  | .hbm, ⟨0, _⟩ => ⟨S16x13x13x12, .f32⟩
  | .hbm, ⟨1, _⟩ => ⟨S16x13x13x3, .f32⟩
  | .hbm, ⟨2, _⟩ => ⟨S16x13x13x240, .f32⟩
  | .hbm, ⟨3, _⟩ => ⟨S16x26x26x12, .f32⟩
  | .hbm, ⟨4, _⟩ => ⟨S16x26x26x3, .f32⟩
  | .hbm, ⟨5, _⟩ => ⟨S16x26x26x240, .f32⟩
  | .hbm, ⟨6, _⟩ => ⟨S16x52x52x12, .f32⟩
  | .hbm, ⟨7, _⟩ => ⟨S16x52x52x3, .f32⟩
  | .hbm, ⟨8, _⟩ => ⟨S16x52x52x240, .f32⟩
  | .hbm, ⟨9, _⟩ => ⟨S16x507x4, .f32⟩
  | .hbm, ⟨10, _⟩ => ⟨S16x2028x4, .f32⟩
  | .hbm, ⟨11, _⟩ => ⟨S16x8112x4, .f32⟩
  | .hbm, ⟨12, _⟩ => ⟨S16x10647x4, .f32⟩
  | .hbm, ⟨13, _⟩ => ⟨S16x507x1, .f32⟩
  | .hbm, ⟨14, _⟩ => ⟨S16x2028x1, .f32⟩
  | .hbm, ⟨15, _⟩ => ⟨S16x8112x1, .f32⟩
  | .hbm, ⟨16, _⟩ => ⟨S16x10647x1, .f32⟩
  | .hbm, ⟨17, _⟩ => ⟨S16x507x80, .f32⟩
  | .hbm, ⟨18, _⟩ => ⟨S16x2028x80, .f32⟩
  | .hbm, ⟨19, _⟩ => ⟨S16x8112x80, .f32⟩
  | .hbm, ⟨20, _⟩ => ⟨S16x10647x80, .f32⟩
  | .hbm, ⟨21, _⟩ => ⟨S16x10752x1, .f32⟩
  | .hbm, ⟨22, _⟩ => ⟨S16x10752, .f32⟩
  | .hbm, ⟨23, _⟩ => ⟨S16x10647x1, .f32⟩
  | .hbm, ⟨24, _⟩ => ⟨S16x10647, .f32⟩
  | .hbm, ⟨25, _⟩ => ⟨S_, .i32⟩
  | .hbm, ⟨26, _⟩ => ⟨S_, .f32⟩
  | .hbm, ⟨27, _⟩ => ⟨S16x10752, .f32⟩
  | .hbm, ⟨28, _⟩ => ⟨S16x10647x1, .f32⟩
  | .hbm, ⟨29, _⟩ => ⟨S16x10647, .f32⟩
  | .hbm, ⟨30, _⟩ => ⟨S_, .i32⟩
  | .hbm, ⟨31, _⟩ => ⟨S_, .f32⟩
  | .hbm, ⟨32, _⟩ => ⟨S16x10752, .f32⟩
  | .hbm, ⟨33, _⟩ => ⟨S16x10647x1, .f32⟩
  | .hbm, ⟨34, _⟩ => ⟨S16x10647, .f32⟩
  | .hbm, ⟨35, _⟩ => ⟨S_, .i32⟩
  | .hbm, ⟨36, _⟩ => ⟨S_, .f32⟩
  | .hbm, ⟨37, _⟩ => ⟨S16x10752, .f32⟩
  | .hbm, ⟨38, _⟩ => ⟨S16x10647x1, .f32⟩
  | .hbm, ⟨39, _⟩ => ⟨S16x10647, .f32⟩
  | .hbm, ⟨40, _⟩ => ⟨S_, .i32⟩
  | .hbm, ⟨41, _⟩ => ⟨S_, .f32⟩
  | .hbm, ⟨42, _⟩ => ⟨S16x10752, .f32⟩
  | .hbm, ⟨43, _⟩ => ⟨S16x128, .f32⟩
  | .hbm, ⟨44, _⟩ => ⟨S16x128, .f32⟩
  | .hbm, ⟨45, _⟩ => ⟨S16x128, .f32⟩
  | .hbm, ⟨46, _⟩ => ⟨S16x128, .f32⟩
  | .hbm, ⟨47, _⟩ => ⟨S16x128, .f32⟩
  | .hbm, ⟨48, _⟩ => ⟨S16x1, .f32⟩
  | .hbm, ⟨49, _⟩ => ⟨S16x128x1, .f32⟩
  | .hbm, ⟨50, _⟩ => ⟨S16x128x1, .f32⟩
  | .hbm, ⟨51, _⟩ => ⟨S16x128x1, .f32⟩
  | .hbm, ⟨52, _⟩ => ⟨S16x128x1, .f32⟩
  | .hbm, ⟨53, _⟩ => ⟨S16x128x4, .f32⟩
  | .hbm, ⟨54, _⟩ => ⟨S16x100x4, .f32⟩
  | .hbm, ⟨55, _⟩ => ⟨S16x100, .f32⟩
  | .hbm, ⟨56, _⟩ => ⟨S16x100x1, .f32⟩
  | .hbm, ⟨57, _⟩ => ⟨S_, .f32⟩
  | .hbm, ⟨58, _⟩ => ⟨S16x100x1, .f32⟩
  | .hbm, ⟨59, _⟩ => ⟨S16x100x6, .f32⟩
  | .hbm, ⟨60, _⟩ => ⟨S16, .f32⟩
  | .hbm, ⟨61, _⟩ => ⟨S16, .i32⟩
  | .local _ .vmem, ⟨0, _⟩ => ⟨S1x1344x80, .f32⟩
  | .local _ .vmem, ⟨1, _⟩ => ⟨S1x1344x80, .f32⟩
  | .local _ .vmem, ⟨2, _⟩ => ⟨S1x1344x1, .f32⟩
  | .local _ .vmem, ⟨3, _⟩ => ⟨S1x1344x1, .f32⟩
  | .local _ .vmem, ⟨4, _⟩ => ⟨S1x1344x1, .f32⟩
  | .local _ .vmem, ⟨5, _⟩ => ⟨S1x1344x1, .f32⟩
  | .local _ .vmem, ⟨6, _⟩ => ⟨S16x10752, .f32⟩
  | .local _ .vmem, ⟨7, _⟩ => ⟨S16x10752, .f32⟩
  | .local _ .vmem, ⟨8, _⟩ => ⟨S16x10752, .f32⟩
  | .local _ .vmem, ⟨9, _⟩ => ⟨S16x10752, .f32⟩
  | .local _ .vmem, ⟨10, _⟩ => ⟨S16x10752, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | .local _ .vmem, ⟨16, _⟩ => ⟨S16x1, .f32⟩
  | .local _ .vmem, ⟨17, _⟩ => ⟨S16x10752, .f32⟩
  | _, _ => ⟨S16x13x13x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_call2_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_call3_v0 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_v26_3 : Ref sig .tc := ⟨.hbm, 46, rfl⟩
abbrev main_v26_4 : Ref sig .tc := ⟨.hbm, 47, rfl⟩
abbrev main_v26_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1344x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1344x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1344x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := .none

@[reducible] def k1_t1_loop : Scf.Loop 32 :=
  let c0_i32 : BitVec 32 := 0#32
  let c100_i32 : BitVec 32 := 100#32
  let v31 : BitVec 32 := Scalar.addi c0_i32 c100_i32
  let c1_i32 : BitVec 32 := 1#32
  ⟨c0_i32, v31, c1_i32⟩
abbrev stage1_0 : Fin 1 → Memref sig .tc .vmem S16x10752 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x10752 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x10752 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x10752 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x10752 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S16x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S16x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== ReferenceIdeal.lean ====
abbrev S16x13x13x12 : Shape := ⟨4, ![16, 13, 13, 12]⟩
abbrev S16x13x13x3 : Shape := ⟨4, ![16, 13, 13, 3]⟩
abbrev S16x13x13x240 : Shape := ⟨4, ![16, 13, 13, 240]⟩
abbrev S16x26x26x12 : Shape := ⟨4, ![16, 26, 26, 12]⟩
abbrev S16x26x26x3 : Shape := ⟨4, ![16, 26, 26, 3]⟩
abbrev S16x26x26x240 : Shape := ⟨4, ![16, 26, 26, 240]⟩
abbrev S16x52x52x12 : Shape := ⟨4, ![16, 52, 52, 12]⟩
abbrev S16x52x52x3 : Shape := ⟨4, ![16, 52, 52, 3]⟩
abbrev S16x52x52x240 : Shape := ⟨4, ![16, 52, 52, 240]⟩
abbrev S16x507x4 : Shape := ⟨3, ![16, 507, 4]⟩
abbrev S16x2028x4 : Shape := ⟨3, ![16, 2028, 4]⟩
abbrev S16x8112x4 : Shape := ⟨3, ![16, 8112, 4]⟩
abbrev S16x10647x4 : Shape := ⟨3, ![16, 10647, 4]⟩
abbrev S16x507x1 : Shape := ⟨3, ![16, 507, 1]⟩
abbrev S16x2028x1 : Shape := ⟨3, ![16, 2028, 1]⟩
abbrev S16x8112x1 : Shape := ⟨3, ![16, 8112, 1]⟩
abbrev S16x10647x1 : Shape := ⟨3, ![16, 10647, 1]⟩
abbrev S16x507x80 : Shape := ⟨3, ![16, 507, 80]⟩
abbrev S16x2028x80 : Shape := ⟨3, ![16, 2028, 80]⟩
abbrev S16x8112x80 : Shape := ⟨3, ![16, 8112, 80]⟩
abbrev S16x10647x80 : Shape := ⟨3, ![16, 10647, 80]⟩
abbrev S_ : Shape := ⟨0, ![]⟩
abbrev S16x10647 : Shape := ⟨2, ![16, 10647]⟩
abbrev S10647 : Shape := ⟨1, ![10647]⟩
abbrev S100x4 : Shape := ⟨2, ![100, 4]⟩
abbrev S100 : Shape := ⟨1, ![100]⟩
abbrev S16x100x4 : Shape := ⟨3, ![16, 100, 4]⟩
abbrev S16x100 : Shape := ⟨2, ![16, 100]⟩
abbrev S16 : Shape := ⟨1, ![16]⟩
abbrev S16x1 : Shape := ⟨2, ![16, 1]⟩
abbrev S16x4 : Shape := ⟨2, ![16, 4]⟩
abbrev S1x10647 : Shape := ⟨2, ![1, 10647]⟩
abbrev S1 : Shape := ⟨1, ![1]⟩
abbrev S16x100x1 : Shape := ⟨3, ![16, 100, 1]⟩
abbrev S16x100x6 : Shape := ⟨3, ![16, 100, 6]⟩

abbrev nBuf : Space → Nat
  | .hbm => 224
  | .vmem => 0
  | .smem => 0
  | _ => 0

abbrev hbmTy0_0 (i : Nat) : BufTy := match i % 128 with
  | 0 => ⟨S16x13x13x12, .f32⟩
  | 1 => ⟨S16x13x13x3, .f32⟩
  | 2 => ⟨S16x13x13x240, .f32⟩
  | 3 => ⟨S16x26x26x12, .f32⟩
  | 4 => ⟨S16x26x26x3, .f32⟩
  | 5 => ⟨S16x26x26x240, .f32⟩
  | 6 => ⟨S16x52x52x12, .f32⟩
  | 7 => ⟨S16x52x52x3, .f32⟩
  | 8 => ⟨S16x52x52x240, .f32⟩
  | 9 => ⟨S16x507x4, .f32⟩
  | 10 => ⟨S16x2028x4, .f32⟩
  | 11 => ⟨S16x8112x4, .f32⟩
  | 12 => ⟨S16x10647x4, .f32⟩
  | 13 => ⟨S16x507x1, .f32⟩
  | 14 => ⟨S16x2028x1, .f32⟩
  | 15 => ⟨S16x8112x1, .f32⟩
  | 16 => ⟨S16x10647x1, .f32⟩
  | 17 => ⟨S16x507x80, .f32⟩
  | 18 => ⟨S16x2028x80, .f32⟩
  | 19 => ⟨S16x8112x80, .f32⟩
  | 20 => ⟨S16x10647x80, .f32⟩
  | 21 => ⟨S16x10647x80, .i32⟩
  | 22 => ⟨S_, .f32⟩
  | 23 => ⟨S_, .i32⟩
  | 24 => ⟨S16x10647, .f32⟩
  | 25 => ⟨S16x10647, .i32⟩
  | 26 => ⟨S16x10647, .f32⟩
  | 27 => ⟨S16x10647, .f32⟩
  | 28 => ⟨S16x10647, .f32⟩
  | 29 => ⟨S_, .f32⟩
  | 30 => ⟨S16x10647, .f32⟩
  | 31 => ⟨S16x10647, .i1⟩
  | 32 => ⟨S_, .f32⟩
  | 33 => ⟨S_, .f32⟩
  | 34 => ⟨S10647, .f32⟩
  | 35 => ⟨S16x10647, .f32⟩
  | 36 => ⟨S16x10647, .f32⟩
  | 37 => ⟨S_, .f32⟩
  | 38 => ⟨S100x4, .f32⟩
  | 39 => ⟨S_, .f32⟩
  | 40 => ⟨S100, .f32⟩
  | 41 => ⟨S_, .f32⟩
  | 42 => ⟨S100, .f32⟩
  | 43 => ⟨S16x100x4, .f32⟩
  | 44 => ⟨S16x100, .f32⟩
  | 45 => ⟨S_, .f32⟩
  | 46 => ⟨S16, .f32⟩
  | 47 => ⟨S_, .i32⟩
  | 48 => ⟨S_, .i32⟩
  | 49 => ⟨S16x10647x4, .f32⟩
  | 50 => ⟨S_, .i32⟩
  | 51 => ⟨S_, .i32⟩
  | 52 => ⟨S16x10647, .f32⟩
  | 53 => ⟨S16x100x4, .f32⟩
  | 54 => ⟨S16x100, .f32⟩
  | 55 => ⟨S100, .f32⟩
  | 56 => ⟨S16, .f32⟩
  | 57 => ⟨S_, .i32⟩
  | 58 => ⟨S_, .i1⟩
  | 59 => ⟨S_, .i32⟩
  | 60 => ⟨S_, .i32⟩
  | 61 => ⟨S16x10647, .i32⟩
  | 62 => ⟨S_, .f32⟩
  | 63 => ⟨S_, .i32⟩
  | 64 => ⟨S16, .f32⟩
  | 65 => ⟨S16, .i32⟩
  | 66 => ⟨S16x1, .i32⟩
  | 67 => ⟨S16, .f32⟩
  | 68 => ⟨S_, .f32⟩
  | 69 => ⟨S16, .f32⟩
  | 70 => ⟨S16, .i1⟩
  | 71 => ⟨S16x1, .i32⟩
  | 72 => ⟨S16x4, .f32⟩
  | 73 => ⟨S16x1, .f32⟩
  | 74 => ⟨S16, .f32⟩
  | 75 => ⟨S16x10647x1, .f32⟩
  | 76 => ⟨S16x10647, .f32⟩
  | 77 => ⟨S16x1, .f32⟩
  | 78 => ⟨S16x10647, .f32⟩
  | 79 => ⟨S16x10647, .f32⟩
  | 80 => ⟨S16x1, .f32⟩
  | 81 => ⟨S16, .f32⟩
  | 82 => ⟨S16x10647x1, .f32⟩
  | 83 => ⟨S16x10647, .f32⟩
  | 84 => ⟨S16x1, .f32⟩
  | 85 => ⟨S16x10647, .f32⟩
  | 86 => ⟨S16x10647, .f32⟩
  | 87 => ⟨S16x1, .f32⟩
  | 88 => ⟨S16, .f32⟩
  | 89 => ⟨S16x10647x1, .f32⟩
  | 90 => ⟨S16x10647, .f32⟩
  | 91 => ⟨S16x1, .f32⟩
  | 92 => ⟨S16x10647, .f32⟩
  | 93 => ⟨S16x10647, .f32⟩
  | 94 => ⟨S16x1, .f32⟩
  | 95 => ⟨S16, .f32⟩
  | 96 => ⟨S16x10647x1, .f32⟩
  | 97 => ⟨S16x10647, .f32⟩
  | 98 => ⟨S16x1, .f32⟩
  | 99 => ⟨S16x10647, .f32⟩
  | 100 => ⟨S16x10647, .f32⟩
  | 101 => ⟨S16x10647, .f32⟩
  | 102 => ⟨S_, .f32⟩
  | 103 => ⟨S16x10647, .f32⟩
  | 104 => ⟨S16x10647, .f32⟩
  | 105 => ⟨S16x10647, .f32⟩
  | 106 => ⟨S_, .f32⟩
  | 107 => ⟨S16x10647, .f32⟩
  | 108 => ⟨S16x10647, .f32⟩
  | 109 => ⟨S16x10647, .f32⟩
  | 110 => ⟨S16x1, .f32⟩
  | 111 => ⟨S16, .f32⟩
  | 112 => ⟨S16x1, .f32⟩
  | 113 => ⟨S16, .f32⟩
  | 114 => ⟨S16, .f32⟩
  | 115 => ⟨S_, .f32⟩
  | 116 => ⟨S16, .f32⟩
  | 117 => ⟨S16, .f32⟩
  | 118 => ⟨S16x1, .f32⟩
  | 119 => ⟨S16, .f32⟩
  | 120 => ⟨S16x1, .f32⟩
  | 121 => ⟨S16, .f32⟩
  | 122 => ⟨S16, .f32⟩
  | 123 => ⟨S_, .f32⟩
  | 124 => ⟨S16, .f32⟩
  | 125 => ⟨S16, .f32⟩
  | 126 => ⟨S16, .f32⟩
  | 127 => ⟨S16x10647x1, .f32⟩
  | _ => ⟨S16x13x13x12, .f32⟩

abbrev hbmTy0_1 (i : Nat) : BufTy := match i % 128 with
  | 0 => ⟨S16x10647, .f32⟩
  | 1 => ⟨S16x10647x1, .f32⟩
  | 2 => ⟨S16x10647, .f32⟩
  | 3 => ⟨S16x10647, .f32⟩
  | 4 => ⟨S_, .f32⟩
  | 5 => ⟨S16x10647, .f32⟩
  | 6 => ⟨S16x10647, .f32⟩
  | 7 => ⟨S16x10647x1, .f32⟩
  | 8 => ⟨S16x10647, .f32⟩
  | 9 => ⟨S16x10647x1, .f32⟩
  | 10 => ⟨S16x10647, .f32⟩
  | 11 => ⟨S16x10647, .f32⟩
  | 12 => ⟨S_, .f32⟩
  | 13 => ⟨S16x10647, .f32⟩
  | 14 => ⟨S16x10647, .f32⟩
  | 15 => ⟨S16x10647, .f32⟩
  | 16 => ⟨S16x1, .f32⟩
  | 17 => ⟨S16x10647, .f32⟩
  | 18 => ⟨S16x10647, .f32⟩
  | 19 => ⟨S16x10647, .f32⟩
  | 20 => ⟨S_, .f32⟩
  | 21 => ⟨S16x10647, .f32⟩
  | 22 => ⟨S16x10647, .i1⟩
  | 23 => ⟨S16x10647, .f32⟩
  | 24 => ⟨S_, .f32⟩
  | 25 => ⟨S_, .f32⟩
  | 26 => ⟨S10647, .f32⟩
  | 27 => ⟨S16x10647, .f32⟩
  | 28 => ⟨S16x10647, .f32⟩
  | 29 => ⟨S_, .f32⟩
  | 30 => ⟨S16x10647, .f32⟩
  | 31 => ⟨S16x10647, .i1⟩
  | 32 => ⟨S_, .f32⟩
  | 33 => ⟨S_, .f32⟩
  | 34 => ⟨S10647, .f32⟩
  | 35 => ⟨S16x10647, .f32⟩
  | 36 => ⟨S16x10647, .f32⟩
  | 37 => ⟨S10647, .i32⟩
  | 38 => ⟨S1x10647, .i32⟩
  | 39 => ⟨S16x1, .i32⟩
  | 40 => ⟨S16x10647, .i32⟩
  | 41 => ⟨S16x10647, .i32⟩
  | 42 => ⟨S16x10647, .i1⟩
  | 43 => ⟨S_, .f32⟩
  | 44 => ⟨S_, .f32⟩
  | 45 => ⟨S10647, .f32⟩
  | 46 => ⟨S16x10647, .f32⟩
  | 47 => ⟨S16x10647, .f32⟩
  | 48 => ⟨S16x10647, .i1⟩
  | 49 => ⟨S16x10647, .f32⟩
  | 50 => ⟨S16, .f32⟩
  | 51 => ⟨S_, .f32⟩
  | 52 => ⟨S_, .f32⟩
  | 53 => ⟨S_, .f32⟩
  | 54 => ⟨S16x4, .f32⟩
  | 55 => ⟨S16x4, .f32⟩
  | 56 => ⟨S_, .f32⟩
  | 57 => ⟨S16x4, .f32⟩
  | 58 => ⟨S16x4, .f32⟩
  | 59 => ⟨S16x1, .f32⟩
  | 60 => ⟨S16x4, .f32⟩
  | 61 => ⟨S16x4, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1, .i32⟩
  | 69 => ⟨S16x100x4, .f32⟩
  | 70 => ⟨S16, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S1, .i32⟩
  | 78 => ⟨S16x100, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S1, .i32⟩
  | 86 => ⟨S_, .f32⟩
  | 87 => ⟨S100, .f32⟩
  | 88 => ⟨S16, .f32⟩
  | 89 => ⟨S_, .i32⟩
  | 90 => ⟨S_, .i32⟩
  | 91 => ⟨S16x100, .f32⟩
  | 92 => ⟨S16x100x1, .f32⟩
  | 93 => ⟨S16x100x1, .f32⟩
  | 94 => ⟨S16x100x6, .f32⟩
  | 95 => ⟨S16, .i32⟩
  | _ => ⟨S16x13x13x12, .f32⟩

abbrev hbmTy (i : Nat) : BufTy := match i / 128 with
  | 0 => hbmTy0_0 i
  | 1 => hbmTy0_1 i
  | _ => ⟨S16x13x13x12, .f32⟩

abbrev bufTy : (tb : Table) → Fin (tcTables nBuf tb) → BufTy
  | .hbm, ⟨i, _⟩ => hbmTy i
  | _, _ => ⟨S16x13x13x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_c : Ref sig .tc := ⟨.hbm, 47, rfl⟩
abbrev main_c_5 : Ref sig .tc := ⟨.hbm, 48, rfl⟩
abbrev main_v25_0 : Ref sig .tc := ⟨.hbm, 49, rfl⟩
abbrev main_v25_1 : Ref sig .tc := ⟨.hbm, 50, rfl⟩
abbrev main_v25_2 : Ref sig .tc := ⟨.hbm, 51, rfl⟩
abbrev main_v25_3 : Ref sig .tc := ⟨.hbm, 52, rfl⟩
abbrev main_v25_4 : Ref sig .tc := ⟨.hbm, 53, rfl⟩
abbrev main_v25_5 : Ref sig .tc := ⟨.hbm, 54, rfl⟩
abbrev main_v25_6 : Ref sig .tc := ⟨.hbm, 55, rfl⟩
abbrev main_v25_7 : Ref sig .tc := ⟨.hbm, 56, rfl⟩
abbrev main_while0c_c_13 : Ref sig .tc := ⟨.hbm, 57, rfl⟩
abbrev main_while0c_v31 : Ref sig .tc := ⟨.hbm, 58, rfl⟩
abbrev main_while0b_c_13 : Ref sig .tc := ⟨.hbm, 59, rfl⟩
abbrev main_while0b_v31 : Ref sig .tc := ⟨.hbm, 60, rfl⟩
abbrev main_while0b_call2_v0 : Ref sig .tc := ⟨.hbm, 61, rfl⟩
abbrev main_while0b_call2_cst : Ref sig .tc := ⟨.hbm, 62, rfl⟩
abbrev main_while0b_call2_c : Ref sig .tc := ⟨.hbm, 63, rfl⟩
abbrev main_while0b_call2_v1_0 : Ref sig .tc := ⟨.hbm, 64, rfl⟩
abbrev main_while0b_v32 : Ref sig .tc := ⟨.hbm, 65, rfl⟩
abbrev main_while0b_call3_v0 : Ref sig .tc := ⟨.hbm, 66, rfl⟩
abbrev main_while0b_v33 : Ref sig .tc := ⟨.hbm, 67, rfl⟩
abbrev main_while0b_cst_14 : Ref sig .tc := ⟨.hbm, 68, rfl⟩
abbrev main_while0b_v34 : Ref sig .tc := ⟨.hbm, 69, rfl⟩
abbrev main_while0b_v35 : Ref sig .tc := ⟨.hbm, 70, rfl⟩
abbrev main_while0b_call4_v0 : Ref sig .tc := ⟨.hbm, 71, rfl⟩
abbrev main_while0b_v36 : Ref sig .tc := ⟨.hbm, 72, rfl⟩
abbrev main_while0b_v37 : Ref sig .tc := ⟨.hbm, 73, rfl⟩
abbrev main_while0b_v38 : Ref sig .tc := ⟨.hbm, 74, rfl⟩
abbrev main_while0b_v39 : Ref sig .tc := ⟨.hbm, 75, rfl⟩
abbrev main_while0b_v40 : Ref sig .tc := ⟨.hbm, 76, rfl⟩
abbrev main_while0b_v41 : Ref sig .tc := ⟨.hbm, 77, rfl⟩
abbrev main_while0b_v42 : Ref sig .tc := ⟨.hbm, 78, rfl⟩
abbrev main_while0b_v43 : Ref sig .tc := ⟨.hbm, 79, rfl⟩
abbrev main_while0b_v44 : Ref sig .tc := ⟨.hbm, 80, rfl⟩
abbrev main_while0b_v45 : Ref sig .tc := ⟨.hbm, 81, rfl⟩
abbrev main_while0b_v46 : Ref sig .tc := ⟨.hbm, 82, rfl⟩
abbrev main_while0b_v47 : Ref sig .tc := ⟨.hbm, 83, rfl⟩
abbrev main_while0b_v48 : Ref sig .tc := ⟨.hbm, 84, rfl⟩
abbrev main_while0b_v49 : Ref sig .tc := ⟨.hbm, 85, rfl⟩
abbrev main_while0b_v50 : Ref sig .tc := ⟨.hbm, 86, rfl⟩
abbrev main_while0b_v51 : Ref sig .tc := ⟨.hbm, 87, rfl⟩
abbrev main_while0b_v52 : Ref sig .tc := ⟨.hbm, 88, rfl⟩
abbrev main_while0b_v53 : Ref sig .tc := ⟨.hbm, 89, rfl⟩
abbrev main_while0b_v54 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_v58 : Ref sig .tc := ⟨.hbm, 94, rfl⟩
abbrev main_while0b_v59 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_cst_15 : Ref sig .tc := ⟨.hbm, 102, rfl⟩
abbrev main_while0b_v66 : Ref sig .tc := ⟨.hbm, 103, rfl⟩
abbrev main_while0b_v67 : Ref sig .tc := ⟨.hbm, 104, rfl⟩
abbrev main_while0b_v68 : Ref sig .tc := ⟨.hbm, 105, rfl⟩
abbrev main_while0b_cst_16 : Ref sig .tc := ⟨.hbm, 106, rfl⟩
abbrev main_while0b_v69 : Ref sig .tc := ⟨.hbm, 107, rfl⟩
abbrev main_while0b_v70 : Ref sig .tc := ⟨.hbm, 108, rfl⟩
abbrev main_while0b_v71 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_cst_17 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_cst_18 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_v87 : Ref sig .tc := ⟨.hbm, 127, rfl⟩
abbrev main_while0b_v88 : Ref sig .tc := ⟨.hbm, 128, rfl⟩
abbrev main_while0b_v89 : Ref sig .tc := ⟨.hbm, 129, rfl⟩
abbrev main_while0b_v90 : Ref sig .tc := ⟨.hbm, 130, rfl⟩
abbrev main_while0b_v91 : Ref sig .tc := ⟨.hbm, 131, rfl⟩
abbrev main_while0b_cst_19 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_v95 : Ref sig .tc := ⟨.hbm, 136, rfl⟩
abbrev main_while0b_v96 : Ref sig .tc := ⟨.hbm, 137, rfl⟩
abbrev main_while0b_v97 : Ref sig .tc := ⟨.hbm, 138, rfl⟩
abbrev main_while0b_v98 : Ref sig .tc := ⟨.hbm, 139, rfl⟩
abbrev main_while0b_cst_20 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_v103 : Ref sig .tc := ⟨.hbm, 145, rfl⟩
abbrev main_while0b_v104 : Ref sig .tc := ⟨.hbm, 146, rfl⟩
abbrev main_while0b_v105 : Ref sig .tc := ⟨.hbm, 147, rfl⟩
abbrev main_while0b_cst_21 : Ref sig .tc := ⟨.hbm, 148, rfl⟩
abbrev main_while0b_v106 : Ref sig .tc := ⟨.hbm, 149, rfl⟩
abbrev main_while0b_v107 : Ref sig .tc := ⟨.hbm, 150, rfl⟩
abbrev main_while0b_v108 : Ref sig .tc := ⟨.hbm, 151, rfl⟩
abbrev main_while0b_cst_22 : Ref sig .tc := ⟨.hbm, 152, rfl⟩
abbrev main_while0b_call5_v0 : Ref sig .tc := ⟨.hbm, 153, rfl⟩
abbrev main_while0b_call5_v1 : Ref sig .tc := ⟨.hbm, 154, rfl⟩
abbrev main_while0b_call5_v2 : Ref sig .tc := ⟨.hbm, 155, rfl⟩
abbrev main_while0b_v109 : Ref sig .tc := ⟨.hbm, 156, rfl⟩
abbrev main_while0b_cst_23 : Ref sig .tc := ⟨.hbm, 157, rfl⟩
abbrev main_while0b_v110 : Ref sig .tc := ⟨.hbm, 158, rfl⟩
abbrev main_while0b_v111 : Ref sig .tc := ⟨.hbm, 159, rfl⟩
abbrev main_while0b_cst_24 : Ref sig .tc := ⟨.hbm, 160, rfl⟩
abbrev main_while0b_call6_v0 : Ref sig .tc := ⟨.hbm, 161, rfl⟩
abbrev main_while0b_call6_v1 : Ref sig .tc := ⟨.hbm, 162, rfl⟩
abbrev main_while0b_call6_v2 : Ref sig .tc := ⟨.hbm, 163, rfl⟩
abbrev main_while0b_v112 : Ref sig .tc := ⟨.hbm, 164, rfl⟩
abbrev main_while0b_v113 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_cst_25 : Ref sig .tc := ⟨.hbm, 171, rfl⟩
abbrev main_while0b_call7_v0 : Ref sig .tc := ⟨.hbm, 172, rfl⟩
abbrev main_while0b_call7_v1 : Ref sig .tc := ⟨.hbm, 173, rfl⟩
abbrev main_while0b_call7_v2 : Ref sig .tc := ⟨.hbm, 174, rfl⟩
abbrev main_while0b_v119 : Ref sig .tc := ⟨.hbm, 175, rfl⟩
abbrev main_while0b_call8_v0 : Ref sig .tc := ⟨.hbm, 176, rfl⟩
abbrev main_while0b_v120 : Ref sig .tc := ⟨.hbm, 177, rfl⟩
abbrev main_while0b_v121 : Ref sig .tc := ⟨.hbm, 178, rfl⟩
abbrev main_while0b_cst_26 : Ref sig .tc := ⟨.hbm, 179, rfl⟩
abbrev main_while0b_cst_27 : Ref sig .tc := ⟨.hbm, 180, rfl⟩
abbrev main_while0b_call9_v0 : Ref sig .tc := ⟨.hbm, 181, rfl⟩
abbrev main_while0b_call9_v1 : Ref sig .tc := ⟨.hbm, 182, rfl⟩
abbrev main_while0b_call9_v2 : Ref sig .tc := ⟨.hbm, 183, rfl⟩
abbrev main_while0b_call9_v3 : Ref sig .tc := ⟨.hbm, 184, rfl⟩
abbrev main_while0b_call9_v4 : Ref sig .tc := ⟨.hbm, 185, rfl⟩
abbrev main_while0b_v122 : Ref sig .tc := ⟨.hbm, 186, rfl⟩
abbrev main_while0b_v123 : Ref sig .tc := ⟨.hbm, 187, rfl⟩
abbrev main_while0b_v124 : Ref sig .tc := ⟨.hbm, 188, rfl⟩
abbrev main_while0b_v125 : Ref sig .tc := ⟨.hbm, 189, rfl⟩
abbrev main_while0b_c_28 : Ref sig .tc := ⟨.hbm, 190, rfl⟩
abbrev main_while0b_v126 : Ref sig .tc := ⟨.hbm, 191, rfl⟩
abbrev main_while0b_c_29 : Ref sig .tc := ⟨.hbm, 192, rfl⟩
abbrev main_while0b_v127 : Ref sig .tc := ⟨.hbm, 193, rfl⟩
abbrev main_while0b_v128 : Ref sig .tc := ⟨.hbm, 194, rfl⟩
abbrev main_while0b_v129 : Ref sig .tc := ⟨.hbm, 195, rfl⟩
abbrev main_while0b_v130 : Ref sig .tc := ⟨.hbm, 196, rfl⟩
abbrev main_while0b_v131 : Ref sig .tc := ⟨.hbm, 197, rfl⟩
abbrev main_while0b_v132 : Ref sig .tc := ⟨.hbm, 198, rfl⟩
abbrev main_while0b_c_30 : Ref sig .tc := ⟨.hbm, 199, rfl⟩
abbrev main_while0b_v133 : Ref sig .tc := ⟨.hbm, 200, rfl⟩
abbrev main_while0b_c_31 : Ref sig .tc := ⟨.hbm, 201, rfl⟩
abbrev main_while0b_v134 : Ref sig .tc := ⟨.hbm, 202, rfl⟩
abbrev main_while0b_v135 : Ref sig .tc := ⟨.hbm, 203, rfl⟩
abbrev main_while0b_v136 : Ref sig .tc := ⟨.hbm, 204, rfl⟩
abbrev main_while0b_v137 : Ref sig .tc := ⟨.hbm, 205, rfl⟩
abbrev main_while0b_v138 : Ref sig .tc := ⟨.hbm, 206, rfl⟩
abbrev main_while0b_c_32 : Ref sig .tc := ⟨.hbm, 207, rfl⟩
abbrev main_while0b_v139 : Ref sig .tc := ⟨.hbm, 208, rfl⟩
abbrev main_while0b_c_33 : Ref sig .tc := ⟨.hbm, 209, rfl⟩
abbrev main_while0b_v140 : Ref sig .tc := ⟨.hbm, 210, rfl⟩
abbrev main_while0b_v141 : Ref sig .tc := ⟨.hbm, 211, rfl⟩
abbrev main_while0b_v142 : Ref sig .tc := ⟨.hbm, 212, rfl⟩
abbrev main_while0b_v143 : Ref sig .tc := ⟨.hbm, 213, rfl⟩
abbrev main_while0b_cst_34 : Ref sig .tc := ⟨.hbm, 214, rfl⟩
abbrev main_while0b_v144 : Ref sig .tc := ⟨.hbm, 215, rfl⟩
abbrev main_while0b_v145 : Ref sig .tc := ⟨.hbm, 216, rfl⟩
abbrev main_while0b_c_35 : Ref sig .tc := ⟨.hbm, 217, rfl⟩
abbrev main_while0b_v146 : Ref sig .tc := ⟨.hbm, 218, rfl⟩
abbrev main_v26 : Ref sig .tc := ⟨.hbm, 219, rfl⟩
abbrev main_v27 : Ref sig .tc := ⟨.hbm, 220, rfl⟩
abbrev main_v28 : Ref sig .tc := ⟨.hbm, 221, rfl⟩
abbrev main_v29 : Ref sig .tc := ⟨.hbm, 222, rfl⟩
abbrev main_v30 : Ref sig .tc := ⟨.hbm, 223, rfl⟩

abbrev nD : Nat := 1
abbrev τ : Topo := Topo.v7x

variable {F : FTy → Type} [FloatOps F]

abbrev main_while0_count : Scf.Loop 32 := ⟨0#32, 100#32, 1#32⟩
-- ==== Proof.RunI.Body.lean ====
/-
  The two kernel bodies of the program, run once each at any float type.

  The score body reads a block of class scores and a block of confidences and leaves their payload in its result
  block. The selection body copies the masked scores into its scratch and goes a hundred times through one loop;
  its state — five rows of selected values, the count, and the scratch — is the recursion `nmsIter` below, and the
  loop's invariant says that the scratch and the carried rows are that recursion's.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Whole accesses of a whole memref -/

section Whole

variable {κ : Kind} {sp : Space} {s : Shape} {e : EltTy}

/-- A load of all of a whole memref reads what the memref reads. -/
theorem load_all (Val : EltTy → Type) (m : Memref sig κ sp s e) (hm : m.IsWhole) {off : Fin s.rank → Nat}
    (h : off = fun _ => 0) (inb : ∀ a, off a + s.size a ≤ s.size a) (f : m.view.ty.Contents Val) :
    m.view.readAt Val (Rect.unit off s.size inb).toLoadRect f = m.view.read Val f := by
  obtain ⟨b, rfl, rfl, rfl, hb⟩ := hm
  cases hb
  exact Memref.readAt_unit_zero Val b h inb f

/-- An unmasked store to all of a whole memref leaves what it stores. -/
theorem store_all (Val : EltTy → Type) (m : Memref sig κ sp s e) (hm : m.IsWhole) {off : Fin s.rank → Nat}
    (h : off = fun _ => 0) (inb : ∀ a, off a + s.size a ≤ s.size a) (f : m.view.ty.Contents Val) (w : s.Idx → Val e) :
    m.view.read Val ((m.access (Rect.unit off s.size inb)).write Val f w Finset.univ) = w := by
  obtain ⟨b, rfl, rfl, rfl, hb⟩ := hm
  cases hb
  exact Memref.write_access_unit_zero_univ Val b h inb f w

end Whole

theorem off2 : (![0, 0] : Fin 2 → Nat) = fun _ => 0 := funext fun a => by fin_cases a <;> rfl
theorem off3 : (![0, 0, 0] : Fin 3 → Nat) = fun _ => 0 := funext fun a => by fin_cases a <;> rfl

/-! ## The score body -/

variable {U : Type} [RA.URA U]
local notation "𝕄" => MT nD τ sig Unit (Elt F) ℕ U ℕ

/-- The score body reads its two blocks, leaves them, and leaves their payload in its result block. -/
theorem score_run (𝒱₀ : Variants) (bd : Option 𝒱₀.V) (c : Dev nD) (E : Set ℕ) (i : grid0.Coords)
    (arg2 : Memref sig .tc .vmem S1x1344x80 .f32) (h2 : arg2.IsWhole)
    (arg3 : Memref sig .tc .vmem S1x1344x1 .f32) (h3 : arg3.IsWhole)
    (arg4 : Memref sig .tc .vmem S1x1344x1 .f32) (h4 : arg4.IsWhole)
    (Y2 : S1x1344x80.Idx → Elt F .f32) (Y3 Y4 : S1x1344x1.Idx → Elt F .f32) (K : PUnit → sProp 𝕄) :
    iprop((owns (c : Thread nD τ) arg2 fullShare Y2 ∗ owns (c : Thread nD τ) arg3 fullShare Y3
            ∗ owns (c : Thread nD τ) arg4 fullShare Y4)
          ∗ (iprop(owns (c : Thread nD τ) arg2 fullShare Y2 ∗ owns (c : Thread nD τ) arg3 fullShare Y3
                  ∗ owns (c : Thread nD τ) arg4 fullShare (k0_pay1 Y2 Y3)) -∗ K ⟨⟩))
      ⊢ wp frame (wpE (defs₀ (F := F)) 𝒱₀ c bd) E (cc0__score_body i arg2 h2 arg3 h3 arg4 h4) K := by
  simp only [cc0__score_body_eq_skeleton]; unfold cc0__score_body_skel owns
  simp only [Prog.lift, Prog.bind_op, Prog.bind_ret]
  iintro ⟨⟨⟨%f2, %e2, H2⟩, ⟨%f3, %e3, H3⟩, ⟨%f4, %e4, H4⟩⟩, Hk⟩
  sl_steps
  iapply Hk
  rw [load_all (Elt F) arg2 h2 off3, load_all (Elt F) arg3 h3 off3]
  isplitl [H2]
  · iexists f2; isplitr; · ipureintro; exact e2
    iexact H2
  isplitl [H3]
  · iexists f3; isplitr; · ipureintro; exact e3
    iexact H3
  · iexists _; isplitr; swap; · iexact H4
    ipureintro
    rw [store_all (Elt F) arg4 h4 off3, e2, e3]

/-! ## The selection body -/

/-- What the loop carries between its trips, and beside it the scratch. -/
abbrev Car (F : FTy → Type) [FloatOps F] : Type :=
  FVec F S16x128 .f32 × FVec F S16x128 .f32 × FVec F S16x128 .f32 × FVec F S16x128 .f32 × FVec F S16x128 .f32 × FVec F S16x1 .f32
abbrev St (F : FTy → Type) [FloatOps F] : Type := Car F × FVec F S16x10752 .f32

/-- The column numbers of the boxes and of the slots. -/
abbrev colB : IVec S16x10752 32 := iota .tc S16x10752 32 [1] iota_S16x10752_d1_w32
abbrev colS : IVec S16x128 32 := iota .tc S16x128 32 [1] iota_S16x128_d1_w32

/-- The scratch after a trip that finds it at `x`. -/
def nmsScratch (y1 x1 y2 x2 : FVec F S16x10752 .f32) (x : FVec F S16x10752 .f32) : FVec F S16x10752 .f32 :=
  k1_pay13 (k1_pay23 x2) (k1_pay24 y1 x1 y2 x2) x (k1_pay2 colB x) (k1_pay7 x)
    (k1_pay8 colB (k1_pay20 y1) (k1_pay21 x1) (k1_pay22 y2) (k1_pay23 x2) x)
    (k1_pay9 colB (k1_pay20 y1) x) (k1_pay10 colB (k1_pay21 x1) x) (k1_pay11 colB (k1_pay22 y2) x)
    (k1_pay12 colB (k1_pay23 x2) x)

/-- What trip `k` yields when it carries `a` and finds the scratch at `x`. -/
def nmsYield (y1 x1 y2 x2 : FVec F S16x10752 .f32) (k : ℕ) (a : Car F) (x : FVec F S16x10752 .f32) : Car F :=
  (k1_pay16 colS a.1 (Scf.iv 0#32 1#32 k) (k1_pay3 colB (k1_pay20 y1) x) (k1_pay7 x),
   k1_pay17 colS a.2.1 (Scf.iv 0#32 1#32 k) (k1_pay4 colB (k1_pay21 x1) x) (k1_pay7 x),
   k1_pay27 a.2.2.1 (k1_pay14 (F := F) (k1_pay7 x)) (k1_pay15 colS (Scf.iv 0#32 1#32 k)) (Scalar.ofBits .f32 0x3F800000#32)
     (k1_pay18 (k1_pay5 colB (k1_pay22 y2) x)),
   k1_pay28 a.2.2.2.1 (k1_pay6 colB (k1_pay23 x2) x) (k1_pay14 (F := F) (k1_pay7 x)) (k1_pay15 colS (Scf.iv 0#32 1#32 k)),
   k1_pay29 a.2.2.2.2.1 (k1_pay1 x) (k1_pay14 (F := F) (k1_pay7 x)) (k1_pay15 colS (Scf.iv 0#32 1#32 k)),
   k1_pay30 a.2.2.2.2.2 (k1_pay14 (F := F) (k1_pay7 x)))

/-- The state before trip `k` from the masked scores: the rows start at zero. -/
def nmsIter (sc y1 x1 y2 x2 : FVec F S16x10752 .f32) : ℕ → St F
  | 0 => ((k1_pay25, k1_pay25, k1_pay25, k1_pay25, k1_pay25, k1_pay26), k1_pay19 sc)
  | k + 1 => (nmsYield y1 x1 y2 x2 k (nmsIter sc y1 x1 y2 x2 k).1 (nmsIter sc y1 x1 y2 x2 k).2,
      nmsScratch y1 x1 y2 x2 (nmsIter sc y1 x1 y2 x2 k).2)

theorem nmsIter_succ (sc y1 x1 y2 x2 : FVec F S16x10752 .f32) (k : ℕ) :
    nmsIter sc y1 x1 y2 x2 (k + 1) = (nmsYield y1 x1 y2 x2 k (nmsIter sc y1 x1 y2 x2 k).1 (nmsIter sc y1 x1 y2 x2 k).2,
      nmsScratch y1 x1 y2 x2 (nmsIter sc y1 x1 y2 x2 k).2) := rfl

theorem trips_100 : k1_t1_loop.trips = 100 := by decide +kernel

section Loop

variable (𝒱₀ : Variants) (bd : Option 𝒱₀.V) (c : Dev nD) (E : Set ℕ)
  (arg0 : Memref sig .tc .vmem S16x10752 .f32) (h0 : arg0.IsWhole) (arg1 : Memref sig .tc .vmem S16x10752 .f32) (h1 : arg1.IsWhole)
  (arg2 : Memref sig .tc .vmem S16x10752 .f32) (h2 : arg2.IsWhole) (arg3 : Memref sig .tc .vmem S16x10752 .f32) (h3 : arg3.IsWhole)
  (arg4 : Memref sig .tc .vmem S16x10752 .f32) (h4 : arg4.IsWhole) (arg5 : Memref sig .tc .vmem S16x128 .f32) (h5 : arg5.IsWhole)
  (arg6 : Memref sig .tc .vmem S16x128 .f32) (h6 : arg6.IsWhole) (arg7 : Memref sig .tc .vmem S16x128 .f32) (h7 : arg7.IsWhole)
  (arg8 : Memref sig .tc .vmem S16x128 .f32) (h8 : arg8.IsWhole) (arg9 : Memref sig .tc .vmem S16x128 .f32) (h9 : arg9.IsWhole)
  (arg10 : Memref sig .tc .vmem S16x1 .f32) (h10 : arg10.IsWhole) (arg11 : Memref sig .tc .vmem S16x10752 .f32) (h11 : arg11.IsWhole)

/-- One trip: the scratch at `x` goes to `nmsScratch`, and `nmsYield` is yielded. -/
theorem trip_run (y1 x1 y2 x2 x : FVec F S16x10752 .f32) (k : Fin k1_t1_loop.trips) (a : Car F) :
    (owns (c : Thread nD τ) arg11 fullShare x : sProp 𝕄)
      ⊢ wp frame (wpE (defs₀ (F := F)) 𝒱₀ c bd) E
          (k1_t1_body arg0 h0 arg1 h1 arg2 h2 arg3 h3 arg4 h4 arg5 h5 arg6 h6 arg7 h7 arg8 h8 arg9 h9 arg10 h10 arg11 h11
            colB y1 x1 y2 x2 colS k a)
          (fun y => iprop(⌜y = nmsYield y1 x1 y2 x2 k a x⌝ ∗ owns (c : Thread nD τ) arg11 fullShare (nmsScratch y1 x1 y2 x2 x))) := by
  unfold k1_t1_body
  simp only [k1_part1_eq_skeleton, k1_part2_eq_skeleton]
  unfold k1_part1_skel k1_part2_skel owns
  simp only [Prog.lift, Prog.bind_op, Prog.bind_ret, pure_bind]
  iintro ⟨%f, %e, H⟩
  sl_steps
  rw [load_all (Elt F) arg11 h11 off2, e]
  isplitr
  · ipureintro; rfl
  iexists _; isplitr; swap; · iexact H
  ipureintro
  rw [store_all (Elt F) arg11 h11 off2]; rfl

/-- The loop's invariant: the scratch is owned at the recursion's scratch, and what is carried is its rows. -/
def loopAt (sc y1 x1 y2 x2 : FVec F S16x10752 .f32) (k : ℕ) (a : Car F) : sProp 𝕄 :=
  iprop(⌜a = (nmsIter sc y1 x1 y2 x2 k).1⌝ ∗ owns (c : Thread nD τ) arg11 fullShare (nmsIter sc y1 x1 y2 x2 k).2)

/-- One trip takes the invariant to the next trip's. -/
theorem loopAt_step (sc y1 x1 y2 x2 : FVec F S16x10752 .f32) (k : Fin k1_t1_loop.trips) (a : Car F) :
    (loopAt c arg11 sc y1 x1 y2 x2 k a : sProp 𝕄)
      ⊢ wp frame (wpE (defs₀ (F := F)) 𝒱₀ (c : Thread nD τ) bd) E
          (k1_t1_body arg0 h0 arg1 h1 arg2 h2 arg3 h3 arg4 h4 arg5 h5 arg6 h6 arg7 h7 arg8 h8 arg9 h9 arg10 h10 arg11 h11
            colB y1 x1 y2 x2 colS k a)
          (loopAt c arg11 sc y1 x1 y2 x2 (k.val + 1)) := by
  unfold loopAt
  iintro ⟨%ha, H⟩
  subst ha
  iapply (wp_wand_r Idealize.ShloMosaic.frame (wpE (defs₀ (F := F)) 𝒱₀ (c : Thread nD τ) bd) E)
  isplitl [H]
  · iapply (trip_run 𝒱₀ bd c E arg0 h0 arg1 h1 arg2 h2 arg3 h3 arg4 h4 arg5 h5 arg6 h6 arg7 h7 arg8 h8
      arg9 h9 arg10 h10 arg11 h11 y1 x1 y2 x2 _ k _)
    iexact H
  · iintro %y ⟨%hy, H⟩
    subst hy
    isplitr
    · ipureintro; rw [nmsIter_succ]
    rw [nmsIter_succ]
    iexact H

/-- The selection body reads its five arrays, leaves them, and leaves in its six results the state after a hundred
    trips; its scratch ends at some contents. -/
theorem nms_run (Y0 Y1 Y2 Y3 Y4 : FVec F S16x10752 .f32) (K : PUnit → sProp 𝕄) :
    iprop((owns (c : Thread nD τ) arg0 fullShare Y0 ∗ owns (c : Thread nD τ) arg1 fullShare Y1
            ∗ owns (c : Thread nD τ) arg2 fullShare Y2 ∗ owns (c : Thread nD τ) arg3 fullShare Y3
            ∗ owns (c : Thread nD τ) arg4 fullShare Y4
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d))
          ∗ (iprop(owns (c : Thread nD τ) arg0 fullShare Y0 ∗ owns (c : Thread nD τ) arg1 fullShare Y1
            ∗ owns (c : Thread nD τ) arg2 fullShare Y2 ∗ owns (c : Thread nD τ) arg3 fullShare Y3
            ∗ owns (c : Thread nD τ) arg4 fullShare Y4
            ∗ owns (c : Thread nD τ) arg5 fullShare (nmsIter Y0 Y1 Y2 Y3 Y4 100).1.1
            ∗ owns (c : Thread nD τ) arg6 fullShare (nmsIter Y0 Y1 Y2 Y3 Y4 100).1.2.1
            ∗ owns (c : Thread nD τ) arg7 fullShare (nmsIter Y0 Y1 Y2 Y3 Y4 100).1.2.2.1
            ∗ owns (c : Thread nD τ) arg8 fullShare (nmsIter Y0 Y1 Y2 Y3 Y4 100).1.2.2.2.1
            ∗ owns (c : Thread nD τ) arg9 fullShare (nmsIter Y0 Y1 Y2 Y3 Y4 100).1.2.2.2.2.1
            ∗ owns (c : Thread nD τ) arg10 fullShare (nmsIter Y0 Y1 Y2 Y3 Y4 100).1.2.2.2.2.2
            ∗ (∃ d, owns (c : Thread nD τ) arg11 fullShare d)) -∗ K ⟨⟩))
      ⊢ wp frame (wpE (defs₀ (F := F)) 𝒱₀ c bd) E
          (cc1__nms_body arg0 h0 arg1 h1 arg2 h2 arg3 h3 arg4 h4 arg5 h5 arg6 h6 arg7 h7 arg8 h8 arg9 h9 arg10 h10 arg11 h11) K := by
  simp only [cc1__nms_body_eq_skeleton]
  unfold cc1__nms_body_skel
  simp only [k1_part3_eq_skeleton]
  unfold k1_part3_skel owns
  simp only [Prog.lift, Prog.bind_op, Prog.bind_ret, pure_bind, bind_assoc]
  iintro ⟨⟨⟨%f0, %e0, H0⟩, ⟨%f1, %e1, H1⟩, ⟨%f2, %e2, H2⟩, ⟨%f3, %e3, H3⟩, ⟨%f4, %e4, H4⟩,
    ⟨%d5, %f5, %e5, H5⟩, ⟨%d6, %f6, %e6, H6⟩, ⟨%d7, %f7, %e7, H7⟩, ⟨%d8, %f8, %e8, H8⟩, ⟨%d9, %f9, %e9, H9⟩,
    ⟨%d10, %f10, %e10, H10⟩, ⟨%d11, %f11, %e11, H11⟩⟩, Hk⟩
  sl_steps
  have r0 := (load_all (Elt F) arg0 h0 off2 inb_S16x10752_S16x10752_0_0 f0).trans e0
  have r1 := (load_all (Elt F) arg1 h1 off2 inb_S16x10752_S16x10752_0_0 f1).trans e1
  have r2 := (load_all (Elt F) arg2 h2 off2 inb_S16x10752_S16x10752_0_0 f2).trans e2
  have r3 := (load_all (Elt F) arg3 h3 off2 inb_S16x10752_S16x10752_0_0 f3).trans e3
  have r4 := (load_all (Elt F) arg4 h4 off2 inb_S16x10752_S16x10752_0_0 f4).trans e4
  simp only [r0, r1, r2, r3, r4]
  iapply (Scf.wp_for_bind Idealize.ShloMosaic.frame (wpE (defs₀ (F := F)) 𝒱₀ (c : Thread nD τ) bd) E _ _ _ _ _ _
    (loopAt c arg11 Y0 Y1 Y2 Y3 Y4)
    (loopAt_step 𝒱₀ bd c E arg0 h0 arg1 h1 arg2 h2 arg3 h3 arg4 h4 arg5 h5 arg6 h6 arg7 h7 arg8 h8
      arg9 h9 arg10 h10 arg11 h11 Y0 Y1 Y2 Y3 Y4)) $$ [H11]
  · unfold loopAt owns
    isplitr
    · ipureintro; rfl
    iexists _; isplitr; swap; · iexact H11
    ipureintro
    rw [store_all (Elt F) arg11 h11 off2]; rfl
  unfold loopAt
  rw [show Scf.trips k1_t1_loop.lb k1_t1_loop.ub k1_t1_loop.st = 100 from trips_100]
  iintro %acc ⟨%hacc, HS⟩
  subst hacc
  sl_steps
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists _; isplitr; swap; · iexact H5
    ipureintro; exact store_all (Elt F) arg5 h5 off2 _ _ _
  isplitl [H6]
  · iexists _; isplitr; swap; · iexact H6
    ipureintro; exact store_all (Elt F) arg6 h6 off2 _ _ _
  isplitl [H7]
  · iexists _; isplitr; swap; · iexact H7
    ipureintro; exact store_all (Elt F) arg7 h7 off2 _ _ _
  isplitl [H8]
  · iexists _; isplitr; swap; · iexact H8
    ipureintro; exact store_all (Elt F) arg8 h8 off2 _ _ _
  isplitl [H9]
  · iexists _; isplitr; swap; · iexact H9
    ipureintro; exact store_all (Elt F) arg9 h9 off2 _ _ _
  isplitl [H10]
  · iexists _; isplitr; swap; · iexact H10
    ipureintro; exact store_all (Elt F) arg10 h10 off2 _ _ _
  iexists _; unfold owns; iexact HS

end Loop

end Cert.KernelIdeal.Own

end
-- ==== Proof.RunI.Regions.lean ====
/-
  The proof data of the two kernel regions and the body obligations they meet.

  Region 0's last block of inputs overhangs its arrays, so that what the score body leaves in the rows past the
  arrays' ends depends on what its buffers held before: its data are relational, and say of the result's block only
  a relation `Rl` that the score's payload meets. Region 1 is one point over whole arrays, and its data are exact.
-/
module

public import proofs.«01_k».proof.Proof.RunI.Body
public import proofs.«01_k».proof.Proof.Gen.KernelIdeal.Regions
public import Idealize.ShloMosaic.Lib.Pipeline.RegionArraysS
public import Idealize.ShloMosaic.Lib.Pipeline.FrameBody
public import Idealize.ShloMosaic.Lib.Pipeline.ArrRel

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] [∀ e, Nonempty (Elt F e)]

/-- The two pipelines' ghost state, one copy for the launch's first region and one for the rest of the program. -/
abbrev UU : Type := UR sig nD τ × UR sig nD τ

local notation "𝕄" => MT nD τ sig Unit (Elt F) ℕ UU ℕ

/-! ## Region 0 -/

section Region0

variable (W : Dev nD → Valuation τ sig (Elt F)) (Rl : Dev nD → Fin cfg0.N → (S1x1344x1.Idx → Elt F .f32) → Prop)

/-- Region 0's data: the inputs' blocks are left as they were found, the result's meets `Rl`. -/
def rd0 (c : Dev nD) : RDat τ (Elt F) Unit ℕ UU ℕ cfg0 c where
  A w := W c (Proc.devRef .tc (Pipeline.arrRef spec0 w))
  after w t := match w with
    | ⟨0, _⟩ => fun Y X => X = Y
    | ⟨1, _⟩ => fun Y X => X = Y
    | ⟨2, _⟩ => fun _ X => Rl c t X
    | ⟨_ + 3, h⟩ => absurd h (Nat.not_lt.2 (Nat.le_add_left _ _))
  Φ _ := Pipeline.scopedRest (Ix := Unit) (Name := ℕ) (U := UU) (Lvl := ℕ) (Val := Elt F) spec0 c
  q _ := fullShare
  owed _ := 0

theorem rd0_A (c : Dev nD) (w : Fin cfg0.W) : (rd0 W Rl c).A w = W c (Proc.devRef .tc (Pipeline.arrRef spec0 w)) := by
  dsimp only [rd0]

theorem rd0_share (c : Dev nD) (w : Fin cfg0.W) : (rd0 W Rl c).share w = fullShare := by
  unfold RDat.share; split <;> rfl

/-- What `Rl` has to admit: the payload of any two blocks that the fetches may have filled. -/
def Admits : Prop :=
  ∀ (c : Dev nD) (t : Fin cfg0.N) (Y0 : S1x1344x80.Idx → Elt F .f32) (Y1 : S1x1344x1.Idx → Elt F .f32),
    (∃ d, Y0 = (rd0 W Rl c).fetched 0 t d) → (∃ d, Y1 = (rd0 W Rl c).fetched 1 t d) → Rl c t (k0_pay1 Y0 Y1)

variable (𝒱₀ : Variants)

theorem row0 (t : Fin cfg0.N) : defs₀ (F := F) .tc cfg0.body (cfg0.bodyArgs t (cfg0.slots t)) = bodyAt0 t := by
  unfold defs₀; rw [Defs.onTc_tc]

/-- Region 0's body obligation. -/
theorem body0 (hRl : Admits W Rl) (c : Dev nD) :
    (rd0 W Rl c).BodyObligation (defs₀ (F := F)) 𝒱₀ () Set.univ := fun t Y hY => by
  have h0 := ((rd0 W Rl c).finds_of_fetch (fetch0_0 t) _).mp (hY 0)
  have h1 := ((rd0 W Rl c).finds_of_fetch (fetch0_1 t) _).mp (hY 1)
  have hp := hRl c t (Y 0) (Y 1) h0 h1
  rw [row0, bigSep_W0, bigSep_W0, show (rd0 W Rl c).Φ t.succ = (rd0 W Rl c).Φ t.castSucc from rfl,
    show (rd0 W Rl c).owesAt () t.succ = (rd0 W Rl c).owesAt () t.castSucc from rfl]
  iintro ⟨HΦ, HO, H0, H1, H2⟩
  unfold bodyAt0
  iapply (score_run 𝒱₀ none c Set.univ (grid0.coords t) (win0_0.stage (cfg0.slots t 0))
    (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (Y 0) (Y 1) (Y 2) _)
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]
  · iexists (Y 0); isplitr; · ipureintro; rfl
    iexact H0
  isplitl [H1]
  · iexists (Y 1); isplitr; · ipureintro; rfl
    iexact H1
  · iexists (k0_pay1 (Y 0) (Y 1)); isplitr; · ipureintro; exact hp
    iexact H2

end Region0

/-! ## Region 1 -/

section Region1

variable (W : Dev nD → Valuation τ sig (Elt F))

/-- The block that region 1's window `w` fetches. -/
def blk1 (c : Dev nD) (w : Fin cfg1.W) : ((cfg1.win w).xblock (cfg1.grid.coords t1_0)).Idx → Elt F (cfg1.win w).elt :=
  ((cfg1.win w).blk t1_0).view.read (Elt F) (W c (Proc.devRef .tc (Pipeline.arrRef spec1 w)))

/-- What the selection leaves, from the five inputs as fetched. -/
def nmsEnd (c : Dev nD) : St F := nmsIter (blk1 W c 0) (blk1 W c 1) (blk1 W c 2) (blk1 W c 3) (blk1 W c 4) 100

/-- Region 1's data: the inputs' buffers are left as fetched, the results' at the state after a hundred trips. -/
def dat1 (c : Dev nD) : Dat τ (Elt F) Unit ℕ UU ℕ cfg1 c where
  A w := W c (Proc.devRef .tc (Pipeline.arrRef spec1 w))
  after w _ := match w with
    | ⟨0, _⟩ => blk1 W c 0
    | ⟨1, _⟩ => blk1 W c 1
    | ⟨2, _⟩ => blk1 W c 2
    | ⟨3, _⟩ => blk1 W c 3
    | ⟨4, _⟩ => blk1 W c 4
    | ⟨5, _⟩ => (nmsEnd W c).1.1
    | ⟨6, _⟩ => (nmsEnd W c).1.2.1
    | ⟨7, _⟩ => (nmsEnd W c).1.2.2.1
    | ⟨8, _⟩ => (nmsEnd W c).1.2.2.2.1
    | ⟨9, _⟩ => (nmsEnd W c).1.2.2.2.2.1
    | ⟨10, _⟩ => (nmsEnd W c).1.2.2.2.2.2
    | ⟨_ + 11, h⟩ => absurd h (Nat.not_lt.2 (Nat.le_add_left _ _))
  Φ _ := Pipeline.scopedRest (Ix := Unit) (Name := ℕ) (U := UU) (Lvl := ℕ) (Val := Elt F) spec1 c
  q _ := fullShare
  owed _ := 0

theorem dat1_A (c : Dev nD) (w : Fin cfg1.W) : (dat1 W c).A w = W c (Proc.devRef .tc (Pipeline.arrRef spec1 w)) := by
  dsimp only [dat1]

theorem dat1_share (c : Dev nD) (w : Fin cfg1.W) : (dat1 W c).share w = fullShare :=
  (dat1 W c).share_full (fun _ => rfl) w

theorem before1_0 (c : Dev nD) (d) : (dat1 W c).before 0 t1_0 d = blk1 W c 0 := by
  unfold Dat.before; rw [if_pos (fetch1_0 t1_0)]; rfl
theorem before1_1 (c : Dev nD) (d) : (dat1 W c).before 1 t1_0 d = blk1 W c 1 := by
  unfold Dat.before; rw [if_pos (fetch1_1 t1_0)]; rfl
theorem before1_2 (c : Dev nD) (d) : (dat1 W c).before 2 t1_0 d = blk1 W c 2 := by
  unfold Dat.before; rw [if_pos (fetch1_2 t1_0)]; rfl
theorem before1_3 (c : Dev nD) (d) : (dat1 W c).before 3 t1_0 d = blk1 W c 3 := by
  unfold Dat.before; rw [if_pos (fetch1_3 t1_0)]; rfl
theorem before1_4 (c : Dev nD) (d) : (dat1 W c).before 4 t1_0 d = blk1 W c 4 := by
  unfold Dat.before; rw [if_pos (fetch1_4 t1_0)]; rfl

variable (𝒱₀ : Variants)

theorem row1 (t : Fin cfg1.N) : defs₀ (F := F) .tc cfg1.body (cfg1.bodyArgs t (cfg1.slots t)) = bodyAt1 t := by
  unfold defs₀; rw [Defs.onTc_tc]

/-- What the selection body is handed, and what it hands back. -/
def handed1 (c : Dev nD) : sProp 𝕄 :=
  iprop((dat1 W c).Φ t1_0.castSucc ∗ (dat1 W c).owesAt () t1_0.castSucc
    ∗ (∃ d, owns (c : Thread nD τ) (win1_0.stage (cfg1.slots t1_0 0)) fullShare ((dat1 W c).before 0 t1_0 d))
    ∗ (∃ d, owns (c : Thread nD τ) (win1_1.stage (cfg1.slots t1_0 1)) fullShare ((dat1 W c).before 1 t1_0 d))
    ∗ (∃ d, owns (c : Thread nD τ) (win1_2.stage (cfg1.slots t1_0 2)) fullShare ((dat1 W c).before 2 t1_0 d))
    ∗ (∃ d, owns (c : Thread nD τ) (win1_3.stage (cfg1.slots t1_0 3)) fullShare ((dat1 W c).before 3 t1_0 d))
    ∗ (∃ d, owns (c : Thread nD τ) (win1_4.stage (cfg1.slots t1_0 4)) fullShare ((dat1 W c).before 4 t1_0 d))
    ∗ (∃ d, owns (c : Thread nD τ) (win1_5.stage (cfg1.slots t1_0 5)) fullShare ((dat1 W c).before 5 t1_0 d))
    ∗ (∃ d, owns (c : Thread nD τ) (win1_6.stage (cfg1.slots t1_0 6)) fullShare ((dat1 W c).before 6 t1_0 d))
    ∗ (∃ d, owns (c : Thread nD τ) (win1_7.stage (cfg1.slots t1_0 7)) fullShare ((dat1 W c).before 7 t1_0 d))
    ∗ (∃ d, owns (c : Thread nD τ) (win1_8.stage (cfg1.slots t1_0 8)) fullShare ((dat1 W c).before 8 t1_0 d))
    ∗ (∃ d, owns (c : Thread nD τ) (win1_9.stage (cfg1.slots t1_0 9)) fullShare ((dat1 W c).before 9 t1_0 d))
    ∗ (∃ d, owns (c : Thread nD τ) (win1_10.stage (cfg1.slots t1_0 10)) fullShare ((dat1 W c).before 10 t1_0 d)))
def handedBack1 (c : Dev nD) : sProp 𝕄 :=
  iprop((dat1 W c).Φ t1_0.succ ∗ (dat1 W c).owesAt () t1_0.succ
    ∗ owns (c : Thread nD τ) (win1_0.stage (cfg1.slots t1_0 0)) fullShare ((dat1 W c).after 0 t1_0)
    ∗ owns (c : Thread nD τ) (win1_1.stage (cfg1.slots t1_0 1)) fullShare ((dat1 W c).after 1 t1_0)
    ∗ owns (c : Thread nD τ) (win1_2.stage (cfg1.slots t1_0 2)) fullShare ((dat1 W c).after 2 t1_0)
    ∗ owns (c : Thread nD τ) (win1_3.stage (cfg1.slots t1_0 3)) fullShare ((dat1 W c).after 3 t1_0)
    ∗ owns (c : Thread nD τ) (win1_4.stage (cfg1.slots t1_0 4)) fullShare ((dat1 W c).after 4 t1_0)
    ∗ owns (c : Thread nD τ) (win1_5.stage (cfg1.slots t1_0 5)) fullShare ((dat1 W c).after 5 t1_0)
    ∗ owns (c : Thread nD τ) (win1_6.stage (cfg1.slots t1_0 6)) fullShare ((dat1 W c).after 6 t1_0)
    ∗ owns (c : Thread nD τ) (win1_7.stage (cfg1.slots t1_0 7)) fullShare ((dat1 W c).after 7 t1_0)
    ∗ owns (c : Thread nD τ) (win1_8.stage (cfg1.slots t1_0 8)) fullShare ((dat1 W c).after 8 t1_0)
    ∗ owns (c : Thread nD τ) (win1_9.stage (cfg1.slots t1_0 9)) fullShare ((dat1 W c).after 9 t1_0)
    ∗ owns (c : Thread nD τ) (win1_10.stage (cfg1.slots t1_0 10)) fullShare ((dat1 W c).after 10 t1_0))

/-- The selection body between the two. -/
theorem between1 (c : Dev nD) :
    handed1 W c ⊢ wp frame (wpE (defs₀ (F := F)) 𝒱₀ c none) Set.univ (bodyAt1 t1_0) (fun _ => handedBack1 W c) := by
  unfold handed1 handedBack1 bodyAt1
  rw [show (dat1 W c).owesAt () t1_0.succ = (dat1 W c).owesAt () t1_0.castSucc from rfl,
    show (dat1 W c).Φ t1_0.castSucc = Pipeline.scopedRest spec1 c from rfl,
    show (dat1 W c).Φ t1_0.succ = Pipeline.scopedRest spec1 c from rfl, scopedRest1_eq]
  iintro ⟨⟨Ha, Hb, Hc, Hd, He, Hf, ⟨%fs, Hs⟩⟩, HO, ⟨%d0, H0⟩, ⟨%d1, H1⟩, ⟨%d2, H2⟩, ⟨%d3, H3⟩, ⟨%d4, H4⟩,
    ⟨%d5, H5⟩, ⟨%d6, H6⟩, ⟨%d7, H7⟩, ⟨%d8, H8⟩, ⟨%d9, H9⟩, ⟨%d10, H10⟩⟩
  rw [before1_0, before1_1, before1_2, before1_3, before1_4]
  iapply (nms_run 𝒱₀ none c Set.univ _ _ _ _ _ _ _ _ _ _ _ _ _ _ _ _ _ _ _ _ _ _ _ _
    (blk1 W c 0) (blk1 W c 1) (blk1 W c 2) (blk1 W c 3) (blk1 W c 4) _)
  isplitl [H0 H1 H2 H3 H4 H5 H6 H7 H8 H9 H10 Hs]
  · isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists fs; rw [owns_whole]; iexact Hs
  iintro ⟨H0, H1, H2, H3, H4, H5, H6, H7, H8, H9, H10, ⟨%gs, Hs⟩⟩
  ihave Hs := (Entails.of_eq (owns_whole (c : Thread nD τ) cc1_scratch0 fullShare gs)) $$ Hs
  isplitl [Ha Hb Hc Hd He Hf Hs]
  · isplitl [Ha]; · iexact Ha
    isplitl [Hb]; · iexact Hb
    isplitl [Hc]; · iexact Hc
    isplitl [Hd]; · iexact Hd
    isplitl [He]; · iexact He
    isplitl [Hf]; · iexact Hf
    iexists gs; iexact Hs
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Region 1's body obligation. -/
theorem body1 (c : Dev nD) : BodyObligation (dat1 W c) (defs₀ (F := F)) 𝒱₀ () Set.univ := fun t => by
  obtain rfl := fin_N1 t
  rw [row1, bigSep_W1, bigSep_W1]
  exact triple_restated (between1 W 𝒱₀ c) rfl .rfl fun _ => .rfl

end Region1

end Cert.KernelIdeal.Own

end
-- ==== Proof.RunI.Records.lean ====
/-
  The two regions as records for the launch: each is entered from every unscoped buffer held at a valuation, and left
  with the same buffers held, the arrays that the region writes at what it wrote.
-/
module

public import proofs.«01_k».proof.Proof.RunI.Regions

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] [∀ e, Nonempty (Elt F e)]

local notation "𝕄" => MT nD τ sig Unit (Elt F) ℕ UU ℕ

/-- The one index of the pipelines' waits, at every cell of a TensorCore. -/
def lvlIx (g : GSem nD τ sig) : Finset Unit := if g.1.2 = .tc then {()} else ∅

theorem lvlIx_off (g : GSem nD τ sig) (h : g.1.2 ≠ .tc) : lvlIx g = ∅ := if_neg h

/-- Every wait at one level. -/
def lvlOf (_ : GSem nD τ sig) (_ : Unit) : ℕ := 0

/-- A core's unscoped buffers at a valuation. -/
abbrev heldAt (c : Dev nD) (V : Valuation τ sig (Elt F)) : sProp 𝕄 :=
  StableHlo.held (c : Thread nD τ) (Pipeline.ucRefs τ sig) V

/-- What a core owes between regions: nothing. -/
abbrev quiet (c : Dev nD) : sProp 𝕄 := iprop(∃ Wd, owes (c : Thread nD τ) (0 : CellTallies nD τ sig Unit) Wd)

section

variable (W : Dev nD → Valuation τ sig (Elt F)) (Rl : Dev nD → Fin cfg0.N → (S1x1344x1.Idx → Elt F .f32) → Prop)

/-- Both pipelines' relational data: region 0's own, region 1's exact ones read as such. -/
def rdats (p : Fin 2) (c : Dev nD) : RDat τ (Elt F) Unit ℕ UU ℕ (cfgs p) c :=
  match p with
  | ⟨0, _⟩ => rd0 W Rl c
  | ⟨1, _⟩ => (dat1 W c).toR
  | ⟨_ + 2, h⟩ => absurd h (Nat.not_lt.2 (Nat.le_add_left _ _))

/-- Both pipelines' exact data; of region 0's nothing but the arrays is read. -/
def edats (p : Fin 2) (c : Dev nD) : Dat τ (Elt F) Unit ℕ UU ℕ (cfgs p) c :=
  match p with
  | ⟨0, _⟩ => (rd0 W (fun _ _ _ => True) c).withAfter Dat.unnamed
  | ⟨1, _⟩ => dat1 W c
  | ⟨_ + 2, h⟩ => absurd h (Nat.not_lt.2 (Nat.le_add_left _ _))

variable (𝒱₀ : Variants)

theorem rd0_held (c : Dev nD) (G : (w : Fin cfg0.W) → Buf (Elt F) ((cfg0.win w).arr.view.loc (c.tc : Thread nD τ)))
    (Wc : Valuation τ sig (Elt F)) (hG : ∀ w, G w = Wc (Proc.devRef .tc (Pipeline.arrRef spec0 w))) :
    ((rd0 W Rl c).arrays G : sProp 𝕄) = StableHlo.held (c : Thread nD τ) (Pipeline.arrRefs spec0) Wc :=
  (show ((rd0 W Rl c).arrays G : sProp 𝕄) = (edats W 0 c).arrays G from rfl).trans
    (Pipeline.arrays_held (pcfgs (F := F)) adm (edats W) (0 : Fin 2) launch0.toP c
      (fun w => rd0_share W (fun _ _ _ => True) c w) G Wc hG)

/-- The arrays after region 0, read at once: some contents, each of them something the region may have left. -/
theorem rd0_arraysAt (c : Dev nD) (n : ℕ) :
    ((rd0 W Rl c).arraysAt n : sProp 𝕄) ⊢ iprop(∃ A : (w : Fin cfg0.W) → Buf (Elt F) ((cfg0.win w).arr.view.loc (c.tc : Thread nD τ)),
      ⌜∀ w, (rd0 W Rl c).ArrAt w n (A w)⌝ ∗ (rd0 W Rl c).arrays A) := by
  unfold RDat.arraysAt RDat.arrays
  refine (BI.bigSep_exists_pi Finset.univ _).trans ?_
  iintro ⟨%A, H⟩
  ihave H' := (BI.bigSep_pure_sep Finset.univ (fun w => (rd0 W Rl c).ArrAt w n (A w)) _) $$ H
  icases H' with ⟨%hA, H⟩
  iexists A
  isplitr
  · ipureintro; exact fun w => hA w (Finset.mem_univ w)
  iexact H

/-- The unscoped buffers after region 0, its result at `S`. -/
abbrev after0 (c : Dev nD) (S : S16x10752x1.Idx → Elt F .f32) : Valuation τ sig (Elt F) :=
  Function.update (W c) (Proc.devRef .tc main_v12) S

theorem arr0_mem : Pipeline.arrRefs (τ := τ) spec0 ⊆ Pipeline.ucRefs τ sig :=
  Pipeline.arrRefs_sub_ucRefs spec0 (by decide)

theorem arr1_mem : Pipeline.arrRefs (τ := τ) spec1 ⊆ Pipeline.ucRefs τ sig :=
  Pipeline.arrRefs_sub_ucRefs spec1 (by decide)

/-- Away from region 0's arrays the valuation after it is the one before it. -/
theorem after0_off (c : Dev nD) (S : S16x10752x1.Idx → Elt F .f32) :
    ∀ b ∈ Pipeline.ucRefs τ sig \ Pipeline.arrRefs spec0, after0 W c S b = W c b := by
  intro b hb
  have hr : main_v12 ∈ Finset.univ.image (Pipeline.arrRef spec0) := Finset.mem_image.mpr ⟨2, Finset.mem_univ _, rfl⟩
  have hm : Proc.devRef .tc main_v12 ∈ Pipeline.arrRefs (τ := τ) spec0 := by
    unfold Pipeline.arrRefs
    exact Finset.mem_map.mpr ⟨main_v12, hr, rfl⟩
  have hne : b ≠ Proc.devRef .tc main_v12 := fun e => (Finset.mem_sdiff.mp hb).2 (e ▸ hm)
  exact Function.update_of_ne hne _ _

/-- At region 0's arrays it has the inputs as before and the result at `S`. -/
theorem after0_arr (c : Dev nD) (A : (w : Fin cfg0.W) → Buf (Elt F) ((cfg0.win w).arr.view.loc (c.tc : Thread nD τ)))
    (hA : ∀ w, (rd0 W Rl c).ArrAt w cfg0.N (A w)) (w : Fin cfg0.W) :
    A w = after0 W c (A 2) (Proc.devRef .tc (Pipeline.arrRef spec0 w)) := by
  have hin (w' : Fin cfg0.W) (h : (cfg0.win w').isOut = false) : A w' = W c (Proc.devRef .tc (Pipeline.arrRef spec0 w')) := by
    have := hA w'
    rw [RDat.ArrAt_in _ w' h] at this
    exact this
  match w with
  | ⟨0, _⟩ => exact (hin 0 rfl).trans (Function.update_of_ne (StableHlo.devRef_ne_of_ne (by decide)) _ _).symm
  | ⟨1, _⟩ => exact (hin 1 rfl).trans (Function.update_of_ne (StableHlo.devRef_ne_of_ne (by decide)) _ _).symm
  | ⟨2, _⟩ => exact (Function.update_self (Proc.devRef .tc main_v12 : DevRef τ sig) (A 2) (W c)).symm
  | ⟨_ + 3, h⟩ => exact absurd h (Nat.not_lt.2 (Nat.le_add_left _ _))

/-- The arrays as region 0 left them, beside the buffers it does not touch, are every buffer at `after0`. -/
theorem rd0_regroup (c : Dev nD) (A : (w : Fin cfg0.W) → Buf (Elt F) ((cfg0.win w).arr.view.loc (c.tc : Thread nD τ)))
    (hA : ∀ w, (rd0 W Rl c).ArrAt w cfg0.N (A w)) :
    iprop((rd0 W Rl c).arrays A ∗ StableHlo.held (c : Thread nD τ) (Pipeline.ucRefs τ sig \ Pipeline.arrRefs spec0) (W c))
      ⊢ (heldAt c (after0 W c (A 2)) : sProp 𝕄) := by
  rw [rd0_held W Rl c A (after0 W c (A 2)) (after0_arr W Rl c A hA), heldAt,
    StableHlo.held_sub_split (c : Thread nD τ) arr0_mem (after0 W c (A 2)),
    StableHlo.held_congr (c : Thread nD τ) (S := Pipeline.ucRefs τ sig \ Pipeline.arrRefs spec0) (after0_off W c (A 2))]

/-- The thread's state after region 0: the result at some contents that the region may leave there. -/
def post0 (R : Dev nD → sProp 𝕄) (c : Dev nD) : sProp 𝕄 :=
  iprop(∃ S : S16x10752x1.Idx → Elt F .f32, ⌜(rd0 W Rl c).ArrAt 2 cfg0.N S⌝ ∗ heldAt c (after0 W c S) ∗ quiet c ∗ R c)

/-- Region 0's record. -/
def reg0 (hRl : Admits W Rl) (R : Dev nD → sProp 𝕄) :
    RDat.RegionSeg (pcfgs (F := F)) adm (rdats W Rl) () defs₀ 𝒱₀ lvlIx lvlOf (0 : Fin 2) where
  win := launch0.win.to₀
  block_pos := launch0.block_pos
  stage_whole := launch0.stage_whole
  K := PEmpty
  osem k := k.elim
  ho := Pipeline.OwnSemFacts.none _
  hbody c := body0 W Rl 𝒱₀ hRl c
  hwaits c := RDat.hwaits_of_owed_zero (pcfgs (F := F)) adm (rdats W Rl) () lvlIx lvlOf (0 : Fin 2) (fun _ _ => rfl) c
  pre c := iprop(heldAt c (W c) ∗ quiet c ∗ R c)
  post := post0 W Rl R
  X c := iprop(emp)
  Y c := iprop(emp)
  Z c := iprop(StableHlo.held (c : Thread nD τ) (Pipeline.ucRefs τ sig \ Pipeline.arrRefs spec0) (W c) ∗ R c)
  hentry c := by
    show _ ⊢ |={Set.univ}=> iprop((rd0 W Rl c).arrays (rd0 W Rl c).A ∗ Pipeline.prefHeld ((pcfgs (F := F)) 0).pre c (fun _ => fullShare) (adm 0).1
        ∗ (rd0 W Rl c).owesAt () 0 ∗ emp ∗ _)
    rw [Pipeline.prefHeld_of_none _ rfl, rd0_held W Rl c _ (W c) (rd0_A W Rl c), heldAt,
      StableHlo.held_sub_split (c : Thread nD τ) arr0_mem (W c)]
    iintro ⟨⟨⟨Ha, Hr⟩, HO, HR⟩, -, -⟩
    imodintro
    isplitl [Ha]; · iexact Ha
    isplitr; · iempintro
    isplitl [HO]
    · unfold RDat.owesAt Pipeline.owesWithin RDat.bound
      icases HO with ⟨%Wd, HO⟩; iexists Wd; isplitr; · ipureintro; exact fun _ _ => Or.inl trivial
      iexact HO
    isplitr; · iempintro
    isplitl [Hr]; · iexact Hr
    iexact HR
  hin c := by
    show _ ⊢ Pipeline.scopedRest (Ix := Unit) (Name := ℕ) (U := UU) (Lvl := ℕ) (Val := Elt F) spec0 c
    iintro ⟨-, -, Hr⟩
    iexact Hr
  hout c := by
    show Pipeline.scopedRest (Ix := Unit) (Name := ℕ) (U := UU) (Lvl := ℕ) (Val := Elt F) spec0 c ⊢ _
    rw [Pipeline.ownSems0_none]
    iintro Hr
    isplitr; · iempintro
    isplitr; · iempintro
    iexact Hr
  hexit c := by
    show iprop((rd0 W Rl c).arraysAt cfg0.N ∗ (rd0 W Rl c).owesAt () (Fin.last cfg0.N) ∗ emp
      ∗ (StableHlo.held (c : Thread nD τ) (Pipeline.ucRefs τ sig \ Pipeline.arrRefs spec0) (W c) ∗ R c)) ⊢ |={Set.univ}=> post0 W Rl R c
    unfold post0
    iintro ⟨Ha, HO, -, ⟨Hr, HR⟩⟩
    ihave Ha := (rd0_arraysAt W Rl c cfg0.N) $$ Ha
    icases Ha with ⟨%A, %hA, Ha⟩
    ihave Hh := (rd0_regroup W Rl c A hA) $$ [Ha Hr]
    · isplitl [Ha] <;> iassumption
    imodintro
    iexists (A 2)
    isplitr; · ipureintro; exact hA 2
    isplitl [Hh]; · iexact Hh
    isplitl [HO]
    · unfold RDat.owesAt Pipeline.owesWithin
      icases HO with ⟨%Wd, -, HO⟩; iexists Wd; iexact HO
    iexact HR

/-- Region 1's record. -/
def reg1 : Pipeline.RegionSeg (pcfgs (F := F)) adm (edats W) () defs₀ 𝒱₀ lvlIx lvlOf (1 : Fin 2) :=
  Pipeline.RegionSeg.ofHeldIn (pcfgs (F := F)) adm (edats W) () defs₀ 𝒱₀ lvlIx lvlOf (1 : Fin 2) (fun _ => 0)
    (Pipeline.ucRefs τ sig) (fun _ => iprop(emp)) (fun _ => iprop(emp)) launch1.toP rfl
    (fun c => (body1 W 𝒱₀ c).loose) (fun _ _ => rfl) (fun _ => rfl) (fun c w => dat1_share W c w)
    (fun c => by
      show iprop(Pipeline.scopedRest spec1 c ∗ emp) ⊢ Pipeline.scopedRest (Ix := Unit) (Name := ℕ) (U := UU) (Lvl := ℕ) (Val := Elt F) spec1 c
      iintro ⟨H, -⟩
      iexact H)
    (fun c => by
      show Pipeline.scopedRest (Ix := Unit) (Name := ℕ) (U := UU) (Lvl := ℕ) (Val := Elt F) spec1 c ⊢ iprop(Pipeline.scopedRest spec1 c ∗ emp)
      iintro H
      isplitl [H]; · iexact H
      iempintro)
    (fun _ => 0)
    { hι := fun c w s => by
        show () ∈ lvlIx _
        unfold lvlIx
        rw [if_pos rfl]
        exact Finset.mem_singleton_self _
      hιb := fun _ _ _ => le_rfl
      hD := fun _ _ _ h => absurd h (lt_irrefl _) }
    (fun _ => iprop(emp)) W (fun c w => dat1_A W c w)

theorem reg1_pre (c : Dev nD) : iprop(heldAt c (W c) ∗ quiet c) ⊢ (reg1 W 𝒱₀).pre c := by
  show _ ⊢ iprop(StableHlo.held (c : Thread nD τ) (Pipeline.arrRefs spec1) (W c) ∗ emp
    ∗ (StableHlo.held (c : Thread nD τ) (Pipeline.ucRefs τ sig \ Pipeline.arrRefs spec1) (W c) ∗ emp) ∗ quiet c)
  rw [heldAt, StableHlo.held_sub_split (c : Thread nD τ) arr1_mem (W c)]
  iintro ⟨⟨Ha, Hr⟩, HO⟩
  isplitl [Ha]; · iexact Ha
  isplitr; · iempintro
  isplitl [Hr]
  · isplitl [Hr]; · iexact Hr
    iempintro
  iexact HO

theorem reg1_post (c : Dev nD) :
    (reg1 W 𝒱₀).post c ⊢ iprop(heldAt c (Pipeline.afterRegion (dat1 W c) (W c)) ∗ quiet c) := by
  show iprop(StableHlo.held (c : Thread nD τ) (Pipeline.arrRefs spec1) (Pipeline.afterRegion (dat1 W c) (W c)) ∗ emp
    ∗ (StableHlo.held (c : Thread nD τ) (Pipeline.ucRefs τ sig \ Pipeline.arrRefs spec1) (W c) ∗ emp) ∗ quiet c) ⊢ _
  rw [heldAt, StableHlo.held_sub_split (c : Thread nD τ) arr1_mem (Pipeline.afterRegion (dat1 W c) (W c)),
    StableHlo.held_congr (c : Thread nD τ) (S := Pipeline.ucRefs τ sig \ Pipeline.arrRefs spec1)
      (V := Pipeline.afterRegion (dat1 W c) (W c)) (V' := W c) (Pipeline.afterRegion_off (dat1 W c) (W c) (Pipeline.ucRefs τ sig))]
  iintro ⟨Ha, -, ⟨Hr, -⟩, HO⟩
  isplitl [Ha Hr]
  · isplitl [Ha]; · iexact Ha
    iexact Hr
  iexact HO

end

end Cert.KernelIdeal.Own

end
-- ==== Proof.RunI.Launch.lean ====
/-
  The whole program's run: the host stretch before region 0, region 0, and everything after it.

  Region 0 leaves its result at SOME contents, and what follows has to be run from whichever they are: the rest of the
  program is one host segment of the launch, entered from region 0's thread state, that names the contents first and then
  runs its own list of segments, whose pipeline draws on the second copy of the ghost state.
-/
module

public import proofs.«01_k».proof.Proof.RunI.Records
public import Idealize.ShloMosaic.Lib.Pipeline.RegionsForgetLinks

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation HostSeg RegionSeg Seg)
open Idealize.ShloMosaic.Rounds

variable {F : FTy → Type} [FloatOps F] [∀ e, Nonempty (Elt F e)]

local notation "𝕄" => MT nD τ sig Unit (Elt F) ℕ UU ℕ

variable (m : (ℓ : Loc nD τ sig) → Buf (Elt F) ℓ)

/-! ## The valuations, given region 0's result -/

/-- The regions' results with region 0's at `S`, nothing said of region 1's. -/
def outsA (S : S16x10752x1.Idx → Elt F .f32) : Outs (F := F) := fun _ r c => after0 (V1 m) c S (Proc.devRef .tc r)

/-- The valuation region 1 is entered from. -/
def entry1 (S : S16x10752x1.Idx → Elt F .f32) (c : Dev nD) : Valuation τ sig (Elt F) := V10 m (outsA m S) c

/-- The regions' results with region 0's at `S`: region 1's are then what its data name. -/
def outsOf (S : S16x10752x1.Idx → Elt F .f32) : Outs (F := F) := fun k r c =>
  if k = 2 then outsA m S k r c else Pipeline.afterRegion (dat1 (entry1 m S) c) (entry1 m S c) (Proc.devRef .tc r)

theorem outsOf_two (S : S16x10752x1.Idx → Elt F .f32) (r : Ref sig .tc) (c : Dev nD) : outsOf m S 2 r c = outsA m S 2 r c := if_pos rfl

theorem outsOf_eleven (S : S16x10752x1.Idx → Elt F .f32) (r : Ref sig .tc) (c : Dev nD) :
    outsOf m S 11 r c = Pipeline.afterRegion (dat1 (entry1 m S) c) (entry1 m S c) (Proc.devRef .tc r) := if_neg (by decide)

theorem V2_eq (S : S16x10752x1.Idx → Elt F .f32) (c : Dev nD) : V2 m (outsOf m S) c = after0 (V1 m) c S := by
  unfold V2
  rw [outsOf_two]
  unfold outsA after0
  rw [Function.update_self]

theorem V2_eqA (S : S16x10752x1.Idx → Elt F .f32) (c : Dev nD) : V2 m (outsA m S) c = after0 (V1 m) c S := by
  unfold V2 outsA after0
  rw [Function.update_self]

theorem V10_eq (S : S16x10752x1.Idx → Elt F .f32) (c : Dev nD) : V10 m (outsOf m S) c = entry1 m S c := by
  unfold entry1 V10 V9 V8 V7 V6 V5 V4 V3
  rw [V2_eq, V2_eqA]

/-- After region 1 the printed valuation is the region's own at every buffer. -/
theorem V11_eq (S : S16x10752x1.Idx → Elt F .f32) (c : Dev nD) (r : Ref sig .tc) :
    V11 m (outsOf m S) c r = Pipeline.afterRegion (dat1 (entry1 m S) c) (entry1 m S c) (Proc.devRef .tc r) := by
  by_cases h : r ∈ ([main_v26_0, main_v26_1, main_v26_2, main_v26_3, main_v26_4, main_v26_5] : List (Ref sig .tc))
  · simp only [List.mem_cons, List.not_mem_nil, or_false] at h
    have ne (a b : Ref sig .tc) (hab : a ≠ b) : (Proc.devRef .tc a : DevRef τ sig) ≠ Proc.devRef .tc b := StableHlo.devRef_ne_of_ne hab
    unfold V11
    rcases h with rfl | rfl | rfl | rfl | rfl | rfl
    · rw [Function.update_of_ne (ne _ _ (by decide)), Function.update_of_ne (ne _ _ (by decide)), Function.update_of_ne (ne _ _ (by decide)),
        Function.update_of_ne (ne _ _ (by decide)), Function.update_of_ne (ne _ _ (by decide)), Function.update_self]; exact outsOf_eleven m S _ c
    · rw [Function.update_of_ne (ne _ _ (by decide)), Function.update_of_ne (ne _ _ (by decide)), Function.update_of_ne (ne _ _ (by decide)),
        Function.update_of_ne (ne _ _ (by decide)), Function.update_self]; exact outsOf_eleven m S _ c
    · rw [Function.update_of_ne (ne _ _ (by decide)), Function.update_of_ne (ne _ _ (by decide)), Function.update_of_ne (ne _ _ (by decide)),
        Function.update_self]; exact outsOf_eleven m S _ c
    · rw [Function.update_of_ne (ne _ _ (by decide)), Function.update_of_ne (ne _ _ (by decide)), Function.update_self]; exact outsOf_eleven m S _ c
    · rw [Function.update_of_ne (ne _ _ (by decide)), Function.update_self]; exact outsOf_eleven m S _ c
    · rw [Function.update_self]; exact outsOf_eleven m S _ c
  · rw [V11_of m (outsOf m S) c r h, V10_eq]
    refine (Pipeline.afterRegion_keeps (dat1 (entry1 m S) c) (entry1 m S c) launch1.win.arr_inj (dat1_A (entry1 m S) c) r fun w hw => ?_).symm
    subst hw
    fin_cases w <;> first | rfl | exact absurd (by decide) h

/-! ## The rest of the program -/

variable (𝒱₀ : Variants)

/-- What rides along from region to region inside the rest. -/
def idle : Fin 3 → Dev nD → sProp 𝕄 := fun _ c => quiet c

/-- The rest's segments, given region 0's result. -/
def restSegs (S : S16x10752x1.Idx → Elt F .f32) : List (Seg (pcfgs (F := F)) adm (edats (entry1 m S)) () defs₀ 𝒱₀ lvlIx lvlOf) :=
  [.host (seg2 m (outsOf m S) 𝒱₀ lvlIx lvlOf idle), .host (seg3 m (outsOf m S) 𝒱₀ lvlIx lvlOf idle),
    .host (seg4 m (outsOf m S) 𝒱₀ lvlIx lvlOf idle), .host (seg5 m (outsOf m S) 𝒱₀ lvlIx lvlOf idle),
    .host (seg6 m (outsOf m S) 𝒱₀ lvlIx lvlOf idle), .host (seg7 m (outsOf m S) 𝒱₀ lvlIx lvlOf idle),
    .host (seg8 m (outsOf m S) 𝒱₀ lvlIx lvlOf idle), .host (seg9 m (outsOf m S) 𝒱₀ lvlIx lvlOf idle),
    .region (reg1 (entry1 m S) 𝒱₀), .host (seg11 m (outsOf m S) 𝒱₀ lvlIx lvlOf idle)]

/-- The rest's fragment of the program. -/
def restProg : Prog (TpuEff nD τ sig (Elt F) (Pipeline.Sig Λ₀ (Fin 2) fun p => (pcfgs (F := F) p).Adm) .tc) PUnit :=
  Pipeline.chain
    [ StableHlo.seq hostOps1, StableHlo.seq hostOps1_1, StableHlo.seq hostOps1_2, StableHlo.seq hostOps1_3,
      StableHlo.seq hostOps1_4, StableHlo.seq hostOps1_5, StableHlo.seq hostOps1_6, StableHlo.seq hostOps1_7,
      Prog.lift (.customCall (Pipeline.entry 1) ()), StableHlo.seq hostOps2 ]

theorem rest_run (S : S16x10752x1.Idx → Elt F .f32) : Seg.run (restSegs m 𝒱₀ S) = restProg (F := F) := by
  rw [Seg.run_eq_chain]; rfl

/-- Into region 1: the printed valuation before it is the one its data are stated at. -/
theorem into1 (S : S16x10752x1.Idx → Elt F .f32) (c : Dev nD) :
    iprop(heldAt c (V10 m (outsOf m S) c) ∗ quiet c) ⊢ (reg1 (entry1 m S) 𝒱₀).pre c := by
  rw [V10_eq]; exact reg1_pre (entry1 m S) 𝒱₀ c

/-- Out of region 1. -/
theorem outOf1 (S : S16x10752x1.Idx → Elt F .f32) (c : Dev nD) :
    (reg1 (entry1 m S) 𝒱₀).post c ⊢ iprop(heldAt c (V11 m (outsOf m S) c) ∗ quiet c) := by
  refine (reg1_post (entry1 m S) 𝒱₀ c).trans ?_
  rw [heldAt, heldAt, StableHlo.held_congr (c : Thread nD τ) (Pipeline.eqOn_ucRefs fun r => V11_eq m S c r)]

theorem rest_chains (S : S16x10752x1.Idx → Elt F .f32) :
    Seg.Chains (fun c => iprop(heldAt c (after0 (V1 m) c S) ∗ quiet c)) (restSegs m 𝒱₀ S)
      (fun c => iprop(heldAt c (V12 m (outsOf m S) c) ∗ quiet c)) :=
  ⟨fun c => by
      show iprop(heldAt c (after0 (V1 m) c S) ∗ quiet c) ⊢ iprop(heldAt c (V2 m (outsOf m S) c) ∗ quiet c)
      rw [V2_eq], fun c => .rfl, fun c => .rfl, fun c => .rfl, fun c => .rfl, fun c => .rfl, fun c => .rfl,
    fun c => .rfl, fun c => into1 m 𝒱₀ S c, fun c => outOf1 m 𝒱₀ S c, fun c => .rfl⟩

/-- The second copy of the pipelines' ghost state, which the rest runs from. -/
abbrev spare (c : Dev nD) : sProp 𝕄 := Pipeline.ghostOn (pcfgs (F := F)) adm embR Finset.univ c

variable (Rl : Dev nD → Fin cfg0.N → (S1x1344x1.Idx → Elt F .f32) → Prop)

/-- The thread's state at the end: every buffer at the valuation that follows from SOME result of region 0. -/
def endAt (c : Dev nD) : sProp 𝕄 :=
  iprop(∃ S : S16x10752x1.Idx → Elt F .f32, ⌜(rd0 (V1 m) Rl c).ArrAt 2 cfg0.N S⌝ ∗ heldAt c (V12 m (outsOf m S) c))

/-- The rest of the program as one host segment. -/
def rest : HostSeg (Ix := Unit) (Name := ℕ) (U := UU) (Lvl := ℕ) (pcfgs (F := F)) defs₀ 𝒱₀ lvlIx lvlOf where
  prog := restProg
  pre := post0 (V1 m) Rl spare
  post c := iprop(endAt m Rl c ∗ quiet c)
  run c {β} k K := by
    unfold post0
    iintro ⟨Hk, Hb, ⟨%S, %hS, Hh, HO, Hg⟩, Hl⟩
    rw [← rest_run m 𝒱₀ S, wp_bind]
    iapply (Pipeline.wp_segs (pcfgs (F := F)) adm (edats (entry1 m S)) () cellOf_inj embR defs₀ 𝒱₀ lvlIx lvlOf c (restSegs m 𝒱₀ S) Finset.univ
      (fun c => iprop(heldAt c (after0 (V1 m) c S) ∗ quiet c)) (fun c => iprop(heldAt c (V12 m (outsOf m S) c) ∗ quiet c))
      (by simp only [restSegs, Seg.pipes_host, Seg.pipes_region, Seg.pipes_nil]; decide) (fun _ _ => Finset.mem_univ _) (rest_chains m 𝒱₀ S))
    isplitl [Hk]
    · iintro ⟨Hb, Hh, HO⟩
      iapply Hk
      isplitl [Hb]; · iexact Hb
      isplitl [Hh]
      · unfold endAt
        iexists S
        isplitr; · ipureintro; exact hS
        iexact Hh
      iexact HO
    isplitl [Hb]; · iexact Hb
    isplitl [Hh HO]
    · isplitl [Hh] <;> iassumption
    isplitl [Hl]; · iexact Hl
    iexact Hg

/-! ## The launch -/

/-- The program's segments: the host stretch before region 0, region 0, the rest. -/
def allSegs (hRl : Admits (V1 m) Rl) (_ : Dev nD) : List (RDat.Seg (pcfgs (F := F)) adm (rdats (V1 m) Rl) () defs₀ 𝒱₀ lvlIx lvlOf) :=
  [.host (seg0 m 𝒱₀ lvlIx lvlOf fun _ c => iprop(quiet c ∗ spare c)), .region (reg0 (V1 m) Rl 𝒱₀ hRl spare), .host (rest m 𝒱₀ Rl)]

theorem main_allSegs (hRl : Admits (V1 m) Rl) (c : Dev nD) : main (F := F) c = RDat.Seg.run (allSegs m 𝒱₀ Rl hRl c) := by
  rw [main_chain c, RDat.Seg.run_eq_chain]
  show Pipeline.chain _ = Pipeline.chain [StableHlo.seq hostOps0, Prog.lift (.customCall (Pipeline.entry 0) ()), restProg]
  simp only [restProg, Pipeline.chain]
  rfl

/-- The launch element: the pipelines' ghost state, twice. -/
def u₀ : UU :=
  ((initOf (Pipeline.cells cfgs cellOf_inj) (Pipeline.launchToks cfgs cellOf_inj)),
    (initOf (Pipeline.cells cfgs cellOf_inj) (Pipeline.launchToks cfgs cellOf_inj)))

/-- The pipelines' cells and their transfers' tokens, core by core, are each core's spare ghost state. -/
theorem spare_of :
    iprop((bigSep Finset.univ fun c : Dev nD => bigSep Finset.univ fun p => Pipeline.cellsGhost cfgs embR p c)
      ∗ (bigSep Finset.univ fun c : Dev nD => bigSep Finset.univ fun p => Pipeline.toksInit cfgs embR p c))
      ⊢ (bigSep Finset.univ (spare (F := F)) : sProp 𝕄) := by
  rw [← bigSep_sep']
  refine bigSep_mono fun c _ => ?_
  rw [← bigSep_sep']
  exact BI.Entails.refl _

theorem u₀_deal : (ownU u₀ : sProp 𝕄)
    ⊢ |={Set.univ}=> iprop(BI.own (embL (initOf (Pipeline.cells cfgs cellOf_inj) (Pipeline.launchToks cfgs cellOf_inj))) ∗ bigSep Finset.univ (spare (F := F))) := by
  unfold u₀
  iintro Hu
  ihave H := (ownU_pair _ _) $$ Hu
  icases H with ⟨HL, HR⟩
  imod (Pipeline.fund_ghost cfgs embR cellOf_inj) $$ HR with ⟨Hg, Ht⟩
  imodintro
  isplitl [HL]; · iexact HL
  iapply spare_of
  isplitl [Hg] <;> iassumption

/-- THE RUN: every execution ends with the counters at zero and every unscoped buffer of a core at the valuation that
    follows from some result that region 0 may leave. -/
theorem run (hRl : Admits (V1 m) Rl) (ρ : Dev nD → PrngReg) :
    θ_run defs (onTc (τ := τ) (main (F := F))) ⟨m, fun _ => 0, ρ⟩ (fun r =>
      (∀ c : Dev nD, ∃ S : S16x10752x1.Idx → Elt F .f32, (rd0 (V1 m) Rl c).ArrAt 2 cfg0.N S
        ∧ ∀ b ∈ Pipeline.ucRefs τ sig, r.2.mem (c, b) = V12 m (outsOf m S) c b)
      ∧ r.2.sem = fun _ => 0) := by
  refine RDat.θ_run_regions_kit_dev_sems (pcfgs (F := F)) adm (rdats (V1 m) Rl) () cellOf_inj embL defs₀ .none lvlIx lvlOf m ρ main
    (allSegs m .none Rl hRl) (fun c Q => by rw [main_allSegs m .none Rl hRl c])
    (fun c => by simp only [allSegs, RDat.Seg.pipes_host, RDat.Seg.pipes_region, RDat.Seg.pipes_nil]; decide)
    (O₀ := 0) (hL := lvlIx_off) (G := spare) (u₀ := u₀) (hu₀ := u₀_deal)
    (T₀ := fun c => iprop(heldAt c (V0 m c) ∗ quiet c ∗ spare c)) (Tₙ := endAt m Rl)
    (hch := fun c => ⟨.rfl, .rfl, .rfl, .rfl⟩)
    (hinit := ?_)
    (QY := fun c s => ∃ S : S16x10752x1.Idx → Elt F .f32, (rd0 (V1 m) Rl c).ArrAt 2 cfg0.N S
        ∧ ∀ b ∈ Pipeline.ucRefs τ sig, s.mem (c, b) = V12 m (outsOf m S) c b)
    (hfin := fun c s' => ?_) (hQ := fun _ h hz => ⟨h, funext fun g => hz g (.inr (regions_no_unscoped g.2))⟩)
  · refine Pipeline.initEach lvlIx lvlOf fun c => ?_
    rw [heldAt, ← Pipeline.unscopedBufs_held c (V0 m c)]
    iintro ⟨⟨Hh, -, HO, -, -, Hg⟩, -⟩
    imodintro
    isplitl [Hh]; · iexact Hh
    isplitl [HO]; · iexists ∅; iexact HO
    iexact Hg
  · unfold endAt heldAt StableHlo.held
    iintro ⟨⟨%S, %hS, Hh⟩, HSI⟩
    ihave Hr := (pointsTo_read_all (Pipeline.ucRefs τ sig) (fun b => ((c : Thread nD τ).1, b)) (V12 m (outsOf m S) c) s') $$ [Hh HSI]
    · isplitl [Hh] <;> iassumption
    icases Hr with ⟨%h, HSI⟩
    imodintro
    isplitr
    · ipureintro; exact ⟨S, hS, h⟩
    iexact HSI

/-- An unscoped reference's buffer is one of those that the run speaks of. -/
theorem mem_ucRefs (r : Ref sig .tc) (h : (Proc.devRef .tc r : DevRef τ sig).isScoped = false) : Proc.devRef .tc r ∈ Pipeline.ucRefs τ sig :=
  Finset.mem_filter.mpr ⟨StableHlo.devRef_mem_tcRefs r, by rw [h]; decide⟩

/-- THE FRAME: every execution ends with the arguments unchanged and the counters at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => by
    obtain ⟨S, -, hv⟩ := h.1 c
    exact ⟨(hv _ (mem_ucRefs main_arg0 rfl)).trans (V12_main_arg0 m (outsOf m S) c),
      (hv _ (mem_ucRefs main_arg1 rfl)).trans (V12_main_arg1 m (outsOf m S) c),
      (hv _ (mem_ucRefs main_arg2 rfl)).trans (V12_main_arg2 m (outsOf m S) c),
      (hv _ (mem_ucRefs main_arg3 rfl)).trans (V12_main_arg3 m (outsOf m S) c),
      (hv _ (mem_ucRefs main_arg4 rfl)).trans (V12_main_arg4 m (outsOf m S) c),
      (hv _ (mem_ucRefs main_arg5 rfl)).trans (V12_main_arg5 m (outsOf m S) c),
      (hv _ (mem_ucRefs main_arg6 rfl)).trans (V12_main_arg6 m (outsOf m S) c),
      (hv _ (mem_ucRefs main_arg7 rfl)).trans (V12_main_arg7 m (outsOf m S) c),
      (hv _ (mem_ucRefs main_arg8 rfl)).trans (V12_main_arg8 m (outsOf m S) c)⟩, h.2⟩)
    (run m (fun _ _ _ => True) (fun _ _ _ _ _ _ => trivial) ρ)

end Cert.KernelIdeal.Own

end
-- ==== Proof.Ref.Ops.lean ====
/-
  The reference program as lists of host operations: the stretches before, in and after its one counted loop, and the
  program as a chain of them.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2048

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 12 host operations of @main, in order. -/
abbrev hostOps0 : List (HloOp τ sig (Elt F)) :=
  [ StableHlo.reshape main_arg0 main_v0 (rfl : (.f32 : EltTy) = .f32) shapeCasts_S16x13x13x12_S16x507x4,
    StableHlo.reshape main_arg3 main_v1 (rfl : (.f32 : EltTy) = .f32) shapeCasts_S16x26x26x12_S16x2028x4,
    StableHlo.reshape main_arg6 main_v2 (rfl : (.f32 : EltTy) = .f32) shapeCasts_S16x52x52x12_S16x8112x4,
    StableHlo.nary ![main_v0, main_v1, main_v2] main_v3 (fun u => (concatenate S16x10647x4 1 [⟨S16x507x4, (u 0 : (⟨S16x507x4, .f32⟩ : BufTy).Contents (Elt F))⟩, ⟨S16x2028x4, (u 1 : (⟨S16x2028x4, .f32⟩ : BufTy).Contents (Elt F))⟩, ⟨S16x8112x4, (u 2 : (⟨S16x8112x4, .f32⟩ : BufTy).Contents (Elt F))⟩] concatenates_S16x507x4_S16x2028x4_S16x8112x4_S16x10647x4_d1 : (⟨S16x10647x4, .f32⟩ : BufTy).Contents (Elt F))),
    StableHlo.reshape main_arg1 main_v4 (rfl : (.f32 : EltTy) = .f32) shapeCasts_S16x13x13x3_S16x507x1,
    StableHlo.reshape main_arg4 main_v5 (rfl : (.f32 : EltTy) = .f32) shapeCasts_S16x26x26x3_S16x2028x1,
    StableHlo.reshape main_arg7 main_v6 (rfl : (.f32 : EltTy) = .f32) shapeCasts_S16x52x52x3_S16x8112x1,
    StableHlo.nary ![main_v4, main_v5, main_v6] main_v7 (fun u => (concatenate S16x10647x1 1 [⟨S16x507x1, (u 0 : (⟨S16x507x1, .f32⟩ : BufTy).Contents (Elt F))⟩, ⟨S16x2028x1, (u 1 : (⟨S16x2028x1, .f32⟩ : BufTy).Contents (Elt F))⟩, ⟨S16x8112x1, (u 2 : (⟨S16x8112x1, .f32⟩ : BufTy).Contents (Elt F))⟩] concatenates_S16x507x1_S16x2028x1_S16x8112x1_S16x10647x1_d1 : (⟨S16x10647x1, .f32⟩ : BufTy).Contents (Elt F))),
    StableHlo.reshape main_arg2 main_v8 (rfl : (.f32 : EltTy) = .f32) shapeCasts_S16x13x13x240_S16x507x80,
    StableHlo.reshape main_arg5 main_v9 (rfl : (.f32 : EltTy) = .f32) shapeCasts_S16x26x26x240_S16x2028x80,
    StableHlo.reshape main_arg8 main_v10 (rfl : (.f32 : EltTy) = .f32) shapeCasts_S16x52x52x240_S16x8112x80,
    StableHlo.nary ![main_v8, main_v9, main_v10] main_v11 (fun u => (concatenate S16x10647x80 1 [⟨S16x507x80, (u 0 : (⟨S16x507x80, .f32⟩ : BufTy).Contents (Elt F))⟩, ⟨S16x2028x80, (u 1 : (⟨S16x2028x80, .f32⟩ : BufTy).Contents (Elt F))⟩, ⟨S16x8112x80, (u 2 : (⟨S16x8112x80, .f32⟩ : BufTy).Contents (Elt F))⟩] concatenates_S16x507x80_S16x2028x80_S16x8112x80_S16x10647x80_d1 : (⟨S16x10647x80, .f32⟩ : BufTy).Contents (Elt F))) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.reshape_bufs_sub .., StableHlo.reshape_bufs_sub .., StableHlo.nary_bufs_sub .., StableHlo.reshape_bufs_sub .., StableHlo.reshape_bufs_sub .., StableHlo.reshape_bufs_sub .., StableHlo.nary_bufs_sub .., StableHlo.reshape_bufs_sub .., StableHlo.reshape_bufs_sub .., StableHlo.reshape_bufs_sub .., StableHlo.nary_bufs_sub ..⟩
/-- 5 host operations of @argmax (main_call0), in order. -/
abbrev hostOps0_1 : List (HloOp τ sig (Elt F)) :=
  [ StableHlo.TRef.nullary (.of main_call0_v0 : StableHlo.TRef sig ⟨S16x10647x80, .i32⟩) (iotaInDim S16x10647x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v11 : StableHlo.TRef sig ⟨S16x10647x80, .f32⟩) (.of main_call0_v0 : StableHlo.TRef sig ⟨S16x10647x80, .i32⟩) (.of main_call0_cst : StableHlo.TRef sig ⟨S_, .f32⟩) (.of main_call0_c : StableHlo.TRef sig ⟨S_, .i32⟩) (.of main_call0_v1_0 : StableHlo.TRef sig ⟨S16x10647, .f32⟩) (fun x y u v j => (Host.argReduce reducer_argmax_f32_i32 x y u v reducesTo_S16x10647x80_S16x10647_d2 h_S_ j).1),
    StableHlo.TRef.quaternary (.of main_v11 : StableHlo.TRef sig ⟨S16x10647x80, .f32⟩) (.of main_call0_v0 : StableHlo.TRef sig ⟨S16x10647x80, .i32⟩) (.of main_call0_cst : StableHlo.TRef sig ⟨S_, .f32⟩) (.of main_call0_c : StableHlo.TRef sig ⟨S_, .i32⟩) (.of main_v12 : StableHlo.TRef sig ⟨S16x10647, .i32⟩) (fun x y u v j => (Host.argReduce reducer_argmax_f32_i32 x y u v reducesTo_S16x10647x80_S16x10647_d2 h_S_ j).2) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 7 host operations of @main, in order. -/
abbrev hostOps0_2 : List (HloOp τ sig (Elt F)) :=
  [ StableHlo.unary main_v12 main_v13 (sitofp .f32 : (⟨S16x10647, .i32⟩ : BufTy).Contents (Elt F) → (⟨S16x10647, .f32⟩ : BufTy).Contents (Elt F)),
    StableHlo.reshape main_v7 main_v14 (rfl : (.f32 : EltTy) = .f32) shapeCasts_S16x10647x1_S16x10647,
    StableHlo.binary main_v14 main_v13 main_v15 (mulf : (⟨S16x10647, .f32⟩ : BufTy).Contents (Elt F) → (⟨S16x10647, .f32⟩ : BufTy).Contents (Elt F) → (⟨S16x10647, .f32⟩ : BufTy).Contents (Elt F)),
    StableHlo.nullary main_cst (constant S_ .f32 0x3E99999A#32),
    StableHlo.unary main_cst main_v16 (broadcastInDim S16x10647 ![] bcast_S_S16x10647 : (⟨S_, .f32⟩ : BufTy).Contents (Elt F) → (⟨S16x10647, .f32⟩ : BufTy).Contents (Elt F)),
    StableHlo.binary main_v15 main_v16 main_v17 (cmpf .ogt : (⟨S16x10647, .f32⟩ : BufTy).Contents (Elt F) → (⟨S16x10647, .f32⟩ : BufTy).Contents (Elt F) → (⟨S16x10647, .i1⟩ : BufTy).Contents (Elt F)),
    StableHlo.nullary main_cst_0 (constant S_ .f32 0xF149F2CA#32) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.unary_bufs_sub .., StableHlo.binary_bufs_sub .., StableHlo.nullary_bufs_sub ..⟩
/-- 4 host operations of @_where (main_call1), in order. -/
abbrev hostOps0_3 : List (HloOp τ sig (Elt F)) :=
  [ StableHlo.TRef.unary (.of main_cst_0 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S10647, .f32⟩) (broadcastInDim S10647 ![] bcast_S_S10647),
    StableHlo.TRef.unary (.of main_call1_v1 : StableHlo.TRef sig ⟨S10647, .f32⟩) (.of main_call1_v2 : StableHlo.TRef sig ⟨S16x10647, .f32⟩) (broadcastInDim S16x10647 ![1] bcast_S10647_S16x10647_1),
    StableHlo.TRef.ternary (.of main_v17 : StableHlo.TRef sig ⟨S16x10647, .i1⟩) (.of main_v15 : StableHlo.TRef sig ⟨S16x10647, .f32⟩) (.of main_call1_v2 : StableHlo.TRef sig ⟨S16x10647, .f32⟩) (.of main_v18 : StableHlo.TRef sig ⟨S16x10647, .f32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 20 host operations of @main, in order. -/
abbrev hostOps0_4 : List (HloOp τ sig (Elt F)) :=
  [ StableHlo.nullary main_cst_1 (constant S_ .f32 0x00000000#32),
    StableHlo.unary main_cst_1 main_v19 (broadcastInDim S100x4 ![] bcast_S_S100x4 : (⟨S_, .f32⟩ : BufTy).Contents (Elt F) → (⟨S100x4, .f32⟩ : BufTy).Contents (Elt F)),
    StableHlo.nullary main_cst_2 (constant S_ .f32 0x00000000#32),
    StableHlo.unary main_cst_2 main_v20 (broadcastInDim S100 ![] bcast_S_S100 : (⟨S_, .f32⟩ : BufTy).Contents (Elt F) → (⟨S100, .f32⟩ : BufTy).Contents (Elt F)),
    StableHlo.nullary main_cst_3 (constant S_ .f32 0x00000000#32),
    StableHlo.unary main_cst_3 main_v21 (broadcastInDim S100 ![] bcast_S_S100 : (⟨S_, .f32⟩ : BufTy).Contents (Elt F) → (⟨S100, .f32⟩ : BufTy).Contents (Elt F)),
    StableHlo.unary main_v19 main_v22 (broadcastInDim S16x100x4 ![1, 2] bcast_S100x4_S16x100x4_1_2 : (⟨S100x4, .f32⟩ : BufTy).Contents (Elt F) → (⟨S16x100x4, .f32⟩ : BufTy).Contents (Elt F)),
    StableHlo.unary main_v20 main_v23 (broadcastInDim S16x100 ![1] bcast_S100_S16x100_1 : (⟨S100, .f32⟩ : BufTy).Contents (Elt F) → (⟨S16x100, .f32⟩ : BufTy).Contents (Elt F)),
    StableHlo.nullary main_cst_4 (constant S_ .f32 0x00000000#32),
    StableHlo.unary main_cst_4 main_v24 (broadcastInDim S16 ![] bcast_S_S16 : (⟨S_, .f32⟩ : BufTy).Contents (Elt F) → (⟨S16, .f32⟩ : BufTy).Contents (Elt F)),
    StableHlo.nullary main_c (constantI S_ 32 0#32),
    StableHlo.nullary main_c_5 (constantI S_ 32 0#32),
    StableHlo.unary main_v3 main_v25_0 id,
    StableHlo.unary main_c_5 main_v25_1 id,
    StableHlo.unary main_c main_v25_2 id,
    StableHlo.unary main_v18 main_v25_3 id,
    StableHlo.unary main_v22 main_v25_4 id,
    StableHlo.unary main_v23 main_v25_5 id,
    StableHlo.unary main_v21 main_v25_6 id,
    StableHlo.unary main_v24 main_v25_7 id ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 5 host operations of @main, in order. -/
abbrev hostOps0_5 : List (HloOp τ sig (Elt F)) :=
  [ StableHlo.unary main_v25_6 main_v26 (broadcastInDim S16x100 ![1] bcast_S100_S16x100_1 : (⟨S100, .f32⟩ : BufTy).Contents (Elt F) → (⟨S16x100, .f32⟩ : BufTy).Contents (Elt F)),
    StableHlo.unary main_v25_5 main_v27 (broadcastInDim S16x100x1 ![0, 1] bcast_S16x100_S16x100x1_0_1 : (⟨S16x100, .f32⟩ : BufTy).Contents (Elt F) → (⟨S16x100x1, .f32⟩ : BufTy).Contents (Elt F)),
    StableHlo.unary main_v26 main_v28 (broadcastInDim S16x100x1 ![0, 1] bcast_S16x100_S16x100x1_0_1 : (⟨S16x100, .f32⟩ : BufTy).Contents (Elt F) → (⟨S16x100x1, .f32⟩ : BufTy).Contents (Elt F)),
    StableHlo.nary ![main_v25_4, main_v27, main_v28] main_v29 (fun u => (concatenate S16x100x6 2 [⟨S16x100x4, (u 0 : (⟨S16x100x4, .f32⟩ : BufTy).Contents (Elt F))⟩, ⟨S16x100x1, (u 1 : (⟨S16x100x1, .f32⟩ : BufTy).Contents (Elt F))⟩, ⟨S16x100x1, (u 2 : (⟨S16x100x1, .f32⟩ : BufTy).Contents (Elt F))⟩] concatenates_S16x100x4_S16x100x1_S16x100x1_S16x100x6_d2 : (⟨S16x100x6, .f32⟩ : BufTy).Contents (Elt F))),
    StableHlo.unary main_v25_7 main_v30 (fptosi 32 : (⟨S16, .f32⟩ : BufTy).Contents (Elt F) → (⟨S16, .i32⟩ : BufTy).Contents (Elt F)) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.unary_bufs_sub .., StableHlo.unary_bufs_sub .., StableHlo.nary_bufs_sub .., StableHlo.unary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons]
  chain_rfl

-- no `main_segs` (the loop-free kit's `Seg.run` equation) for this @main: it has a host loop; a certificate takes `main_chain` (Lib/Pipeline/RegionsLoop.lean)

/-- 2 host operations of host loop 0's body region, in order. -/
abbrev while0Ops0 : List (HloOp τ sig (Elt F)) :=
  [ StableHlo.nullary main_while0b_c_13 (constantI S_ 32 1#32),
    StableHlo.binary main_v25_2 main_while0b_c_13 main_while0b_v31 (addi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub ..⟩
/-- 5 host operations of @argmax_0 (main_while0b_call2), in order. -/
abbrev while0Ops0_1 : List (HloOp τ sig (Elt F)) :=
  [ StableHlo.TRef.nullary (.of main_while0b_call2_v0 : StableHlo.TRef sig ⟨S16x10647, .i32⟩) (iotaInDim S16x10647 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v25_3 : StableHlo.TRef sig ⟨S16x10647, .f32⟩) (.of main_while0b_call2_v0 : StableHlo.TRef sig ⟨S16x10647, .i32⟩) (.of main_while0b_call2_cst : StableHlo.TRef sig ⟨S_, .f32⟩) (.of main_while0b_call2_c : StableHlo.TRef sig ⟨S_, .i32⟩) (.of main_while0b_call2_v1_0 : StableHlo.TRef sig ⟨S16, .f32⟩) (fun x y u v j => (Host.argReduce reducer_argmax_f32_i32 x y u v reducesTo_S16x10647_S16_d1 h_S_ j).1),
    StableHlo.TRef.quaternary (.of main_v25_3 : StableHlo.TRef sig ⟨S16x10647, .f32⟩) (.of main_while0b_call2_v0 : StableHlo.TRef sig ⟨S16x10647, .i32⟩) (.of main_while0b_call2_cst : StableHlo.TRef sig ⟨S_, .f32⟩) (.of main_while0b_call2_c : StableHlo.TRef sig ⟨S_, .i32⟩) (.of main_while0b_v32 : StableHlo.TRef sig ⟨S16, .i32⟩) (fun x y u v j => (Host.argReduce reducer_argmax_f32_i32 x y u v reducesTo_S16x10647_S16_d1 h_S_ j).2) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 2 host operations of @_take (main_while0b_call3), in order. -/
abbrev while0Ops0_2 : List (HloOp τ sig (Elt F)) :=
  [ StableHlo.TRef.unary (.of main_while0b_v32 : StableHlo.TRef sig ⟨S16, .i32⟩) (.of main_while0b_call3_v0 : StableHlo.TRef sig ⟨S16x1, .i32⟩) (broadcastInDim S16x1 ![0] bcast_S16_S16x1_0),
    StableHlo.TRef.binary (.of main_v25_3 : StableHlo.TRef sig ⟨S16x10647, .f32⟩) (.of main_while0b_call3_v0 : StableHlo.TRef sig ⟨S16x1, .i32⟩) (.of main_while0b_v33 : StableHlo.TRef sig ⟨S16, .f32⟩) (fun x i => Host.gather gather_S16x10647_S16x1_S16_n_1_0_0_1_1_11 x i) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.binary_bufs_sub ..⟩
/-- 3 host operations of host loop 0's body region, in order. -/
abbrev while0Ops0_3 : List (HloOp τ sig (Elt F)) :=
  [ StableHlo.nullary main_while0b_cst_14 (constant S_ .f32 0xF0C9F2CA#32),
    StableHlo.unary main_while0b_cst_14 main_while0b_v34 (broadcastInDim S16 ![] bcast_S_S16 : (⟨S_, .f32⟩ : BufTy).Contents (Elt F) → (⟨S16, .f32⟩ : BufTy).Contents (Elt F)),
    StableHlo.binary main_while0b_v33 main_while0b_v34 main_while0b_v35 (cmpf .ogt : (⟨S16, .f32⟩ : BufTy).Contents (Elt F) → (⟨S16, .f32⟩ : BufTy).Contents (Elt F) → (⟨S16, .i1⟩ : BufTy).Contents (Elt F)) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.unary_bufs_sub .., StableHlo.binary_bufs_sub ..⟩
/-- 2 host operations of @_take_1 (main_while0b_call4), in order. -/
abbrev while0Ops0_4 : List (HloOp τ sig (Elt F)) :=
  [ StableHlo.TRef.unary (.of main_while0b_v32 : StableHlo.TRef sig ⟨S16, .i32⟩) (.of main_while0b_call4_v0 : StableHlo.TRef sig ⟨S16x1, .i32⟩) (broadcastInDim S16x1 ![0] bcast_S16_S16x1_0),
    StableHlo.TRef.binary (.of main_v25_0 : StableHlo.TRef sig ⟨S16x10647x4, .f32⟩) (.of main_while0b_call4_v0 : StableHlo.TRef sig ⟨S16x1, .i32⟩) (.of main_while0b_v36 : StableHlo.TRef sig ⟨S16x4, .f32⟩) (fun x i => Host.gather gather_S16x10647x4_S16x1_S16x4_1_1_0_0_1_1_114 x i) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.binary_bufs_sub ..⟩
set_option maxHeartbeats 2000000 in
/-- 80 host operations of host loop 0's body region, in order. -/
abbrev while0Ops0_5 : List (HloOp τ sig (Elt F)) :=
  ( StableHlo.unary main_while0b_v36 main_while0b_v37 ((extractStridedSlice S16x1 ![0, 0] · slices_S16x4_S16x1_0_0) : (⟨S16x4, .f32⟩ : BufTy).Contents (Elt F) → (⟨S16x1, .f32⟩ : BufTy).Contents (Elt F))
  :: StableHlo.reshape main_while0b_v37 main_while0b_v38 (rfl : (.f32 : EltTy) = .f32) shapeCasts_S16x1_S16
  :: StableHlo.unary main_v25_0 main_while0b_v39 ((extractStridedSlice S16x10647x1 ![0, 0, 0] · slices_S16x10647x4_S16x10647x1_0_0_0) : (⟨S16x10647x4, .f32⟩ : BufTy).Contents (Elt F) → (⟨S16x10647x1, .f32⟩ : BufTy).Contents (Elt F))
  :: StableHlo.reshape main_while0b_v39 main_while0b_v40 (rfl : (.f32 : EltTy) = .f32) shapeCasts_S16x10647x1_S16x10647
  :: StableHlo.unary main_while0b_v38 main_while0b_v41 (broadcastInDim S16x1 ![0] bcast_S16_S16x1_0 : (⟨S16, .f32⟩ : BufTy).Contents (Elt F) → (⟨S16x1, .f32⟩ : BufTy).Contents (Elt F))
  :: StableHlo.unary main_while0b_v41 main_while0b_v42 (broadcastInDim S16x10647 ![0, 1] bcast_S16x1_S16x10647_0_1 : (⟨S16x1, .f32⟩ : BufTy).Contents (Elt F) → (⟨S16x10647, .f32⟩ : BufTy).Contents (Elt F))
  :: StableHlo.binary main_while0b_v42 main_while0b_v40 main_while0b_v43 (maximumf : (⟨S16x10647, .f32⟩ : BufTy).Contents (Elt F) → (⟨S16x10647, .f32⟩ : BufTy).Contents (Elt F) → (⟨S16x10647, .f32⟩ : BufTy).Contents (Elt F))
  :: StableHlo.unary main_while0b_v36 main_while0b_v44 ((extractStridedSlice S16x1 ![0, 1] · slices_S16x4_S16x1_0_1) : (⟨S16x4, .f32⟩ : BufTy).Contents (Elt F) → (⟨S16x1, .f32⟩ : BufTy).Contents (Elt F))
  :: StableHlo.reshape main_while0b_v44 main_while0b_v45 (rfl : (.f32 : EltTy) = .f32) shapeCasts_S16x1_S16
  :: StableHlo.unary main_v25_0 main_while0b_v46 ((extractStridedSlice S16x10647x1 ![0, 0, 1] · slices_S16x10647x4_S16x10647x1_0_0_1) : (⟨S16x10647x4, .f32⟩ : BufTy).Contents (Elt F) → (⟨S16x10647x1, .f32⟩ : BufTy).Contents (Elt F))
  :: StableHlo.reshape main_while0b_v46 main_while0b_v47 (rfl : (.f32 : EltTy) = .f32) shapeCasts_S16x10647x1_S16x10647
  :: StableHlo.unary main_while0b_v45 main_while0b_v48 (broadcastInDim S16x1 ![0] bcast_S16_S16x1_0 : (⟨S16, .f32⟩ : BufTy).Contents (Elt F) → (⟨S16x1, .f32⟩ : BufTy).Contents (Elt F))
  :: StableHlo.unary main_while0b_v48 main_while0b_v49 (broadcastInDim S16x10647 ![0, 1] bcast_S16x1_S16x10647_0_1 : (⟨S16x1, .f32⟩ : BufTy).Contents (Elt F) → (⟨S16x10647, .f32⟩ : BufTy).Contents (Elt F))
  :: StableHlo.binary main_while0b_v49 main_while0b_v47 main_while0b_v50 (maximumf : (⟨S16x10647, .f32⟩ : BufTy).Contents (Elt F) → (⟨S16x10647, .f32⟩ : BufTy).Contents (Elt F) → (⟨S16x10647, .f32⟩ : BufTy).Contents (Elt F))
  :: StableHlo.unary main_while0b_v36 main_while0b_v51 ((extractStridedSlice S16x1 ![0, 2] · slices_S16x4_S16x1_0_2) : (⟨S16x4, .f32⟩ : BufTy).Contents (Elt F) → (⟨S16x1, .f32⟩ : BufTy).Contents (Elt F))
  :: StableHlo.reshape main_while0b_v51 main_while0b_v52 (rfl : (.f32 : EltTy) = .f32) shapeCasts_S16x1_S16
  :: StableHlo.unary main_v25_0 main_while0b_v53 ((extractStridedSlice S16x10647x1 ![0, 0, 2] · slices_S16x10647x4_S16x10647x1_0_0_2) : (⟨S16x10647x4, .f32⟩ : BufTy).Contents (Elt F) → (⟨S16x10647x1, .f32⟩ : BufTy).Contents (Elt F))
  :: StableHlo.reshape main_while0b_v53 main_while0b_v54 (rfl : (.f32 : EltTy) = .f32) shapeCasts_S16x10647x1_S16x10647
  :: StableHlo.unary main_while0b_v52 main_while0b_v55 (broadcastInDim S16x1 ![0] bcast_S16_S16x1_0 : (⟨S16, .f32⟩ : BufTy).Contents (Elt F) → (⟨S16x1, .f32⟩ : BufTy).Contents (Elt F))
  :: StableHlo.unary main_while0b_v55 main_while0b_v56 (broadcastInDim S16x10647 ![0, 1] bcast_S16x1_S16x10647_0_1 : (⟨S16x1, .f32⟩ : BufTy).Contents (Elt F) → (⟨S16x10647, .f32⟩ : BufTy).Contents (Elt F))
  :: StableHlo.binary main_while0b_v56 main_while0b_v54 main_while0b_v57 (minimumf : (⟨S16x10647, .f32⟩ : BufTy).Contents (Elt F) → (⟨S16x10647, .f32⟩ : BufTy).Contents (Elt F) → (⟨S16x10647, .f32⟩ : BufTy).Contents (Elt F))
  :: StableHlo.unary main_while0b_v36 main_while0b_v58 ((extractStridedSlice S16x1 ![0, 3] · slices_S16x4_S16x1_0_3) : (⟨S16x4, .f32⟩ : BufTy).Contents (Elt F) → (⟨S16x1, .f32⟩ : BufTy).Contents (Elt F))
  :: StableHlo.reshape main_while0b_v58 main_while0b_v59 (rfl : (.f32 : EltTy) = .f32) shapeCasts_S16x1_S16
  :: StableHlo.unary main_v25_0 main_while0b_v60 ((extractStridedSlice S16x10647x1 ![0, 0, 3] · slices_S16x10647x4_S16x10647x1_0_0_3) : (⟨S16x10647x4, .f32⟩ : BufTy).Contents (Elt F) → (⟨S16x10647x1, .f32⟩ : BufTy).Contents (Elt F))
  :: StableHlo.reshape main_while0b_v60 main_while0b_v61 (rfl : (.f32 : EltTy) = .f32) shapeCasts_S16x10647x1_S16x10647
  :: StableHlo.unary main_while0b_v59 main_while0b_v62 (broadcastInDim S16x1 ![0] bcast_S16_S16x1_0 : (⟨S16, .f32⟩ : BufTy).Contents (Elt F) → (⟨S16x1, .f32⟩ : BufTy).Contents (Elt F))
  :: StableHlo.unary main_while0b_v62 main_while0b_v63 (broadcastInDim S16x10647 ![0, 1] bcast_S16x1_S16x10647_0_1 : (⟨S16x1, .f32⟩ : BufTy).Contents (Elt F) → (⟨S16x10647, .f32⟩ : BufTy).Contents (Elt F))
  :: StableHlo.binary main_while0b_v63 main_while0b_v61 main_while0b_v64 (minimumf : (⟨S16x10647, .f32⟩ : BufTy).Contents (Elt F) → (⟨S16x10647, .f32⟩ : BufTy).Contents (Elt F) → (⟨S16x10647, .f32⟩ : BufTy).Contents (Elt F))
  :: StableHlo.binary main_while0b_v57 main_while0b_v43 main_while0b_v65 (subf : (⟨S16x10647, .f32⟩ : BufTy).Contents (Elt F) → (⟨S16x10647, .f32⟩ : BufTy).Contents (Elt F) → (⟨S16x10647, .f32⟩ : BufTy).Contents (Elt F))
  :: StableHlo.nullary main_while0b_cst_15 (constant S_ .f32 0x00000000#32)
  :: StableHlo.unary main_while0b_cst_15 main_while0b_v66 (broadcastInDim S16x10647 ![] bcast_S_S16x10647 : (⟨S_, .f32⟩ : BufTy).Contents (Elt F) → (⟨S16x10647, .f32⟩ : BufTy).Contents (Elt F))
  :: StableHlo.binary main_while0b_v66 main_while0b_v65 main_while0b_v67 (maximumf : (⟨S16x10647, .f32⟩ : BufTy).Contents (Elt F) → (⟨S16x10647, .f32⟩ : BufTy).Contents (Elt F) → (⟨S16x10647, .f32⟩ : BufTy).Contents (Elt F))
  :: StableHlo.binary main_while0b_v64 main_while0b_v50 main_while0b_v68 (subf : (⟨S16x10647, .f32⟩ : BufTy).Contents (Elt F) → (⟨S16x10647, .f32⟩ : BufTy).Contents (Elt F) → (⟨S16x10647, .f32⟩ : BufTy).Contents (Elt F))
  :: StableHlo.nullary main_while0b_cst_16 (constant S_ .f32 0x00000000#32)
  :: StableHlo.unary main_while0b_cst_16 main_while0b_v69 (broadcastInDim S16x10647 ![] bcast_S_S16x10647 : (⟨S_, .f32⟩ : BufTy).Contents (Elt F) → (⟨S16x10647, .f32⟩ : BufTy).Contents (Elt F))
  :: StableHlo.binary main_while0b_v69 main_while0b_v68 main_while0b_v70 (maximumf : (⟨S16x10647, .f32⟩ : BufTy).Contents (Elt F) → (⟨S16x10647, .f32⟩ : BufTy).Contents (Elt F) → (⟨S16x10647, .f32⟩ : BufTy).Contents (Elt F))
  :: StableHlo.binary main_while0b_v67 main_while0b_v70 main_while0b_v71 (mulf : (⟨S16x10647, .f32⟩ : BufTy).Contents (Elt F) → (⟨S16x10647, .f32⟩ : BufTy).Contents (Elt F) → (⟨S16x10647, .f32⟩ : BufTy).Contents (Elt F))
  :: StableHlo.unary main_while0b_v36 main_while0b_v72 ((extractStridedSlice S16x1 ![0, 2] · slices_S16x4_S16x1_0_2) : (⟨S16x4, .f32⟩ : BufTy).Contents (Elt F) → (⟨S16x1, .f32⟩ : BufTy).Contents (Elt F))
  :: StableHlo.reshape main_while0b_v72 main_while0b_v73 (rfl : (.f32 : EltTy) = .f32) shapeCasts_S16x1_S16
  :: StableHlo.unary main_while0b_v36 main_while0b_v74 ((extractStridedSlice S16x1 ![0, 0] · slices_S16x4_S16x1_0_0) : (⟨S16x4, .f32⟩ : BufTy).Contents (Elt F) → (⟨S16x1, .f32⟩ : BufTy).Contents (Elt F))
  :: StableHlo.reshape main_while0b_v74 main_while0b_v75 (rfl : (.f32 : EltTy) = .f32) shapeCasts_S16x1_S16
  :: StableHlo.binary main_while0b_v73 main_while0b_v75 main_while0b_v76 (subf : (⟨S16, .f32⟩ : BufTy).Contents (Elt F) → (⟨S16, .f32⟩ : BufTy).Contents (Elt F) → (⟨S16, .f32⟩ : BufTy).Contents (Elt F))
  :: StableHlo.nullary main_while0b_cst_17 (constant S_ .f32 0x00000000#32)
  :: StableHlo.unary main_while0b_cst_17 main_while0b_v77 (broadcastInDim S16 ![] bcast_S_S16 : (⟨S_, .f32⟩ : BufTy).Contents (Elt F) → (⟨S16, .f32⟩ : BufTy).Contents (Elt F))
  :: StableHlo.binary main_while0b_v77 main_while0b_v76 main_while0b_v78 (maximumf : (⟨S16, .f32⟩ : BufTy).Contents (Elt F) → (⟨S16, .f32⟩ : BufTy).Contents (Elt F) → (⟨S16, .f32⟩ : BufTy).Contents (Elt F))
  :: StableHlo.unary main_while0b_v36 main_while0b_v79 ((extractStridedSlice S16x1 ![0, 3] · slices_S16x4_S16x1_0_3) : (⟨S16x4, .f32⟩ : BufTy).Contents (Elt F) → (⟨S16x1, .f32⟩ : BufTy).Contents (Elt F))
  :: StableHlo.reshape main_while0b_v79 main_while0b_v80 (rfl : (.f32 : EltTy) = .f32) shapeCasts_S16x1_S16
  :: StableHlo.unary main_while0b_v36 main_while0b_v81 ((extractStridedSlice S16x1 ![0, 1] · slices_S16x4_S16x1_0_1) : (⟨S16x4, .f32⟩ : BufTy).Contents (Elt F) → (⟨S16x1, .f32⟩ : BufTy).Contents (Elt F))
  :: StableHlo.reshape main_while0b_v81 main_while0b_v82 (rfl : (.f32 : EltTy) = .f32) shapeCasts_S16x1_S16
  :: StableHlo.binary main_while0b_v80 main_while0b_v82 main_while0b_v83 (subf : (⟨S16, .f32⟩ : BufTy).Contents (Elt F) → (⟨S16, .f32⟩ : BufTy).Contents (Elt F) → (⟨S16, .f32⟩ : BufTy).Contents (Elt F))
  :: StableHlo.nullary main_while0b_cst_18 (constant S_ .f32 0x00000000#32)
  :: StableHlo.unary main_while0b_cst_18 main_while0b_v84 (broadcastInDim S16 ![] bcast_S_S16 : (⟨S_, .f32⟩ : BufTy).Contents (Elt F) → (⟨S16, .f32⟩ : BufTy).Contents (Elt F))
  :: StableHlo.binary main_while0b_v84 main_while0b_v83 main_while0b_v85 (maximumf : (⟨S16, .f32⟩ : BufTy).Contents (Elt F) → (⟨S16, .f32⟩ : BufTy).Contents (Elt F) → (⟨S16, .f32⟩ : BufTy).Contents (Elt F))
  :: StableHlo.binary main_while0b_v78 main_while0b_v85 main_while0b_v86 (mulf : (⟨S16, .f32⟩ : BufTy).Contents (Elt F) → (⟨S16, .f32⟩ : BufTy).Contents (Elt F) → (⟨S16, .f32⟩ : BufTy).Contents (Elt F))
  :: StableHlo.unary main_v25_0 main_while0b_v87 ((extractStridedSlice S16x10647x1 ![0, 0, 2] · slices_S16x10647x4_S16x10647x1_0_0_2) : (⟨S16x10647x4, .f32⟩ : BufTy).Contents (Elt F) → (⟨S16x10647x1, .f32⟩ : BufTy).Contents (Elt F))
  :: StableHlo.reshape main_while0b_v87 main_while0b_v88 (rfl : (.f32 : EltTy) = .f32) shapeCasts_S16x10647x1_S16x10647
  :: StableHlo.unary main_v25_0 main_while0b_v89 ((extractStridedSlice S16x10647x1 ![0, 0, 0] · slices_S16x10647x4_S16x10647x1_0_0_0) : (⟨S16x10647x4, .f32⟩ : BufTy).Contents (Elt F) → (⟨S16x10647x1, .f32⟩ : BufTy).Contents (Elt F))
  :: StableHlo.reshape main_while0b_v89 main_while0b_v90 (rfl : (.f32 : EltTy) = .f32) shapeCasts_S16x10647x1_S16x10647
  :: StableHlo.binary main_while0b_v88 main_while0b_v90 main_while0b_v91 (subf : (⟨S16x10647, .f32⟩ : BufTy).Contents (Elt F) → (⟨S16x10647, .f32⟩ : BufTy).Contents (Elt F) → (⟨S16x10647, .f32⟩ : BufTy).Contents (Elt F))
  :: StableHlo.nullary main_while0b_cst_19 (constant S_ .f32 0x00000000#32)
  :: StableHlo.unary main_while0b_cst_19 main_while0b_v92 (broadcastInDim S16x10647 ![] bcast_S_S16x10647 : (⟨S_, .f32⟩ : BufTy).Contents (Elt F) → (⟨S16x10647, .f32⟩ : BufTy).Contents (Elt F))
  :: StableHlo.binary main_while0b_v92 main_while0b_v91 main_while0b_v93 (maximumf : (⟨S16x10647, .f32⟩ : BufTy).Contents (Elt F) → (⟨S16x10647, .f32⟩ : BufTy).Contents (Elt F) → (⟨S16x10647, .f32⟩ : BufTy).Contents (Elt F))
  :: StableHlo.unary main_v25_0 main_while0b_v94 ((extractStridedSlice S16x10647x1 ![0, 0, 3] · slices_S16x10647x4_S16x10647x1_0_0_3) : (⟨S16x10647x4, .f32⟩ : BufTy).Contents (Elt F) → (⟨S16x10647x1, .f32⟩ : BufTy).Contents (Elt F))
  :: StableHlo.reshape main_while0b_v94 main_while0b_v95 (rfl : (.f32 : EltTy) = .f32) shapeCasts_S16x10647x1_S16x10647
  :: StableHlo.unary main_v25_0 main_while0b_v96 ((extractStridedSlice S16x10647x1 ![0, 0, 1] · slices_S16x10647x4_S16x10647x1_0_0_1) : (⟨S16x10647x4, .f32⟩ : BufTy).Contents (Elt F) → (⟨S16x10647x1, .f32⟩ : BufTy).Contents (Elt F))
  :: StableHlo.reshape main_while0b_v96 main_while0b_v97 (rfl : (.f32 : EltTy) = .f32) shapeCasts_S16x10647x1_S16x10647
  :: StableHlo.binary main_while0b_v95 main_while0b_v97 main_while0b_v98 (subf : (⟨S16x10647, .f32⟩ : BufTy).Contents (Elt F) → (⟨S16x10647, .f32⟩ : BufTy).Contents (Elt F) → (⟨S16x10647, .f32⟩ : BufTy).Contents (Elt F))
  :: StableHlo.nullary main_while0b_cst_20 (constant S_ .f32 0x00000000#32)
  :: StableHlo.unary main_while0b_cst_20 main_while0b_v99 (broadcastInDim S16x10647 ![] bcast_S_S16x10647 : (⟨S_, .f32⟩ : BufTy).Contents (Elt F) → (⟨S16x10647, .f32⟩ : BufTy).Contents (Elt F))
  :: StableHlo.binary main_while0b_v99 main_while0b_v98 main_while0b_v100 (maximumf : (⟨S16x10647, .f32⟩ : BufTy).Contents (Elt F) → (⟨S16x10647, .f32⟩ : BufTy).Contents (Elt F) → (⟨S16x10647, .f32⟩ : BufTy).Contents (Elt F))
  :: StableHlo.binary main_while0b_v93 main_while0b_v100 main_while0b_v101 (mulf : (⟨S16x10647, .f32⟩ : BufTy).Contents (Elt F) → (⟨S16x10647, .f32⟩ : BufTy).Contents (Elt F) → (⟨S16x10647, .f32⟩ : BufTy).Contents (Elt F))
  :: StableHlo.unary main_while0b_v86 main_while0b_v102 (broadcastInDim S16x1 ![0] bcast_S16_S16x1_0 : (⟨S16, .f32⟩ : BufTy).Contents (Elt F) → (⟨S16x1, .f32⟩ : BufTy).Contents (Elt F))
  :: StableHlo.unary main_while0b_v102 main_while0b_v103 (broadcastInDim S16x10647 ![0, 1] bcast_S16x1_S16x10647_0_1 : (⟨S16x1, .f32⟩ : BufTy).Contents (Elt F) → (⟨S16x10647, .f32⟩ : BufTy).Contents (Elt F))
  :: StableHlo.binary main_while0b_v103 main_while0b_v101 main_while0b_v104 (addf : (⟨S16x10647, .f32⟩ : BufTy).Contents (Elt F) → (⟨S16x10647, .f32⟩ : BufTy).Contents (Elt F) → (⟨S16x10647, .f32⟩ : BufTy).Contents (Elt F))
  :: StableHlo.binary main_while0b_v104 main_while0b_v71 main_while0b_v105 (subf : (⟨S16x10647, .f32⟩ : BufTy).Contents (Elt F) → (⟨S16x10647, .f32⟩ : BufTy).Contents (Elt F) → (⟨S16x10647, .f32⟩ : BufTy).Contents (Elt F))
  :: StableHlo.nullary main_while0b_cst_21 (constant S_ .f32 0x00000000#32)
  :: StableHlo.unary main_while0b_cst_21 main_while0b_v106 (broadcastInDim S16x10647 ![] bcast_S_S16x10647 : (⟨S_, .f32⟩ : BufTy).Contents (Elt F) → (⟨S16x10647, .f32⟩ : BufTy).Contents (Elt F))
  :: StableHlo.binary main_while0b_v105 main_while0b_v106 main_while0b_v107 (cmpf .ogt : (⟨S16x10647, .f32⟩ : BufTy).Contents (Elt F) → (⟨S16x10647, .f32⟩ : BufTy).Contents (Elt F) → (⟨S16x10647, .i1⟩ : BufTy).Contents (Elt F))
  :: StableHlo.binary main_while0b_v71 main_while0b_v105 main_while0b_v108 (Host.divf : (⟨S16x10647, .f32⟩ : BufTy).Contents (Elt F) → (⟨S16x10647, .f32⟩ : BufTy).Contents (Elt F) → (⟨S16x10647, .f32⟩ : BufTy).Contents (Elt F))
  :: StableHlo.nullary main_while0b_cst_22 (constant S_ .f32 0x00000000#32)
  :: [] )
set_option maxHeartbeats 2000000 in
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
/-- 4 host operations of @_where (main_while0b_call5), in order. -/
abbrev while0Ops0_6 : List (HloOp τ sig (Elt F)) :=
  [ StableHlo.TRef.unary (.of main_while0b_cst_22 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S10647, .f32⟩) (broadcastInDim S10647 ![] bcast_S_S10647),
    StableHlo.TRef.unary (.of main_while0b_call5_v1 : StableHlo.TRef sig ⟨S10647, .f32⟩) (.of main_while0b_call5_v2 : StableHlo.TRef sig ⟨S16x10647, .f32⟩) (broadcastInDim S16x10647 ![1] bcast_S10647_S16x10647_1),
    StableHlo.TRef.ternary (.of main_while0b_v107 : StableHlo.TRef sig ⟨S16x10647, .i1⟩) (.of main_while0b_v108 : StableHlo.TRef sig ⟨S16x10647, .f32⟩) (.of main_while0b_call5_v2 : StableHlo.TRef sig ⟨S16x10647, .f32⟩) (.of main_while0b_v109 : StableHlo.TRef sig ⟨S16x10647, .f32⟩) select ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 4 host operations of host loop 0's body region, in order. -/
abbrev while0Ops0_7 : List (HloOp τ sig (Elt F)) :=
  [ StableHlo.nullary main_while0b_cst_23 (constant S_ .f32 0x3F000000#32),
    StableHlo.unary main_while0b_cst_23 main_while0b_v110 (broadcastInDim S16x10647 ![] bcast_S_S16x10647 : (⟨S_, .f32⟩ : BufTy).Contents (Elt F) → (⟨S16x10647, .f32⟩ : BufTy).Contents (Elt F)),
    StableHlo.binary main_while0b_v109 main_while0b_v110 main_while0b_v111 (cmpf .ogt : (⟨S16x10647, .f32⟩ : BufTy).Contents (Elt F) → (⟨S16x10647, .f32⟩ : BufTy).Contents (Elt F) → (⟨S16x10647, .i1⟩ : BufTy).Contents (Elt F)),
    StableHlo.nullary main_while0b_cst_24 (constant S_ .f32 0xF149F2CA#32) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 4 host operations of @_where_2 (main_while0b_call6), in order. -/
abbrev while0Ops0_8 : List (HloOp τ sig (Elt F)) :=
  [ StableHlo.TRef.unary (.of main_while0b_cst_24 : StableHlo.TRef sig ⟨S_, .f32⟩) (.of main_while0b_call6_v0 : StableHlo.TRef sig ⟨S_, .f32⟩) id,
    StableHlo.TRef.unary (.of main_while0b_call6_v0 : StableHlo.TRef sig ⟨S_, .f32⟩) (.of main_while0b_call6_v1 : StableHlo.TRef sig ⟨S10647, .f32⟩) (broadcastInDim S10647 ![] bcast_S_S10647),
    StableHlo.TRef.unary (.of main_while0b_call6_v1 : StableHlo.TRef sig ⟨S10647, .f32⟩) (.of main_while0b_call6_v2 : StableHlo.TRef sig ⟨S16x10647, .f32⟩) (broadcastInDim S16x10647 ![1] bcast_S10647_S16x10647_1),
    StableHlo.TRef.ternary (.of main_while0b_v111 : StableHlo.TRef sig ⟨S16x10647, .i1⟩) (.of main_while0b_call6_v2 : StableHlo.TRef sig ⟨S16x10647, .f32⟩) (.of main_v25_3 : StableHlo.TRef sig ⟨S16x10647, .f32⟩) (.of main_while0b_v112 : StableHlo.TRef sig ⟨S16x10647, .f32⟩) select ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 7 host operations of host loop 0's body region, in order. -/
abbrev while0Ops0_9 : List (HloOp τ sig (Elt F)) :=
  [ StableHlo.nullary main_while0b_v113 (iotaInDim S10647 32 0),
    StableHlo.unary main_while0b_v113 main_while0b_v114 (broadcastInDim S1x10647 ![1] bcast_S10647_S1x10647_1 : (⟨S10647, .i32⟩ : BufTy).Contents (Elt F) → (⟨S1x10647, .i32⟩ : BufTy).Contents (Elt F)),
    StableHlo.unary main_while0b_v32 main_while0b_v115 (broadcastInDim S16x1 ![0] bcast_S16_S16x1_0 : (⟨S16, .i32⟩ : BufTy).Contents (Elt F) → (⟨S16x1, .i32⟩ : BufTy).Contents (Elt F)),
    StableHlo.unary main_while0b_v114 main_while0b_v116 (broadcastInDim S16x10647 ![0, 1] bcast_S1x10647_S16x10647_0_1 : (⟨S1x10647, .i32⟩ : BufTy).Contents (Elt F) → (⟨S16x10647, .i32⟩ : BufTy).Contents (Elt F)),
    StableHlo.unary main_while0b_v115 main_while0b_v117 (broadcastInDim S16x10647 ![0, 1] bcast_S16x1_S16x10647_0_1 : (⟨S16x1, .i32⟩ : BufTy).Contents (Elt F) → (⟨S16x10647, .i32⟩ : BufTy).Contents (Elt F)),
    StableHlo.binary main_while0b_v116 main_while0b_v117 main_while0b_v118 (cmpi .eq : (⟨S16x10647, .i32⟩ : BufTy).Contents (Elt F) → (⟨S16x10647, .i32⟩ : BufTy).Contents (Elt F) → (⟨S16x10647, .i1⟩ : BufTy).Contents (Elt F)),
    StableHlo.nullary main_while0b_cst_25 (constant S_ .f32 0xF149F2CA#32) ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub ..⟩
/-- 4 host operations of @_where_2 (main_while0b_call7), in order. -/
abbrev while0Ops0_10 : List (HloOp τ sig (Elt F)) :=
  [ StableHlo.TRef.unary (.of main_while0b_cst_25 : StableHlo.TRef sig ⟨S_, .f32⟩) (.of main_while0b_call7_v0 : StableHlo.TRef sig ⟨S_, .f32⟩) id,
    StableHlo.TRef.unary (.of main_while0b_call7_v0 : StableHlo.TRef sig ⟨S_, .f32⟩) (.of main_while0b_call7_v1 : StableHlo.TRef sig ⟨S10647, .f32⟩) (broadcastInDim S10647 ![] bcast_S_S10647),
    StableHlo.TRef.unary (.of main_while0b_call7_v1 : StableHlo.TRef sig ⟨S10647, .f32⟩) (.of main_while0b_call7_v2 : StableHlo.TRef sig ⟨S16x10647, .f32⟩) (broadcastInDim S16x10647 ![1] bcast_S10647_S16x10647_1),
    StableHlo.TRef.ternary (.of main_while0b_v118 : StableHlo.TRef sig ⟨S16x10647, .i1⟩) (.of main_while0b_call7_v2 : StableHlo.TRef sig ⟨S16x10647, .f32⟩) (.of main_while0b_v112 : StableHlo.TRef sig ⟨S16x10647, .f32⟩) (.of main_while0b_v119 : StableHlo.TRef sig ⟨S16x10647, .f32⟩) select ]
/-- Each touches TensorCore references only (`HostSeg.ofOps` over `StableHlo.tcRefs`, or a subset by `sub_ucRefs`). -/
theorem while0Ops0_10_sub : (while0Ops0_10 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 2 host operations of @_where_3 (main_while0b_call8), in order. -/
abbrev while0Ops0_11 : List (HloOp τ sig (Elt F)) :=
  [ StableHlo.TRef.unary (.of main_while0b_v35 : StableHlo.TRef sig ⟨S16, .i1⟩) (.of main_while0b_call8_v0 : StableHlo.TRef sig ⟨S16x10647, .i1⟩) (broadcastInDim S16x10647 ![0] bcast_S16_S16x10647_0),
    StableHlo.TRef.ternary (.of main_while0b_call8_v0 : StableHlo.TRef sig ⟨S16x10647, .i1⟩) (.of main_while0b_v119 : StableHlo.TRef sig ⟨S16x10647, .f32⟩) (.of main_v25_3 : StableHlo.TRef sig ⟨S16x10647, .f32⟩) (.of main_while0b_v120 : StableHlo.TRef sig ⟨S16x10647, .f32⟩) select ]
/-- Each touches TensorCore references only (`HostSeg.ofOps` over `StableHlo.tcRefs`, or a subset by `sub_ucRefs`). -/
theorem while0Ops0_11_sub : (while0Ops0_11 : List (HloOp τ sig (Elt F))).Forall fun op => op.bufs ⊆ StableHlo.tcRefs τ sig :=
  ⟨StableHlo.unary_bufs_sub .., StableHlo.ternary_bufs_sub ..⟩
/-- 3 host operations of host loop 0's body region, in order. -/
abbrev while0Ops0_12 : List (HloOp τ sig (Elt F)) :=
  [ StableHlo.unary main_while0b_v35 main_while0b_v121 (uitofp .f32 : (⟨S16, .i1⟩ : BufTy).Contents (Elt F) → (⟨S16, .f32⟩ : BufTy).Contents (Elt F)),
    StableHlo.nullary main_while0b_cst_26 (constant S_ .f32 0x00000000#32),
    StableHlo.nullary main_while0b_cst_27 (constant S_ .f32 0x3F800000#32) ]
/-- Each touches TensorCore references only (`HostSeg.ofOps` over `StableHlo.tcRefs`, or a subset by `sub_ucRefs`). -/
theorem while0Ops0_12_sub : (while0Ops0_12 : List (HloOp τ sig (Elt F))).Forall fun op => op.bufs ⊆ StableHlo.tcRefs τ sig :=
  ⟨StableHlo.unary_bufs_sub .., StableHlo.nullary_bufs_sub .., StableHlo.nullary_bufs_sub ..⟩
/-- 6 host operations of @clip (main_while0b_call9), in order. -/
abbrev while0Ops0_13 : List (HloOp τ sig (Elt F)) :=
  [ StableHlo.TRef.unary (.of main_while0b_cst_26 : StableHlo.TRef sig ⟨S_, .f32⟩) (.of main_while0b_call9_v0 : StableHlo.TRef sig ⟨S_, .f32⟩) id,
    StableHlo.TRef.unary (.of main_while0b_call9_v0 : StableHlo.TRef sig ⟨S_, .f32⟩) (.of main_while0b_call9_v1 : StableHlo.TRef sig ⟨S16x4, .f32⟩) (broadcastInDim S16x4 ![] bcast_S_S16x4),
    StableHlo.TRef.binary (.of main_while0b_call9_v1 : StableHlo.TRef sig ⟨S16x4, .f32⟩) (.of main_while0b_v36 : StableHlo.TRef sig ⟨S16x4, .f32⟩) (.of main_while0b_call9_v2 : StableHlo.TRef sig ⟨S16x4, .f32⟩) maximumf,
    StableHlo.TRef.unary (.of main_while0b_cst_27 : StableHlo.TRef sig ⟨S_, .f32⟩) (.of main_while0b_call9_v3 : StableHlo.TRef sig ⟨S_, .f32⟩) id,
    StableHlo.TRef.unary (.of main_while0b_call9_v3 : StableHlo.TRef sig ⟨S_, .f32⟩) (.of main_while0b_call9_v4 : StableHlo.TRef sig ⟨S16x4, .f32⟩) (broadcastInDim S16x4 ![] bcast_S_S16x4),
    StableHlo.TRef.binary (.of main_while0b_call9_v4 : StableHlo.TRef sig ⟨S16x4, .f32⟩) (.of main_while0b_call9_v2 : StableHlo.TRef sig ⟨S16x4, .f32⟩) (.of main_while0b_v122 : StableHlo.TRef sig ⟨S16x4, .f32⟩) minimumf ]
/-- Each touches TensorCore references only (`HostSeg.ofOps` over `StableHlo.tcRefs`, or a subset by `sub_ucRefs`). -/
theorem while0Ops0_13_sub : (while0Ops0_13 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 39 host operations of host loop 0's body region, in order. -/
abbrev while0Ops0_14 : List (HloOp τ sig (Elt F)) :=
  ( StableHlo.unary main_while0b_v121 main_while0b_v123 (broadcastInDim S16x1 ![0] bcast_S16_S16x1_0 : (⟨S16, .f32⟩ : BufTy).Contents (Elt F) → (⟨S16x1, .f32⟩ : BufTy).Contents (Elt F))
  :: StableHlo.unary main_while0b_v123 main_while0b_v124 (broadcastInDim S16x4 ![0, 1] bcast_S16x1_S16x4_0_1 : (⟨S16x1, .f32⟩ : BufTy).Contents (Elt F) → (⟨S16x4, .f32⟩ : BufTy).Contents (Elt F))
  :: StableHlo.binary main_while0b_v124 main_while0b_v122 main_while0b_v125 (mulf : (⟨S16x4, .f32⟩ : BufTy).Contents (Elt F) → (⟨S16x4, .f32⟩ : BufTy).Contents (Elt F) → (⟨S16x4, .f32⟩ : BufTy).Contents (Elt F))
  :: StableHlo.nullary main_while0b_c_28 (constantI S_ 32 0#32)
  :: StableHlo.binary main_v25_2 main_while0b_c_28 main_while0b_v126 (cmpi .slt : (⟨S_, .i32⟩ : BufTy).Contents (Elt F) → (⟨S_, .i32⟩ : BufTy).Contents (Elt F) → (⟨S_, .i1⟩ : BufTy).Contents (Elt F))
  :: StableHlo.nullary main_while0b_c_29 (constantI S_ 32 100#32)
  :: StableHlo.binary main_v25_2 main_while0b_c_29 main_while0b_v127 (addi : (⟨S_, .i32⟩ : BufTy).Contents (Elt F) → (⟨S_, .i32⟩ : BufTy).Contents (Elt F) → (⟨S_, .i32⟩ : BufTy).Contents (Elt F))
  :: StableHlo.ternary main_while0b_v126 main_while0b_v127 main_v25_2 main_while0b_v128 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v128 main_while0b_v129 (id : (⟨S_, .i32⟩ : BufTy).Contents (Elt F) → (⟨S_, .i32⟩ : BufTy).Contents (Elt F))
  :: StableHlo.unary main_while0b_v129 main_while0b_v130 (broadcastInDim S1 ![] bcast_S_S1 : (⟨S_, .i32⟩ : BufTy).Contents (Elt F) → (⟨S1, .i32⟩ : BufTy).Contents (Elt F))
  :: StableHlo.ternary main_v25_4 main_while0b_v130 main_while0b_v125 main_while0b_v131 ((fun x i u => Host.scatter scatter_S16x100x4_S1_S16x4_01_1_1_0 (fun _ b => b) x i u) : (⟨S16x100x4, .f32⟩ : BufTy).Contents (Elt F) → (⟨S1, .i32⟩ : BufTy).Contents (Elt F) → (⟨S16x4, .f32⟩ : BufTy).Contents (Elt F) → (⟨S16x100x4, .f32⟩ : BufTy).Contents (Elt F))
  :: StableHlo.binary main_while0b_v121 main_while0b_v33 main_while0b_v132 (mulf : (⟨S16, .f32⟩ : BufTy).Contents (Elt F) → (⟨S16, .f32⟩ : BufTy).Contents (Elt F) → (⟨S16, .f32⟩ : BufTy).Contents (Elt F))
  :: StableHlo.nullary main_while0b_c_30 (constantI S_ 32 0#32)
  :: StableHlo.binary main_v25_2 main_while0b_c_30 main_while0b_v133 (cmpi .slt : (⟨S_, .i32⟩ : BufTy).Contents (Elt F) → (⟨S_, .i32⟩ : BufTy).Contents (Elt F) → (⟨S_, .i1⟩ : BufTy).Contents (Elt F))
  :: StableHlo.nullary main_while0b_c_31 (constantI S_ 32 100#32)
  :: StableHlo.binary main_v25_2 main_while0b_c_31 main_while0b_v134 (addi : (⟨S_, .i32⟩ : BufTy).Contents (Elt F) → (⟨S_, .i32⟩ : BufTy).Contents (Elt F) → (⟨S_, .i32⟩ : BufTy).Contents (Elt F))
  :: StableHlo.ternary main_while0b_v133 main_while0b_v134 main_v25_2 main_while0b_v135 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v135 main_while0b_v136 (id : (⟨S_, .i32⟩ : BufTy).Contents (Elt F) → (⟨S_, .i32⟩ : BufTy).Contents (Elt F))
  :: StableHlo.unary main_while0b_v136 main_while0b_v137 (broadcastInDim S1 ![] bcast_S_S1 : (⟨S_, .i32⟩ : BufTy).Contents (Elt F) → (⟨S1, .i32⟩ : BufTy).Contents (Elt F))
  :: StableHlo.ternary main_v25_5 main_while0b_v137 main_while0b_v132 main_while0b_v138 ((fun x i u => Host.scatter scatter_S16x100_S1_S16_0_1_1_0 (fun _ b => b) x i u) : (⟨S16x100, .f32⟩ : BufTy).Contents (Elt F) → (⟨S1, .i32⟩ : BufTy).Contents (Elt F) → (⟨S16, .f32⟩ : BufTy).Contents (Elt F) → (⟨S16x100, .f32⟩ : BufTy).Contents (Elt F))
  :: StableHlo.nullary main_while0b_c_32 (constantI S_ 32 0#32)
  :: StableHlo.binary main_v25_2 main_while0b_c_32 main_while0b_v139 (cmpi .slt : (⟨S_, .i32⟩ : BufTy).Contents (Elt F) → (⟨S_, .i32⟩ : BufTy).Contents (Elt F) → (⟨S_, .i1⟩ : BufTy).Contents (Elt F))
  :: StableHlo.nullary main_while0b_c_33 (constantI S_ 32 100#32)
  :: StableHlo.binary main_v25_2 main_while0b_c_33 main_while0b_v140 (addi : (⟨S_, .i32⟩ : BufTy).Contents (Elt F) → (⟨S_, .i32⟩ : BufTy).Contents (Elt F) → (⟨S_, .i32⟩ : BufTy).Contents (Elt F))
  :: StableHlo.ternary main_while0b_v139 main_while0b_v140 main_v25_2 main_while0b_v141 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v141 main_while0b_v142 (id : (⟨S_, .i32⟩ : BufTy).Contents (Elt F) → (⟨S_, .i32⟩ : BufTy).Contents (Elt F))
  :: StableHlo.unary main_while0b_v142 main_while0b_v143 (broadcastInDim S1 ![] bcast_S_S1 : (⟨S_, .i32⟩ : BufTy).Contents (Elt F) → (⟨S1, .i32⟩ : BufTy).Contents (Elt F))
  :: StableHlo.nullary main_while0b_cst_34 (constant S_ .f32 0x00000000#32)
  :: StableHlo.ternary main_v25_6 main_while0b_v143 main_while0b_cst_34 main_while0b_v144 ((fun x i u => Host.scatter scatter_S100_S1_S__n_0_0_0 (fun _ b => b) x i u) : (⟨S100, .f32⟩ : BufTy).Contents (Elt F) → (⟨S1, .i32⟩ : BufTy).Contents (Elt F) → (⟨S_, .f32⟩ : BufTy).Contents (Elt F) → (⟨S100, .f32⟩ : BufTy).Contents (Elt F))
  :: StableHlo.binary main_v25_7 main_while0b_v121 main_while0b_v145 (addf : (⟨S16, .f32⟩ : BufTy).Contents (Elt F) → (⟨S16, .f32⟩ : BufTy).Contents (Elt F) → (⟨S16, .f32⟩ : BufTy).Contents (Elt F))
  :: StableHlo.nullary main_while0b_c_35 (constantI S_ 32 1#32)
  :: StableHlo.binary main_v25_1 main_while0b_c_35 main_while0b_v146 (addi : (⟨S_, .i32⟩ : BufTy).Contents (Elt F) → (⟨S_, .i32⟩ : BufTy).Contents (Elt F) → (⟨S_, .i32⟩ : BufTy).Contents (Elt F))
  :: StableHlo.unary main_while0b_v146 main_v25_1 id
  :: StableHlo.unary main_while0b_v31 main_v25_2 id
  :: StableHlo.unary main_while0b_v120 main_v25_3 id
  :: StableHlo.unary main_while0b_v131 main_v25_4 id
  :: StableHlo.unary main_while0b_v138 main_v25_5 id
  :: StableHlo.unary main_while0b_v144 main_v25_6 id
  :: StableHlo.unary main_while0b_v145 main_v25_7 id
  :: [] )
/-- Each touches TensorCore references only (`HostSeg.ofOps` over `StableHlo.tcRefs`, or a subset by `sub_ucRefs`). -/
theorem while0Ops0_14_sub : (while0Ops0_14 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.nullary_bufs_sub .., StableHlo.ternary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11,
    StableHlo.seq while0Ops0_12,
    StableHlo.seq while0Ops0_13,
    StableHlo.seq while0Ops0_14 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, Pipeline.chain_cons, StableHlo.chain_seq_cons, Pipeline.chain_cons, StableHlo.chain_seq_cons]
  chain_rfl

end Cert.ReferenceIdeal.Gen

end
-- ==== Proof.Ref.Writes.lean ====
/-
  What each stretch of the reference writes and keeps, and the run: every execution ends with every buffer at the fold
  of the stretches, the loop's body taken a hundred times.
-/
module

public import proofs.«01_k».proof.Proof.Ref.Ops
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2048

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_v6, main_v7, main_v8, main_v9, main_v10, main_v11]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_cst, main_call0_c, main_call0_v1_0, main_v12]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v13, main_v14, main_v15, main_cst, main_v16, main_v17, main_cst_0]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1, main_call1_v2, main_v18]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_cst_1, main_v19, main_cst_2, main_v20, main_cst_3, main_v21, main_v22, main_v23, main_cst_4, main_v24, main_c, main_c_5, main_v25_0, main_v25_1, main_v25_2, main_v25_3, main_v25_4, main_v25_5, main_v25_6, main_v25_7]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_13, main_while0b_v31]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call2_v0, main_while0b_call2_cst, main_while0b_call2_c, main_while0b_call2_v1_0, main_while0b_v32]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call3_v0, main_while0b_v33]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_cst_14, main_while0b_v34, main_while0b_v35]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call4_v0, main_while0b_v36]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_v62, main_while0b_v63, main_while0b_v64, main_while0b_v65, main_while0b_cst_15, main_while0b_v66, main_while0b_v67, main_while0b_v68, main_while0b_cst_16, main_while0b_v69, main_while0b_v70, main_while0b_v71, main_while0b_v72, main_while0b_v73, main_while0b_v74, main_while0b_v75, main_while0b_v76, main_while0b_cst_17, main_while0b_v77, main_while0b_v78, main_while0b_v79, main_while0b_v80, main_while0b_v81, main_while0b_v82, main_while0b_v83, main_while0b_cst_18, main_while0b_v84, main_while0b_v85, main_while0b_v86, main_while0b_v87, main_while0b_v88, main_while0b_v89, main_while0b_v90, main_while0b_v91, main_while0b_cst_19, main_while0b_v92, main_while0b_v93, main_while0b_v94, main_while0b_v95, main_while0b_v96, main_while0b_v97, main_while0b_v98, main_while0b_cst_20, main_while0b_v99, main_while0b_v100, main_while0b_v101, main_while0b_v102, main_while0b_v103, main_while0b_v104, main_while0b_v105, main_while0b_cst_21, main_while0b_v106, main_while0b_v107, main_while0b_v108, main_while0b_cst_22]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call5_v0, main_while0b_call5_v1, main_while0b_call5_v2, main_while0b_v109]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_cst_23, main_while0b_v110, main_while0b_v111, main_while0b_cst_24]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call6_v0, main_while0b_call6_v1, main_while0b_call6_v2, main_while0b_v112]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_v113, main_while0b_v114, main_while0b_v115, main_while0b_v116, main_while0b_v117, main_while0b_v118, main_while0b_cst_25]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_call7_v0, main_while0b_call7_v1, main_while0b_call7_v2, main_while0b_v119]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `while0Ops0_11` allocates a buffer. -/
theorem while0Ops0_11_fresh : (while0Ops0_11 : List (HloOp τ sig (Elt F))).Forall fun op => op.fresh = ∅ :=
  StableHlo.forall_fresh_of_map rfl
/-- The reference each operation of `while0Ops0_11` writes, in order. -/
abbrev while0Ops0_11_W : List (Ref sig .tc) := [main_while0b_call8_v0, main_while0b_v120]
theorem while0Ops0_11_writes : (while0Ops0_11 : List (HloOp τ sig (Elt F))).Forall fun op => op.writes ⊆ (while0Ops0_11_W.map (Proc.devRef (τ := τ) .tc)).toFinset :=
  StableHlo.forall_writes_sub_of_map rfl
/-- No operation of `while0Ops0_12` allocates a buffer. -/
theorem while0Ops0_12_fresh : (while0Ops0_12 : List (HloOp τ sig (Elt F))).Forall fun op => op.fresh = ∅ :=
  StableHlo.forall_fresh_of_map rfl
/-- The reference each operation of `while0Ops0_12` writes, in order. -/
abbrev while0Ops0_12_W : List (Ref sig .tc) := [main_while0b_v121, main_while0b_cst_26, main_while0b_cst_27]
theorem while0Ops0_12_writes : (while0Ops0_12 : List (HloOp τ sig (Elt F))).Forall fun op => op.writes ⊆ (while0Ops0_12_W.map (Proc.devRef (τ := τ) .tc)).toFinset :=
  StableHlo.forall_writes_sub_of_map rfl
/-- No operation of `while0Ops0_13` allocates a buffer. -/
theorem while0Ops0_13_fresh : (while0Ops0_13 : List (HloOp τ sig (Elt F))).Forall fun op => op.fresh = ∅ :=
  StableHlo.forall_fresh_of_map rfl
/-- The reference each operation of `while0Ops0_13` writes, in order. -/
abbrev while0Ops0_13_W : List (Ref sig .tc) := [main_while0b_call9_v0, main_while0b_call9_v1, main_while0b_call9_v2, main_while0b_call9_v3, main_while0b_call9_v4, main_while0b_v122]
theorem while0Ops0_13_writes : (while0Ops0_13 : List (HloOp τ sig (Elt F))).Forall fun op => op.writes ⊆ (while0Ops0_13_W.map (Proc.devRef (τ := τ) .tc)).toFinset :=
  StableHlo.forall_writes_sub_of_map rfl
/-- No operation of `while0Ops0_14` allocates a buffer. -/
theorem while0Ops0_14_fresh : (while0Ops0_14 : List (HloOp τ sig (Elt F))).Forall fun op => op.fresh = ∅ :=
  StableHlo.forall_fresh_of_map rfl
/-- The reference each operation of `while0Ops0_14` writes, in order. -/
abbrev while0Ops0_14_W : List (Ref sig .tc) := [main_while0b_v123, main_while0b_v124, main_while0b_v125, main_while0b_c_28, main_while0b_v126, main_while0b_c_29, main_while0b_v127, main_while0b_v128, main_while0b_v129, main_while0b_v130, main_while0b_v131, main_while0b_v132, main_while0b_c_30, main_while0b_v133, main_while0b_c_31, main_while0b_v134, main_while0b_v135, main_while0b_v136, main_while0b_v137, main_while0b_v138, main_while0b_c_32, main_while0b_v139, main_while0b_c_33, main_while0b_v140, main_while0b_v141, main_while0b_v142, main_while0b_v143, main_while0b_cst_34, main_while0b_v144, main_while0b_v145, main_while0b_c_35, main_while0b_v146, main_v25_1, main_v25_2, main_v25_3, main_v25_4, main_v25_5, main_v25_6, main_v25_7]
theorem while0Ops0_14_writes : (while0Ops0_14 : List (HloOp τ sig (Elt F))).Forall fun op => op.writes ⊆ (while0Ops0_14_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_v26, main_v27, main_v28, main_v29, main_v30]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_13 (constantI S_ 32 100#32),
    StableHlo.binary main_v25_1 main_while0c_c_13 main_while0c_v31 (cmpi .slt) ]

/-- @main's stretches before the loop, the loop body's, and @main's after the loop. -/
abbrev preI : List (List (HloOp τ sig (Elt F))) := [hostOps0, hostOps0_1, hostOps0_2, hostOps0_3, hostOps0_4]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14]
abbrev postI : List (List (HloOp τ sig (Elt F))) := [hostOps0_5]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.nil)))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.cons while0Ops0_12_sub (hf := List.forall_iff_forall_mem.mp while0Ops0_12_fresh) (.cons while0Ops0_13_sub (hf := List.forall_iff_forall_mem.mp while0Ops0_13_fresh) (.cons while0Ops0_14_sub (hf := List.forall_iff_forall_mem.mp while0Ops0_14_fresh) (.nil)))))))))))))))
theorem hpost : Plain (postI (F := F)) := .cons hostOps0_5_sub (hf := List.forall_iff_forall_mem.mp hostOps0_5_fresh) (.nil)

/-- The reference each operation of `condOps` writes, in order. -/
abbrev condOps_W : List (Ref sig .tc) := [main_while0c_c_13, main_while0c_v31]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v25_1`) is written by one stretch of the body, `while0Ops0_14`: not by the condition, nor by the
    body's other stretches. -/
theorem ctr_cond (V : Valuation τ sig (Elt F)) : after condOps V (Proc.devRef .tc main_v25_1) = V (Proc.devRef .tc main_v25_1) :=
  after_of_writes_sub condOps V condOps_writes (by decide +kernel)
theorem ctr_while0Ops0 (V : Valuation τ sig (Elt F)) : after while0Ops0 V (Proc.devRef .tc main_v25_1) = V (Proc.devRef .tc main_v25_1) :=
  after_of_writes_sub while0Ops0 V while0Ops0_writes (by decide +kernel)
theorem ctr_while0Ops0_1 (V : Valuation τ sig (Elt F)) : after while0Ops0_1 V (Proc.devRef .tc main_v25_1) = V (Proc.devRef .tc main_v25_1) :=
  after_of_writes_sub while0Ops0_1 V while0Ops0_1_writes (by decide +kernel)
theorem ctr_while0Ops0_2 (V : Valuation τ sig (Elt F)) : after while0Ops0_2 V (Proc.devRef .tc main_v25_1) = V (Proc.devRef .tc main_v25_1) :=
  after_of_writes_sub while0Ops0_2 V while0Ops0_2_writes (by decide +kernel)
theorem ctr_while0Ops0_3 (V : Valuation τ sig (Elt F)) : after while0Ops0_3 V (Proc.devRef .tc main_v25_1) = V (Proc.devRef .tc main_v25_1) :=
  after_of_writes_sub while0Ops0_3 V while0Ops0_3_writes (by decide +kernel)
theorem ctr_while0Ops0_4 (V : Valuation τ sig (Elt F)) : after while0Ops0_4 V (Proc.devRef .tc main_v25_1) = V (Proc.devRef .tc main_v25_1) :=
  after_of_writes_sub while0Ops0_4 V while0Ops0_4_writes (by decide +kernel)
theorem ctr_while0Ops0_5 (V : Valuation τ sig (Elt F)) : after while0Ops0_5 V (Proc.devRef .tc main_v25_1) = V (Proc.devRef .tc main_v25_1) :=
  after_of_writes_sub while0Ops0_5 V while0Ops0_5_writes (by decide +kernel)
theorem ctr_while0Ops0_6 (V : Valuation τ sig (Elt F)) : after while0Ops0_6 V (Proc.devRef .tc main_v25_1) = V (Proc.devRef .tc main_v25_1) :=
  after_of_writes_sub while0Ops0_6 V while0Ops0_6_writes (by decide +kernel)
theorem ctr_while0Ops0_7 (V : Valuation τ sig (Elt F)) : after while0Ops0_7 V (Proc.devRef .tc main_v25_1) = V (Proc.devRef .tc main_v25_1) :=
  after_of_writes_sub while0Ops0_7 V while0Ops0_7_writes (by decide +kernel)
theorem ctr_while0Ops0_8 (V : Valuation τ sig (Elt F)) : after while0Ops0_8 V (Proc.devRef .tc main_v25_1) = V (Proc.devRef .tc main_v25_1) :=
  after_of_writes_sub while0Ops0_8 V while0Ops0_8_writes (by decide +kernel)
theorem ctr_while0Ops0_9 (V : Valuation τ sig (Elt F)) : after while0Ops0_9 V (Proc.devRef .tc main_v25_1) = V (Proc.devRef .tc main_v25_1) :=
  after_of_writes_sub while0Ops0_9 V while0Ops0_9_writes (by decide +kernel)
theorem ctr_while0Ops0_10 (V : Valuation τ sig (Elt F)) : after while0Ops0_10 V (Proc.devRef .tc main_v25_1) = V (Proc.devRef .tc main_v25_1) :=
  after_of_writes_sub while0Ops0_10 V while0Ops0_10_writes (by decide +kernel)
theorem ctr_while0Ops0_11 (V : Valuation τ sig (Elt F)) : after while0Ops0_11 V (Proc.devRef .tc main_v25_1) = V (Proc.devRef .tc main_v25_1) :=
  after_of_writes_sub while0Ops0_11 V while0Ops0_11_writes (by decide +kernel)
theorem ctr_while0Ops0_12 (V : Valuation τ sig (Elt F)) : after while0Ops0_12 V (Proc.devRef .tc main_v25_1) = V (Proc.devRef .tc main_v25_1) :=
  after_of_writes_sub while0Ops0_12 V while0Ops0_12_writes (by decide +kernel)
theorem ctr_while0Ops0_13 (V : Valuation τ sig (Elt F)) : after while0Ops0_13 V (Proc.devRef .tc main_v25_1) = V (Proc.devRef .tc main_v25_1) :=
  after_of_writes_sub while0Ops0_13 V while0Ops0_13_writes (by decide +kernel)

/-- The body's operations 1 … 2 of 167. -/
abbrev trip_w0 : List (HloOp τ sig (Elt F)) :=
  [ StableHlo.nullary main_while0b_c_13 (constantI S_ 32 1#32),
    StableHlo.binary main_v25_2 main_while0b_c_13 main_while0b_v31 (addi : (⟨S_, .i32⟩ : BufTy).Contents (Elt F) → (⟨S_, .i32⟩ : BufTy).Contents (Elt F) → (⟨S_, .i32⟩ : BufTy).Contents (Elt F)) ]

/-- The body's operations 3 … 7 of 167. -/
abbrev trip_w1 : List (HloOp τ sig (Elt F)) :=
  [ StableHlo.TRef.nullary (.of main_while0b_call2_v0 : StableHlo.TRef sig ⟨S16x10647, .i32⟩) (iotaInDim S16x10647 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v25_3 : StableHlo.TRef sig ⟨S16x10647, .f32⟩) (.of main_while0b_call2_v0 : StableHlo.TRef sig ⟨S16x10647, .i32⟩) (.of main_while0b_call2_cst : StableHlo.TRef sig ⟨S_, .f32⟩) (.of main_while0b_call2_c : StableHlo.TRef sig ⟨S_, .i32⟩) (.of main_while0b_call2_v1_0 : StableHlo.TRef sig ⟨S16, .f32⟩) (fun x y u v j => (Host.argReduce reducer_argmax_f32_i32 x y u v reducesTo_S16x10647_S16_d1 h_S_ j).1),
    StableHlo.TRef.quaternary (.of main_v25_3 : StableHlo.TRef sig ⟨S16x10647, .f32⟩) (.of main_while0b_call2_v0 : StableHlo.TRef sig ⟨S16x10647, .i32⟩) (.of main_while0b_call2_cst : StableHlo.TRef sig ⟨S_, .f32⟩) (.of main_while0b_call2_c : StableHlo.TRef sig ⟨S_, .i32⟩) (.of main_while0b_v32 : StableHlo.TRef sig ⟨S16, .i32⟩) (fun x y u v j => (Host.argReduce reducer_argmax_f32_i32 x y u v reducesTo_S16x10647_S16_d1 h_S_ j).2) ]

/-- The body's operations 8 … 9 of 167. -/
abbrev trip_w2 : List (HloOp τ sig (Elt F)) :=
  [ StableHlo.TRef.unary (.of main_while0b_v32 : StableHlo.TRef sig ⟨S16, .i32⟩) (.of main_while0b_call3_v0 : StableHlo.TRef sig ⟨S16x1, .i32⟩) (broadcastInDim S16x1 ![0] bcast_S16_S16x1_0),
    StableHlo.TRef.binary (.of main_v25_3 : StableHlo.TRef sig ⟨S16x10647, .f32⟩) (.of main_while0b_call3_v0 : StableHlo.TRef sig ⟨S16x1, .i32⟩) (.of main_while0b_v33 : StableHlo.TRef sig ⟨S16, .f32⟩) (fun x i => Host.gather gather_S16x10647_S16x1_S16_n_1_0_0_1_1_11 x i) ]

/-- The body's operations 10 … 12 of 167. -/
abbrev trip_w3 : List (HloOp τ sig (Elt F)) :=
  [ StableHlo.nullary main_while0b_cst_14 (constant S_ .f32 0xF0C9F2CA#32),
    StableHlo.unary main_while0b_cst_14 main_while0b_v34 (broadcastInDim S16 ![] bcast_S_S16 : (⟨S_, .f32⟩ : BufTy).Contents (Elt F) → (⟨S16, .f32⟩ : BufTy).Contents (Elt F)),
    StableHlo.binary main_while0b_v33 main_while0b_v34 main_while0b_v35 (cmpf .ogt : (⟨S16, .f32⟩ : BufTy).Contents (Elt F) → (⟨S16, .f32⟩ : BufTy).Contents (Elt F) → (⟨S16, .i1⟩ : BufTy).Contents (Elt F)) ]

/-- The body's operations 13 … 14 of 167. -/
abbrev trip_w4 : List (HloOp τ sig (Elt F)) :=
  [ StableHlo.TRef.unary (.of main_while0b_v32 : StableHlo.TRef sig ⟨S16, .i32⟩) (.of main_while0b_call4_v0 : StableHlo.TRef sig ⟨S16x1, .i32⟩) (broadcastInDim S16x1 ![0] bcast_S16_S16x1_0),
    StableHlo.TRef.binary (.of main_v25_0 : StableHlo.TRef sig ⟨S16x10647x4, .f32⟩) (.of main_while0b_call4_v0 : StableHlo.TRef sig ⟨S16x1, .i32⟩) (.of main_while0b_v36 : StableHlo.TRef sig ⟨S16x4, .f32⟩) (fun x i => Host.gather gather_S16x10647x4_S16x1_S16x4_1_1_0_0_1_1_114 x i) ]

/-- The body's operations 15 … 38 of 167. -/
abbrev trip_w5 : List (HloOp τ sig (Elt F)) :=
  [ StableHlo.unary main_while0b_v36 main_while0b_v37 ((extractStridedSlice S16x1 ![0, 0] · slices_S16x4_S16x1_0_0) : (⟨S16x4, .f32⟩ : BufTy).Contents (Elt F) → (⟨S16x1, .f32⟩ : BufTy).Contents (Elt F)),
    StableHlo.reshape main_while0b_v37 main_while0b_v38 (rfl : (.f32 : EltTy) = .f32) shapeCasts_S16x1_S16,
    StableHlo.unary main_v25_0 main_while0b_v39 ((extractStridedSlice S16x10647x1 ![0, 0, 0] · slices_S16x10647x4_S16x10647x1_0_0_0) : (⟨S16x10647x4, .f32⟩ : BufTy).Contents (Elt F) → (⟨S16x10647x1, .f32⟩ : BufTy).Contents (Elt F)),
    StableHlo.reshape main_while0b_v39 main_while0b_v40 (rfl : (.f32 : EltTy) = .f32) shapeCasts_S16x10647x1_S16x10647,
    StableHlo.unary main_while0b_v38 main_while0b_v41 (broadcastInDim S16x1 ![0] bcast_S16_S16x1_0 : (⟨S16, .f32⟩ : BufTy).Contents (Elt F) → (⟨S16x1, .f32⟩ : BufTy).Contents (Elt F)),
    StableHlo.unary main_while0b_v41 main_while0b_v42 (broadcastInDim S16x10647 ![0, 1] bcast_S16x1_S16x10647_0_1 : (⟨S16x1, .f32⟩ : BufTy).Contents (Elt F) → (⟨S16x10647, .f32⟩ : BufTy).Contents (Elt F)),
    StableHlo.binary main_while0b_v42 main_while0b_v40 main_while0b_v43 (maximumf : (⟨S16x10647, .f32⟩ : BufTy).Contents (Elt F) → (⟨S16x10647, .f32⟩ : BufTy).Contents (Elt F) → (⟨S16x10647, .f32⟩ : BufTy).Contents (Elt F)),
    StableHlo.unary main_while0b_v36 main_while0b_v44 ((extractStridedSlice S16x1 ![0, 1] · slices_S16x4_S16x1_0_1) : (⟨S16x4, .f32⟩ : BufTy).Contents (Elt F) → (⟨S16x1, .f32⟩ : BufTy).Contents (Elt F)),
    StableHlo.reshape main_while0b_v44 main_while0b_v45 (rfl : (.f32 : EltTy) = .f32) shapeCasts_S16x1_S16,
    StableHlo.unary main_v25_0 main_while0b_v46 ((extractStridedSlice S16x10647x1 ![0, 0, 1] · slices_S16x10647x4_S16x10647x1_0_0_1) : (⟨S16x10647x4, .f32⟩ : BufTy).Contents (Elt F) → (⟨S16x10647x1, .f32⟩ : BufTy).Contents (Elt F)),
    StableHlo.reshape main_while0b_v46 main_while0b_v47 (rfl : (.f32 : EltTy) = .f32) shapeCasts_S16x10647x1_S16x10647,
    StableHlo.unary main_while0b_v45 main_while0b_v48 (broadcastInDim S16x1 ![0] bcast_S16_S16x1_0 : (⟨S16, .f32⟩ : BufTy).Contents (Elt F) → (⟨S16x1, .f32⟩ : BufTy).Contents (Elt F)),
    StableHlo.unary main_while0b_v48 main_while0b_v49 (broadcastInDim S16x10647 ![0, 1] bcast_S16x1_S16x10647_0_1 : (⟨S16x1, .f32⟩ : BufTy).Contents (Elt F) → (⟨S16x10647, .f32⟩ : BufTy).Contents (Elt F)),
    StableHlo.binary main_while0b_v49 main_while0b_v47 main_while0b_v50 (maximumf : (⟨S16x10647, .f32⟩ : BufTy).Contents (Elt F) → (⟨S16x10647, .f32⟩ : BufTy).Contents (Elt F) → (⟨S16x10647, .f32⟩ : BufTy).Contents (Elt F)),
    StableHlo.unary main_while0b_v36 main_while0b_v51 ((extractStridedSlice S16x1 ![0, 2] · slices_S16x4_S16x1_0_2) : (⟨S16x4, .f32⟩ : BufTy).Contents (Elt F) → (⟨S16x1, .f32⟩ : BufTy).Contents (Elt F)),
    StableHlo.reshape main_while0b_v51 main_while0b_v52 (rfl : (.f32 : EltTy) = .f32) shapeCasts_S16x1_S16,
    StableHlo.unary main_v25_0 main_while0b_v53 ((extractStridedSlice S16x10647x1 ![0, 0, 2] · slices_S16x10647x4_S16x10647x1_0_0_2) : (⟨S16x10647x4, .f32⟩ : BufTy).Contents (Elt F) → (⟨S16x10647x1, .f32⟩ : BufTy).Contents (Elt F)),
    StableHlo.reshape main_while0b_v53 main_while0b_v54 (rfl : (.f32 : EltTy) = .f32) shapeCasts_S16x10647x1_S16x10647,
    StableHlo.unary main_while0b_v52 main_while0b_v55 (broadcastInDim S16x1 ![0] bcast_S16_S16x1_0 : (⟨S16, .f32⟩ : BufTy).Contents (Elt F) → (⟨S16x1, .f32⟩ : BufTy).Contents (Elt F)),
    StableHlo.unary main_while0b_v55 main_while0b_v56 (broadcastInDim S16x10647 ![0, 1] bcast_S16x1_S16x10647_0_1 : (⟨S16x1, .f32⟩ : BufTy).Contents (Elt F) → (⟨S16x10647, .f32⟩ : BufTy).Contents (Elt F)),
    StableHlo.binary main_while0b_v56 main_while0b_v54 main_while0b_v57 (minimumf : (⟨S16x10647, .f32⟩ : BufTy).Contents (Elt F) → (⟨S16x10647, .f32⟩ : BufTy).Contents (Elt F) → (⟨S16x10647, .f32⟩ : BufTy).Contents (Elt F)),
    StableHlo.unary main_while0b_v36 main_while0b_v58 ((extractStridedSlice S16x1 ![0, 3] · slices_S16x4_S16x1_0_3) : (⟨S16x4, .f32⟩ : BufTy).Contents (Elt F) → (⟨S16x1, .f32⟩ : BufTy).Contents (Elt F)),
    StableHlo.reshape main_while0b_v58 main_while0b_v59 (rfl : (.f32 : EltTy) = .f32) shapeCasts_S16x1_S16,
    StableHlo.unary main_v25_0 main_while0b_v60 ((extractStridedSlice S16x10647x1 ![0, 0, 3] · slices_S16x10647x4_S16x10647x1_0_0_3) : (⟨S16x10647x4, .f32⟩ : BufTy).Contents (Elt F) → (⟨S16x10647x1, .f32⟩ : BufTy).Contents (Elt F)) ]

/-- The body's operations 39 … 62 of 167. -/
abbrev trip_w6 : List (HloOp τ sig (Elt F)) :=
  [ StableHlo.reshape main_while0b_v60 main_while0b_v61 (rfl : (.f32 : EltTy) = .f32) shapeCasts_S16x10647x1_S16x10647,
    StableHlo.unary main_while0b_v59 main_while0b_v62 (broadcastInDim S16x1 ![0] bcast_S16_S16x1_0 : (⟨S16, .f32⟩ : BufTy).Contents (Elt F) → (⟨S16x1, .f32⟩ : BufTy).Contents (Elt F)),
    StableHlo.unary main_while0b_v62 main_while0b_v63 (broadcastInDim S16x10647 ![0, 1] bcast_S16x1_S16x10647_0_1 : (⟨S16x1, .f32⟩ : BufTy).Contents (Elt F) → (⟨S16x10647, .f32⟩ : BufTy).Contents (Elt F)),
    StableHlo.binary main_while0b_v63 main_while0b_v61 main_while0b_v64 (minimumf : (⟨S16x10647, .f32⟩ : BufTy).Contents (Elt F) → (⟨S16x10647, .f32⟩ : BufTy).Contents (Elt F) → (⟨S16x10647, .f32⟩ : BufTy).Contents (Elt F)),
    StableHlo.binary main_while0b_v57 main_while0b_v43 main_while0b_v65 (subf : (⟨S16x10647, .f32⟩ : BufTy).Contents (Elt F) → (⟨S16x10647, .f32⟩ : BufTy).Contents (Elt F) → (⟨S16x10647, .f32⟩ : BufTy).Contents (Elt F)),
    StableHlo.nullary main_while0b_cst_15 (constant S_ .f32 0x00000000#32),
    StableHlo.unary main_while0b_cst_15 main_while0b_v66 (broadcastInDim S16x10647 ![] bcast_S_S16x10647 : (⟨S_, .f32⟩ : BufTy).Contents (Elt F) → (⟨S16x10647, .f32⟩ : BufTy).Contents (Elt F)),
    StableHlo.binary main_while0b_v66 main_while0b_v65 main_while0b_v67 (maximumf : (⟨S16x10647, .f32⟩ : BufTy).Contents (Elt F) → (⟨S16x10647, .f32⟩ : BufTy).Contents (Elt F) → (⟨S16x10647, .f32⟩ : BufTy).Contents (Elt F)),
    StableHlo.binary main_while0b_v64 main_while0b_v50 main_while0b_v68 (subf : (⟨S16x10647, .f32⟩ : BufTy).Contents (Elt F) → (⟨S16x10647, .f32⟩ : BufTy).Contents (Elt F) → (⟨S16x10647, .f32⟩ : BufTy).Contents (Elt F)),
    StableHlo.nullary main_while0b_cst_16 (constant S_ .f32 0x00000000#32),
    StableHlo.unary main_while0b_cst_16 main_while0b_v69 (broadcastInDim S16x10647 ![] bcast_S_S16x10647 : (⟨S_, .f32⟩ : BufTy).Contents (Elt F) → (⟨S16x10647, .f32⟩ : BufTy).Contents (Elt F)),
    StableHlo.binary main_while0b_v69 main_while0b_v68 main_while0b_v70 (maximumf : (⟨S16x10647, .f32⟩ : BufTy).Contents (Elt F) → (⟨S16x10647, .f32⟩ : BufTy).Contents (Elt F) → (⟨S16x10647, .f32⟩ : BufTy).Contents (Elt F)),
    StableHlo.binary main_while0b_v67 main_while0b_v70 main_while0b_v71 (mulf : (⟨S16x10647, .f32⟩ : BufTy).Contents (Elt F) → (⟨S16x10647, .f32⟩ : BufTy).Contents (Elt F) → (⟨S16x10647, .f32⟩ : BufTy).Contents (Elt F)),
    StableHlo.unary main_while0b_v36 main_while0b_v72 ((extractStridedSlice S16x1 ![0, 2] · slices_S16x4_S16x1_0_2) : (⟨S16x4, .f32⟩ : BufTy).Contents (Elt F) → (⟨S16x1, .f32⟩ : BufTy).Contents (Elt F)),
    StableHlo.reshape main_while0b_v72 main_while0b_v73 (rfl : (.f32 : EltTy) = .f32) shapeCasts_S16x1_S16,
    StableHlo.unary main_while0b_v36 main_while0b_v74 ((extractStridedSlice S16x1 ![0, 0] · slices_S16x4_S16x1_0_0) : (⟨S16x4, .f32⟩ : BufTy).Contents (Elt F) → (⟨S16x1, .f32⟩ : BufTy).Contents (Elt F)),
    StableHlo.reshape main_while0b_v74 main_while0b_v75 (rfl : (.f32 : EltTy) = .f32) shapeCasts_S16x1_S16,
    StableHlo.binary main_while0b_v73 main_while0b_v75 main_while0b_v76 (subf : (⟨S16, .f32⟩ : BufTy).Contents (Elt F) → (⟨S16, .f32⟩ : BufTy).Contents (Elt F) → (⟨S16, .f32⟩ : BufTy).Contents (Elt F)),
    StableHlo.nullary main_while0b_cst_17 (constant S_ .f32 0x00000000#32),
    StableHlo.unary main_while0b_cst_17 main_while0b_v77 (broadcastInDim S16 ![] bcast_S_S16 : (⟨S_, .f32⟩ : BufTy).Contents (Elt F) → (⟨S16, .f32⟩ : BufTy).Contents (Elt F)),
    StableHlo.binary main_while0b_v77 main_while0b_v76 main_while0b_v78 (maximumf : (⟨S16, .f32⟩ : BufTy).Contents (Elt F) → (⟨S16, .f32⟩ : BufTy).Contents (Elt F) → (⟨S16, .f32⟩ : BufTy).Contents (Elt F)),
    StableHlo.unary main_while0b_v36 main_while0b_v79 ((extractStridedSlice S16x1 ![0, 3] · slices_S16x4_S16x1_0_3) : (⟨S16x4, .f32⟩ : BufTy).Contents (Elt F) → (⟨S16x1, .f32⟩ : BufTy).Contents (Elt F)),
    StableHlo.reshape main_while0b_v79 main_while0b_v80 (rfl : (.f32 : EltTy) = .f32) shapeCasts_S16x1_S16,
    StableHlo.unary main_while0b_v36 main_while0b_v81 ((extractStridedSlice S16x1 ![0, 1] · slices_S16x4_S16x1_0_1) : (⟨S16x4, .f32⟩ : BufTy).Contents (Elt F) → (⟨S16x1, .f32⟩ : BufTy).Contents (Elt F)) ]

/-- The body's operations 63 … 86 of 167. -/
abbrev trip_w7 : List (HloOp τ sig (Elt F)) :=
  [ StableHlo.reshape main_while0b_v81 main_while0b_v82 (rfl : (.f32 : EltTy) = .f32) shapeCasts_S16x1_S16,
    StableHlo.binary main_while0b_v80 main_while0b_v82 main_while0b_v83 (subf : (⟨S16, .f32⟩ : BufTy).Contents (Elt F) → (⟨S16, .f32⟩ : BufTy).Contents (Elt F) → (⟨S16, .f32⟩ : BufTy).Contents (Elt F)),
    StableHlo.nullary main_while0b_cst_18 (constant S_ .f32 0x00000000#32),
    StableHlo.unary main_while0b_cst_18 main_while0b_v84 (broadcastInDim S16 ![] bcast_S_S16 : (⟨S_, .f32⟩ : BufTy).Contents (Elt F) → (⟨S16, .f32⟩ : BufTy).Contents (Elt F)),
    StableHlo.binary main_while0b_v84 main_while0b_v83 main_while0b_v85 (maximumf : (⟨S16, .f32⟩ : BufTy).Contents (Elt F) → (⟨S16, .f32⟩ : BufTy).Contents (Elt F) → (⟨S16, .f32⟩ : BufTy).Contents (Elt F)),
    StableHlo.binary main_while0b_v78 main_while0b_v85 main_while0b_v86 (mulf : (⟨S16, .f32⟩ : BufTy).Contents (Elt F) → (⟨S16, .f32⟩ : BufTy).Contents (Elt F) → (⟨S16, .f32⟩ : BufTy).Contents (Elt F)),
    StableHlo.unary main_v25_0 main_while0b_v87 ((extractStridedSlice S16x10647x1 ![0, 0, 2] · slices_S16x10647x4_S16x10647x1_0_0_2) : (⟨S16x10647x4, .f32⟩ : BufTy).Contents (Elt F) → (⟨S16x10647x1, .f32⟩ : BufTy).Contents (Elt F)),
    StableHlo.reshape main_while0b_v87 main_while0b_v88 (rfl : (.f32 : EltTy) = .f32) shapeCasts_S16x10647x1_S16x10647,
    StableHlo.unary main_v25_0 main_while0b_v89 ((extractStridedSlice S16x10647x1 ![0, 0, 0] · slices_S16x10647x4_S16x10647x1_0_0_0) : (⟨S16x10647x4, .f32⟩ : BufTy).Contents (Elt F) → (⟨S16x10647x1, .f32⟩ : BufTy).Contents (Elt F)),
    StableHlo.reshape main_while0b_v89 main_while0b_v90 (rfl : (.f32 : EltTy) = .f32) shapeCasts_S16x10647x1_S16x10647,
    StableHlo.binary main_while0b_v88 main_while0b_v90 main_while0b_v91 (subf : (⟨S16x10647, .f32⟩ : BufTy).Contents (Elt F) → (⟨S16x10647, .f32⟩ : BufTy).Contents (Elt F) → (⟨S16x10647, .f32⟩ : BufTy).Contents (Elt F)),
    StableHlo.nullary main_while0b_cst_19 (constant S_ .f32 0x00000000#32),
    StableHlo.unary main_while0b_cst_19 main_while0b_v92 (broadcastInDim S16x10647 ![] bcast_S_S16x10647 : (⟨S_, .f32⟩ : BufTy).Contents (Elt F) → (⟨S16x10647, .f32⟩ : BufTy).Contents (Elt F)),
    StableHlo.binary main_while0b_v92 main_while0b_v91 main_while0b_v93 (maximumf : (⟨S16x10647, .f32⟩ : BufTy).Contents (Elt F) → (⟨S16x10647, .f32⟩ : BufTy).Contents (Elt F) → (⟨S16x10647, .f32⟩ : BufTy).Contents (Elt F)),
    StableHlo.unary main_v25_0 main_while0b_v94 ((extractStridedSlice S16x10647x1 ![0, 0, 3] · slices_S16x10647x4_S16x10647x1_0_0_3) : (⟨S16x10647x4, .f32⟩ : BufTy).Contents (Elt F) → (⟨S16x10647x1, .f32⟩ : BufTy).Contents (Elt F)),
    StableHlo.reshape main_while0b_v94 main_while0b_v95 (rfl : (.f32 : EltTy) = .f32) shapeCasts_S16x10647x1_S16x10647,
    StableHlo.unary main_v25_0 main_while0b_v96 ((extractStridedSlice S16x10647x1 ![0, 0, 1] · slices_S16x10647x4_S16x10647x1_0_0_1) : (⟨S16x10647x4, .f32⟩ : BufTy).Contents (Elt F) → (⟨S16x10647x1, .f32⟩ : BufTy).Contents (Elt F)),
    StableHlo.reshape main_while0b_v96 main_while0b_v97 (rfl : (.f32 : EltTy) = .f32) shapeCasts_S16x10647x1_S16x10647,
    StableHlo.binary main_while0b_v95 main_while0b_v97 main_while0b_v98 (subf : (⟨S16x10647, .f32⟩ : BufTy).Contents (Elt F) → (⟨S16x10647, .f32⟩ : BufTy).Contents (Elt F) → (⟨S16x10647, .f32⟩ : BufTy).Contents (Elt F)),
    StableHlo.nullary main_while0b_cst_20 (constant S_ .f32 0x00000000#32),
    StableHlo.unary main_while0b_cst_20 main_while0b_v99 (broadcastInDim S16x10647 ![] bcast_S_S16x10647 : (⟨S_, .f32⟩ : BufTy).Contents (Elt F) → (⟨S16x10647, .f32⟩ : BufTy).Contents (Elt F)),
    StableHlo.binary main_while0b_v99 main_while0b_v98 main_while0b_v100 (maximumf : (⟨S16x10647, .f32⟩ : BufTy).Contents (Elt F) → (⟨S16x10647, .f32⟩ : BufTy).Contents (Elt F) → (⟨S16x10647, .f32⟩ : BufTy).Contents (Elt F)),
    StableHlo.binary main_while0b_v93 main_while0b_v100 main_while0b_v101 (mulf : (⟨S16x10647, .f32⟩ : BufTy).Contents (Elt F) → (⟨S16x10647, .f32⟩ : BufTy).Contents (Elt F) → (⟨S16x10647, .f32⟩ : BufTy).Contents (Elt F)),
    StableHlo.unary main_while0b_v86 main_while0b_v102 (broadcastInDim S16x1 ![0] bcast_S16_S16x1_0 : (⟨S16, .f32⟩ : BufTy).Contents (Elt F) → (⟨S16x1, .f32⟩ : BufTy).Contents (Elt F)) ]

/-- The body's operations 87 … 94 of 167. -/
abbrev trip_w8 : List (HloOp τ sig (Elt F)) :=
  [ StableHlo.unary main_while0b_v102 main_while0b_v103 (broadcastInDim S16x10647 ![0, 1] bcast_S16x1_S16x10647_0_1 : (⟨S16x1, .f32⟩ : BufTy).Contents (Elt F) → (⟨S16x10647, .f32⟩ : BufTy).Contents (Elt F)),
    StableHlo.binary main_while0b_v103 main_while0b_v101 main_while0b_v104 (addf : (⟨S16x10647, .f32⟩ : BufTy).Contents (Elt F) → (⟨S16x10647, .f32⟩ : BufTy).Contents (Elt F) → (⟨S16x10647, .f32⟩ : BufTy).Contents (Elt F)),
    StableHlo.binary main_while0b_v104 main_while0b_v71 main_while0b_v105 (subf : (⟨S16x10647, .f32⟩ : BufTy).Contents (Elt F) → (⟨S16x10647, .f32⟩ : BufTy).Contents (Elt F) → (⟨S16x10647, .f32⟩ : BufTy).Contents (Elt F)),
    StableHlo.nullary main_while0b_cst_21 (constant S_ .f32 0x00000000#32),
    StableHlo.unary main_while0b_cst_21 main_while0b_v106 (broadcastInDim S16x10647 ![] bcast_S_S16x10647 : (⟨S_, .f32⟩ : BufTy).Contents (Elt F) → (⟨S16x10647, .f32⟩ : BufTy).Contents (Elt F)),
    StableHlo.binary main_while0b_v105 main_while0b_v106 main_while0b_v107 (cmpf .ogt : (⟨S16x10647, .f32⟩ : BufTy).Contents (Elt F) → (⟨S16x10647, .f32⟩ : BufTy).Contents (Elt F) → (⟨S16x10647, .i1⟩ : BufTy).Contents (Elt F)),
    StableHlo.binary main_while0b_v71 main_while0b_v105 main_while0b_v108 (Host.divf : (⟨S16x10647, .f32⟩ : BufTy).Contents (Elt F) → (⟨S16x10647, .f32⟩ : BufTy).Contents (Elt F) → (⟨S16x10647, .f32⟩ : BufTy).Contents (Elt F)),
    StableHlo.nullary main_while0b_cst_22 (constant S_ .f32 0x00000000#32) ]

/-- The body's operations 95 … 98 of 167. -/
abbrev trip_w9 : List (HloOp τ sig (Elt F)) :=
  [ StableHlo.TRef.unary (.of main_while0b_cst_22 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S10647, .f32⟩) (broadcastInDim S10647 ![] bcast_S_S10647),
    StableHlo.TRef.unary (.of main_while0b_call5_v1 : StableHlo.TRef sig ⟨S10647, .f32⟩) (.of main_while0b_call5_v2 : StableHlo.TRef sig ⟨S16x10647, .f32⟩) (broadcastInDim S16x10647 ![1] bcast_S10647_S16x10647_1),
    StableHlo.TRef.ternary (.of main_while0b_v107 : StableHlo.TRef sig ⟨S16x10647, .i1⟩) (.of main_while0b_v108 : StableHlo.TRef sig ⟨S16x10647, .f32⟩) (.of main_while0b_call5_v2 : StableHlo.TRef sig ⟨S16x10647, .f32⟩) (.of main_while0b_v109 : StableHlo.TRef sig ⟨S16x10647, .f32⟩) select ]

/-- The body's operations 99 … 102 of 167. -/
abbrev trip_w10 : List (HloOp τ sig (Elt F)) :=
  [ StableHlo.nullary main_while0b_cst_23 (constant S_ .f32 0x3F000000#32),
    StableHlo.unary main_while0b_cst_23 main_while0b_v110 (broadcastInDim S16x10647 ![] bcast_S_S16x10647 : (⟨S_, .f32⟩ : BufTy).Contents (Elt F) → (⟨S16x10647, .f32⟩ : BufTy).Contents (Elt F)),
    StableHlo.binary main_while0b_v109 main_while0b_v110 main_while0b_v111 (cmpf .ogt : (⟨S16x10647, .f32⟩ : BufTy).Contents (Elt F) → (⟨S16x10647, .f32⟩ : BufTy).Contents (Elt F) → (⟨S16x10647, .i1⟩ : BufTy).Contents (Elt F)),
    StableHlo.nullary main_while0b_cst_24 (constant S_ .f32 0xF149F2CA#32) ]

/-- The body's operations 103 … 106 of 167. -/
abbrev trip_w11 : List (HloOp τ sig (Elt F)) :=
  [ StableHlo.TRef.unary (.of main_while0b_cst_24 : StableHlo.TRef sig ⟨S_, .f32⟩) (.of main_while0b_call6_v0 : StableHlo.TRef sig ⟨S_, .f32⟩) id,
    StableHlo.TRef.unary (.of main_while0b_call6_v0 : StableHlo.TRef sig ⟨S_, .f32⟩) (.of main_while0b_call6_v1 : StableHlo.TRef sig ⟨S10647, .f32⟩) (broadcastInDim S10647 ![] bcast_S_S10647),
    StableHlo.TRef.unary (.of main_while0b_call6_v1 : StableHlo.TRef sig ⟨S10647, .f32⟩) (.of main_while0b_call6_v2 : StableHlo.TRef sig ⟨S16x10647, .f32⟩) (broadcastInDim S16x10647 ![1] bcast_S10647_S16x10647_1),
    StableHlo.TRef.ternary (.of main_while0b_v111 : StableHlo.TRef sig ⟨S16x10647, .i1⟩) (.of main_while0b_call6_v2 : StableHlo.TRef sig ⟨S16x10647, .f32⟩) (.of main_v25_3 : StableHlo.TRef sig ⟨S16x10647, .f32⟩) (.of main_while0b_v112 : StableHlo.TRef sig ⟨S16x10647, .f32⟩) select ]

/-- The body's operations 107 … 113 of 167. -/
abbrev trip_w12 : List (HloOp τ sig (Elt F)) :=
  [ StableHlo.nullary main_while0b_v113 (iotaInDim S10647 32 0),
    StableHlo.unary main_while0b_v113 main_while0b_v114 (broadcastInDim S1x10647 ![1] bcast_S10647_S1x10647_1 : (⟨S10647, .i32⟩ : BufTy).Contents (Elt F) → (⟨S1x10647, .i32⟩ : BufTy).Contents (Elt F)),
    StableHlo.unary main_while0b_v32 main_while0b_v115 (broadcastInDim S16x1 ![0] bcast_S16_S16x1_0 : (⟨S16, .i32⟩ : BufTy).Contents (Elt F) → (⟨S16x1, .i32⟩ : BufTy).Contents (Elt F)),
    StableHlo.unary main_while0b_v114 main_while0b_v116 (broadcastInDim S16x10647 ![0, 1] bcast_S1x10647_S16x10647_0_1 : (⟨S1x10647, .i32⟩ : BufTy).Contents (Elt F) → (⟨S16x10647, .i32⟩ : BufTy).Contents (Elt F)),
    StableHlo.unary main_while0b_v115 main_while0b_v117 (broadcastInDim S16x10647 ![0, 1] bcast_S16x1_S16x10647_0_1 : (⟨S16x1, .i32⟩ : BufTy).Contents (Elt F) → (⟨S16x10647, .i32⟩ : BufTy).Contents (Elt F)),
    StableHlo.binary main_while0b_v116 main_while0b_v117 main_while0b_v118 (cmpi .eq : (⟨S16x10647, .i32⟩ : BufTy).Contents (Elt F) → (⟨S16x10647, .i32⟩ : BufTy).Contents (Elt F) → (⟨S16x10647, .i1⟩ : BufTy).Contents (Elt F)),
    StableHlo.nullary main_while0b_cst_25 (constant S_ .f32 0xF149F2CA#32) ]

/-- The body's operations 114 … 117 of 167. -/
abbrev trip_w13 : List (HloOp τ sig (Elt F)) :=
  [ StableHlo.TRef.unary (.of main_while0b_cst_25 : StableHlo.TRef sig ⟨S_, .f32⟩) (.of main_while0b_call7_v0 : StableHlo.TRef sig ⟨S_, .f32⟩) id,
    StableHlo.TRef.unary (.of main_while0b_call7_v0 : StableHlo.TRef sig ⟨S_, .f32⟩) (.of main_while0b_call7_v1 : StableHlo.TRef sig ⟨S10647, .f32⟩) (broadcastInDim S10647 ![] bcast_S_S10647),
    StableHlo.TRef.unary (.of main_while0b_call7_v1 : StableHlo.TRef sig ⟨S10647, .f32⟩) (.of main_while0b_call7_v2 : StableHlo.TRef sig ⟨S16x10647, .f32⟩) (broadcastInDim S16x10647 ![1] bcast_S10647_S16x10647_1),
    StableHlo.TRef.ternary (.of main_while0b_v118 : StableHlo.TRef sig ⟨S16x10647, .i1⟩) (.of main_while0b_call7_v2 : StableHlo.TRef sig ⟨S16x10647, .f32⟩) (.of main_while0b_v112 : StableHlo.TRef sig ⟨S16x10647, .f32⟩) (.of main_while0b_v119 : StableHlo.TRef sig ⟨S16x10647, .f32⟩) select ]

/-- The body's operations 118 … 119 of 167. -/
abbrev trip_w14 : List (HloOp τ sig (Elt F)) :=
  [ StableHlo.TRef.unary (.of main_while0b_v35 : StableHlo.TRef sig ⟨S16, .i1⟩) (.of main_while0b_call8_v0 : StableHlo.TRef sig ⟨S16x10647, .i1⟩) (broadcastInDim S16x10647 ![0] bcast_S16_S16x10647_0),
    StableHlo.TRef.ternary (.of main_while0b_call8_v0 : StableHlo.TRef sig ⟨S16x10647, .i1⟩) (.of main_while0b_v119 : StableHlo.TRef sig ⟨S16x10647, .f32⟩) (.of main_v25_3 : StableHlo.TRef sig ⟨S16x10647, .f32⟩) (.of main_while0b_v120 : StableHlo.TRef sig ⟨S16x10647, .f32⟩) select ]

/-- The body's operations 120 … 122 of 167. -/
abbrev trip_w15 : List (HloOp τ sig (Elt F)) :=
  [ StableHlo.unary main_while0b_v35 main_while0b_v121 (uitofp .f32 : (⟨S16, .i1⟩ : BufTy).Contents (Elt F) → (⟨S16, .f32⟩ : BufTy).Contents (Elt F)),
    StableHlo.nullary main_while0b_cst_26 (constant S_ .f32 0x00000000#32),
    StableHlo.nullary main_while0b_cst_27 (constant S_ .f32 0x3F800000#32) ]

/-- The body's operations 123 … 128 of 167. -/
abbrev trip_w16 : List (HloOp τ sig (Elt F)) :=
  [ StableHlo.TRef.unary (.of main_while0b_cst_26 : StableHlo.TRef sig ⟨S_, .f32⟩) (.of main_while0b_call9_v0 : StableHlo.TRef sig ⟨S_, .f32⟩) id,
    StableHlo.TRef.unary (.of main_while0b_call9_v0 : StableHlo.TRef sig ⟨S_, .f32⟩) (.of main_while0b_call9_v1 : StableHlo.TRef sig ⟨S16x4, .f32⟩) (broadcastInDim S16x4 ![] bcast_S_S16x4),
    StableHlo.TRef.binary (.of main_while0b_call9_v1 : StableHlo.TRef sig ⟨S16x4, .f32⟩) (.of main_while0b_v36 : StableHlo.TRef sig ⟨S16x4, .f32⟩) (.of main_while0b_call9_v2 : StableHlo.TRef sig ⟨S16x4, .f32⟩) maximumf,
    StableHlo.TRef.unary (.of main_while0b_cst_27 : StableHlo.TRef sig ⟨S_, .f32⟩) (.of main_while0b_call9_v3 : StableHlo.TRef sig ⟨S_, .f32⟩) id,
    StableHlo.TRef.unary (.of main_while0b_call9_v3 : StableHlo.TRef sig ⟨S_, .f32⟩) (.of main_while0b_call9_v4 : StableHlo.TRef sig ⟨S16x4, .f32⟩) (broadcastInDim S16x4 ![] bcast_S_S16x4),
    StableHlo.TRef.binary (.of main_while0b_call9_v4 : StableHlo.TRef sig ⟨S16x4, .f32⟩) (.of main_while0b_call9_v2 : StableHlo.TRef sig ⟨S16x4, .f32⟩) (.of main_while0b_v122 : StableHlo.TRef sig ⟨S16x4, .f32⟩) minimumf ]

/-- The body's operations 129 … 152 of 167. -/
abbrev trip_w17 : List (HloOp τ sig (Elt F)) :=
  [ StableHlo.unary main_while0b_v121 main_while0b_v123 (broadcastInDim S16x1 ![0] bcast_S16_S16x1_0 : (⟨S16, .f32⟩ : BufTy).Contents (Elt F) → (⟨S16x1, .f32⟩ : BufTy).Contents (Elt F)),
    StableHlo.unary main_while0b_v123 main_while0b_v124 (broadcastInDim S16x4 ![0, 1] bcast_S16x1_S16x4_0_1 : (⟨S16x1, .f32⟩ : BufTy).Contents (Elt F) → (⟨S16x4, .f32⟩ : BufTy).Contents (Elt F)),
    StableHlo.binary main_while0b_v124 main_while0b_v122 main_while0b_v125 (mulf : (⟨S16x4, .f32⟩ : BufTy).Contents (Elt F) → (⟨S16x4, .f32⟩ : BufTy).Contents (Elt F) → (⟨S16x4, .f32⟩ : BufTy).Contents (Elt F)),
    StableHlo.nullary main_while0b_c_28 (constantI S_ 32 0#32),
    StableHlo.binary main_v25_2 main_while0b_c_28 main_while0b_v126 (cmpi .slt : (⟨S_, .i32⟩ : BufTy).Contents (Elt F) → (⟨S_, .i32⟩ : BufTy).Contents (Elt F) → (⟨S_, .i1⟩ : BufTy).Contents (Elt F)),
    StableHlo.nullary main_while0b_c_29 (constantI S_ 32 100#32),
    StableHlo.binary main_v25_2 main_while0b_c_29 main_while0b_v127 (addi : (⟨S_, .i32⟩ : BufTy).Contents (Elt F) → (⟨S_, .i32⟩ : BufTy).Contents (Elt F) → (⟨S_, .i32⟩ : BufTy).Contents (Elt F)),
    StableHlo.ternary main_while0b_v126 main_while0b_v127 main_v25_2 main_while0b_v128 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v128 main_while0b_v129 (id : (⟨S_, .i32⟩ : BufTy).Contents (Elt F) → (⟨S_, .i32⟩ : BufTy).Contents (Elt F)),
    StableHlo.unary main_while0b_v129 main_while0b_v130 (broadcastInDim S1 ![] bcast_S_S1 : (⟨S_, .i32⟩ : BufTy).Contents (Elt F) → (⟨S1, .i32⟩ : BufTy).Contents (Elt F)),
    StableHlo.ternary main_v25_4 main_while0b_v130 main_while0b_v125 main_while0b_v131 ((fun x i u => Host.scatter scatter_S16x100x4_S1_S16x4_01_1_1_0 (fun _ b => b) x i u) : (⟨S16x100x4, .f32⟩ : BufTy).Contents (Elt F) → (⟨S1, .i32⟩ : BufTy).Contents (Elt F) → (⟨S16x4, .f32⟩ : BufTy).Contents (Elt F) → (⟨S16x100x4, .f32⟩ : BufTy).Contents (Elt F)),
    StableHlo.binary main_while0b_v121 main_while0b_v33 main_while0b_v132 (mulf : (⟨S16, .f32⟩ : BufTy).Contents (Elt F) → (⟨S16, .f32⟩ : BufTy).Contents (Elt F) → (⟨S16, .f32⟩ : BufTy).Contents (Elt F)),
    StableHlo.nullary main_while0b_c_30 (constantI S_ 32 0#32),
    StableHlo.binary main_v25_2 main_while0b_c_30 main_while0b_v133 (cmpi .slt : (⟨S_, .i32⟩ : BufTy).Contents (Elt F) → (⟨S_, .i32⟩ : BufTy).Contents (Elt F) → (⟨S_, .i1⟩ : BufTy).Contents (Elt F)),
    StableHlo.nullary main_while0b_c_31 (constantI S_ 32 100#32),
    StableHlo.binary main_v25_2 main_while0b_c_31 main_while0b_v134 (addi : (⟨S_, .i32⟩ : BufTy).Contents (Elt F) → (⟨S_, .i32⟩ : BufTy).Contents (Elt F) → (⟨S_, .i32⟩ : BufTy).Contents (Elt F)),
    StableHlo.ternary main_while0b_v133 main_while0b_v134 main_v25_2 main_while0b_v135 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v135 main_while0b_v136 (id : (⟨S_, .i32⟩ : BufTy).Contents (Elt F) → (⟨S_, .i32⟩ : BufTy).Contents (Elt F)),
    StableHlo.unary main_while0b_v136 main_while0b_v137 (broadcastInDim S1 ![] bcast_S_S1 : (⟨S_, .i32⟩ : BufTy).Contents (Elt F) → (⟨S1, .i32⟩ : BufTy).Contents (Elt F)),
    StableHlo.ternary main_v25_5 main_while0b_v137 main_while0b_v132 main_while0b_v138 ((fun x i u => Host.scatter scatter_S16x100_S1_S16_0_1_1_0 (fun _ b => b) x i u) : (⟨S16x100, .f32⟩ : BufTy).Contents (Elt F) → (⟨S1, .i32⟩ : BufTy).Contents (Elt F) → (⟨S16, .f32⟩ : BufTy).Contents (Elt F) → (⟨S16x100, .f32⟩ : BufTy).Contents (Elt F)),
    StableHlo.nullary main_while0b_c_32 (constantI S_ 32 0#32),
    StableHlo.binary main_v25_2 main_while0b_c_32 main_while0b_v139 (cmpi .slt : (⟨S_, .i32⟩ : BufTy).Contents (Elt F) → (⟨S_, .i32⟩ : BufTy).Contents (Elt F) → (⟨S_, .i1⟩ : BufTy).Contents (Elt F)),
    StableHlo.nullary main_while0b_c_33 (constantI S_ 32 100#32),
    StableHlo.binary main_v25_2 main_while0b_c_33 main_while0b_v140 (addi : (⟨S_, .i32⟩ : BufTy).Contents (Elt F) → (⟨S_, .i32⟩ : BufTy).Contents (Elt F) → (⟨S_, .i32⟩ : BufTy).Contents (Elt F)) ]

/-- The body's operations 153 … 158 of 167. -/
abbrev trip_w18 : List (HloOp τ sig (Elt F)) :=
  [ StableHlo.ternary main_while0b_v139 main_while0b_v140 main_v25_2 main_while0b_v141 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v141 main_while0b_v142 (id : (⟨S_, .i32⟩ : BufTy).Contents (Elt F) → (⟨S_, .i32⟩ : BufTy).Contents (Elt F)),
    StableHlo.unary main_while0b_v142 main_while0b_v143 (broadcastInDim S1 ![] bcast_S_S1 : (⟨S_, .i32⟩ : BufTy).Contents (Elt F) → (⟨S1, .i32⟩ : BufTy).Contents (Elt F)),
    StableHlo.nullary main_while0b_cst_34 (constant S_ .f32 0x00000000#32),
    StableHlo.ternary main_v25_6 main_while0b_v143 main_while0b_cst_34 main_while0b_v144 ((fun x i u => Host.scatter scatter_S100_S1_S__n_0_0_0 (fun _ b => b) x i u) : (⟨S100, .f32⟩ : BufTy).Contents (Elt F) → (⟨S1, .i32⟩ : BufTy).Contents (Elt F) → (⟨S_, .f32⟩ : BufTy).Contents (Elt F) → (⟨S100, .f32⟩ : BufTy).Contents (Elt F)),
    StableHlo.binary main_v25_7 main_while0b_v121 main_while0b_v145 (addf : (⟨S16, .f32⟩ : BufTy).Contents (Elt F) → (⟨S16, .f32⟩ : BufTy).Contents (Elt F) → (⟨S16, .f32⟩ : BufTy).Contents (Elt F)) ]

/-- The body's operations 159 … 167 of 167: the counter's step and the copies back into the carried buffers. -/
abbrev while0Ops0_14_step : List (HloOp τ sig (Elt F)) :=
  [ StableHlo.nullary main_while0b_c_35 (constantI S_ 32 1#32),
    StableHlo.binary main_v25_1 main_while0b_c_35 main_while0b_v146 (addi : (⟨S_, .i32⟩ : BufTy).Contents (Elt F) → (⟨S_, .i32⟩ : BufTy).Contents (Elt F) → (⟨S_, .i32⟩ : BufTy).Contents (Elt F)),
    StableHlo.unary main_while0b_v146 main_v25_1 id,
    StableHlo.unary main_while0b_v31 main_v25_2 id,
    StableHlo.unary main_while0b_v120 main_v25_3 id,
    StableHlo.unary main_while0b_v131 main_v25_4 id,
    StableHlo.unary main_while0b_v138 main_v25_5 id,
    StableHlo.unary main_while0b_v144 main_v25_6 id,
    StableHlo.unary main_while0b_v145 main_v25_7 id ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 := rfl
set_option maxRecDepth 5000 in
/-- `while0Ops0_4` is its windows in order. -/
theorem while0Ops0_4_cut : (while0Ops0_4 : List (HloOp τ sig (Elt F))) = trip_w4 := rfl
set_option maxRecDepth 5000 in
/-- `while0Ops0_5` is its windows in order. -/
theorem while0Ops0_5_cut : (while0Ops0_5 : List (HloOp τ sig (Elt F))) = trip_w5 ++ (trip_w6 ++ (trip_w7 ++ (trip_w8))) := rfl
set_option maxRecDepth 5000 in
/-- `while0Ops0_6` is its windows in order. -/
theorem while0Ops0_6_cut : (while0Ops0_6 : List (HloOp τ sig (Elt F))) = trip_w9 := rfl
set_option maxRecDepth 5000 in
/-- `while0Ops0_7` is its windows in order. -/
theorem while0Ops0_7_cut : (while0Ops0_7 : List (HloOp τ sig (Elt F))) = trip_w10 := rfl
set_option maxRecDepth 5000 in
/-- `while0Ops0_8` is its windows in order. -/
theorem while0Ops0_8_cut : (while0Ops0_8 : List (HloOp τ sig (Elt F))) = trip_w11 := rfl
set_option maxRecDepth 5000 in
/-- `while0Ops0_9` is its windows in order. -/
theorem while0Ops0_9_cut : (while0Ops0_9 : List (HloOp τ sig (Elt F))) = trip_w12 := rfl
set_option maxRecDepth 5000 in
/-- `while0Ops0_10` is its windows in order. -/
theorem while0Ops0_10_cut : (while0Ops0_10 : List (HloOp τ sig (Elt F))) = trip_w13 := rfl
set_option maxRecDepth 5000 in
/-- `while0Ops0_11` is its windows in order. -/
theorem while0Ops0_11_cut : (while0Ops0_11 : List (HloOp τ sig (Elt F))) = trip_w14 := rfl
set_option maxRecDepth 5000 in
/-- `while0Ops0_12` is its windows in order. -/
theorem while0Ops0_12_cut : (while0Ops0_12 : List (HloOp τ sig (Elt F))) = trip_w15 := rfl
set_option maxRecDepth 5000 in
/-- `while0Ops0_13` is its windows in order. -/
theorem while0Ops0_13_cut : (while0Ops0_13 : List (HloOp τ sig (Elt F))) = trip_w16 := rfl
set_option maxRecDepth 5000 in
/-- `while0Ops0_14` is its windows in order, then the step. -/
theorem while0Ops0_14_cut : (while0Ops0_14 : List (HloOp τ sig (Elt F))) = trip_w17 ++ (trip_w18 ++ (while0Ops0_14_step)) := rfl

/-- The buffers that window `trip_w0`'s operations write. -/
abbrev trip_w0_W : List (Ref sig .tc) := [main_while0b_c_13, main_while0b_v31]
set_option maxRecDepth 8192 in
theorem trip_w0_writes : (trip_w0 : List (HloOp τ sig (Elt F))).Forall fun op => op.writes ⊆ (trip_w0_W.map (Proc.devRef (τ := τ) .tc)).toFinset :=
  StableHlo.forall_writes_sub_of_map rfl
/-- The buffers that window `trip_w1`'s operations write. -/
abbrev trip_w1_W : List (Ref sig .tc) := [main_while0b_call2_v0, main_while0b_call2_cst, main_while0b_call2_c, main_while0b_call2_v1_0, main_while0b_v32]
set_option maxRecDepth 8192 in
theorem trip_w1_writes : (trip_w1 : List (HloOp τ sig (Elt F))).Forall fun op => op.writes ⊆ (trip_w1_W.map (Proc.devRef (τ := τ) .tc)).toFinset :=
  StableHlo.forall_writes_sub_of_map rfl
/-- The buffers that window `trip_w2`'s operations write. -/
abbrev trip_w2_W : List (Ref sig .tc) := [main_while0b_call3_v0, main_while0b_v33]
set_option maxRecDepth 8192 in
theorem trip_w2_writes : (trip_w2 : List (HloOp τ sig (Elt F))).Forall fun op => op.writes ⊆ (trip_w2_W.map (Proc.devRef (τ := τ) .tc)).toFinset :=
  StableHlo.forall_writes_sub_of_map rfl
/-- The buffers that window `trip_w3`'s operations write. -/
abbrev trip_w3_W : List (Ref sig .tc) := [main_while0b_cst_14, main_while0b_v34, main_while0b_v35]
set_option maxRecDepth 8192 in
theorem trip_w3_writes : (trip_w3 : List (HloOp τ sig (Elt F))).Forall fun op => op.writes ⊆ (trip_w3_W.map (Proc.devRef (τ := τ) .tc)).toFinset :=
  StableHlo.forall_writes_sub_of_map rfl
/-- The buffers that window `trip_w4`'s operations write. -/
abbrev trip_w4_W : List (Ref sig .tc) := [main_while0b_call4_v0, main_while0b_v36]
set_option maxRecDepth 8192 in
theorem trip_w4_writes : (trip_w4 : List (HloOp τ sig (Elt F))).Forall fun op => op.writes ⊆ (trip_w4_W.map (Proc.devRef (τ := τ) .tc)).toFinset :=
  StableHlo.forall_writes_sub_of_map rfl
/-- The buffers that window `trip_w5`'s operations write. -/
abbrev trip_w5_W : List (Ref sig .tc) := [main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60]
set_option maxRecDepth 8192 in
theorem trip_w5_writes : (trip_w5 : List (HloOp τ sig (Elt F))).Forall fun op => op.writes ⊆ (trip_w5_W.map (Proc.devRef (τ := τ) .tc)).toFinset :=
  StableHlo.forall_writes_sub_of_map rfl
/-- The buffers that window `trip_w6`'s operations write. -/
abbrev trip_w6_W : List (Ref sig .tc) := [main_while0b_v61, main_while0b_v62, main_while0b_v63, main_while0b_v64, main_while0b_v65, main_while0b_cst_15, main_while0b_v66, main_while0b_v67, main_while0b_v68, main_while0b_cst_16, main_while0b_v69, main_while0b_v70, main_while0b_v71, main_while0b_v72, main_while0b_v73, main_while0b_v74, main_while0b_v75, main_while0b_v76, main_while0b_cst_17, main_while0b_v77, main_while0b_v78, main_while0b_v79, main_while0b_v80, main_while0b_v81]
set_option maxRecDepth 8192 in
theorem trip_w6_writes : (trip_w6 : List (HloOp τ sig (Elt F))).Forall fun op => op.writes ⊆ (trip_w6_W.map (Proc.devRef (τ := τ) .tc)).toFinset :=
  StableHlo.forall_writes_sub_of_map rfl
/-- The buffers that window `trip_w7`'s operations write. -/
abbrev trip_w7_W : List (Ref sig .tc) := [main_while0b_v82, main_while0b_v83, main_while0b_cst_18, main_while0b_v84, main_while0b_v85, main_while0b_v86, main_while0b_v87, main_while0b_v88, main_while0b_v89, main_while0b_v90, main_while0b_v91, main_while0b_cst_19, main_while0b_v92, main_while0b_v93, main_while0b_v94, main_while0b_v95, main_while0b_v96, main_while0b_v97, main_while0b_v98, main_while0b_cst_20, main_while0b_v99, main_while0b_v100, main_while0b_v101, main_while0b_v102]
set_option maxRecDepth 8192 in
theorem trip_w7_writes : (trip_w7 : List (HloOp τ sig (Elt F))).Forall fun op => op.writes ⊆ (trip_w7_W.map (Proc.devRef (τ := τ) .tc)).toFinset :=
  StableHlo.forall_writes_sub_of_map rfl
/-- The buffers that window `trip_w8`'s operations write. -/
abbrev trip_w8_W : List (Ref sig .tc) := [main_while0b_v103, main_while0b_v104, main_while0b_v105, main_while0b_cst_21, main_while0b_v106, main_while0b_v107, main_while0b_v108, main_while0b_cst_22]
set_option maxRecDepth 8192 in
theorem trip_w8_writes : (trip_w8 : List (HloOp τ sig (Elt F))).Forall fun op => op.writes ⊆ (trip_w8_W.map (Proc.devRef (τ := τ) .tc)).toFinset :=
  StableHlo.forall_writes_sub_of_map rfl
/-- The buffers that window `trip_w9`'s operations write. -/
abbrev trip_w9_W : List (Ref sig .tc) := [main_while0b_call5_v0, main_while0b_call5_v1, main_while0b_call5_v2, main_while0b_v109]
set_option maxRecDepth 8192 in
theorem trip_w9_writes : (trip_w9 : List (HloOp τ sig (Elt F))).Forall fun op => op.writes ⊆ (trip_w9_W.map (Proc.devRef (τ := τ) .tc)).toFinset :=
  StableHlo.forall_writes_sub_of_map rfl
/-- The buffers that window `trip_w10`'s operations write. -/
abbrev trip_w10_W : List (Ref sig .tc) := [main_while0b_cst_23, main_while0b_v110, main_while0b_v111, main_while0b_cst_24]
set_option maxRecDepth 8192 in
theorem trip_w10_writes : (trip_w10 : List (HloOp τ sig (Elt F))).Forall fun op => op.writes ⊆ (trip_w10_W.map (Proc.devRef (τ := τ) .tc)).toFinset :=
  StableHlo.forall_writes_sub_of_map rfl
/-- The buffers that window `trip_w11`'s operations write. -/
abbrev trip_w11_W : List (Ref sig .tc) := [main_while0b_call6_v0, main_while0b_call6_v1, main_while0b_call6_v2, main_while0b_v112]
set_option maxRecDepth 8192 in
theorem trip_w11_writes : (trip_w11 : List (HloOp τ sig (Elt F))).Forall fun op => op.writes ⊆ (trip_w11_W.map (Proc.devRef (τ := τ) .tc)).toFinset :=
  StableHlo.forall_writes_sub_of_map rfl
/-- The buffers that window `trip_w12`'s operations write. -/
abbrev trip_w12_W : List (Ref sig .tc) := [main_while0b_v113, main_while0b_v114, main_while0b_v115, main_while0b_v116, main_while0b_v117, main_while0b_v118, main_while0b_cst_25]
set_option maxRecDepth 8192 in
theorem trip_w12_writes : (trip_w12 : List (HloOp τ sig (Elt F))).Forall fun op => op.writes ⊆ (trip_w12_W.map (Proc.devRef (τ := τ) .tc)).toFinset :=
  StableHlo.forall_writes_sub_of_map rfl
/-- The buffers that window `trip_w13`'s operations write. -/
abbrev trip_w13_W : List (Ref sig .tc) := [main_while0b_call7_v0, main_while0b_call7_v1, main_while0b_call7_v2, main_while0b_v119]
set_option maxRecDepth 8192 in
theorem trip_w13_writes : (trip_w13 : List (HloOp τ sig (Elt F))).Forall fun op => op.writes ⊆ (trip_w13_W.map (Proc.devRef (τ := τ) .tc)).toFinset :=
  StableHlo.forall_writes_sub_of_map rfl
/-- The buffers that window `trip_w14`'s operations write. -/
abbrev trip_w14_W : List (Ref sig .tc) := [main_while0b_call8_v0, main_while0b_v120]
set_option maxRecDepth 8192 in
theorem trip_w14_writes : (trip_w14 : List (HloOp τ sig (Elt F))).Forall fun op => op.writes ⊆ (trip_w14_W.map (Proc.devRef (τ := τ) .tc)).toFinset :=
  StableHlo.forall_writes_sub_of_map rfl
/-- The buffers that window `trip_w15`'s operations write. -/
abbrev trip_w15_W : List (Ref sig .tc) := [main_while0b_v121, main_while0b_cst_26, main_while0b_cst_27]
set_option maxRecDepth 8192 in
theorem trip_w15_writes : (trip_w15 : List (HloOp τ sig (Elt F))).Forall fun op => op.writes ⊆ (trip_w15_W.map (Proc.devRef (τ := τ) .tc)).toFinset :=
  StableHlo.forall_writes_sub_of_map rfl
/-- The buffers that window `trip_w16`'s operations write. -/
abbrev trip_w16_W : List (Ref sig .tc) := [main_while0b_call9_v0, main_while0b_call9_v1, main_while0b_call9_v2, main_while0b_call9_v3, main_while0b_call9_v4, main_while0b_v122]
set_option maxRecDepth 8192 in
theorem trip_w16_writes : (trip_w16 : List (HloOp τ sig (Elt F))).Forall fun op => op.writes ⊆ (trip_w16_W.map (Proc.devRef (τ := τ) .tc)).toFinset :=
  StableHlo.forall_writes_sub_of_map rfl
/-- The buffers that window `trip_w17`'s operations write. -/
abbrev trip_w17_W : List (Ref sig .tc) := [main_while0b_v123, main_while0b_v124, main_while0b_v125, main_while0b_c_28, main_while0b_v126, main_while0b_c_29, main_while0b_v127, main_while0b_v128, main_while0b_v129, main_while0b_v130, main_while0b_v131, main_while0b_v132, main_while0b_c_30, main_while0b_v133, main_while0b_c_31, main_while0b_v134, main_while0b_v135, main_while0b_v136, main_while0b_v137, main_while0b_v138, main_while0b_c_32, main_while0b_v139, main_while0b_c_33, main_while0b_v140]
set_option maxRecDepth 8192 in
theorem trip_w17_writes : (trip_w17 : List (HloOp τ sig (Elt F))).Forall fun op => op.writes ⊆ (trip_w17_W.map (Proc.devRef (τ := τ) .tc)).toFinset :=
  StableHlo.forall_writes_sub_of_map rfl
/-- The buffers that window `trip_w18`'s operations write. -/
abbrev trip_w18_W : List (Ref sig .tc) := [main_while0b_v141, main_while0b_v142, main_while0b_v143, main_while0b_cst_34, main_while0b_v144, main_while0b_v145]
set_option maxRecDepth 8192 in
theorem trip_w18_writes : (trip_w18 : List (HloOp τ sig (Elt F))).Forall fun op => op.writes ⊆ (trip_w18_W.map (Proc.devRef (τ := τ) .tc)).toFinset :=
  StableHlo.forall_writes_sub_of_map rfl
theorem ctr_trip_w17 (V : Valuation τ sig (Elt F)) : after trip_w17 V (Proc.devRef .tc main_v25_1) = V (Proc.devRef .tc main_v25_1) :=
  after_of_writes_sub trip_w17 V trip_w17_writes (by decide +kernel)
theorem ctr_trip_w18 (V : Valuation τ sig (Elt F)) : after trip_w18 V (Proc.devRef .tc main_v25_1) = V (Proc.devRef .tc main_v25_1) :=
  after_of_writes_sub trip_w18 V trip_w18_writes (by decide +kernel)

set_option maxRecDepth 100000 in
/-- `while0Ops0_14_step` leaves the counter one step on. -/
theorem ctr_while0Ops0_14_step (Y : Valuation τ sig (Elt F)) :
    after while0Ops0_14_step Y (Proc.devRef .tc main_v25_1) = addi (Y (Proc.devRef .tc main_v25_1)) (constantI S_ 32 1#32) := by
  after_results
  rfl

set_option maxRecDepth 100000 in
/-- `while0Ops0_14` leaves the counter one step on: its windows do not write the counter, and `while0Ops0_14_step` steps it. -/
theorem ctr_step (X : Valuation τ sig (Elt F)) :
    after while0Ops0_14 X (Proc.devRef .tc main_v25_1) = addi (X (Proc.devRef .tc main_v25_1)) (constantI S_ 32 1#32) := by
  simp only [while0Ops0_14_cut, after_append]
  rw [ctr_while0Ops0_14_step, ctr_trip_w18, ctr_trip_w17]

/-- The counter is the loop's lower bound at the loop's entry: its last writer before the loop read back. -/
theorem ctr_entry (c : Dev nD) : entryContents preI m c (Proc.devRef .tc main_v25_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v25_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_13, ctr_while0Ops0_12, ctr_while0Ops0_11, ctr_while0Ops0_10, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v25_1 HostLoop.idx0)
        (HloOp.result _ (atK m k c) main_while0c_c_13 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

end Cert.ReferenceIdeal.Value

end
-- ==== Proof.Ref.Values.lean ====
/-
  The values of one trip of the reference's loop as terms over the carried buffers: the first stretches of its body.
-/
module

public import proofs.«01_k».proof.Proof.Ref.Writes

@[expose] public section

set_option maxRecDepth 8192

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

def res_main_while0b_call2_v0 (V0 : Valuation τ sig (Elt F)) : (Proc.devRef .tc main_while0b_call2_v0 : DevRef τ sig).ty.Contents (Elt F) :=
  iotaInDim S16x10647 32 1

def res_main_while0b_call2_cst (V0 : Valuation τ sig (Elt F)) : (Proc.devRef .tc main_while0b_call2_cst : DevRef τ sig).ty.Contents (Elt F) :=
  constant S_ .f32 0xFF800000#32

def res_main_while0b_call2_c (V0 : Valuation τ sig (Elt F)) : (Proc.devRef .tc main_while0b_call2_c : DevRef τ sig).ty.Contents (Elt F) :=
  constantI S_ 32 0#32

def res_main_while0b_v32 (V0 : Valuation τ sig (Elt F)) : (Proc.devRef .tc main_while0b_v32 : DevRef τ sig).ty.Contents (Elt F) :=
  (fun j => (Host.argReduce reducer_argmax_f32_i32 (V0 (Proc.devRef .tc main_v25_3)) (res_main_while0b_call2_v0 V0) (res_main_while0b_call2_cst V0) (res_main_while0b_call2_c V0) reducesTo_S16x10647_S16_d1 h_S_ j).2)

def res_main_while0b_v33 (V0 : Valuation τ sig (Elt F)) : (Proc.devRef .tc main_while0b_v33 : DevRef τ sig).ty.Contents (Elt F) :=
  Host.gather gather_S16x10647_S16x1_S16_n_1_0_0_1_1_11 (V0 (Proc.devRef .tc main_v25_3)) (broadcastInDim S16x1 ![0] bcast_S16_S16x1_0 (res_main_while0b_v32 V0))

def res_main_while0b_v35 (V0 : Valuation τ sig (Elt F)) : (Proc.devRef .tc main_while0b_v35 : DevRef τ sig).ty.Contents (Elt F) :=
  cmpf .ogt (res_main_while0b_v33 V0) (broadcastInDim S16 ![] bcast_S_S16 (constant S_ .f32 0xF0C9F2CA#32))

def res_main_while0b_v36 (V0 : Valuation τ sig (Elt F)) : (Proc.devRef .tc main_while0b_v36 : DevRef τ sig).ty.Contents (Elt F) :=
  Host.gather gather_S16x10647x4_S16x1_S16x4_1_1_0_0_1_1_114 (V0 (Proc.devRef .tc main_v25_0)) (broadcastInDim S16x1 ![0] bcast_S16_S16x1_0 (res_main_while0b_v32 V0))

def res_main_while0b_v71 (V0 : Valuation τ sig (Elt F)) : (Proc.devRef .tc main_while0b_v71 : DevRef τ sig).ty.Contents (Elt F) :=
  mulf (maximumf (broadcastInDim S16x10647 ![] bcast_S_S16x10647 (constant S_ .f32 0x00000000#32)) (subf (minimumf (broadcastInDim S16x10647 ![0, 1] bcast_S16x1_S16x10647_0_1 (broadcastInDim S16x1 ![0] bcast_S16_S16x1_0 (shapeCast S16 (extractStridedSlice S16x1 ![0, 2] (res_main_while0b_v36 V0) slices_S16x4_S16x1_0_2) shapeCasts_S16x1_S16))) (shapeCast S16x10647 (extractStridedSlice S16x10647x1 ![0, 0, 2] (V0 (Proc.devRef .tc main_v25_0)) slices_S16x10647x4_S16x10647x1_0_0_2) shapeCasts_S16x10647x1_S16x10647)) (maximumf (broadcastInDim S16x10647 ![0, 1] bcast_S16x1_S16x10647_0_1 (broadcastInDim S16x1 ![0] bcast_S16_S16x1_0 (shapeCast S16 (extractStridedSlice S16x1 ![0, 0] (res_main_while0b_v36 V0) slices_S16x4_S16x1_0_0) shapeCasts_S16x1_S16))) (shapeCast S16x10647 (extractStridedSlice S16x10647x1 ![0, 0, 0] (V0 (Proc.devRef .tc main_v25_0)) slices_S16x10647x4_S16x10647x1_0_0_0) shapeCasts_S16x10647x1_S16x10647)))) (maximumf (broadcastInDim S16x10647 ![] bcast_S_S16x10647 (constant S_ .f32 0x00000000#32)) (subf (minimumf (broadcastInDim S16x10647 ![0, 1] bcast_S16x1_S16x10647_0_1 (broadcastInDim S16x1 ![0] bcast_S16_S16x1_0 (shapeCast S16 (extractStridedSlice S16x1 ![0, 3] (res_main_while0b_v36 V0) slices_S16x4_S16x1_0_3) shapeCasts_S16x1_S16))) (shapeCast S16x10647 (extractStridedSlice S16x10647x1 ![0, 0, 3] (V0 (Proc.devRef .tc main_v25_0)) slices_S16x10647x4_S16x10647x1_0_0_3) shapeCasts_S16x10647x1_S16x10647)) (maximumf (broadcastInDim S16x10647 ![0, 1] bcast_S16x1_S16x10647_0_1 (broadcastInDim S16x1 ![0] bcast_S16_S16x1_0 (shapeCast S16 (extractStridedSlice S16x1 ![0, 1] (res_main_while0b_v36 V0) slices_S16x4_S16x1_0_1) shapeCasts_S16x1_S16))) (shapeCast S16x10647 (extractStridedSlice S16x10647x1 ![0, 0, 1] (V0 (Proc.devRef .tc main_v25_0)) slices_S16x10647x4_S16x10647x1_0_0_1) shapeCasts_S16x10647x1_S16x10647))))

def res_main_while0b_v105 (V0 : Valuation τ sig (Elt F)) : (Proc.devRef .tc main_while0b_v105 : DevRef τ sig).ty.Contents (Elt F) :=
  subf (addf (broadcastInDim S16x10647 ![0, 1] bcast_S16x1_S16x10647_0_1 (broadcastInDim S16x1 ![0] bcast_S16_S16x1_0 (mulf (maximumf (broadcastInDim S16 ![] bcast_S_S16 (constant S_ .f32 0x00000000#32)) (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16))) (maximumf (broadcastInDim S16 ![] bcast_S_S16 (constant S_ .f32 0x00000000#32)) (subf (shapeCast S16 (extractStridedSlice S16x1 ![0, 3] (res_main_while0b_v36 V0) slices_S16x4_S16x1_0_3) shapeCasts_S16x1_S16) (shapeCast S16 (extractStridedSlice S16x1 ![0, 1] (res_main_while0b_v36 V0) slices_S16x4_S16x1_0_1) shapeCasts_S16x1_S16)))))) (mulf (maximumf (broadcastInDim S16x10647 ![] bcast_S_S16x10647 (constant S_ .f32 0x00000000#32)) (subf (shapeCast S16x10647 (extractStridedSlice S16x10647x1 ![0, 0, 2] (V0 (Proc.devRef .tc main_v25_0)) slices_S16x10647x4_S16x10647x1_0_0_2) shapeCasts_S16x10647x1_S16x10647) (shapeCast S16x10647 (extractStridedSlice S16x10647x1 ![0, 0, 0] (V0 (Proc.devRef .tc main_v25_0)) slices_S16x10647x4_S16x10647x1_0_0_0) shapeCasts_S16x10647x1_S16x10647))) (maximumf (broadcastInDim S16x10647 ![] bcast_S_S16x10647 (constant S_ .f32 0x00000000#32)) (subf (shapeCast S16x10647 (extractStridedSlice S16x10647x1 ![0, 0, 3] (V0 (Proc.devRef .tc main_v25_0)) slices_S16x10647x4_S16x10647x1_0_0_3) shapeCasts_S16x10647x1_S16x10647) (shapeCast S16x10647 (extractStridedSlice S16x10647x1 ![0, 0, 1] (V0 (Proc.devRef .tc main_v25_0)) slices_S16x10647x4_S16x10647x1_0_0_1) shapeCasts_S16x10647x1_S16x10647))))) (res_main_while0b_v71 V0)

def res_main_while0b_v121 (V0 : Valuation τ sig (Elt F)) : (Proc.devRef .tc main_while0b_v121 : DevRef τ sig).ty.Contents (Elt F) :=
  uitofp .f32 (res_main_while0b_v35 V0)

/-- The device's buffer contents before the body's first window. -/
def val0 (V0 : Valuation τ sig (Elt F)) : Valuation τ sig (Elt F) := V0
theorem val0_main_v25_2 (V0 : Valuation τ sig (Elt F)) : val0 V0 (no_index (Proc.devRef .tc main_v25_2)) = V0 (Proc.devRef .tc main_v25_2) := rfl
theorem val0_main_v25_3 (V0 : Valuation τ sig (Elt F)) : val0 V0 (no_index (Proc.devRef .tc main_v25_3)) = V0 (Proc.devRef .tc main_v25_3) := rfl
theorem val0_main_v25_0 (V0 : Valuation τ sig (Elt F)) : val0 V0 (no_index (Proc.devRef .tc main_v25_0)) = V0 (Proc.devRef .tc main_v25_0) := rfl
theorem val0_main_v25_4 (V0 : Valuation τ sig (Elt F)) : val0 V0 (no_index (Proc.devRef .tc main_v25_4)) = V0 (Proc.devRef .tc main_v25_4) := rfl
theorem val0_main_v25_5 (V0 : Valuation τ sig (Elt F)) : val0 V0 (no_index (Proc.devRef .tc main_v25_5)) = V0 (Proc.devRef .tc main_v25_5) := rfl
theorem val0_main_v25_6 (V0 : Valuation τ sig (Elt F)) : val0 V0 (no_index (Proc.devRef .tc main_v25_6)) = V0 (Proc.devRef .tc main_v25_6) := rfl
theorem val0_main_v25_7 (V0 : Valuation τ sig (Elt F)) : val0 V0 (no_index (Proc.devRef .tc main_v25_7)) = V0 (Proc.devRef .tc main_v25_7) := rfl
theorem val0_main_v25_1 (V0 : Valuation τ sig (Elt F)) : val0 V0 (no_index (Proc.devRef .tc main_v25_1)) = V0 (Proc.devRef .tc main_v25_1) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v25_2 (V0 : Valuation τ sig (Elt F)) : val1 V0 (no_index (Proc.devRef .tc main_v25_2)) = V0 (Proc.devRef .tc main_v25_2) :=
  (val1_keep V0 main_v25_2 (by decide)).trans (val0_main_v25_2 V0)
theorem val1_main_v25_3 (V0 : Valuation τ sig (Elt F)) : val1 V0 (no_index (Proc.devRef .tc main_v25_3)) = V0 (Proc.devRef .tc main_v25_3) :=
  (val1_keep V0 main_v25_3 (by decide)).trans (val0_main_v25_3 V0)
theorem val1_main_v25_0 (V0 : Valuation τ sig (Elt F)) : val1 V0 (no_index (Proc.devRef .tc main_v25_0)) = V0 (Proc.devRef .tc main_v25_0) :=
  (val1_keep V0 main_v25_0 (by decide)).trans (val0_main_v25_0 V0)
theorem val1_main_v25_4 (V0 : Valuation τ sig (Elt F)) : val1 V0 (no_index (Proc.devRef .tc main_v25_4)) = V0 (Proc.devRef .tc main_v25_4) :=
  (val1_keep V0 main_v25_4 (by decide)).trans (val0_main_v25_4 V0)
theorem val1_main_v25_5 (V0 : Valuation τ sig (Elt F)) : val1 V0 (no_index (Proc.devRef .tc main_v25_5)) = V0 (Proc.devRef .tc main_v25_5) :=
  (val1_keep V0 main_v25_5 (by decide)).trans (val0_main_v25_5 V0)
theorem val1_main_v25_6 (V0 : Valuation τ sig (Elt F)) : val1 V0 (no_index (Proc.devRef .tc main_v25_6)) = V0 (Proc.devRef .tc main_v25_6) :=
  (val1_keep V0 main_v25_6 (by decide)).trans (val0_main_v25_6 V0)
theorem val1_main_v25_7 (V0 : Valuation τ sig (Elt F)) : val1 V0 (no_index (Proc.devRef .tc main_v25_7)) = V0 (Proc.devRef .tc main_v25_7) :=
  (val1_keep V0 main_v25_7 (by decide)).trans (val0_main_v25_7 V0)
theorem val1_main_v25_1 (V0 : Valuation τ sig (Elt F)) : val1 V0 (no_index (Proc.devRef .tc main_v25_1)) = V0 (Proc.devRef .tc main_v25_1) :=
  (val1_keep V0 main_v25_1 (by decide)).trans (val0_main_v25_1 V0)
theorem val1_main_while0b_v31 (V0 : Valuation τ sig (Elt F)) : val1 V0 (no_index (Proc.devRef .tc main_while0b_v31)) = addi (V0 (Proc.devRef .tc main_v25_2)) (constantI S_ 32 1#32) := by
  unfold val1
  simp only [trip_w0]
  after_results_entrywise [val0_main_v25_2, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v25_2 (V0 : Valuation τ sig (Elt F)) : val2 V0 (no_index (Proc.devRef .tc main_v25_2)) = V0 (Proc.devRef .tc main_v25_2) :=
  (val2_keep V0 main_v25_2 (by decide)).trans (val1_main_v25_2 V0)
theorem val2_main_v25_3 (V0 : Valuation τ sig (Elt F)) : val2 V0 (no_index (Proc.devRef .tc main_v25_3)) = V0 (Proc.devRef .tc main_v25_3) :=
  (val2_keep V0 main_v25_3 (by decide)).trans (val1_main_v25_3 V0)
theorem val2_main_v25_0 (V0 : Valuation τ sig (Elt F)) : val2 V0 (no_index (Proc.devRef .tc main_v25_0)) = V0 (Proc.devRef .tc main_v25_0) :=
  (val2_keep V0 main_v25_0 (by decide)).trans (val1_main_v25_0 V0)
theorem val2_main_v25_4 (V0 : Valuation τ sig (Elt F)) : val2 V0 (no_index (Proc.devRef .tc main_v25_4)) = V0 (Proc.devRef .tc main_v25_4) :=
  (val2_keep V0 main_v25_4 (by decide)).trans (val1_main_v25_4 V0)
theorem val2_main_v25_5 (V0 : Valuation τ sig (Elt F)) : val2 V0 (no_index (Proc.devRef .tc main_v25_5)) = V0 (Proc.devRef .tc main_v25_5) :=
  (val2_keep V0 main_v25_5 (by decide)).trans (val1_main_v25_5 V0)
theorem val2_main_v25_6 (V0 : Valuation τ sig (Elt F)) : val2 V0 (no_index (Proc.devRef .tc main_v25_6)) = V0 (Proc.devRef .tc main_v25_6) :=
  (val2_keep V0 main_v25_6 (by decide)).trans (val1_main_v25_6 V0)
theorem val2_main_v25_7 (V0 : Valuation τ sig (Elt F)) : val2 V0 (no_index (Proc.devRef .tc main_v25_7)) = V0 (Proc.devRef .tc main_v25_7) :=
  (val2_keep V0 main_v25_7 (by decide)).trans (val1_main_v25_7 V0)
theorem val2_main_v25_1 (V0 : Valuation τ sig (Elt F)) : val2 V0 (no_index (Proc.devRef .tc main_v25_1)) = V0 (Proc.devRef .tc main_v25_1) :=
  (val2_keep V0 main_v25_1 (by decide)).trans (val1_main_v25_1 V0)
theorem val2_main_while0b_v31 (V0 : Valuation τ sig (Elt F)) : val2 V0 (no_index (Proc.devRef .tc main_while0b_v31)) = addi (V0 (Proc.devRef .tc main_v25_2)) (constantI S_ 32 1#32) :=
  (val2_keep V0 main_while0b_v31 (by decide)).trans (val1_main_while0b_v31 V0)
theorem val2_main_while0b_v32 (V0 : Valuation τ sig (Elt F)) : val2 V0 (no_index (Proc.devRef .tc main_while0b_v32)) = res_main_while0b_v32 V0 := by
  unfold val2
  simp only [trip_w1]
  after_results_entrywise [val1_main_v25_3, res_main_while0b_call2_v0, res_main_while0b_call2_cst, res_main_while0b_call2_c, res_main_while0b_v32, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v25_2 (V0 : Valuation τ sig (Elt F)) : val3 V0 (no_index (Proc.devRef .tc main_v25_2)) = V0 (Proc.devRef .tc main_v25_2) :=
  (val3_keep V0 main_v25_2 (by decide)).trans (val2_main_v25_2 V0)
theorem val3_main_v25_3 (V0 : Valuation τ sig (Elt F)) : val3 V0 (no_index (Proc.devRef .tc main_v25_3)) = V0 (Proc.devRef .tc main_v25_3) :=
  (val3_keep V0 main_v25_3 (by decide)).trans (val2_main_v25_3 V0)
theorem val3_main_v25_0 (V0 : Valuation τ sig (Elt F)) : val3 V0 (no_index (Proc.devRef .tc main_v25_0)) = V0 (Proc.devRef .tc main_v25_0) :=
  (val3_keep V0 main_v25_0 (by decide)).trans (val2_main_v25_0 V0)
theorem val3_main_v25_4 (V0 : Valuation τ sig (Elt F)) : val3 V0 (no_index (Proc.devRef .tc main_v25_4)) = V0 (Proc.devRef .tc main_v25_4) :=
  (val3_keep V0 main_v25_4 (by decide)).trans (val2_main_v25_4 V0)
theorem val3_main_v25_5 (V0 : Valuation τ sig (Elt F)) : val3 V0 (no_index (Proc.devRef .tc main_v25_5)) = V0 (Proc.devRef .tc main_v25_5) :=
  (val3_keep V0 main_v25_5 (by decide)).trans (val2_main_v25_5 V0)
theorem val3_main_v25_6 (V0 : Valuation τ sig (Elt F)) : val3 V0 (no_index (Proc.devRef .tc main_v25_6)) = V0 (Proc.devRef .tc main_v25_6) :=
  (val3_keep V0 main_v25_6 (by decide)).trans (val2_main_v25_6 V0)
theorem val3_main_v25_7 (V0 : Valuation τ sig (Elt F)) : val3 V0 (no_index (Proc.devRef .tc main_v25_7)) = V0 (Proc.devRef .tc main_v25_7) :=
  (val3_keep V0 main_v25_7 (by decide)).trans (val2_main_v25_7 V0)
theorem val3_main_v25_1 (V0 : Valuation τ sig (Elt F)) : val3 V0 (no_index (Proc.devRef .tc main_v25_1)) = V0 (Proc.devRef .tc main_v25_1) :=
  (val3_keep V0 main_v25_1 (by decide)).trans (val2_main_v25_1 V0)
theorem val3_main_while0b_v31 (V0 : Valuation τ sig (Elt F)) : val3 V0 (no_index (Proc.devRef .tc main_while0b_v31)) = addi (V0 (Proc.devRef .tc main_v25_2)) (constantI S_ 32 1#32) :=
  (val3_keep V0 main_while0b_v31 (by decide)).trans (val2_main_while0b_v31 V0)
theorem val3_main_while0b_v32 (V0 : Valuation τ sig (Elt F)) : val3 V0 (no_index (Proc.devRef .tc main_while0b_v32)) = res_main_while0b_v32 V0 :=
  (val3_keep V0 main_while0b_v32 (by decide)).trans (val2_main_while0b_v32 V0)
theorem val3_main_while0b_v33 (V0 : Valuation τ sig (Elt F)) : val3 V0 (no_index (Proc.devRef .tc main_while0b_v33)) = res_main_while0b_v33 V0 := by
  unfold val3
  simp only [trip_w2]
  after_results_entrywise [val2_main_while0b_v32, val2_main_v25_3, res_main_while0b_v33, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v25_2 (V0 : Valuation τ sig (Elt F)) : val4 V0 (no_index (Proc.devRef .tc main_v25_2)) = V0 (Proc.devRef .tc main_v25_2) :=
  (val4_keep V0 main_v25_2 (by decide)).trans (val3_main_v25_2 V0)
theorem val4_main_v25_3 (V0 : Valuation τ sig (Elt F)) : val4 V0 (no_index (Proc.devRef .tc main_v25_3)) = V0 (Proc.devRef .tc main_v25_3) :=
  (val4_keep V0 main_v25_3 (by decide)).trans (val3_main_v25_3 V0)
theorem val4_main_v25_0 (V0 : Valuation τ sig (Elt F)) : val4 V0 (no_index (Proc.devRef .tc main_v25_0)) = V0 (Proc.devRef .tc main_v25_0) :=
  (val4_keep V0 main_v25_0 (by decide)).trans (val3_main_v25_0 V0)
theorem val4_main_v25_4 (V0 : Valuation τ sig (Elt F)) : val4 V0 (no_index (Proc.devRef .tc main_v25_4)) = V0 (Proc.devRef .tc main_v25_4) :=
  (val4_keep V0 main_v25_4 (by decide)).trans (val3_main_v25_4 V0)
theorem val4_main_v25_5 (V0 : Valuation τ sig (Elt F)) : val4 V0 (no_index (Proc.devRef .tc main_v25_5)) = V0 (Proc.devRef .tc main_v25_5) :=
  (val4_keep V0 main_v25_5 (by decide)).trans (val3_main_v25_5 V0)
theorem val4_main_v25_6 (V0 : Valuation τ sig (Elt F)) : val4 V0 (no_index (Proc.devRef .tc main_v25_6)) = V0 (Proc.devRef .tc main_v25_6) :=
  (val4_keep V0 main_v25_6 (by decide)).trans (val3_main_v25_6 V0)
theorem val4_main_v25_7 (V0 : Valuation τ sig (Elt F)) : val4 V0 (no_index (Proc.devRef .tc main_v25_7)) = V0 (Proc.devRef .tc main_v25_7) :=
  (val4_keep V0 main_v25_7 (by decide)).trans (val3_main_v25_7 V0)
theorem val4_main_v25_1 (V0 : Valuation τ sig (Elt F)) : val4 V0 (no_index (Proc.devRef .tc main_v25_1)) = V0 (Proc.devRef .tc main_v25_1) :=
  (val4_keep V0 main_v25_1 (by decide)).trans (val3_main_v25_1 V0)
theorem val4_main_while0b_v31 (V0 : Valuation τ sig (Elt F)) : val4 V0 (no_index (Proc.devRef .tc main_while0b_v31)) = addi (V0 (Proc.devRef .tc main_v25_2)) (constantI S_ 32 1#32) :=
  (val4_keep V0 main_while0b_v31 (by decide)).trans (val3_main_while0b_v31 V0)
theorem val4_main_while0b_v32 (V0 : Valuation τ sig (Elt F)) : val4 V0 (no_index (Proc.devRef .tc main_while0b_v32)) = res_main_while0b_v32 V0 :=
  (val4_keep V0 main_while0b_v32 (by decide)).trans (val3_main_while0b_v32 V0)
theorem val4_main_while0b_v33 (V0 : Valuation τ sig (Elt F)) : val4 V0 (no_index (Proc.devRef .tc main_while0b_v33)) = res_main_while0b_v33 V0 :=
  (val4_keep V0 main_while0b_v33 (by decide)).trans (val3_main_while0b_v33 V0)
theorem val4_main_while0b_v35 (V0 : Valuation τ sig (Elt F)) : val4 V0 (no_index (Proc.devRef .tc main_while0b_v35)) = res_main_while0b_v35 V0 := by
  unfold val4
  simp only [trip_w3]
  after_results_entrywise [val3_main_while0b_v33, res_main_while0b_v35, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v25_2 (V0 : Valuation τ sig (Elt F)) : val5 V0 (no_index (Proc.devRef .tc main_v25_2)) = V0 (Proc.devRef .tc main_v25_2) :=
  (val5_keep V0 main_v25_2 (by decide)).trans (val4_main_v25_2 V0)
theorem val5_main_v25_3 (V0 : Valuation τ sig (Elt F)) : val5 V0 (no_index (Proc.devRef .tc main_v25_3)) = V0 (Proc.devRef .tc main_v25_3) :=
  (val5_keep V0 main_v25_3 (by decide)).trans (val4_main_v25_3 V0)
theorem val5_main_v25_0 (V0 : Valuation τ sig (Elt F)) : val5 V0 (no_index (Proc.devRef .tc main_v25_0)) = V0 (Proc.devRef .tc main_v25_0) :=
  (val5_keep V0 main_v25_0 (by decide)).trans (val4_main_v25_0 V0)
theorem val5_main_v25_4 (V0 : Valuation τ sig (Elt F)) : val5 V0 (no_index (Proc.devRef .tc main_v25_4)) = V0 (Proc.devRef .tc main_v25_4) :=
  (val5_keep V0 main_v25_4 (by decide)).trans (val4_main_v25_4 V0)
theorem val5_main_v25_5 (V0 : Valuation τ sig (Elt F)) : val5 V0 (no_index (Proc.devRef .tc main_v25_5)) = V0 (Proc.devRef .tc main_v25_5) :=
  (val5_keep V0 main_v25_5 (by decide)).trans (val4_main_v25_5 V0)
theorem val5_main_v25_6 (V0 : Valuation τ sig (Elt F)) : val5 V0 (no_index (Proc.devRef .tc main_v25_6)) = V0 (Proc.devRef .tc main_v25_6) :=
  (val5_keep V0 main_v25_6 (by decide)).trans (val4_main_v25_6 V0)
theorem val5_main_v25_7 (V0 : Valuation τ sig (Elt F)) : val5 V0 (no_index (Proc.devRef .tc main_v25_7)) = V0 (Proc.devRef .tc main_v25_7) :=
  (val5_keep V0 main_v25_7 (by decide)).trans (val4_main_v25_7 V0)
theorem val5_main_v25_1 (V0 : Valuation τ sig (Elt F)) : val5 V0 (no_index (Proc.devRef .tc main_v25_1)) = V0 (Proc.devRef .tc main_v25_1) :=
  (val5_keep V0 main_v25_1 (by decide)).trans (val4_main_v25_1 V0)
theorem val5_main_while0b_v31 (V0 : Valuation τ sig (Elt F)) : val5 V0 (no_index (Proc.devRef .tc main_while0b_v31)) = addi (V0 (Proc.devRef .tc main_v25_2)) (constantI S_ 32 1#32) :=
  (val5_keep V0 main_while0b_v31 (by decide)).trans (val4_main_while0b_v31 V0)
theorem val5_main_while0b_v32 (V0 : Valuation τ sig (Elt F)) : val5 V0 (no_index (Proc.devRef .tc main_while0b_v32)) = res_main_while0b_v32 V0 :=
  (val5_keep V0 main_while0b_v32 (by decide)).trans (val4_main_while0b_v32 V0)
theorem val5_main_while0b_v33 (V0 : Valuation τ sig (Elt F)) : val5 V0 (no_index (Proc.devRef .tc main_while0b_v33)) = res_main_while0b_v33 V0 :=
  (val5_keep V0 main_while0b_v33 (by decide)).trans (val4_main_while0b_v33 V0)
theorem val5_main_while0b_v35 (V0 : Valuation τ sig (Elt F)) : val5 V0 (no_index (Proc.devRef .tc main_while0b_v35)) = res_main_while0b_v35 V0 :=
  (val5_keep V0 main_while0b_v35 (by decide)).trans (val4_main_while0b_v35 V0)
theorem val5_main_while0b_v36 (V0 : Valuation τ sig (Elt F)) : val5 V0 (no_index (Proc.devRef .tc main_while0b_v36)) = res_main_while0b_v36 V0 := by
  unfold val5
  simp only [trip_w4]
  after_results_entrywise [val4_main_while0b_v32, val4_main_v25_0, res_main_while0b_v36, cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v25_2 (V0 : Valuation τ sig (Elt F)) : val6 V0 (no_index (Proc.devRef .tc main_v25_2)) = V0 (Proc.devRef .tc main_v25_2) :=
  (val6_keep V0 main_v25_2 (by decide)).trans (val5_main_v25_2 V0)
theorem val6_main_v25_3 (V0 : Valuation τ sig (Elt F)) : val6 V0 (no_index (Proc.devRef .tc main_v25_3)) = V0 (Proc.devRef .tc main_v25_3) :=
  (val6_keep V0 main_v25_3 (by decide)).trans (val5_main_v25_3 V0)
theorem val6_main_v25_0 (V0 : Valuation τ sig (Elt F)) : val6 V0 (no_index (Proc.devRef .tc main_v25_0)) = V0 (Proc.devRef .tc main_v25_0) :=
  (val6_keep V0 main_v25_0 (by decide)).trans (val5_main_v25_0 V0)
theorem val6_main_v25_4 (V0 : Valuation τ sig (Elt F)) : val6 V0 (no_index (Proc.devRef .tc main_v25_4)) = V0 (Proc.devRef .tc main_v25_4) :=
  (val6_keep V0 main_v25_4 (by decide)).trans (val5_main_v25_4 V0)
theorem val6_main_v25_5 (V0 : Valuation τ sig (Elt F)) : val6 V0 (no_index (Proc.devRef .tc main_v25_5)) = V0 (Proc.devRef .tc main_v25_5) :=
  (val6_keep V0 main_v25_5 (by decide)).trans (val5_main_v25_5 V0)
theorem val6_main_v25_6 (V0 : Valuation τ sig (Elt F)) : val6 V0 (no_index (Proc.devRef .tc main_v25_6)) = V0 (Proc.devRef .tc main_v25_6) :=
  (val6_keep V0 main_v25_6 (by decide)).trans (val5_main_v25_6 V0)
theorem val6_main_v25_7 (V0 : Valuation τ sig (Elt F)) : val6 V0 (no_index (Proc.devRef .tc main_v25_7)) = V0 (Proc.devRef .tc main_v25_7) :=
  (val6_keep V0 main_v25_7 (by decide)).trans (val5_main_v25_7 V0)
theorem val6_main_v25_1 (V0 : Valuation τ sig (Elt F)) : val6 V0 (no_index (Proc.devRef .tc main_v25_1)) = V0 (Proc.devRef .tc main_v25_1) :=
  (val6_keep V0 main_v25_1 (by decide)).trans (val5_main_v25_1 V0)
theorem val6_main_while0b_v31 (V0 : Valuation τ sig (Elt F)) : val6 V0 (no_index (Proc.devRef .tc main_while0b_v31)) = addi (V0 (Proc.devRef .tc main_v25_2)) (constantI S_ 32 1#32) :=
  (val6_keep V0 main_while0b_v31 (by decide)).trans (val5_main_while0b_v31 V0)
theorem val6_main_while0b_v32 (V0 : Valuation τ sig (Elt F)) : val6 V0 (no_index (Proc.devRef .tc main_while0b_v32)) = res_main_while0b_v32 V0 :=
  (val6_keep V0 main_while0b_v32 (by decide)).trans (val5_main_while0b_v32 V0)
theorem val6_main_while0b_v33 (V0 : Valuation τ sig (Elt F)) : val6 V0 (no_index (Proc.devRef .tc main_while0b_v33)) = res_main_while0b_v33 V0 :=
  (val6_keep V0 main_while0b_v33 (by decide)).trans (val5_main_while0b_v33 V0)
theorem val6_main_while0b_v35 (V0 : Valuation τ sig (Elt F)) : val6 V0 (no_index (Proc.devRef .tc main_while0b_v35)) = res_main_while0b_v35 V0 :=
  (val6_keep V0 main_while0b_v35 (by decide)).trans (val5_main_while0b_v35 V0)
theorem val6_main_while0b_v36 (V0 : Valuation τ sig (Elt F)) : val6 V0 (no_index (Proc.devRef .tc main_while0b_v36)) = res_main_while0b_v36 V0 :=
  (val6_keep V0 main_while0b_v36 (by decide)).trans (val5_main_while0b_v36 V0)
set_option maxHeartbeats 2000000 in
theorem val6_main_while0b_v43 (V0 : Valuation τ sig (Elt F)) : val6 V0 (no_index (Proc.devRef .tc main_while0b_v43)) = maximumf (broadcastInDim S16x10647 ![0, 1] bcast_S16x1_S16x10647_0_1 (broadcastInDim S16x1 ![0] bcast_S16_S16x1_0 (shapeCast S16 (extractStridedSlice S16x1 ![0, 0] (res_main_while0b_v36 V0) slices_S16x4_S16x1_0_0) shapeCasts_S16x1_S16))) (shapeCast S16x10647 (extractStridedSlice S16x10647x1 ![0, 0, 0] (V0 (Proc.devRef .tc main_v25_0)) slices_S16x10647x4_S16x10647x1_0_0_0) shapeCasts_S16x10647x1_S16x10647) := by
  unfold val6
  simp only [trip_w5]
  after_results_entrywise [val5_main_v25_0, val5_main_while0b_v36, cast_eq]
set_option maxHeartbeats 2000000 in
theorem val6_main_while0b_v50 (V0 : Valuation τ sig (Elt F)) : val6 V0 (no_index (Proc.devRef .tc main_while0b_v50)) = maximumf (broadcastInDim S16x10647 ![0, 1] bcast_S16x1_S16x10647_0_1 (broadcastInDim S16x1 ![0] bcast_S16_S16x1_0 (shapeCast S16 (extractStridedSlice S16x1 ![0, 1] (res_main_while0b_v36 V0) slices_S16x4_S16x1_0_1) shapeCasts_S16x1_S16))) (shapeCast S16x10647 (extractStridedSlice S16x10647x1 ![0, 0, 1] (V0 (Proc.devRef .tc main_v25_0)) slices_S16x10647x4_S16x10647x1_0_0_1) shapeCasts_S16x10647x1_S16x10647) := by
  unfold val6
  simp only [trip_w5]
  after_results_entrywise [val5_main_v25_0, val5_main_while0b_v36, cast_eq]
set_option maxHeartbeats 2000000 in
theorem val6_main_while0b_v57 (V0 : Valuation τ sig (Elt F)) : val6 V0 (no_index (Proc.devRef .tc main_while0b_v57)) = minimumf (broadcastInDim S16x10647 ![0, 1] bcast_S16x1_S16x10647_0_1 (broadcastInDim S16x1 ![0] bcast_S16_S16x1_0 (shapeCast S16 (extractStridedSlice S16x1 ![0, 2] (res_main_while0b_v36 V0) slices_S16x4_S16x1_0_2) shapeCasts_S16x1_S16))) (shapeCast S16x10647 (extractStridedSlice S16x10647x1 ![0, 0, 2] (V0 (Proc.devRef .tc main_v25_0)) slices_S16x10647x4_S16x10647x1_0_0_2) shapeCasts_S16x10647x1_S16x10647) := by
  unfold val6
  simp only [trip_w5]
  after_results_entrywise [val5_main_v25_0, val5_main_while0b_v36, cast_eq]
set_option maxHeartbeats 2000000 in
theorem val6_main_while0b_v59 (V0 : Valuation τ sig (Elt F)) : val6 V0 (no_index (Proc.devRef .tc main_while0b_v59)) = shapeCast S16 (extractStridedSlice S16x1 ![0, 3] (res_main_while0b_v36 V0) slices_S16x4_S16x1_0_3) shapeCasts_S16x1_S16 := by
  unfold val6
  simp only [trip_w5]
  after_results_entrywise [val5_main_while0b_v36, cast_eq]
set_option maxHeartbeats 2000000 in
theorem val6_main_while0b_v60 (V0 : Valuation τ sig (Elt F)) : val6 V0 (no_index (Proc.devRef .tc main_while0b_v60)) = extractStridedSlice S16x10647x1 ![0, 0, 3] (V0 (Proc.devRef .tc main_v25_0)) slices_S16x10647x4_S16x10647x1_0_0_3 := by
  unfold val6
  simp only [trip_w5]
  after_results_entrywise [val5_main_v25_0, cast_eq]

/-- The device's buffer contents after the body's first 7 windows. -/
def val7 (V0 : Valuation τ sig (Elt F)) : Valuation τ sig (Elt F) := after trip_w6 (val6 V0)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v25_2 (V0 : Valuation τ sig (Elt F)) : val7 V0 (no_index (Proc.devRef .tc main_v25_2)) = V0 (Proc.devRef .tc main_v25_2) :=
  (val7_keep V0 main_v25_2 (by decide)).trans (val6_main_v25_2 V0)
theorem val7_main_v25_3 (V0 : Valuation τ sig (Elt F)) : val7 V0 (no_index (Proc.devRef .tc main_v25_3)) = V0 (Proc.devRef .tc main_v25_3) :=
  (val7_keep V0 main_v25_3 (by decide)).trans (val6_main_v25_3 V0)
theorem val7_main_v25_0 (V0 : Valuation τ sig (Elt F)) : val7 V0 (no_index (Proc.devRef .tc main_v25_0)) = V0 (Proc.devRef .tc main_v25_0) :=
  (val7_keep V0 main_v25_0 (by decide)).trans (val6_main_v25_0 V0)
theorem val7_main_v25_4 (V0 : Valuation τ sig (Elt F)) : val7 V0 (no_index (Proc.devRef .tc main_v25_4)) = V0 (Proc.devRef .tc main_v25_4) :=
  (val7_keep V0 main_v25_4 (by decide)).trans (val6_main_v25_4 V0)
theorem val7_main_v25_5 (V0 : Valuation τ sig (Elt F)) : val7 V0 (no_index (Proc.devRef .tc main_v25_5)) = V0 (Proc.devRef .tc main_v25_5) :=
  (val7_keep V0 main_v25_5 (by decide)).trans (val6_main_v25_5 V0)
theorem val7_main_v25_6 (V0 : Valuation τ sig (Elt F)) : val7 V0 (no_index (Proc.devRef .tc main_v25_6)) = V0 (Proc.devRef .tc main_v25_6) :=
  (val7_keep V0 main_v25_6 (by decide)).trans (val6_main_v25_6 V0)
theorem val7_main_v25_7 (V0 : Valuation τ sig (Elt F)) : val7 V0 (no_index (Proc.devRef .tc main_v25_7)) = V0 (Proc.devRef .tc main_v25_7) :=
  (val7_keep V0 main_v25_7 (by decide)).trans (val6_main_v25_7 V0)
theorem val7_main_v25_1 (V0 : Valuation τ sig (Elt F)) : val7 V0 (no_index (Proc.devRef .tc main_v25_1)) = V0 (Proc.devRef .tc main_v25_1) :=
  (val7_keep V0 main_v25_1 (by decide)).trans (val6_main_v25_1 V0)
theorem val7_main_while0b_v31 (V0 : Valuation τ sig (Elt F)) : val7 V0 (no_index (Proc.devRef .tc main_while0b_v31)) = addi (V0 (Proc.devRef .tc main_v25_2)) (constantI S_ 32 1#32) :=
  (val7_keep V0 main_while0b_v31 (by decide)).trans (val6_main_while0b_v31 V0)
theorem val7_main_while0b_v32 (V0 : Valuation τ sig (Elt F)) : val7 V0 (no_index (Proc.devRef .tc main_while0b_v32)) = res_main_while0b_v32 V0 :=
  (val7_keep V0 main_while0b_v32 (by decide)).trans (val6_main_while0b_v32 V0)
theorem val7_main_while0b_v33 (V0 : Valuation τ sig (Elt F)) : val7 V0 (no_index (Proc.devRef .tc main_while0b_v33)) = res_main_while0b_v33 V0 :=
  (val7_keep V0 main_while0b_v33 (by decide)).trans (val6_main_while0b_v33 V0)
theorem val7_main_while0b_v35 (V0 : Valuation τ sig (Elt F)) : val7 V0 (no_index (Proc.devRef .tc main_while0b_v35)) = res_main_while0b_v35 V0 :=
  (val7_keep V0 main_while0b_v35 (by decide)).trans (val6_main_while0b_v35 V0)
theorem val7_main_while0b_v36 (V0 : Valuation τ sig (Elt F)) : val7 V0 (no_index (Proc.devRef .tc main_while0b_v36)) = res_main_while0b_v36 V0 :=
  (val7_keep V0 main_while0b_v36 (by decide)).trans (val6_main_while0b_v36 V0)
set_option maxHeartbeats 2000000 in
theorem val7_main_while0b_v71 (V0 : Valuation τ sig (Elt F)) : val7 V0 (no_index (Proc.devRef .tc main_while0b_v71)) = res_main_while0b_v71 V0 := by
  unfold val7
  simp only [trip_w6]
  after_results_entrywise [val6_main_while0b_v50, val6_main_while0b_v60, val6_main_while0b_v59, val6_main_while0b_v43, val6_main_while0b_v57, res_main_while0b_v71, cast_eq]
set_option maxHeartbeats 2000000 in
theorem val7_main_while0b_v78 (V0 : Valuation τ sig (Elt F)) : val7 V0 (no_index (Proc.devRef .tc main_while0b_v78)) = maximumf (broadcastInDim S16 ![] bcast_S_S16 (constant S_ .f32 0x00000000#32)) (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16)) := by
  unfold val7
  simp only [trip_w6]
  after_results_entrywise [val6_main_while0b_v36, cast_eq]
set_option maxHeartbeats 2000000 in
theorem val7_main_while0b_v80 (V0 : Valuation τ sig (Elt F)) : val7 V0 (no_index (Proc.devRef .tc main_while0b_v80)) = shapeCast S16 (extractStridedSlice S16x1 ![0, 3] (res_main_while0b_v36 V0) slices_S16x4_S16x1_0_3) shapeCasts_S16x1_S16 := by
  unfold val7
  simp only [trip_w6]
  after_results_entrywise [val6_main_while0b_v36, cast_eq]
set_option maxHeartbeats 2000000 in
theorem val7_main_while0b_v81 (V0 : Valuation τ sig (Elt F)) : val7 V0 (no_index (Proc.devRef .tc main_while0b_v81)) = extractStridedSlice S16x1 ![0, 1] (res_main_while0b_v36 V0) slices_S16x4_S16x1_0_1 := by
  unfold val7
  simp only [trip_w6]
  after_results_entrywise [val6_main_while0b_v36, cast_eq]

/-- The device's buffer contents after the body's first 8 windows. -/
def val8 (V0 : Valuation τ sig (Elt F)) : Valuation τ sig (Elt F) := after trip_w7 (val7 V0)
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v25_2 (V0 : Valuation τ sig (Elt F)) : val8 V0 (no_index (Proc.devRef .tc main_v25_2)) = V0 (Proc.devRef .tc main_v25_2) :=
  (val8_keep V0 main_v25_2 (by decide)).trans (val7_main_v25_2 V0)
theorem val8_main_v25_3 (V0 : Valuation τ sig (Elt F)) : val8 V0 (no_index (Proc.devRef .tc main_v25_3)) = V0 (Proc.devRef .tc main_v25_3) :=
  (val8_keep V0 main_v25_3 (by decide)).trans (val7_main_v25_3 V0)
theorem val8_main_v25_0 (V0 : Valuation τ sig (Elt F)) : val8 V0 (no_index (Proc.devRef .tc main_v25_0)) = V0 (Proc.devRef .tc main_v25_0) :=
  (val8_keep V0 main_v25_0 (by decide)).trans (val7_main_v25_0 V0)
theorem val8_main_v25_4 (V0 : Valuation τ sig (Elt F)) : val8 V0 (no_index (Proc.devRef .tc main_v25_4)) = V0 (Proc.devRef .tc main_v25_4) :=
  (val8_keep V0 main_v25_4 (by decide)).trans (val7_main_v25_4 V0)
theorem val8_main_v25_5 (V0 : Valuation τ sig (Elt F)) : val8 V0 (no_index (Proc.devRef .tc main_v25_5)) = V0 (Proc.devRef .tc main_v25_5) :=
  (val8_keep V0 main_v25_5 (by decide)).trans (val7_main_v25_5 V0)
theorem val8_main_v25_6 (V0 : Valuation τ sig (Elt F)) : val8 V0 (no_index (Proc.devRef .tc main_v25_6)) = V0 (Proc.devRef .tc main_v25_6) :=
  (val8_keep V0 main_v25_6 (by decide)).trans (val7_main_v25_6 V0)
theorem val8_main_v25_7 (V0 : Valuation τ sig (Elt F)) : val8 V0 (no_index (Proc.devRef .tc main_v25_7)) = V0 (Proc.devRef .tc main_v25_7) :=
  (val8_keep V0 main_v25_7 (by decide)).trans (val7_main_v25_7 V0)
theorem val8_main_v25_1 (V0 : Valuation τ sig (Elt F)) : val8 V0 (no_index (Proc.devRef .tc main_v25_1)) = V0 (Proc.devRef .tc main_v25_1) :=
  (val8_keep V0 main_v25_1 (by decide)).trans (val7_main_v25_1 V0)
theorem val8_main_while0b_v31 (V0 : Valuation τ sig (Elt F)) : val8 V0 (no_index (Proc.devRef .tc main_while0b_v31)) = addi (V0 (Proc.devRef .tc main_v25_2)) (constantI S_ 32 1#32) :=
  (val8_keep V0 main_while0b_v31 (by decide)).trans (val7_main_while0b_v31 V0)
theorem val8_main_while0b_v32 (V0 : Valuation τ sig (Elt F)) : val8 V0 (no_index (Proc.devRef .tc main_while0b_v32)) = res_main_while0b_v32 V0 :=
  (val8_keep V0 main_while0b_v32 (by decide)).trans (val7_main_while0b_v32 V0)
theorem val8_main_while0b_v33 (V0 : Valuation τ sig (Elt F)) : val8 V0 (no_index (Proc.devRef .tc main_while0b_v33)) = res_main_while0b_v33 V0 :=
  (val8_keep V0 main_while0b_v33 (by decide)).trans (val7_main_while0b_v33 V0)
theorem val8_main_while0b_v35 (V0 : Valuation τ sig (Elt F)) : val8 V0 (no_index (Proc.devRef .tc main_while0b_v35)) = res_main_while0b_v35 V0 :=
  (val8_keep V0 main_while0b_v35 (by decide)).trans (val7_main_while0b_v35 V0)
theorem val8_main_while0b_v36 (V0 : Valuation τ sig (Elt F)) : val8 V0 (no_index (Proc.devRef .tc main_while0b_v36)) = res_main_while0b_v36 V0 :=
  (val8_keep V0 main_while0b_v36 (by decide)).trans (val7_main_while0b_v36 V0)
theorem val8_main_while0b_v71 (V0 : Valuation τ sig (Elt F)) : val8 V0 (no_index (Proc.devRef .tc main_while0b_v71)) = res_main_while0b_v71 V0 :=
  (val8_keep V0 main_while0b_v71 (by decide)).trans (val7_main_while0b_v71 V0)
set_option maxHeartbeats 2000000 in
theorem val8_main_while0b_v101 (V0 : Valuation τ sig (Elt F)) : val8 V0 (no_index (Proc.devRef .tc main_while0b_v101)) = mulf (maximumf (broadcastInDim S16x10647 ![] bcast_S_S16x10647 (constant S_ .f32 0x00000000#32)) (subf (shapeCast S16x10647 (extractStridedSlice S16x10647x1 ![0, 0, 2] (V0 (Proc.devRef .tc main_v25_0)) slices_S16x10647x4_S16x10647x1_0_0_2) shapeCasts_S16x10647x1_S16x10647) (shapeCast S16x10647 (extractStridedSlice S16x10647x1 ![0, 0, 0] (V0 (Proc.devRef .tc main_v25_0)) slices_S16x10647x4_S16x10647x1_0_0_0) shapeCasts_S16x10647x1_S16x10647))) (maximumf (broadcastInDim S16x10647 ![] bcast_S_S16x10647 (constant S_ .f32 0x00000000#32)) (subf (shapeCast S16x10647 (extractStridedSlice S16x10647x1 ![0, 0, 3] (V0 (Proc.devRef .tc main_v25_0)) slices_S16x10647x4_S16x10647x1_0_0_3) shapeCasts_S16x10647x1_S16x10647) (shapeCast S16x10647 (extractStridedSlice S16x10647x1 ![0, 0, 1] (V0 (Proc.devRef .tc main_v25_0)) slices_S16x10647x4_S16x10647x1_0_0_1) shapeCasts_S16x10647x1_S16x10647))) := by
  unfold val8
  simp only [trip_w7]
  after_results_entrywise [val7_main_v25_0, cast_eq]
set_option maxHeartbeats 2000000 in
theorem val8_main_while0b_v102 (V0 : Valuation τ sig (Elt F)) : val8 V0 (no_index (Proc.devRef .tc main_while0b_v102)) = broadcastInDim S16x1 ![0] bcast_S16_S16x1_0 (mulf (maximumf (broadcastInDim S16 ![] bcast_S_S16 (constant S_ .f32 0x00000000#32)) (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16))) (maximumf (broadcastInDim S16 ![] bcast_S_S16 (constant S_ .f32 0x00000000#32)) (subf (shapeCast S16 (extractStridedSlice S16x1 ![0, 3] (res_main_while0b_v36 V0) slices_S16x4_S16x1_0_3) shapeCasts_S16x1_S16) (shapeCast S16 (extractStridedSlice S16x1 ![0, 1] (res_main_while0b_v36 V0) slices_S16x4_S16x1_0_1) shapeCasts_S16x1_S16)))) := by
  unfold val8
  simp only [trip_w7]
  after_results_entrywise [val7_main_while0b_v81, val7_main_while0b_v80, val7_main_while0b_v78, cast_eq]

/-- The device's buffer contents after the body's first 9 windows. -/
def val9 (V0 : Valuation τ sig (Elt F)) : Valuation τ sig (Elt F) := after trip_w8 (val8 V0)
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v25_2 (V0 : Valuation τ sig (Elt F)) : val9 V0 (no_index (Proc.devRef .tc main_v25_2)) = V0 (Proc.devRef .tc main_v25_2) :=
  (val9_keep V0 main_v25_2 (by decide)).trans (val8_main_v25_2 V0)
theorem val9_main_v25_3 (V0 : Valuation τ sig (Elt F)) : val9 V0 (no_index (Proc.devRef .tc main_v25_3)) = V0 (Proc.devRef .tc main_v25_3) :=
  (val9_keep V0 main_v25_3 (by decide)).trans (val8_main_v25_3 V0)
theorem val9_main_v25_0 (V0 : Valuation τ sig (Elt F)) : val9 V0 (no_index (Proc.devRef .tc main_v25_0)) = V0 (Proc.devRef .tc main_v25_0) :=
  (val9_keep V0 main_v25_0 (by decide)).trans (val8_main_v25_0 V0)
theorem val9_main_v25_4 (V0 : Valuation τ sig (Elt F)) : val9 V0 (no_index (Proc.devRef .tc main_v25_4)) = V0 (Proc.devRef .tc main_v25_4) :=
  (val9_keep V0 main_v25_4 (by decide)).trans (val8_main_v25_4 V0)
theorem val9_main_v25_5 (V0 : Valuation τ sig (Elt F)) : val9 V0 (no_index (Proc.devRef .tc main_v25_5)) = V0 (Proc.devRef .tc main_v25_5) :=
  (val9_keep V0 main_v25_5 (by decide)).trans (val8_main_v25_5 V0)
theorem val9_main_v25_6 (V0 : Valuation τ sig (Elt F)) : val9 V0 (no_index (Proc.devRef .tc main_v25_6)) = V0 (Proc.devRef .tc main_v25_6) :=
  (val9_keep V0 main_v25_6 (by decide)).trans (val8_main_v25_6 V0)
theorem val9_main_v25_7 (V0 : Valuation τ sig (Elt F)) : val9 V0 (no_index (Proc.devRef .tc main_v25_7)) = V0 (Proc.devRef .tc main_v25_7) :=
  (val9_keep V0 main_v25_7 (by decide)).trans (val8_main_v25_7 V0)
theorem val9_main_v25_1 (V0 : Valuation τ sig (Elt F)) : val9 V0 (no_index (Proc.devRef .tc main_v25_1)) = V0 (Proc.devRef .tc main_v25_1) :=
  (val9_keep V0 main_v25_1 (by decide)).trans (val8_main_v25_1 V0)
theorem val9_main_while0b_v31 (V0 : Valuation τ sig (Elt F)) : val9 V0 (no_index (Proc.devRef .tc main_while0b_v31)) = addi (V0 (Proc.devRef .tc main_v25_2)) (constantI S_ 32 1#32) :=
  (val9_keep V0 main_while0b_v31 (by decide)).trans (val8_main_while0b_v31 V0)
theorem val9_main_while0b_v32 (V0 : Valuation τ sig (Elt F)) : val9 V0 (no_index (Proc.devRef .tc main_while0b_v32)) = res_main_while0b_v32 V0 :=
  (val9_keep V0 main_while0b_v32 (by decide)).trans (val8_main_while0b_v32 V0)
theorem val9_main_while0b_v33 (V0 : Valuation τ sig (Elt F)) : val9 V0 (no_index (Proc.devRef .tc main_while0b_v33)) = res_main_while0b_v33 V0 :=
  (val9_keep V0 main_while0b_v33 (by decide)).trans (val8_main_while0b_v33 V0)
theorem val9_main_while0b_v35 (V0 : Valuation τ sig (Elt F)) : val9 V0 (no_index (Proc.devRef .tc main_while0b_v35)) = res_main_while0b_v35 V0 :=
  (val9_keep V0 main_while0b_v35 (by decide)).trans (val8_main_while0b_v35 V0)
theorem val9_main_while0b_v36 (V0 : Valuation τ sig (Elt F)) : val9 V0 (no_index (Proc.devRef .tc main_while0b_v36)) = res_main_while0b_v36 V0 :=
  (val9_keep V0 main_while0b_v36 (by decide)).trans (val8_main_while0b_v36 V0)
theorem val9_main_while0b_v107 (V0 : Valuation τ sig (Elt F)) : val9 V0 (no_index (Proc.devRef .tc main_while0b_v107)) = cmpf .ogt (res_main_while0b_v105 V0) (broadcastInDim S16x10647 ![] bcast_S_S16x10647 (constant S_ .f32 0x00000000#32)) := by
  unfold val9
  simp only [trip_w8]
  after_results_entrywise [val8_main_while0b_v71, val8_main_while0b_v101, val8_main_while0b_v102, res_main_while0b_v105, cast_eq]
theorem val9_main_while0b_v108 (V0 : Valuation τ sig (Elt F)) : val9 V0 (no_index (Proc.devRef .tc main_while0b_v108)) = Host.divf (res_main_while0b_v71 V0) (res_main_while0b_v105 V0) := by
  unfold val9
  simp only [trip_w8]
  after_results_entrywise [val8_main_while0b_v101, val8_main_while0b_v102, val8_main_while0b_v71, res_main_while0b_v105, cast_eq]
theorem val9_main_while0b_cst_22 (V0 : Valuation τ sig (Elt F)) : val9 V0 (no_index (Proc.devRef .tc main_while0b_cst_22)) = constant S_ .f32 0x00000000#32 := by
  unfold val9
  simp only [trip_w8]
  after_results_entrywise [cast_eq]

/-- The device's buffer contents after the body's first 10 windows. -/
def val10 (V0 : Valuation τ sig (Elt F)) : Valuation τ sig (Elt F) := after trip_w9 (val9 V0)
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v25_2 (V0 : Valuation τ sig (Elt F)) : val10 V0 (no_index (Proc.devRef .tc main_v25_2)) = V0 (Proc.devRef .tc main_v25_2) :=
  (val10_keep V0 main_v25_2 (by decide)).trans (val9_main_v25_2 V0)
theorem val10_main_v25_3 (V0 : Valuation τ sig (Elt F)) : val10 V0 (no_index (Proc.devRef .tc main_v25_3)) = V0 (Proc.devRef .tc main_v25_3) :=
  (val10_keep V0 main_v25_3 (by decide)).trans (val9_main_v25_3 V0)
theorem val10_main_v25_0 (V0 : Valuation τ sig (Elt F)) : val10 V0 (no_index (Proc.devRef .tc main_v25_0)) = V0 (Proc.devRef .tc main_v25_0) :=
  (val10_keep V0 main_v25_0 (by decide)).trans (val9_main_v25_0 V0)
theorem val10_main_v25_4 (V0 : Valuation τ sig (Elt F)) : val10 V0 (no_index (Proc.devRef .tc main_v25_4)) = V0 (Proc.devRef .tc main_v25_4) :=
  (val10_keep V0 main_v25_4 (by decide)).trans (val9_main_v25_4 V0)
theorem val10_main_v25_5 (V0 : Valuation τ sig (Elt F)) : val10 V0 (no_index (Proc.devRef .tc main_v25_5)) = V0 (Proc.devRef .tc main_v25_5) :=
  (val10_keep V0 main_v25_5 (by decide)).trans (val9_main_v25_5 V0)
theorem val10_main_v25_6 (V0 : Valuation τ sig (Elt F)) : val10 V0 (no_index (Proc.devRef .tc main_v25_6)) = V0 (Proc.devRef .tc main_v25_6) :=
  (val10_keep V0 main_v25_6 (by decide)).trans (val9_main_v25_6 V0)
theorem val10_main_v25_7 (V0 : Valuation τ sig (Elt F)) : val10 V0 (no_index (Proc.devRef .tc main_v25_7)) = V0 (Proc.devRef .tc main_v25_7) :=
  (val10_keep V0 main_v25_7 (by decide)).trans (val9_main_v25_7 V0)
theorem val10_main_v25_1 (V0 : Valuation τ sig (Elt F)) : val10 V0 (no_index (Proc.devRef .tc main_v25_1)) = V0 (Proc.devRef .tc main_v25_1) :=
  (val10_keep V0 main_v25_1 (by decide)).trans (val9_main_v25_1 V0)
theorem val10_main_while0b_v31 (V0 : Valuation τ sig (Elt F)) : val10 V0 (no_index (Proc.devRef .tc main_while0b_v31)) = addi (V0 (Proc.devRef .tc main_v25_2)) (constantI S_ 32 1#32) :=
  (val10_keep V0 main_while0b_v31 (by decide)).trans (val9_main_while0b_v31 V0)
theorem val10_main_while0b_v32 (V0 : Valuation τ sig (Elt F)) : val10 V0 (no_index (Proc.devRef .tc main_while0b_v32)) = res_main_while0b_v32 V0 :=
  (val10_keep V0 main_while0b_v32 (by decide)).trans (val9_main_while0b_v32 V0)
theorem val10_main_while0b_v33 (V0 : Valuation τ sig (Elt F)) : val10 V0 (no_index (Proc.devRef .tc main_while0b_v33)) = res_main_while0b_v33 V0 :=
  (val10_keep V0 main_while0b_v33 (by decide)).trans (val9_main_while0b_v33 V0)
theorem val10_main_while0b_v35 (V0 : Valuation τ sig (Elt F)) : val10 V0 (no_index (Proc.devRef .tc main_while0b_v35)) = res_main_while0b_v35 V0 :=
  (val10_keep V0 main_while0b_v35 (by decide)).trans (val9_main_while0b_v35 V0)
theorem val10_main_while0b_v36 (V0 : Valuation τ sig (Elt F)) : val10 V0 (no_index (Proc.devRef .tc main_while0b_v36)) = res_main_while0b_v36 V0 :=
  (val10_keep V0 main_while0b_v36 (by decide)).trans (val9_main_while0b_v36 V0)
theorem val10_main_while0b_v109 (V0 : Valuation τ sig (Elt F)) : val10 V0 (no_index (Proc.devRef .tc main_while0b_v109)) = select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32)))) := by
  unfold val10
  simp only [trip_w9]
  after_results_entrywise [val9_main_while0b_cst_22, val9_main_while0b_v108, val9_main_while0b_v107, cast_eq]

/-- The device's buffer contents after the body's first 11 windows. -/
def val11 (V0 : Valuation τ sig (Elt F)) : Valuation τ sig (Elt F) := after trip_w10 (val10 V0)
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v25_2 (V0 : Valuation τ sig (Elt F)) : val11 V0 (no_index (Proc.devRef .tc main_v25_2)) = V0 (Proc.devRef .tc main_v25_2) :=
  (val11_keep V0 main_v25_2 (by decide)).trans (val10_main_v25_2 V0)
theorem val11_main_v25_3 (V0 : Valuation τ sig (Elt F)) : val11 V0 (no_index (Proc.devRef .tc main_v25_3)) = V0 (Proc.devRef .tc main_v25_3) :=
  (val11_keep V0 main_v25_3 (by decide)).trans (val10_main_v25_3 V0)
theorem val11_main_v25_0 (V0 : Valuation τ sig (Elt F)) : val11 V0 (no_index (Proc.devRef .tc main_v25_0)) = V0 (Proc.devRef .tc main_v25_0) :=
  (val11_keep V0 main_v25_0 (by decide)).trans (val10_main_v25_0 V0)
theorem val11_main_v25_4 (V0 : Valuation τ sig (Elt F)) : val11 V0 (no_index (Proc.devRef .tc main_v25_4)) = V0 (Proc.devRef .tc main_v25_4) :=
  (val11_keep V0 main_v25_4 (by decide)).trans (val10_main_v25_4 V0)
theorem val11_main_v25_5 (V0 : Valuation τ sig (Elt F)) : val11 V0 (no_index (Proc.devRef .tc main_v25_5)) = V0 (Proc.devRef .tc main_v25_5) :=
  (val11_keep V0 main_v25_5 (by decide)).trans (val10_main_v25_5 V0)
theorem val11_main_v25_6 (V0 : Valuation τ sig (Elt F)) : val11 V0 (no_index (Proc.devRef .tc main_v25_6)) = V0 (Proc.devRef .tc main_v25_6) :=
  (val11_keep V0 main_v25_6 (by decide)).trans (val10_main_v25_6 V0)
theorem val11_main_v25_7 (V0 : Valuation τ sig (Elt F)) : val11 V0 (no_index (Proc.devRef .tc main_v25_7)) = V0 (Proc.devRef .tc main_v25_7) :=
  (val11_keep V0 main_v25_7 (by decide)).trans (val10_main_v25_7 V0)
theorem val11_main_v25_1 (V0 : Valuation τ sig (Elt F)) : val11 V0 (no_index (Proc.devRef .tc main_v25_1)) = V0 (Proc.devRef .tc main_v25_1) :=
  (val11_keep V0 main_v25_1 (by decide)).trans (val10_main_v25_1 V0)
theorem val11_main_while0b_v31 (V0 : Valuation τ sig (Elt F)) : val11 V0 (no_index (Proc.devRef .tc main_while0b_v31)) = addi (V0 (Proc.devRef .tc main_v25_2)) (constantI S_ 32 1#32) :=
  (val11_keep V0 main_while0b_v31 (by decide)).trans (val10_main_while0b_v31 V0)
theorem val11_main_while0b_v32 (V0 : Valuation τ sig (Elt F)) : val11 V0 (no_index (Proc.devRef .tc main_while0b_v32)) = res_main_while0b_v32 V0 :=
  (val11_keep V0 main_while0b_v32 (by decide)).trans (val10_main_while0b_v32 V0)
theorem val11_main_while0b_v33 (V0 : Valuation τ sig (Elt F)) : val11 V0 (no_index (Proc.devRef .tc main_while0b_v33)) = res_main_while0b_v33 V0 :=
  (val11_keep V0 main_while0b_v33 (by decide)).trans (val10_main_while0b_v33 V0)
theorem val11_main_while0b_v35 (V0 : Valuation τ sig (Elt F)) : val11 V0 (no_index (Proc.devRef .tc main_while0b_v35)) = res_main_while0b_v35 V0 :=
  (val11_keep V0 main_while0b_v35 (by decide)).trans (val10_main_while0b_v35 V0)
theorem val11_main_while0b_v36 (V0 : Valuation τ sig (Elt F)) : val11 V0 (no_index (Proc.devRef .tc main_while0b_v36)) = res_main_while0b_v36 V0 :=
  (val11_keep V0 main_while0b_v36 (by decide)).trans (val10_main_while0b_v36 V0)
theorem val11_main_while0b_v111 (V0 : Valuation τ sig (Elt F)) : val11 V0 (no_index (Proc.devRef .tc main_while0b_v111)) = cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32)) := by
  unfold val11
  simp only [trip_w10]
  after_results_entrywise [val10_main_while0b_v109, cast_eq]
theorem val11_main_while0b_cst_24 (V0 : Valuation τ sig (Elt F)) : val11 V0 (no_index (Proc.devRef .tc main_while0b_cst_24)) = constant S_ .f32 0xF149F2CA#32 := by
  unfold val11
  simp only [trip_w10]
  after_results_entrywise [cast_eq]

/-- The device's buffer contents after the body's first 12 windows. -/
def val12 (V0 : Valuation τ sig (Elt F)) : Valuation τ sig (Elt F) := after trip_w11 (val11 V0)
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v25_2 (V0 : Valuation τ sig (Elt F)) : val12 V0 (no_index (Proc.devRef .tc main_v25_2)) = V0 (Proc.devRef .tc main_v25_2) :=
  (val12_keep V0 main_v25_2 (by decide)).trans (val11_main_v25_2 V0)
theorem val12_main_v25_3 (V0 : Valuation τ sig (Elt F)) : val12 V0 (no_index (Proc.devRef .tc main_v25_3)) = V0 (Proc.devRef .tc main_v25_3) :=
  (val12_keep V0 main_v25_3 (by decide)).trans (val11_main_v25_3 V0)
theorem val12_main_v25_0 (V0 : Valuation τ sig (Elt F)) : val12 V0 (no_index (Proc.devRef .tc main_v25_0)) = V0 (Proc.devRef .tc main_v25_0) :=
  (val12_keep V0 main_v25_0 (by decide)).trans (val11_main_v25_0 V0)
theorem val12_main_v25_4 (V0 : Valuation τ sig (Elt F)) : val12 V0 (no_index (Proc.devRef .tc main_v25_4)) = V0 (Proc.devRef .tc main_v25_4) :=
  (val12_keep V0 main_v25_4 (by decide)).trans (val11_main_v25_4 V0)
theorem val12_main_v25_5 (V0 : Valuation τ sig (Elt F)) : val12 V0 (no_index (Proc.devRef .tc main_v25_5)) = V0 (Proc.devRef .tc main_v25_5) :=
  (val12_keep V0 main_v25_5 (by decide)).trans (val11_main_v25_5 V0)
theorem val12_main_v25_6 (V0 : Valuation τ sig (Elt F)) : val12 V0 (no_index (Proc.devRef .tc main_v25_6)) = V0 (Proc.devRef .tc main_v25_6) :=
  (val12_keep V0 main_v25_6 (by decide)).trans (val11_main_v25_6 V0)
theorem val12_main_v25_7 (V0 : Valuation τ sig (Elt F)) : val12 V0 (no_index (Proc.devRef .tc main_v25_7)) = V0 (Proc.devRef .tc main_v25_7) :=
  (val12_keep V0 main_v25_7 (by decide)).trans (val11_main_v25_7 V0)
theorem val12_main_v25_1 (V0 : Valuation τ sig (Elt F)) : val12 V0 (no_index (Proc.devRef .tc main_v25_1)) = V0 (Proc.devRef .tc main_v25_1) :=
  (val12_keep V0 main_v25_1 (by decide)).trans (val11_main_v25_1 V0)
theorem val12_main_while0b_v31 (V0 : Valuation τ sig (Elt F)) : val12 V0 (no_index (Proc.devRef .tc main_while0b_v31)) = addi (V0 (Proc.devRef .tc main_v25_2)) (constantI S_ 32 1#32) :=
  (val12_keep V0 main_while0b_v31 (by decide)).trans (val11_main_while0b_v31 V0)
theorem val12_main_while0b_v32 (V0 : Valuation τ sig (Elt F)) : val12 V0 (no_index (Proc.devRef .tc main_while0b_v32)) = res_main_while0b_v32 V0 :=
  (val12_keep V0 main_while0b_v32 (by decide)).trans (val11_main_while0b_v32 V0)
theorem val12_main_while0b_v33 (V0 : Valuation τ sig (Elt F)) : val12 V0 (no_index (Proc.devRef .tc main_while0b_v33)) = res_main_while0b_v33 V0 :=
  (val12_keep V0 main_while0b_v33 (by decide)).trans (val11_main_while0b_v33 V0)
theorem val12_main_while0b_v35 (V0 : Valuation τ sig (Elt F)) : val12 V0 (no_index (Proc.devRef .tc main_while0b_v35)) = res_main_while0b_v35 V0 :=
  (val12_keep V0 main_while0b_v35 (by decide)).trans (val11_main_while0b_v35 V0)
theorem val12_main_while0b_v36 (V0 : Valuation τ sig (Elt F)) : val12 V0 (no_index (Proc.devRef .tc main_while0b_v36)) = res_main_while0b_v36 V0 :=
  (val12_keep V0 main_while0b_v36 (by decide)).trans (val11_main_while0b_v36 V0)
theorem val12_main_while0b_v112 (V0 : Valuation τ sig (Elt F)) : val12 V0 (no_index (Proc.devRef .tc main_while0b_v112)) = select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)) := by
  unfold val12
  simp only [trip_w11]
  after_results_entrywise [val11_main_v25_3, val11_main_while0b_cst_24, val11_main_while0b_v111, cast_eq]

/-- The device's buffer contents after the body's first 13 windows. -/
def val13 (V0 : Valuation τ sig (Elt F)) : Valuation τ sig (Elt F) := after trip_w12 (val12 V0)
/-- A buffer that window `trip_w12` does not write keeps its contents through it. -/
theorem val13_keep (V0 : Valuation τ sig (Elt F)) (r : Ref sig .tc) (h : r ∉ trip_w12_W) :
    val13 V0 (Proc.devRef .tc r) = val12 V0 (Proc.devRef .tc r) :=
  after_of_writes_sub trip_w12 _ trip_w12_writes h
theorem val13_main_v25_2 (V0 : Valuation τ sig (Elt F)) : val13 V0 (no_index (Proc.devRef .tc main_v25_2)) = V0 (Proc.devRef .tc main_v25_2) :=
  (val13_keep V0 main_v25_2 (by decide)).trans (val12_main_v25_2 V0)
theorem val13_main_v25_3 (V0 : Valuation τ sig (Elt F)) : val13 V0 (no_index (Proc.devRef .tc main_v25_3)) = V0 (Proc.devRef .tc main_v25_3) :=
  (val13_keep V0 main_v25_3 (by decide)).trans (val12_main_v25_3 V0)
theorem val13_main_v25_0 (V0 : Valuation τ sig (Elt F)) : val13 V0 (no_index (Proc.devRef .tc main_v25_0)) = V0 (Proc.devRef .tc main_v25_0) :=
  (val13_keep V0 main_v25_0 (by decide)).trans (val12_main_v25_0 V0)
theorem val13_main_v25_4 (V0 : Valuation τ sig (Elt F)) : val13 V0 (no_index (Proc.devRef .tc main_v25_4)) = V0 (Proc.devRef .tc main_v25_4) :=
  (val13_keep V0 main_v25_4 (by decide)).trans (val12_main_v25_4 V0)
theorem val13_main_v25_5 (V0 : Valuation τ sig (Elt F)) : val13 V0 (no_index (Proc.devRef .tc main_v25_5)) = V0 (Proc.devRef .tc main_v25_5) :=
  (val13_keep V0 main_v25_5 (by decide)).trans (val12_main_v25_5 V0)
theorem val13_main_v25_6 (V0 : Valuation τ sig (Elt F)) : val13 V0 (no_index (Proc.devRef .tc main_v25_6)) = V0 (Proc.devRef .tc main_v25_6) :=
  (val13_keep V0 main_v25_6 (by decide)).trans (val12_main_v25_6 V0)
theorem val13_main_v25_7 (V0 : Valuation τ sig (Elt F)) : val13 V0 (no_index (Proc.devRef .tc main_v25_7)) = V0 (Proc.devRef .tc main_v25_7) :=
  (val13_keep V0 main_v25_7 (by decide)).trans (val12_main_v25_7 V0)
theorem val13_main_v25_1 (V0 : Valuation τ sig (Elt F)) : val13 V0 (no_index (Proc.devRef .tc main_v25_1)) = V0 (Proc.devRef .tc main_v25_1) :=
  (val13_keep V0 main_v25_1 (by decide)).trans (val12_main_v25_1 V0)
theorem val13_main_while0b_v31 (V0 : Valuation τ sig (Elt F)) : val13 V0 (no_index (Proc.devRef .tc main_while0b_v31)) = addi (V0 (Proc.devRef .tc main_v25_2)) (constantI S_ 32 1#32) :=
  (val13_keep V0 main_while0b_v31 (by decide)).trans (val12_main_while0b_v31 V0)
theorem val13_main_while0b_v33 (V0 : Valuation τ sig (Elt F)) : val13 V0 (no_index (Proc.devRef .tc main_while0b_v33)) = res_main_while0b_v33 V0 :=
  (val13_keep V0 main_while0b_v33 (by decide)).trans (val12_main_while0b_v33 V0)
theorem val13_main_while0b_v35 (V0 : Valuation τ sig (Elt F)) : val13 V0 (no_index (Proc.devRef .tc main_while0b_v35)) = res_main_while0b_v35 V0 :=
  (val13_keep V0 main_while0b_v35 (by decide)).trans (val12_main_while0b_v35 V0)
theorem val13_main_while0b_v36 (V0 : Valuation τ sig (Elt F)) : val13 V0 (no_index (Proc.devRef .tc main_while0b_v36)) = res_main_while0b_v36 V0 :=
  (val13_keep V0 main_while0b_v36 (by decide)).trans (val12_main_while0b_v36 V0)
theorem val13_main_while0b_v112 (V0 : Valuation τ sig (Elt F)) : val13 V0 (no_index (Proc.devRef .tc main_while0b_v112)) = select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)) :=
  (val13_keep V0 main_while0b_v112 (by decide)).trans (val12_main_while0b_v112 V0)
theorem val13_main_while0b_v118 (V0 : Valuation τ sig (Elt F)) : val13 V0 (no_index (Proc.devRef .tc main_while0b_v118)) = cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0))) := by
  unfold val13
  simp only [trip_w12]
  after_results_entrywise [val12_main_while0b_v32, cast_eq]
theorem val13_main_while0b_cst_25 (V0 : Valuation τ sig (Elt F)) : val13 V0 (no_index (Proc.devRef .tc main_while0b_cst_25)) = constant S_ .f32 0xF149F2CA#32 := by
  unfold val13
  simp only [trip_w12]
  after_results_entrywise [cast_eq]

/-- The device's buffer contents after the body's first 14 windows. -/
def val14 (V0 : Valuation τ sig (Elt F)) : Valuation τ sig (Elt F) := after trip_w13 (val13 V0)
/-- A buffer that window `trip_w13` does not write keeps its contents through it. -/
theorem val14_keep (V0 : Valuation τ sig (Elt F)) (r : Ref sig .tc) (h : r ∉ trip_w13_W) :
    val14 V0 (Proc.devRef .tc r) = val13 V0 (Proc.devRef .tc r) :=
  after_of_writes_sub trip_w13 _ trip_w13_writes h
theorem val14_main_v25_2 (V0 : Valuation τ sig (Elt F)) : val14 V0 (no_index (Proc.devRef .tc main_v25_2)) = V0 (Proc.devRef .tc main_v25_2) :=
  (val14_keep V0 main_v25_2 (by decide)).trans (val13_main_v25_2 V0)
theorem val14_main_v25_3 (V0 : Valuation τ sig (Elt F)) : val14 V0 (no_index (Proc.devRef .tc main_v25_3)) = V0 (Proc.devRef .tc main_v25_3) :=
  (val14_keep V0 main_v25_3 (by decide)).trans (val13_main_v25_3 V0)
theorem val14_main_v25_0 (V0 : Valuation τ sig (Elt F)) : val14 V0 (no_index (Proc.devRef .tc main_v25_0)) = V0 (Proc.devRef .tc main_v25_0) :=
  (val14_keep V0 main_v25_0 (by decide)).trans (val13_main_v25_0 V0)
theorem val14_main_v25_4 (V0 : Valuation τ sig (Elt F)) : val14 V0 (no_index (Proc.devRef .tc main_v25_4)) = V0 (Proc.devRef .tc main_v25_4) :=
  (val14_keep V0 main_v25_4 (by decide)).trans (val13_main_v25_4 V0)
theorem val14_main_v25_5 (V0 : Valuation τ sig (Elt F)) : val14 V0 (no_index (Proc.devRef .tc main_v25_5)) = V0 (Proc.devRef .tc main_v25_5) :=
  (val14_keep V0 main_v25_5 (by decide)).trans (val13_main_v25_5 V0)
theorem val14_main_v25_6 (V0 : Valuation τ sig (Elt F)) : val14 V0 (no_index (Proc.devRef .tc main_v25_6)) = V0 (Proc.devRef .tc main_v25_6) :=
  (val14_keep V0 main_v25_6 (by decide)).trans (val13_main_v25_6 V0)
theorem val14_main_v25_7 (V0 : Valuation τ sig (Elt F)) : val14 V0 (no_index (Proc.devRef .tc main_v25_7)) = V0 (Proc.devRef .tc main_v25_7) :=
  (val14_keep V0 main_v25_7 (by decide)).trans (val13_main_v25_7 V0)
theorem val14_main_v25_1 (V0 : Valuation τ sig (Elt F)) : val14 V0 (no_index (Proc.devRef .tc main_v25_1)) = V0 (Proc.devRef .tc main_v25_1) :=
  (val14_keep V0 main_v25_1 (by decide)).trans (val13_main_v25_1 V0)
theorem val14_main_while0b_v31 (V0 : Valuation τ sig (Elt F)) : val14 V0 (no_index (Proc.devRef .tc main_while0b_v31)) = addi (V0 (Proc.devRef .tc main_v25_2)) (constantI S_ 32 1#32) :=
  (val14_keep V0 main_while0b_v31 (by decide)).trans (val13_main_while0b_v31 V0)
theorem val14_main_while0b_v33 (V0 : Valuation τ sig (Elt F)) : val14 V0 (no_index (Proc.devRef .tc main_while0b_v33)) = res_main_while0b_v33 V0 :=
  (val14_keep V0 main_while0b_v33 (by decide)).trans (val13_main_while0b_v33 V0)
theorem val14_main_while0b_v35 (V0 : Valuation τ sig (Elt F)) : val14 V0 (no_index (Proc.devRef .tc main_while0b_v35)) = res_main_while0b_v35 V0 :=
  (val14_keep V0 main_while0b_v35 (by decide)).trans (val13_main_while0b_v35 V0)
theorem val14_main_while0b_v36 (V0 : Valuation τ sig (Elt F)) : val14 V0 (no_index (Proc.devRef .tc main_while0b_v36)) = res_main_while0b_v36 V0 :=
  (val14_keep V0 main_while0b_v36 (by decide)).trans (val13_main_while0b_v36 V0)
theorem val14_main_while0b_v119 (V0 : Valuation τ sig (Elt F)) : val14 V0 (no_index (Proc.devRef .tc main_while0b_v119)) = select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3))) := by
  unfold val14
  simp only [trip_w13]
  after_results_entrywise [val13_main_while0b_v112, val13_main_while0b_cst_25, val13_main_while0b_v118, cast_eq]

/-- The device's buffer contents after the body's first 15 windows. -/
def val15 (V0 : Valuation τ sig (Elt F)) : Valuation τ sig (Elt F) := after trip_w14 (val14 V0)
/-- A buffer that window `trip_w14` does not write keeps its contents through it. -/
theorem val15_keep (V0 : Valuation τ sig (Elt F)) (r : Ref sig .tc) (h : r ∉ trip_w14_W) :
    val15 V0 (Proc.devRef .tc r) = val14 V0 (Proc.devRef .tc r) :=
  after_of_writes_sub trip_w14 _ trip_w14_writes h
theorem val15_main_v25_2 (V0 : Valuation τ sig (Elt F)) : val15 V0 (no_index (Proc.devRef .tc main_v25_2)) = V0 (Proc.devRef .tc main_v25_2) :=
  (val15_keep V0 main_v25_2 (by decide)).trans (val14_main_v25_2 V0)
theorem val15_main_v25_3 (V0 : Valuation τ sig (Elt F)) : val15 V0 (no_index (Proc.devRef .tc main_v25_3)) = V0 (Proc.devRef .tc main_v25_3) :=
  (val15_keep V0 main_v25_3 (by decide)).trans (val14_main_v25_3 V0)
theorem val15_main_v25_0 (V0 : Valuation τ sig (Elt F)) : val15 V0 (no_index (Proc.devRef .tc main_v25_0)) = V0 (Proc.devRef .tc main_v25_0) :=
  (val15_keep V0 main_v25_0 (by decide)).trans (val14_main_v25_0 V0)
theorem val15_main_v25_4 (V0 : Valuation τ sig (Elt F)) : val15 V0 (no_index (Proc.devRef .tc main_v25_4)) = V0 (Proc.devRef .tc main_v25_4) :=
  (val15_keep V0 main_v25_4 (by decide)).trans (val14_main_v25_4 V0)
theorem val15_main_v25_5 (V0 : Valuation τ sig (Elt F)) : val15 V0 (no_index (Proc.devRef .tc main_v25_5)) = V0 (Proc.devRef .tc main_v25_5) :=
  (val15_keep V0 main_v25_5 (by decide)).trans (val14_main_v25_5 V0)
theorem val15_main_v25_6 (V0 : Valuation τ sig (Elt F)) : val15 V0 (no_index (Proc.devRef .tc main_v25_6)) = V0 (Proc.devRef .tc main_v25_6) :=
  (val15_keep V0 main_v25_6 (by decide)).trans (val14_main_v25_6 V0)
theorem val15_main_v25_7 (V0 : Valuation τ sig (Elt F)) : val15 V0 (no_index (Proc.devRef .tc main_v25_7)) = V0 (Proc.devRef .tc main_v25_7) :=
  (val15_keep V0 main_v25_7 (by decide)).trans (val14_main_v25_7 V0)
theorem val15_main_v25_1 (V0 : Valuation τ sig (Elt F)) : val15 V0 (no_index (Proc.devRef .tc main_v25_1)) = V0 (Proc.devRef .tc main_v25_1) :=
  (val15_keep V0 main_v25_1 (by decide)).trans (val14_main_v25_1 V0)
theorem val15_main_while0b_v31 (V0 : Valuation τ sig (Elt F)) : val15 V0 (no_index (Proc.devRef .tc main_while0b_v31)) = addi (V0 (Proc.devRef .tc main_v25_2)) (constantI S_ 32 1#32) :=
  (val15_keep V0 main_while0b_v31 (by decide)).trans (val14_main_while0b_v31 V0)
theorem val15_main_while0b_v33 (V0 : Valuation τ sig (Elt F)) : val15 V0 (no_index (Proc.devRef .tc main_while0b_v33)) = res_main_while0b_v33 V0 :=
  (val15_keep V0 main_while0b_v33 (by decide)).trans (val14_main_while0b_v33 V0)
theorem val15_main_while0b_v35 (V0 : Valuation τ sig (Elt F)) : val15 V0 (no_index (Proc.devRef .tc main_while0b_v35)) = res_main_while0b_v35 V0 :=
  (val15_keep V0 main_while0b_v35 (by decide)).trans (val14_main_while0b_v35 V0)
theorem val15_main_while0b_v36 (V0 : Valuation τ sig (Elt F)) : val15 V0 (no_index (Proc.devRef .tc main_while0b_v36)) = res_main_while0b_v36 V0 :=
  (val15_keep V0 main_while0b_v36 (by decide)).trans (val14_main_while0b_v36 V0)
theorem val15_main_while0b_v120 (V0 : Valuation τ sig (Elt F)) : val15 V0 (no_index (Proc.devRef .tc main_while0b_v120)) = select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3)) := by
  unfold val15
  simp only [trip_w14]
  after_results_entrywise [val14_main_v25_3, val14_main_while0b_v119, val14_main_while0b_v35, cast_eq]

/-- The device's buffer contents after the body's first 16 windows. -/
def val16 (V0 : Valuation τ sig (Elt F)) : Valuation τ sig (Elt F) := after trip_w15 (val15 V0)
/-- A buffer that window `trip_w15` does not write keeps its contents through it. -/
theorem val16_keep (V0 : Valuation τ sig (Elt F)) (r : Ref sig .tc) (h : r ∉ trip_w15_W) :
    val16 V0 (Proc.devRef .tc r) = val15 V0 (Proc.devRef .tc r) :=
  after_of_writes_sub trip_w15 _ trip_w15_writes h
theorem val16_main_v25_2 (V0 : Valuation τ sig (Elt F)) : val16 V0 (no_index (Proc.devRef .tc main_v25_2)) = V0 (Proc.devRef .tc main_v25_2) :=
  (val16_keep V0 main_v25_2 (by decide)).trans (val15_main_v25_2 V0)
theorem val16_main_v25_3 (V0 : Valuation τ sig (Elt F)) : val16 V0 (no_index (Proc.devRef .tc main_v25_3)) = V0 (Proc.devRef .tc main_v25_3) :=
  (val16_keep V0 main_v25_3 (by decide)).trans (val15_main_v25_3 V0)
theorem val16_main_v25_0 (V0 : Valuation τ sig (Elt F)) : val16 V0 (no_index (Proc.devRef .tc main_v25_0)) = V0 (Proc.devRef .tc main_v25_0) :=
  (val16_keep V0 main_v25_0 (by decide)).trans (val15_main_v25_0 V0)
theorem val16_main_v25_4 (V0 : Valuation τ sig (Elt F)) : val16 V0 (no_index (Proc.devRef .tc main_v25_4)) = V0 (Proc.devRef .tc main_v25_4) :=
  (val16_keep V0 main_v25_4 (by decide)).trans (val15_main_v25_4 V0)
theorem val16_main_v25_5 (V0 : Valuation τ sig (Elt F)) : val16 V0 (no_index (Proc.devRef .tc main_v25_5)) = V0 (Proc.devRef .tc main_v25_5) :=
  (val16_keep V0 main_v25_5 (by decide)).trans (val15_main_v25_5 V0)
theorem val16_main_v25_6 (V0 : Valuation τ sig (Elt F)) : val16 V0 (no_index (Proc.devRef .tc main_v25_6)) = V0 (Proc.devRef .tc main_v25_6) :=
  (val16_keep V0 main_v25_6 (by decide)).trans (val15_main_v25_6 V0)
theorem val16_main_v25_7 (V0 : Valuation τ sig (Elt F)) : val16 V0 (no_index (Proc.devRef .tc main_v25_7)) = V0 (Proc.devRef .tc main_v25_7) :=
  (val16_keep V0 main_v25_7 (by decide)).trans (val15_main_v25_7 V0)
theorem val16_main_v25_1 (V0 : Valuation τ sig (Elt F)) : val16 V0 (no_index (Proc.devRef .tc main_v25_1)) = V0 (Proc.devRef .tc main_v25_1) :=
  (val16_keep V0 main_v25_1 (by decide)).trans (val15_main_v25_1 V0)
theorem val16_main_while0b_v31 (V0 : Valuation τ sig (Elt F)) : val16 V0 (no_index (Proc.devRef .tc main_while0b_v31)) = addi (V0 (Proc.devRef .tc main_v25_2)) (constantI S_ 32 1#32) :=
  (val16_keep V0 main_while0b_v31 (by decide)).trans (val15_main_while0b_v31 V0)
theorem val16_main_while0b_v33 (V0 : Valuation τ sig (Elt F)) : val16 V0 (no_index (Proc.devRef .tc main_while0b_v33)) = res_main_while0b_v33 V0 :=
  (val16_keep V0 main_while0b_v33 (by decide)).trans (val15_main_while0b_v33 V0)
theorem val16_main_while0b_v36 (V0 : Valuation τ sig (Elt F)) : val16 V0 (no_index (Proc.devRef .tc main_while0b_v36)) = res_main_while0b_v36 V0 :=
  (val16_keep V0 main_while0b_v36 (by decide)).trans (val15_main_while0b_v36 V0)
theorem val16_main_while0b_v120 (V0 : Valuation τ sig (Elt F)) : val16 V0 (no_index (Proc.devRef .tc main_while0b_v120)) = select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3)) :=
  (val16_keep V0 main_while0b_v120 (by decide)).trans (val15_main_while0b_v120 V0)
theorem val16_main_while0b_v121 (V0 : Valuation τ sig (Elt F)) : val16 V0 (no_index (Proc.devRef .tc main_while0b_v121)) = res_main_while0b_v121 V0 := by
  unfold val16
  simp only [trip_w15]
  after_results_entrywise [val15_main_while0b_v35, res_main_while0b_v121, cast_eq]
theorem val16_main_while0b_cst_26 (V0 : Valuation τ sig (Elt F)) : val16 V0 (no_index (Proc.devRef .tc main_while0b_cst_26)) = constant S_ .f32 0x00000000#32 := by
  unfold val16
  simp only [trip_w15]
  after_results_entrywise [cast_eq]
theorem val16_main_while0b_cst_27 (V0 : Valuation τ sig (Elt F)) : val16 V0 (no_index (Proc.devRef .tc main_while0b_cst_27)) = constant S_ .f32 0x3F800000#32 := by
  unfold val16
  simp only [trip_w15]
  after_results_entrywise [cast_eq]

/-- The device's buffer contents after the body's first 17 windows. -/
def val17 (V0 : Valuation τ sig (Elt F)) : Valuation τ sig (Elt F) := after trip_w16 (val16 V0)
/-- A buffer that window `trip_w16` does not write keeps its contents through it. -/
theorem val17_keep (V0 : Valuation τ sig (Elt F)) (r : Ref sig .tc) (h : r ∉ trip_w16_W) :
    val17 V0 (Proc.devRef .tc r) = val16 V0 (Proc.devRef .tc r) :=
  after_of_writes_sub trip_w16 _ trip_w16_writes h
theorem val17_main_v25_2 (V0 : Valuation τ sig (Elt F)) : val17 V0 (no_index (Proc.devRef .tc main_v25_2)) = V0 (Proc.devRef .tc main_v25_2) :=
  (val17_keep V0 main_v25_2 (by decide)).trans (val16_main_v25_2 V0)
theorem val17_main_v25_3 (V0 : Valuation τ sig (Elt F)) : val17 V0 (no_index (Proc.devRef .tc main_v25_3)) = V0 (Proc.devRef .tc main_v25_3) :=
  (val17_keep V0 main_v25_3 (by decide)).trans (val16_main_v25_3 V0)
theorem val17_main_v25_0 (V0 : Valuation τ sig (Elt F)) : val17 V0 (no_index (Proc.devRef .tc main_v25_0)) = V0 (Proc.devRef .tc main_v25_0) :=
  (val17_keep V0 main_v25_0 (by decide)).trans (val16_main_v25_0 V0)
theorem val17_main_v25_4 (V0 : Valuation τ sig (Elt F)) : val17 V0 (no_index (Proc.devRef .tc main_v25_4)) = V0 (Proc.devRef .tc main_v25_4) :=
  (val17_keep V0 main_v25_4 (by decide)).trans (val16_main_v25_4 V0)
theorem val17_main_v25_5 (V0 : Valuation τ sig (Elt F)) : val17 V0 (no_index (Proc.devRef .tc main_v25_5)) = V0 (Proc.devRef .tc main_v25_5) :=
  (val17_keep V0 main_v25_5 (by decide)).trans (val16_main_v25_5 V0)
theorem val17_main_v25_6 (V0 : Valuation τ sig (Elt F)) : val17 V0 (no_index (Proc.devRef .tc main_v25_6)) = V0 (Proc.devRef .tc main_v25_6) :=
  (val17_keep V0 main_v25_6 (by decide)).trans (val16_main_v25_6 V0)
theorem val17_main_v25_7 (V0 : Valuation τ sig (Elt F)) : val17 V0 (no_index (Proc.devRef .tc main_v25_7)) = V0 (Proc.devRef .tc main_v25_7) :=
  (val17_keep V0 main_v25_7 (by decide)).trans (val16_main_v25_7 V0)
theorem val17_main_v25_1 (V0 : Valuation τ sig (Elt F)) : val17 V0 (no_index (Proc.devRef .tc main_v25_1)) = V0 (Proc.devRef .tc main_v25_1) :=
  (val17_keep V0 main_v25_1 (by decide)).trans (val16_main_v25_1 V0)
theorem val17_main_while0b_v31 (V0 : Valuation τ sig (Elt F)) : val17 V0 (no_index (Proc.devRef .tc main_while0b_v31)) = addi (V0 (Proc.devRef .tc main_v25_2)) (constantI S_ 32 1#32) :=
  (val17_keep V0 main_while0b_v31 (by decide)).trans (val16_main_while0b_v31 V0)
theorem val17_main_while0b_v33 (V0 : Valuation τ sig (Elt F)) : val17 V0 (no_index (Proc.devRef .tc main_while0b_v33)) = res_main_while0b_v33 V0 :=
  (val17_keep V0 main_while0b_v33 (by decide)).trans (val16_main_while0b_v33 V0)
theorem val17_main_while0b_v120 (V0 : Valuation τ sig (Elt F)) : val17 V0 (no_index (Proc.devRef .tc main_while0b_v120)) = select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3)) :=
  (val17_keep V0 main_while0b_v120 (by decide)).trans (val16_main_while0b_v120 V0)
theorem val17_main_while0b_v121 (V0 : Valuation τ sig (Elt F)) : val17 V0 (no_index (Proc.devRef .tc main_while0b_v121)) = res_main_while0b_v121 V0 :=
  (val17_keep V0 main_while0b_v121 (by decide)).trans (val16_main_while0b_v121 V0)
theorem val17_main_while0b_v122 (V0 : Valuation τ sig (Elt F)) : val17 V0 (no_index (Proc.devRef .tc main_while0b_v122)) = minimumf (broadcastInDim S16x4 ![] bcast_S_S16x4 (id (constant S_ .f32 0x3F800000#32))) (maximumf (broadcastInDim S16x4 ![] bcast_S_S16x4 (id (constant S_ .f32 0x00000000#32))) (res_main_while0b_v36 V0)) := by
  unfold val17
  simp only [trip_w16]
  after_results_entrywise [val16_main_while0b_v36, val16_main_while0b_cst_26, val16_main_while0b_cst_27, cast_eq]

/-- The device's buffer contents after the body's first 18 windows. -/
def val18 (V0 : Valuation τ sig (Elt F)) : Valuation τ sig (Elt F) := after trip_w17 (val17 V0)
/-- A buffer that window `trip_w17` does not write keeps its contents through it. -/
theorem val18_keep (V0 : Valuation τ sig (Elt F)) (r : Ref sig .tc) (h : r ∉ trip_w17_W) :
    val18 V0 (Proc.devRef .tc r) = val17 V0 (Proc.devRef .tc r) :=
  after_of_writes_sub trip_w17 _ trip_w17_writes h
theorem val18_main_v25_2 (V0 : Valuation τ sig (Elt F)) : val18 V0 (no_index (Proc.devRef .tc main_v25_2)) = V0 (Proc.devRef .tc main_v25_2) :=
  (val18_keep V0 main_v25_2 (by decide)).trans (val17_main_v25_2 V0)
theorem val18_main_v25_3 (V0 : Valuation τ sig (Elt F)) : val18 V0 (no_index (Proc.devRef .tc main_v25_3)) = V0 (Proc.devRef .tc main_v25_3) :=
  (val18_keep V0 main_v25_3 (by decide)).trans (val17_main_v25_3 V0)
theorem val18_main_v25_0 (V0 : Valuation τ sig (Elt F)) : val18 V0 (no_index (Proc.devRef .tc main_v25_0)) = V0 (Proc.devRef .tc main_v25_0) :=
  (val18_keep V0 main_v25_0 (by decide)).trans (val17_main_v25_0 V0)
theorem val18_main_v25_4 (V0 : Valuation τ sig (Elt F)) : val18 V0 (no_index (Proc.devRef .tc main_v25_4)) = V0 (Proc.devRef .tc main_v25_4) :=
  (val18_keep V0 main_v25_4 (by decide)).trans (val17_main_v25_4 V0)
theorem val18_main_v25_5 (V0 : Valuation τ sig (Elt F)) : val18 V0 (no_index (Proc.devRef .tc main_v25_5)) = V0 (Proc.devRef .tc main_v25_5) :=
  (val18_keep V0 main_v25_5 (by decide)).trans (val17_main_v25_5 V0)
theorem val18_main_v25_6 (V0 : Valuation τ sig (Elt F)) : val18 V0 (no_index (Proc.devRef .tc main_v25_6)) = V0 (Proc.devRef .tc main_v25_6) :=
  (val18_keep V0 main_v25_6 (by decide)).trans (val17_main_v25_6 V0)
theorem val18_main_v25_7 (V0 : Valuation τ sig (Elt F)) : val18 V0 (no_index (Proc.devRef .tc main_v25_7)) = V0 (Proc.devRef .tc main_v25_7) :=
  (val18_keep V0 main_v25_7 (by decide)).trans (val17_main_v25_7 V0)
theorem val18_main_v25_1 (V0 : Valuation τ sig (Elt F)) : val18 V0 (no_index (Proc.devRef .tc main_v25_1)) = V0 (Proc.devRef .tc main_v25_1) :=
  (val18_keep V0 main_v25_1 (by decide)).trans (val17_main_v25_1 V0)
theorem val18_main_while0b_v31 (V0 : Valuation τ sig (Elt F)) : val18 V0 (no_index (Proc.devRef .tc main_while0b_v31)) = addi (V0 (Proc.devRef .tc main_v25_2)) (constantI S_ 32 1#32) :=
  (val18_keep V0 main_while0b_v31 (by decide)).trans (val17_main_while0b_v31 V0)
theorem val18_main_while0b_v120 (V0 : Valuation τ sig (Elt F)) : val18 V0 (no_index (Proc.devRef .tc main_while0b_v120)) = select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3)) :=
  (val18_keep V0 main_while0b_v120 (by decide)).trans (val17_main_while0b_v120 V0)
theorem val18_main_while0b_v121 (V0 : Valuation τ sig (Elt F)) : val18 V0 (no_index (Proc.devRef .tc main_while0b_v121)) = res_main_while0b_v121 V0 :=
  (val18_keep V0 main_while0b_v121 (by decide)).trans (val17_main_while0b_v121 V0)

end Cert.ReferenceIdeal.Value

end
-- ==== Proof.Ref.Run.lean ====
/-
  The values of one trip of the reference's loop, its last stretches, and what the program leaves: each result as the
  trip's step taken a hundred times.
-/
module

public import proofs.«01_k».proof.Proof.Ref.Values

@[expose] public section

set_option maxRecDepth 8192

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

set_option maxHeartbeats 2000000 in
theorem val18_main_while0b_v131 (V0 : Valuation τ sig (Elt F)) : val18 V0 (no_index (Proc.devRef .tc main_while0b_v131)) = Host.scatter scatter_S16x100x4_S1_S16x4_01_1_1_0 (fun _ b => b) (V0 (Proc.devRef .tc main_v25_4)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (broadcastInDim S16x4 ![0, 1] bcast_S16x1_S16x4_0_1 (broadcastInDim S16x1 ![0] bcast_S16_S16x1_0 (res_main_while0b_v121 V0))) (minimumf (broadcastInDim S16x4 ![] bcast_S_S16x4 (id (constant S_ .f32 0x3F800000#32))) (maximumf (broadcastInDim S16x4 ![] bcast_S_S16x4 (id (constant S_ .f32 0x00000000#32))) (res_main_while0b_v36 V0)))) := by
  unfold val18
  simp only [trip_w17]
  after_results_entrywise [val17_main_while0b_v122, val17_main_while0b_v121, val17_main_v25_2, val17_main_v25_4, cast_eq]
set_option maxHeartbeats 2000000 in
theorem val18_main_while0b_v138 (V0 : Valuation τ sig (Elt F)) : val18 V0 (no_index (Proc.devRef .tc main_while0b_v138)) = Host.scatter scatter_S16x100_S1_S16_0_1_1_0 (fun _ b => b) (V0 (Proc.devRef .tc main_v25_5)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (res_main_while0b_v121 V0) (res_main_while0b_v33 V0)) := by
  unfold val18
  simp only [trip_w17]
  after_results_entrywise [val17_main_while0b_v33, val17_main_while0b_v121, val17_main_v25_2, val17_main_v25_5, cast_eq]
set_option maxHeartbeats 2000000 in
theorem val18_main_while0b_v139 (V0 : Valuation τ sig (Elt F)) : val18 V0 (no_index (Proc.devRef .tc main_while0b_v139)) = cmpi .slt (V0 (Proc.devRef .tc main_v25_2)) (constantI S_ 32 0#32) := by
  unfold val18
  simp only [trip_w17]
  after_results_entrywise [val17_main_v25_2, cast_eq]
set_option maxHeartbeats 2000000 in
theorem val18_main_while0b_v140 (V0 : Valuation τ sig (Elt F)) : val18 V0 (no_index (Proc.devRef .tc main_while0b_v140)) = addi (V0 (Proc.devRef .tc main_v25_2)) (constantI S_ 32 100#32) := by
  unfold val18
  simp only [trip_w17]
  after_results_entrywise [val17_main_v25_2, cast_eq]

/-- The device's buffer contents after the body's first 19 windows. -/
def val19 (V0 : Valuation τ sig (Elt F)) : Valuation τ sig (Elt F) := after trip_w18 (val18 V0)
/-- A buffer that window `trip_w18` does not write keeps its contents through it. -/
theorem val19_keep (V0 : Valuation τ sig (Elt F)) (r : Ref sig .tc) (h : r ∉ trip_w18_W) :
    val19 V0 (Proc.devRef .tc r) = val18 V0 (Proc.devRef .tc r) :=
  after_of_writes_sub trip_w18 _ trip_w18_writes h
theorem val19_main_v25_2 (V0 : Valuation τ sig (Elt F)) : val19 V0 (no_index (Proc.devRef .tc main_v25_2)) = V0 (Proc.devRef .tc main_v25_2) :=
  (val19_keep V0 main_v25_2 (by decide)).trans (val18_main_v25_2 V0)
theorem val19_main_v25_3 (V0 : Valuation τ sig (Elt F)) : val19 V0 (no_index (Proc.devRef .tc main_v25_3)) = V0 (Proc.devRef .tc main_v25_3) :=
  (val19_keep V0 main_v25_3 (by decide)).trans (val18_main_v25_3 V0)
theorem val19_main_v25_0 (V0 : Valuation τ sig (Elt F)) : val19 V0 (no_index (Proc.devRef .tc main_v25_0)) = V0 (Proc.devRef .tc main_v25_0) :=
  (val19_keep V0 main_v25_0 (by decide)).trans (val18_main_v25_0 V0)
theorem val19_main_v25_4 (V0 : Valuation τ sig (Elt F)) : val19 V0 (no_index (Proc.devRef .tc main_v25_4)) = V0 (Proc.devRef .tc main_v25_4) :=
  (val19_keep V0 main_v25_4 (by decide)).trans (val18_main_v25_4 V0)
theorem val19_main_v25_5 (V0 : Valuation τ sig (Elt F)) : val19 V0 (no_index (Proc.devRef .tc main_v25_5)) = V0 (Proc.devRef .tc main_v25_5) :=
  (val19_keep V0 main_v25_5 (by decide)).trans (val18_main_v25_5 V0)
theorem val19_main_v25_6 (V0 : Valuation τ sig (Elt F)) : val19 V0 (no_index (Proc.devRef .tc main_v25_6)) = V0 (Proc.devRef .tc main_v25_6) :=
  (val19_keep V0 main_v25_6 (by decide)).trans (val18_main_v25_6 V0)
theorem val19_main_v25_7 (V0 : Valuation τ sig (Elt F)) : val19 V0 (no_index (Proc.devRef .tc main_v25_7)) = V0 (Proc.devRef .tc main_v25_7) :=
  (val19_keep V0 main_v25_7 (by decide)).trans (val18_main_v25_7 V0)
theorem val19_main_v25_1 (V0 : Valuation τ sig (Elt F)) : val19 V0 (no_index (Proc.devRef .tc main_v25_1)) = V0 (Proc.devRef .tc main_v25_1) :=
  (val19_keep V0 main_v25_1 (by decide)).trans (val18_main_v25_1 V0)
theorem val19_main_while0b_v31 (V0 : Valuation τ sig (Elt F)) : val19 V0 (no_index (Proc.devRef .tc main_while0b_v31)) = addi (V0 (Proc.devRef .tc main_v25_2)) (constantI S_ 32 1#32) :=
  (val19_keep V0 main_while0b_v31 (by decide)).trans (val18_main_while0b_v31 V0)
theorem val19_main_while0b_v120 (V0 : Valuation τ sig (Elt F)) : val19 V0 (no_index (Proc.devRef .tc main_while0b_v120)) = select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3)) :=
  (val19_keep V0 main_while0b_v120 (by decide)).trans (val18_main_while0b_v120 V0)
theorem val19_main_while0b_v131 (V0 : Valuation τ sig (Elt F)) : val19 V0 (no_index (Proc.devRef .tc main_while0b_v131)) = Host.scatter scatter_S16x100x4_S1_S16x4_01_1_1_0 (fun _ b => b) (V0 (Proc.devRef .tc main_v25_4)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (broadcastInDim S16x4 ![0, 1] bcast_S16x1_S16x4_0_1 (broadcastInDim S16x1 ![0] bcast_S16_S16x1_0 (res_main_while0b_v121 V0))) (minimumf (broadcastInDim S16x4 ![] bcast_S_S16x4 (id (constant S_ .f32 0x3F800000#32))) (maximumf (broadcastInDim S16x4 ![] bcast_S_S16x4 (id (constant S_ .f32 0x00000000#32))) (res_main_while0b_v36 V0)))) :=
  (val19_keep V0 main_while0b_v131 (by decide)).trans (val18_main_while0b_v131 V0)
theorem val19_main_while0b_v138 (V0 : Valuation τ sig (Elt F)) : val19 V0 (no_index (Proc.devRef .tc main_while0b_v138)) = Host.scatter scatter_S16x100_S1_S16_0_1_1_0 (fun _ b => b) (V0 (Proc.devRef .tc main_v25_5)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (res_main_while0b_v121 V0) (res_main_while0b_v33 V0)) :=
  (val19_keep V0 main_while0b_v138 (by decide)).trans (val18_main_while0b_v138 V0)
theorem val19_main_while0b_v144 (V0 : Valuation τ sig (Elt F)) : val19 V0 (no_index (Proc.devRef .tc main_while0b_v144)) = Host.scatter scatter_S100_S1_S__n_0_0_0 (fun _ b => b) (V0 (Proc.devRef .tc main_v25_6)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (constant S_ .f32 0x00000000#32) := by
  unfold val19
  simp only [trip_w18]
  after_results_entrywise [val18_main_v25_2, val18_main_while0b_v140, val18_main_while0b_v139, val18_main_v25_6, cast_eq]
theorem val19_main_while0b_v145 (V0 : Valuation τ sig (Elt F)) : val19 V0 (no_index (Proc.devRef .tc main_while0b_v145)) = addf (V0 (Proc.devRef .tc main_v25_7)) (res_main_while0b_v121 V0) := by
  unfold val19
  simp only [trip_w18]
  after_results_entrywise [val18_main_while0b_v121, val18_main_v25_7, cast_eq]

/-- The body's stretches, from any contents: the trip's windows in order, then `while0Ops0_14`'s step. -/
theorem trip_windows (V0 : Valuation τ sig (Elt F)) : after while0Ops0_14 (after while0Ops0_13 (after while0Ops0_12 (after while0Ops0_11 (after while0Ops0_10 (after while0Ops0_9 (after while0Ops0_8 (after while0Ops0_7 (after while0Ops0_6 (after while0Ops0_5 (after while0Ops0_4 (after while0Ops0_3 (after while0Ops0_2 (after while0Ops0_1 (after while0Ops0 (V0))))))))))))))) = after while0Ops0_14_step (val19 V0) := by
  simp only [while0Ops0_cut, while0Ops0_1_cut, while0Ops0_2_cut, while0Ops0_3_cut, while0Ops0_4_cut, while0Ops0_5_cut, while0Ops0_6_cut, while0Ops0_7_cut, while0Ops0_8_cut, while0Ops0_9_cut, while0Ops0_10_cut, while0Ops0_11_cut, while0Ops0_12_cut, while0Ops0_13_cut, while0Ops0_14_cut, after_append]
  rfl

set_option maxHeartbeats 2000000 in
/-- `main_v25_0` after one trip's body, from any contents. -/
theorem trip_main_v25_0 (V0 : Valuation τ sig (Elt F)) : afterL bodyI V0 (no_index (Proc.devRef .tc main_v25_0)) = V0 (Proc.devRef .tc main_v25_0) := by
  simp only [bodyI, afterL_cons, afterL_nil, trip_windows]
  after_results
  all_goals (try simp only [val19_main_while0b_v31, val19_main_while0b_v120, val19_main_while0b_v131, val19_main_while0b_v138, val19_main_while0b_v144, val19_main_while0b_v145, val19_main_v25_0, val19_main_v25_1, val19_main_v25_2, val19_main_v25_3, val19_main_v25_4, val19_main_v25_5, val19_main_v25_6, val19_main_v25_7]) <;> rfl
set_option maxHeartbeats 2000000 in
/-- `main_v25_1` after one trip's body, from any contents. -/
theorem trip_main_v25_1 (V0 : Valuation τ sig (Elt F)) : afterL bodyI V0 (no_index (Proc.devRef .tc main_v25_1)) = id (addi (V0 (Proc.devRef .tc main_v25_1)) (constantI S_ 32 1#32)) := by
  simp only [bodyI, afterL_cons, afterL_nil, trip_windows]
  after_results
  all_goals (try simp only [val19_main_while0b_v31, val19_main_while0b_v120, val19_main_while0b_v131, val19_main_while0b_v138, val19_main_while0b_v144, val19_main_while0b_v145, val19_main_v25_0, val19_main_v25_1, val19_main_v25_2, val19_main_v25_3, val19_main_v25_4, val19_main_v25_5, val19_main_v25_6, val19_main_v25_7]) <;> rfl
set_option maxHeartbeats 2000000 in
/-- `main_v25_2` after one trip's body, from any contents. -/
theorem trip_main_v25_2 (V0 : Valuation τ sig (Elt F)) : afterL bodyI V0 (no_index (Proc.devRef .tc main_v25_2)) = id (addi (V0 (Proc.devRef .tc main_v25_2)) (constantI S_ 32 1#32)) := by
  simp only [bodyI, afterL_cons, afterL_nil, trip_windows]
  after_results
  all_goals (try simp only [val19_main_while0b_v31, val19_main_while0b_v120, val19_main_while0b_v131, val19_main_while0b_v138, val19_main_while0b_v144, val19_main_while0b_v145, val19_main_v25_0, val19_main_v25_1, val19_main_v25_2, val19_main_v25_3, val19_main_v25_4, val19_main_v25_5, val19_main_v25_6, val19_main_v25_7]) <;> rfl
set_option maxHeartbeats 2000000 in
/-- `main_v25_3` after one trip's body, from any contents. -/
theorem trip_main_v25_3 (V0 : Valuation τ sig (Elt F)) : afterL bodyI V0 (no_index (Proc.devRef .tc main_v25_3)) = id (select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3))) := by
  simp only [bodyI, afterL_cons, afterL_nil, trip_windows]
  after_results
  all_goals (try simp only [val19_main_while0b_v31, val19_main_while0b_v120, val19_main_while0b_v131, val19_main_while0b_v138, val19_main_while0b_v144, val19_main_while0b_v145, val19_main_v25_0, val19_main_v25_1, val19_main_v25_2, val19_main_v25_3, val19_main_v25_4, val19_main_v25_5, val19_main_v25_6, val19_main_v25_7]) <;> rfl
set_option maxHeartbeats 2000000 in
/-- `main_v25_4` after one trip's body, from any contents. -/
theorem trip_main_v25_4 (V0 : Valuation τ sig (Elt F)) : afterL bodyI V0 (no_index (Proc.devRef .tc main_v25_4)) = id (Host.scatter scatter_S16x100x4_S1_S16x4_01_1_1_0 (fun _ b => b) (V0 (Proc.devRef .tc main_v25_4)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (broadcastInDim S16x4 ![0, 1] bcast_S16x1_S16x4_0_1 (broadcastInDim S16x1 ![0] bcast_S16_S16x1_0 (res_main_while0b_v121 V0))) (minimumf (broadcastInDim S16x4 ![] bcast_S_S16x4 (id (constant S_ .f32 0x3F800000#32))) (maximumf (broadcastInDim S16x4 ![] bcast_S_S16x4 (id (constant S_ .f32 0x00000000#32))) (res_main_while0b_v36 V0))))) := by
  simp only [bodyI, afterL_cons, afterL_nil, trip_windows]
  after_results
  all_goals (try simp only [val19_main_while0b_v31, val19_main_while0b_v120, val19_main_while0b_v131, val19_main_while0b_v138, val19_main_while0b_v144, val19_main_while0b_v145, val19_main_v25_0, val19_main_v25_1, val19_main_v25_2, val19_main_v25_3, val19_main_v25_4, val19_main_v25_5, val19_main_v25_6, val19_main_v25_7]) <;> rfl
set_option maxHeartbeats 2000000 in
/-- `main_v25_5` after one trip's body, from any contents. -/
theorem trip_main_v25_5 (V0 : Valuation τ sig (Elt F)) : afterL bodyI V0 (no_index (Proc.devRef .tc main_v25_5)) = id (Host.scatter scatter_S16x100_S1_S16_0_1_1_0 (fun _ b => b) (V0 (Proc.devRef .tc main_v25_5)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (res_main_while0b_v121 V0) (res_main_while0b_v33 V0))) := by
  simp only [bodyI, afterL_cons, afterL_nil, trip_windows]
  after_results
  all_goals (try simp only [val19_main_while0b_v31, val19_main_while0b_v120, val19_main_while0b_v131, val19_main_while0b_v138, val19_main_while0b_v144, val19_main_while0b_v145, val19_main_v25_0, val19_main_v25_1, val19_main_v25_2, val19_main_v25_3, val19_main_v25_4, val19_main_v25_5, val19_main_v25_6, val19_main_v25_7]) <;> rfl
set_option maxHeartbeats 2000000 in
/-- `main_v25_6` after one trip's body, from any contents. -/
theorem trip_main_v25_6 (V0 : Valuation τ sig (Elt F)) : afterL bodyI V0 (no_index (Proc.devRef .tc main_v25_6)) = id (Host.scatter scatter_S100_S1_S__n_0_0_0 (fun _ b => b) (V0 (Proc.devRef .tc main_v25_6)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (constant S_ .f32 0x00000000#32)) := by
  simp only [bodyI, afterL_cons, afterL_nil, trip_windows]
  after_results
  all_goals (try simp only [val19_main_while0b_v31, val19_main_while0b_v120, val19_main_while0b_v131, val19_main_while0b_v138, val19_main_while0b_v144, val19_main_while0b_v145, val19_main_v25_0, val19_main_v25_1, val19_main_v25_2, val19_main_v25_3, val19_main_v25_4, val19_main_v25_5, val19_main_v25_6, val19_main_v25_7]) <;> rfl
set_option maxHeartbeats 2000000 in
/-- `main_v25_7` after one trip's body, from any contents. -/
theorem trip_main_v25_7 (V0 : Valuation τ sig (Elt F)) : afterL bodyI V0 (no_index (Proc.devRef .tc main_v25_7)) = id (addf (V0 (Proc.devRef .tc main_v25_7)) (res_main_while0b_v121 V0)) := by
  simp only [bodyI, afterL_cons, afterL_nil, trip_windows]
  after_results
  all_goals (try simp only [val19_main_while0b_v31, val19_main_while0b_v120, val19_main_while0b_v131, val19_main_while0b_v138, val19_main_while0b_v144, val19_main_while0b_v145, val19_main_v25_0, val19_main_v25_1, val19_main_v25_2, val19_main_v25_3, val19_main_v25_4, val19_main_v25_5, val19_main_v25_6, val19_main_v25_7]) <;> rfl

/-- The loop's carried buffers. -/
abbrev carriedRefs : List (Ref sig .tc) := [main_v25_0, main_v25_1, main_v25_2, main_v25_3, main_v25_4, main_v25_5, main_v25_6, main_v25_7]
/-- Two contents agree on the carried buffers: all that one trip reads. -/
def Agree (V V' : Valuation τ sig (Elt F)) : Prop := ∀ j ∈ carriedRefs, V (Proc.devRef .tc j) = V' (Proc.devRef .tc j)

theorem res_main_while0b_call2_v0_congr {V0 V0' : Valuation τ sig (Elt F)} (h : Agree V0 V0') : res_main_while0b_call2_v0 V0 = res_main_while0b_call2_v0 V0' := by
  unfold res_main_while0b_call2_v0
  rfl
theorem res_main_while0b_call2_cst_congr {V0 V0' : Valuation τ sig (Elt F)} (h : Agree V0 V0') : res_main_while0b_call2_cst V0 = res_main_while0b_call2_cst V0' := by
  unfold res_main_while0b_call2_cst
  rfl
theorem res_main_while0b_call2_c_congr {V0 V0' : Valuation τ sig (Elt F)} (h : Agree V0 V0') : res_main_while0b_call2_c V0 = res_main_while0b_call2_c V0' := by
  unfold res_main_while0b_call2_c
  rfl
theorem res_main_while0b_v32_congr {V0 V0' : Valuation τ sig (Elt F)} (h : Agree V0 V0') : res_main_while0b_v32 V0 = res_main_while0b_v32 V0' := by
  unfold res_main_while0b_v32
  rw [res_main_while0b_call2_v0_congr h, res_main_while0b_call2_cst_congr h, res_main_while0b_call2_c_congr h, h main_v25_3 (by decide)]
theorem res_main_while0b_v33_congr {V0 V0' : Valuation τ sig (Elt F)} (h : Agree V0 V0') : res_main_while0b_v33 V0 = res_main_while0b_v33 V0' := by
  unfold res_main_while0b_v33
  rw [res_main_while0b_v32_congr h, h main_v25_3 (by decide)]
theorem res_main_while0b_v35_congr {V0 V0' : Valuation τ sig (Elt F)} (h : Agree V0 V0') : res_main_while0b_v35 V0 = res_main_while0b_v35 V0' := by
  unfold res_main_while0b_v35
  rw [res_main_while0b_v33_congr h]
theorem res_main_while0b_v36_congr {V0 V0' : Valuation τ sig (Elt F)} (h : Agree V0 V0') : res_main_while0b_v36 V0 = res_main_while0b_v36 V0' := by
  unfold res_main_while0b_v36
  rw [res_main_while0b_v32_congr h, h main_v25_0 (by decide)]
theorem res_main_while0b_v71_congr {V0 V0' : Valuation τ sig (Elt F)} (h : Agree V0 V0') : res_main_while0b_v71 V0 = res_main_while0b_v71 V0' := by
  unfold res_main_while0b_v71
  rw [res_main_while0b_v36_congr h, h main_v25_0 (by decide)]
theorem res_main_while0b_v105_congr {V0 V0' : Valuation τ sig (Elt F)} (h : Agree V0 V0') : res_main_while0b_v105 V0 = res_main_while0b_v105 V0' := by
  unfold res_main_while0b_v105
  rw [res_main_while0b_v36_congr h, res_main_while0b_v71_congr h, h main_v25_0 (by decide)]
theorem res_main_while0b_v121_congr {V0 V0' : Valuation τ sig (Elt F)} (h : Agree V0 V0') : res_main_while0b_v121 V0 = res_main_while0b_v121 V0' := by
  unfold res_main_while0b_v121
  rw [res_main_while0b_v35_congr h]

/-- `main_v25_1` after one trip, of the contents before it. -/
def step_main_v25_1 (V0 : Valuation τ sig (Elt F)) : (Proc.devRef .tc main_v25_1 : DevRef τ sig).ty.Contents (Elt F) :=
  id (addi (V0 (Proc.devRef .tc main_v25_1)) (constantI S_ 32 1#32))
theorem step_main_v25_1_congr {V0 V0' : Valuation τ sig (Elt F)} (h : Agree V0 V0') : step_main_v25_1 V0 = step_main_v25_1 V0' := by
  unfold step_main_v25_1
  rw [h main_v25_1 (by decide)]
/-- `main_v25_2` after one trip, of the contents before it. -/
def step_main_v25_2 (V0 : Valuation τ sig (Elt F)) : (Proc.devRef .tc main_v25_2 : DevRef τ sig).ty.Contents (Elt F) :=
  id (addi (V0 (Proc.devRef .tc main_v25_2)) (constantI S_ 32 1#32))
theorem step_main_v25_2_congr {V0 V0' : Valuation τ sig (Elt F)} (h : Agree V0 V0') : step_main_v25_2 V0 = step_main_v25_2 V0' := by
  unfold step_main_v25_2
  rw [h main_v25_2 (by decide)]
/-- `main_v25_3` after one trip, of the contents before it. -/
def step_main_v25_3 (V0 : Valuation τ sig (Elt F)) : (Proc.devRef .tc main_v25_3 : DevRef τ sig).ty.Contents (Elt F) :=
  id (select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3)))
theorem step_main_v25_3_congr {V0 V0' : Valuation τ sig (Elt F)} (h : Agree V0 V0') : step_main_v25_3 V0 = step_main_v25_3 V0' := by
  unfold step_main_v25_3
  rw [res_main_while0b_v35_congr h, res_main_while0b_v32_congr h, res_main_while0b_v105_congr h, res_main_while0b_v71_congr h, h main_v25_3 (by decide)]
/-- `main_v25_4` after one trip, of the contents before it. -/
def step_main_v25_4 (V0 : Valuation τ sig (Elt F)) : (Proc.devRef .tc main_v25_4 : DevRef τ sig).ty.Contents (Elt F) :=
  id (Host.scatter scatter_S16x100x4_S1_S16x4_01_1_1_0 (fun _ b => b) (V0 (Proc.devRef .tc main_v25_4)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (broadcastInDim S16x4 ![0, 1] bcast_S16x1_S16x4_0_1 (broadcastInDim S16x1 ![0] bcast_S16_S16x1_0 (res_main_while0b_v121 V0))) (minimumf (broadcastInDim S16x4 ![] bcast_S_S16x4 (id (constant S_ .f32 0x3F800000#32))) (maximumf (broadcastInDim S16x4 ![] bcast_S_S16x4 (id (constant S_ .f32 0x00000000#32))) (res_main_while0b_v36 V0)))))
theorem step_main_v25_4_congr {V0 V0' : Valuation τ sig (Elt F)} (h : Agree V0 V0') : step_main_v25_4 V0 = step_main_v25_4 V0' := by
  unfold step_main_v25_4
  rw [res_main_while0b_v121_congr h, res_main_while0b_v36_congr h, h main_v25_4 (by decide), h main_v25_2 (by decide)]
/-- `main_v25_5` after one trip, of the contents before it. -/
def step_main_v25_5 (V0 : Valuation τ sig (Elt F)) : (Proc.devRef .tc main_v25_5 : DevRef τ sig).ty.Contents (Elt F) :=
  id (Host.scatter scatter_S16x100_S1_S16_0_1_1_0 (fun _ b => b) (V0 (Proc.devRef .tc main_v25_5)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (res_main_while0b_v121 V0) (res_main_while0b_v33 V0)))
theorem step_main_v25_5_congr {V0 V0' : Valuation τ sig (Elt F)} (h : Agree V0 V0') : step_main_v25_5 V0 = step_main_v25_5 V0' := by
  unfold step_main_v25_5
  rw [res_main_while0b_v121_congr h, res_main_while0b_v33_congr h, h main_v25_5 (by decide), h main_v25_2 (by decide)]
/-- `main_v25_6` after one trip, of the contents before it. -/
def step_main_v25_6 (V0 : Valuation τ sig (Elt F)) : (Proc.devRef .tc main_v25_6 : DevRef τ sig).ty.Contents (Elt F) :=
  id (Host.scatter scatter_S100_S1_S__n_0_0_0 (fun _ b => b) (V0 (Proc.devRef .tc main_v25_6)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (constant S_ .f32 0x00000000#32))
theorem step_main_v25_6_congr {V0 V0' : Valuation τ sig (Elt F)} (h : Agree V0 V0') : step_main_v25_6 V0 = step_main_v25_6 V0' := by
  unfold step_main_v25_6
  rw [h main_v25_6 (by decide), h main_v25_2 (by decide)]
/-- `main_v25_7` after one trip, of the contents before it. -/
def step_main_v25_7 (V0 : Valuation τ sig (Elt F)) : (Proc.devRef .tc main_v25_7 : DevRef τ sig).ty.Contents (Elt F) :=
  id (addf (V0 (Proc.devRef .tc main_v25_7)) (res_main_while0b_v121 V0))
theorem step_main_v25_7_congr {V0 V0' : Valuation τ sig (Elt F)} (h : Agree V0 V0') : step_main_v25_7 V0 = step_main_v25_7 V0' := by
  unfold step_main_v25_7
  rw [res_main_while0b_v121_congr h, h main_v25_7 (by decide)]

/-- ONE TRIP on the carried buffers: the buffers the body writes step, everything else is as it was. -/
def STEP (V0 : Valuation τ sig (Elt F)) : Valuation τ sig (Elt F) :=
  Function.update (Function.update (Function.update (Function.update (Function.update (Function.update (Function.update (V0) (Proc.devRef .tc main_v25_1) (step_main_v25_1 V0)) (Proc.devRef .tc main_v25_2) (step_main_v25_2 V0)) (Proc.devRef .tc main_v25_3) (step_main_v25_3 V0)) (Proc.devRef .tc main_v25_4) (step_main_v25_4 V0)) (Proc.devRef .tc main_v25_5) (step_main_v25_5 V0)) (Proc.devRef .tc main_v25_6) (step_main_v25_6 V0)) (Proc.devRef .tc main_v25_7) (step_main_v25_7 V0)

theorem STEP_main_v25_0 (V0 : Valuation τ sig (Elt F)) : STEP V0 (Proc.devRef .tc main_v25_0) = V0 (Proc.devRef .tc main_v25_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v25_1 (V0 : Valuation τ sig (Elt F)) : STEP V0 (Proc.devRef .tc main_v25_1) = step_main_v25_1 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v25_2 (V0 : Valuation τ sig (Elt F)) : STEP V0 (Proc.devRef .tc main_v25_2) = step_main_v25_2 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v25_3 (V0 : Valuation τ sig (Elt F)) : STEP V0 (Proc.devRef .tc main_v25_3) = step_main_v25_3 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v25_4 (V0 : Valuation τ sig (Elt F)) : STEP V0 (Proc.devRef .tc main_v25_4) = step_main_v25_4 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v25_5 (V0 : Valuation τ sig (Elt F)) : STEP V0 (Proc.devRef .tc main_v25_5) = step_main_v25_5 V0 := by
  unfold STEP; rw [Function.update_of_ne (devRef_ne_of_ne (by decide))]; rw [Function.update_of_ne (devRef_ne_of_ne (by decide))]; rw [Function.update_self]
theorem STEP_main_v25_6 (V0 : Valuation τ sig (Elt F)) : STEP V0 (Proc.devRef .tc main_v25_6) = step_main_v25_6 V0 := by
  unfold STEP; rw [Function.update_of_ne (devRef_ne_of_ne (by decide))]; rw [Function.update_self]
theorem STEP_main_v25_7 (V0 : Valuation τ sig (Elt F)) : STEP V0 (Proc.devRef .tc main_v25_7) = step_main_v25_7 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v25_0 (after condOps X)).trans ((hc main_v25_0 (by decide)).trans (STEP_main_v25_0 X).symm)
  · exact (trip_main_v25_1 (after condOps X)).trans ((step_main_v25_1_congr hc).trans (STEP_main_v25_1 X).symm)
  · exact (trip_main_v25_2 (after condOps X)).trans ((step_main_v25_2_congr hc).trans (STEP_main_v25_2 X).symm)
  · exact (trip_main_v25_3 (after condOps X)).trans ((step_main_v25_3_congr hc).trans (STEP_main_v25_3 X).symm)
  · exact (trip_main_v25_4 (after condOps X)).trans ((step_main_v25_4_congr hc).trans (STEP_main_v25_4 X).symm)
  · exact (trip_main_v25_5 (after condOps X)).trans ((step_main_v25_5_congr hc).trans (STEP_main_v25_5 X).symm)
  · exact (trip_main_v25_6 (after condOps X)).trans ((step_main_v25_6_congr hc).trans (STEP_main_v25_6 X).symm)
  · exact (trip_main_v25_7 (after condOps X)).trans ((step_main_v25_7_congr hc).trans (STEP_main_v25_7 X).symm)

/-- `STEP` reads the carried buffers only. -/
theorem STEP_congr {V V' : Valuation τ sig (Elt F)} (h : Agree V V') : Agree (STEP V) (STEP V') := by
  intro j hj
  fin_cases hj
  · rw [STEP_main_v25_0, STEP_main_v25_0]; exact h main_v25_0 (by decide)
  · rw [STEP_main_v25_1, STEP_main_v25_1]; exact step_main_v25_1_congr h
  · rw [STEP_main_v25_2, STEP_main_v25_2]; exact step_main_v25_2_congr h
  · rw [STEP_main_v25_3, STEP_main_v25_3]; exact step_main_v25_3_congr h
  · rw [STEP_main_v25_4, STEP_main_v25_4]; exact step_main_v25_4_congr h
  · rw [STEP_main_v25_5, STEP_main_v25_5]; exact step_main_v25_5_congr h
  · rw [STEP_main_v25_6, STEP_main_v25_6]; exact step_main_v25_6_congr h
  · rw [STEP_main_v25_7, STEP_main_v25_7]; exact step_main_v25_7_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

/-- The arguments. -/
abbrev argRefs : List (Ref sig .tc) := [main_arg0, main_arg1, main_arg2, main_arg3, main_arg4, main_arg5, main_arg6, main_arg7, main_arg8]

/-- Operations that write none of the arguments leave each as it was. -/
theorem arg_kept {ops : List (HloOp τ sig (Elt F))} {W : List (Ref sig .tc)}
    (hW : ops.Forall fun op => op.writes ⊆ (W.map (Proc.devRef (τ := τ) .tc)).toFinset) (hd : ∀ r ∈ argRefs, r ∉ W) {r : Ref sig .tc} (hr : r ∈ argRefs)
    (V : Valuation τ sig (Elt F)) : after ops V (Proc.devRef .tc r) = V (Proc.devRef .tc r) :=
  after_of_writes_sub ops V hW (hd r hr)

/-- An argument is written by nothing: it holds its launch contents before every condition. -/
theorem atK_arg (c : Dev nD) {r : Ref sig .tc} (hr : r ∈ argRefs) : ∀ k, atK m k c (Proc.devRef .tc r) = m ((c.tc : Thread nD τ).loc r)
  | 0 => by
    rw [show atK m 0 c = entryContents preI m c from rfl]
    simp only [entryContents, afterL_cons, afterL_nil]
    rw [arg_kept hostOps0_4_writes (by decide +kernel) hr, arg_kept hostOps0_3_writes (by decide +kernel) hr,
      arg_kept hostOps0_2_writes (by decide +kernel) hr, arg_kept hostOps0_1_writes (by decide +kernel) hr,
      arg_kept hostOps0_writes (by decide +kernel) hr]
  | k + 1 => by
    rw [show atK m (k + 1) c = afterL bodyI (after condOps (atK m k c)) from rfl]
    simp only [afterL_cons, afterL_nil]
    rw [arg_kept while0Ops0_14_writes (by decide +kernel) hr, arg_kept while0Ops0_13_writes (by decide +kernel) hr,
      arg_kept while0Ops0_12_writes (by decide +kernel) hr, arg_kept while0Ops0_11_writes (by decide +kernel) hr,
      arg_kept while0Ops0_10_writes (by decide +kernel) hr, arg_kept while0Ops0_9_writes (by decide +kernel) hr,
      arg_kept while0Ops0_8_writes (by decide +kernel) hr, arg_kept while0Ops0_7_writes (by decide +kernel) hr,
      arg_kept while0Ops0_6_writes (by decide +kernel) hr, arg_kept while0Ops0_5_writes (by decide +kernel) hr,
      arg_kept while0Ops0_4_writes (by decide +kernel) hr, arg_kept while0Ops0_3_writes (by decide +kernel) hr,
      arg_kept while0Ops0_2_writes (by decide +kernel) hr, arg_kept while0Ops0_1_writes (by decide +kernel) hr,
      arg_kept while0Ops0_writes (by decide +kernel) hr, arg_kept condOps_writes (by decide +kernel) hr]
    exact atK_arg c hr k

/-! ## After the loop -/

/-- The operations after the loop write none of the arguments. -/
theorem post_keeps {r : Ref sig .tc} (hr : r ∈ argRefs) (V0 : Valuation τ sig (Elt F)) : afterL postI V0 (Proc.devRef .tc r) = V0 (Proc.devRef .tc r) := by
  simp only [postI, afterL_cons, afterL_nil]
  rw [arg_kept hostOps0_5_writes (by decide +kernel) hr]

/-- An argument at the end. -/
theorem arg_end (c : Dev nD) {r : Ref sig .tc} (hr : r ∈ argRefs) :
    afterL postI (after condOps (atK m 100 c)) (Proc.devRef .tc r) = m ((c.tc : Thread nD τ).loc r) :=
  (post_keeps hr _).trans ((arg_kept condOps_writes (by decide +kernel) hr _).trans (atK_arg m c hr 100))

/-- `main_v29`, which the operations after the loop make, of the contents they start from. -/
def out_main_v29 (V0 : Valuation τ sig (Elt F)) : (Proc.devRef .tc main_v29 : DevRef τ sig).ty.Contents (Elt F) :=
  (concatenate S16x100x6 2 [⟨S16x100x4, ((V0 (Proc.devRef .tc main_v25_4)) : (⟨S16x100x4, .f32⟩ : BufTy).Contents (Elt F))⟩, ⟨S16x100x1, ((broadcastInDim S16x100x1 ![0, 1] bcast_S16x100_S16x100x1_0_1 (V0 (Proc.devRef .tc main_v25_5))) : (⟨S16x100x1, .f32⟩ : BufTy).Contents (Elt F))⟩, ⟨S16x100x1, ((broadcastInDim S16x100x1 ![0, 1] bcast_S16x100_S16x100x1_0_1 (broadcastInDim S16x100 ![1] bcast_S100_S16x100_1 (V0 (Proc.devRef .tc main_v25_6)))) : (⟨S16x100x1, .f32⟩ : BufTy).Contents (Elt F))⟩] concatenates_S16x100x4_S16x100x1_S16x100x1_S16x100x6_d2 : (⟨S16x100x6, .f32⟩ : BufTy).Contents (Elt F))
set_option maxHeartbeats 2000000 in
theorem post_main_v29 (V0 : Valuation τ sig (Elt F)) : afterL postI V0 (no_index (Proc.devRef .tc main_v29)) = out_main_v29 V0 := by
  unfold out_main_v29
  simp only [postI, afterL_cons, afterL_nil, hostOps0_5]
  after_results_entrywise []
theorem out_main_v29_congr {V0 V0' : Valuation τ sig (Elt F)} (h : Agree V0 V0') : out_main_v29 V0 = out_main_v29 V0' := by
  unfold out_main_v29
  rw [h main_v25_4 (by decide), h main_v25_5 (by decide), h main_v25_6 (by decide)]
/-- `main_v30`, which the operations after the loop make, of the contents they start from. -/
def out_main_v30 (V0 : Valuation τ sig (Elt F)) : (Proc.devRef .tc main_v30 : DevRef τ sig).ty.Contents (Elt F) :=
  fptosi 32 (V0 (Proc.devRef .tc main_v25_7))
set_option maxHeartbeats 2000000 in
theorem post_main_v30 (V0 : Valuation τ sig (Elt F)) : afterL postI V0 (no_index (Proc.devRef .tc main_v30)) = out_main_v30 V0 := by
  unfold out_main_v30
  simp only [postI, afterL_cons, afterL_nil, hostOps0_5]
  after_results_entrywise []
theorem out_main_v30_congr {V0 V0' : Valuation τ sig (Elt F)} (h : Agree V0 V0') : out_main_v30 V0 = out_main_v30 V0' := by
  unfold out_main_v30
  rw [h main_v25_7 (by decide)]
/-- THE RUN: on every device, for any float values, from any memory with zero counters, every weakly fair execution
    of @main terminates with each result at its component of `STEP` iterated 100 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v29) = out_main_v29 (STEP^[100] (entryContents preI m c))
      ∧ r.2.mem ((c.tc : Thread nD τ).loc main_v30) = out_main_v30 (STEP^[100] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v29 rfl).trans ((post_main_v29 _).trans (out_main_v29_congr (fun j hj => (cond_keeps _ j hj).trans (atK_agree m c 100 j hj)))),
      (h c main_v30 rfl).trans ((post_main_v30 _).trans (out_main_v30_congr (fun j hj => (cond_keeps _ j hj).trans (atK_agree m c 100 j hj)))),
      (h c main_arg0 rfl).trans (arg_end m c (by decide)),
      (h c main_arg1 rfl).trans (arg_end m c (by decide)),
      (h c main_arg2 rfl).trans (arg_end m c (by decide)),
      (h c main_arg3 rfl).trans (arg_end m c (by decide)),
      (h c main_arg4 rfl).trans (arg_end m c (by decide)),
      (h c main_arg5 rfl).trans (arg_end m c (by decide)),
      (h c main_arg6 rfl).trans (arg_end m c (by decide)),
      (h c main_arg7 rfl).trans (arg_end m c (by decide)),
      (h c main_arg8 rfl).trans (arg_end m c (by decide))⟩) (run_fold m ρ)

end Cert.ReferenceIdeal.Value

end
-- ==== Proof.Ref.Step.lean ====
/-
  One trip of the reference's loop as a function. `State` holds what a trip hands the next, less the counters;
  `A_…` are the values computed before the loop, of the arguments; `b0 … b157` are the values of trip `j` from the
  state `s`, in the order of the loop's body; `init` and `step` are the first state and the next one.
-/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v25_3 : (⟨S16x10647, .f32⟩ : BufTy).Contents (Elt F)
  main_v25_4 : (⟨S16x100x4, .f32⟩ : BufTy).Contents (Elt F)
  main_v25_5 : (⟨S16x100, .f32⟩ : BufTy).Contents (Elt F)
  main_v25_6 : (⟨S100, .f32⟩ : BufTy).Contents (Elt F)
  main_v25_7 : (⟨S16, .f32⟩ : BufTy).Contents (Elt F)
  main_v25_0 : (⟨S16x10647x4, .f32⟩ : BufTy).Contents (Elt F)

/-! What @main computes before the loop without reading an argument. -/

def K_main_call0_v0 : (⟨S16x10647x80, .i32⟩ : BufTy).Contents (Elt F) := iotaInDim S16x10647x80 32 2
def K_main_call0_cst : (⟨S_, .f32⟩ : BufTy).Contents (Elt F) := constant S_ .f32 0xFF800000#32
def K_main_call0_c : (⟨S_, .i32⟩ : BufTy).Contents (Elt F) := constantI S_ 32 0#32
def K_main_cst : (⟨S_, .f32⟩ : BufTy).Contents (Elt F) := constant S_ .f32 0x3E99999A#32
def K_main_v16 : (⟨S16x10647, .f32⟩ : BufTy).Contents (Elt F) := broadcastInDim S16x10647 ![] bcast_S_S16x10647 ((K_main_cst (F := F)))
def K_main_cst_0 : (⟨S_, .f32⟩ : BufTy).Contents (Elt F) := constant S_ .f32 0xF149F2CA#32
def K_main_call1_v0 : (⟨S_, .f32⟩ : BufTy).Contents (Elt F) := id ((K_main_cst_0 (F := F)))
def K_main_call1_v1 : (⟨S10647, .f32⟩ : BufTy).Contents (Elt F) := broadcastInDim S10647 ![] bcast_S_S10647 ((K_main_call1_v0 (F := F)))
def K_main_call1_v2 : (⟨S16x10647, .f32⟩ : BufTy).Contents (Elt F) := broadcastInDim S16x10647 ![1] bcast_S10647_S16x10647_1 ((K_main_call1_v1 (F := F)))
def K_main_cst_1 : (⟨S_, .f32⟩ : BufTy).Contents (Elt F) := constant S_ .f32 0x00000000#32
def K_main_v19 : (⟨S100x4, .f32⟩ : BufTy).Contents (Elt F) := broadcastInDim S100x4 ![] bcast_S_S100x4 ((K_main_cst_1 (F := F)))
def K_main_cst_2 : (⟨S_, .f32⟩ : BufTy).Contents (Elt F) := constant S_ .f32 0x00000000#32
def K_main_v20 : (⟨S100, .f32⟩ : BufTy).Contents (Elt F) := broadcastInDim S100 ![] bcast_S_S100 ((K_main_cst_2 (F := F)))
def K_main_cst_3 : (⟨S_, .f32⟩ : BufTy).Contents (Elt F) := constant S_ .f32 0x00000000#32
def K_main_v21 : (⟨S100, .f32⟩ : BufTy).Contents (Elt F) := broadcastInDim S100 ![] bcast_S_S100 ((K_main_cst_3 (F := F)))
def K_main_v22 : (⟨S16x100x4, .f32⟩ : BufTy).Contents (Elt F) := broadcastInDim S16x100x4 ![1, 2] bcast_S100x4_S16x100x4_1_2 ((K_main_v19 (F := F)))
def K_main_v23 : (⟨S16x100, .f32⟩ : BufTy).Contents (Elt F) := broadcastInDim S16x100 ![1] bcast_S100_S16x100_1 ((K_main_v20 (F := F)))
def K_main_cst_4 : (⟨S_, .f32⟩ : BufTy).Contents (Elt F) := constant S_ .f32 0x00000000#32
def K_main_v24 : (⟨S16, .f32⟩ : BufTy).Contents (Elt F) := broadcastInDim S16 ![] bcast_S_S16 ((K_main_cst_4 (F := F)))
def K_main_c : (⟨S_, .i32⟩ : BufTy).Contents (Elt F) := constantI S_ 32 0#32
def K_main_c_5 : (⟨S_, .i32⟩ : BufTy).Contents (Elt F) := constantI S_ 32 0#32

/-! What @main computes before the loop from its arguments, as functions of them. -/

def A_main_v0 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x507x4, .f32⟩ : BufTy).Contents (Elt F) := shapeCast _ (main_arg0) shapeCasts_S16x13x13x12_S16x507x4
def A_main_v1 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x2028x4, .f32⟩ : BufTy).Contents (Elt F) := shapeCast _ (main_arg3) shapeCasts_S16x26x26x12_S16x2028x4
def A_main_v2 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x8112x4, .f32⟩ : BufTy).Contents (Elt F) := shapeCast _ (main_arg6) shapeCasts_S16x52x52x12_S16x8112x4
def A_main_v3 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647x4, .f32⟩ : BufTy).Contents (Elt F) := (concatenate S16x10647x4 1 [⟨S16x507x4, (((A_main_v0 main_arg0 main_arg1 main_arg2 main_arg3 main_arg4 main_arg5 main_arg6 main_arg7 main_arg8)) : (⟨S16x507x4, .f32⟩ : BufTy).Contents (Elt F))⟩, ⟨S16x2028x4, (((A_main_v1 main_arg0 main_arg1 main_arg2 main_arg3 main_arg4 main_arg5 main_arg6 main_arg7 main_arg8)) : (⟨S16x2028x4, .f32⟩ : BufTy).Contents (Elt F))⟩, ⟨S16x8112x4, (((A_main_v2 main_arg0 main_arg1 main_arg2 main_arg3 main_arg4 main_arg5 main_arg6 main_arg7 main_arg8)) : (⟨S16x8112x4, .f32⟩ : BufTy).Contents (Elt F))⟩] concatenates_S16x507x4_S16x2028x4_S16x8112x4_S16x10647x4_d1 : (⟨S16x10647x4, .f32⟩ : BufTy).Contents (Elt F))
def A_main_v4 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x507x1, .f32⟩ : BufTy).Contents (Elt F) := shapeCast _ (main_arg1) shapeCasts_S16x13x13x3_S16x507x1
def A_main_v5 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x2028x1, .f32⟩ : BufTy).Contents (Elt F) := shapeCast _ (main_arg4) shapeCasts_S16x26x26x3_S16x2028x1
def A_main_v6 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x8112x1, .f32⟩ : BufTy).Contents (Elt F) := shapeCast _ (main_arg7) shapeCasts_S16x52x52x3_S16x8112x1
def A_main_v7 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647x1, .f32⟩ : BufTy).Contents (Elt F) := (concatenate S16x10647x1 1 [⟨S16x507x1, (((A_main_v4 main_arg0 main_arg1 main_arg2 main_arg3 main_arg4 main_arg5 main_arg6 main_arg7 main_arg8)) : (⟨S16x507x1, .f32⟩ : BufTy).Contents (Elt F))⟩, ⟨S16x2028x1, (((A_main_v5 main_arg0 main_arg1 main_arg2 main_arg3 main_arg4 main_arg5 main_arg6 main_arg7 main_arg8)) : (⟨S16x2028x1, .f32⟩ : BufTy).Contents (Elt F))⟩, ⟨S16x8112x1, (((A_main_v6 main_arg0 main_arg1 main_arg2 main_arg3 main_arg4 main_arg5 main_arg6 main_arg7 main_arg8)) : (⟨S16x8112x1, .f32⟩ : BufTy).Contents (Elt F))⟩] concatenates_S16x507x1_S16x2028x1_S16x8112x1_S16x10647x1_d1 : (⟨S16x10647x1, .f32⟩ : BufTy).Contents (Elt F))
def A_main_v8 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x507x80, .f32⟩ : BufTy).Contents (Elt F) := shapeCast _ (main_arg2) shapeCasts_S16x13x13x240_S16x507x80
def A_main_v9 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x2028x80, .f32⟩ : BufTy).Contents (Elt F) := shapeCast _ (main_arg5) shapeCasts_S16x26x26x240_S16x2028x80
def A_main_v10 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x8112x80, .f32⟩ : BufTy).Contents (Elt F) := shapeCast _ (main_arg8) shapeCasts_S16x52x52x240_S16x8112x80
def A_main_v11 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647x80, .f32⟩ : BufTy).Contents (Elt F) := (concatenate S16x10647x80 1 [⟨S16x507x80, (((A_main_v8 main_arg0 main_arg1 main_arg2 main_arg3 main_arg4 main_arg5 main_arg6 main_arg7 main_arg8)) : (⟨S16x507x80, .f32⟩ : BufTy).Contents (Elt F))⟩, ⟨S16x2028x80, (((A_main_v9 main_arg0 main_arg1 main_arg2 main_arg3 main_arg4 main_arg5 main_arg6 main_arg7 main_arg8)) : (⟨S16x2028x80, .f32⟩ : BufTy).Contents (Elt F))⟩, ⟨S16x8112x80, (((A_main_v10 main_arg0 main_arg1 main_arg2 main_arg3 main_arg4 main_arg5 main_arg6 main_arg7 main_arg8)) : (⟨S16x8112x80, .f32⟩ : BufTy).Contents (Elt F))⟩] concatenates_S16x507x80_S16x2028x80_S16x8112x80_S16x10647x80_d1 : (⟨S16x10647x80, .f32⟩ : BufTy).Contents (Elt F))
def A_main_v12 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647, .i32⟩ : BufTy).Contents (Elt F) := (fun jj => (Host.argReduce reducer_argmax_f32_i32 ((A_main_v11 main_arg0 main_arg1 main_arg2 main_arg3 main_arg4 main_arg5 main_arg6 main_arg7 main_arg8)) ((K_main_call0_v0 (F := F))) ((K_main_call0_cst (F := F))) ((K_main_call0_c (F := F))) reducesTo_S16x10647x80_S16x10647_d2 h_S_ jj).2)
def A_main_v13 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647, .f32⟩ : BufTy).Contents (Elt F) := sitofp .f32 ((A_main_v12 main_arg0 main_arg1 main_arg2 main_arg3 main_arg4 main_arg5 main_arg6 main_arg7 main_arg8))
def A_main_v14 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647, .f32⟩ : BufTy).Contents (Elt F) := shapeCast _ ((A_main_v7 main_arg0 main_arg1 main_arg2 main_arg3 main_arg4 main_arg5 main_arg6 main_arg7 main_arg8)) shapeCasts_S16x10647x1_S16x10647
def A_main_v15 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647, .f32⟩ : BufTy).Contents (Elt F) := mulf ((A_main_v14 main_arg0 main_arg1 main_arg2 main_arg3 main_arg4 main_arg5 main_arg6 main_arg7 main_arg8)) ((A_main_v13 main_arg0 main_arg1 main_arg2 main_arg3 main_arg4 main_arg5 main_arg6 main_arg7 main_arg8))
def A_main_v17 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647, .i1⟩ : BufTy).Contents (Elt F) := cmpf .ogt ((A_main_v15 main_arg0 main_arg1 main_arg2 main_arg3 main_arg4 main_arg5 main_arg6 main_arg7 main_arg8)) ((K_main_v16 (F := F)))
def A_main_v18 (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : (⟨S16x10647, .f32⟩ : BufTy).Contents (Elt F) := select ((A_main_v17 main_arg0 main_arg1 main_arg2 main_arg3 main_arg4 main_arg5 main_arg6 main_arg7 main_arg8)) ((A_main_v15 main_arg0 main_arg1 main_arg2 main_arg3 main_arg4 main_arg5 main_arg6 main_arg7 main_arg8)) ((K_main_call1_v2 (F := F)))

/-! One trip's values, in the body's order. -/

def b0 (j : ℕ) (s : State F) : (⟨S_, .i32⟩ : BufTy).Contents (Elt F) :=
  constantI S_ 32 1#32
def b1 (j : ℕ) (s : State F) : (⟨S_, .i32⟩ : BufTy).Contents (Elt F) :=
  addi ((constantI S_ 32 (BitVec.ofNat 32 j) : (⟨S_, .i32⟩ : BufTy).Contents (Elt F))) ((b0 j s))
def b2 (j : ℕ) (s : State F) : (⟨S16x10647, .i32⟩ : BufTy).Contents (Elt F) :=
  iotaInDim S16x10647 32 1
def b3 (j : ℕ) (s : State F) : (⟨S_, .f32⟩ : BufTy).Contents (Elt F) :=
  constant S_ .f32 0xFF800000#32
def b4 (j : ℕ) (s : State F) : (⟨S_, .i32⟩ : BufTy).Contents (Elt F) :=
  constantI S_ 32 0#32
def b5 (j : ℕ) (s : State F) : (⟨S16, .f32⟩ : BufTy).Contents (Elt F) :=
  (fun jj => (Host.argReduce reducer_argmax_f32_i32 (s.main_v25_3) ((b2 j s)) ((b3 j s)) ((b4 j s)) reducesTo_S16x10647_S16_d1 h_S_ jj).1)
def b6 (j : ℕ) (s : State F) : (⟨S16, .i32⟩ : BufTy).Contents (Elt F) :=
  (fun jj => (Host.argReduce reducer_argmax_f32_i32 (s.main_v25_3) ((b2 j s)) ((b3 j s)) ((b4 j s)) reducesTo_S16x10647_S16_d1 h_S_ jj).2)
def b7 (j : ℕ) (s : State F) : (⟨S16x1, .i32⟩ : BufTy).Contents (Elt F) :=
  broadcastInDim S16x1 ![0] bcast_S16_S16x1_0 ((b6 j s))
def b8 (j : ℕ) (s : State F) : (⟨S16, .f32⟩ : BufTy).Contents (Elt F) :=
  Host.gather gather_S16x10647_S16x1_S16_n_1_0_0_1_1_11 (s.main_v25_3) ((b7 j s))
def b9 (j : ℕ) (s : State F) : (⟨S_, .f32⟩ : BufTy).Contents (Elt F) :=
  constant S_ .f32 0xF0C9F2CA#32
def b10 (j : ℕ) (s : State F) : (⟨S16, .f32⟩ : BufTy).Contents (Elt F) :=
  broadcastInDim S16 ![] bcast_S_S16 ((b9 j s))
def b11 (j : ℕ) (s : State F) : (⟨S16, .i1⟩ : BufTy).Contents (Elt F) :=
  cmpf .ogt ((b8 j s)) ((b10 j s))
def b12 (j : ℕ) (s : State F) : (⟨S16x1, .i32⟩ : BufTy).Contents (Elt F) :=
  broadcastInDim S16x1 ![0] bcast_S16_S16x1_0 ((b6 j s))
def b13 (j : ℕ) (s : State F) : (⟨S16x4, .f32⟩ : BufTy).Contents (Elt F) :=
  Host.gather gather_S16x10647x4_S16x1_S16x4_1_1_0_0_1_1_114 (s.main_v25_0) ((b12 j s))
def b14 (j : ℕ) (s : State F) : (⟨S16x1, .f32⟩ : BufTy).Contents (Elt F) :=
  extractStridedSlice S16x1 ![0, 0] ((b13 j s)) slices_S16x4_S16x1_0_0
def b15 (j : ℕ) (s : State F) : (⟨S16, .f32⟩ : BufTy).Contents (Elt F) :=
  shapeCast S16 ((b14 j s)) shapeCasts_S16x1_S16
def b16 (j : ℕ) (s : State F) : (⟨S16x10647x1, .f32⟩ : BufTy).Contents (Elt F) :=
  extractStridedSlice S16x10647x1 ![0, 0, 0] (s.main_v25_0) slices_S16x10647x4_S16x10647x1_0_0_0
def b17 (j : ℕ) (s : State F) : (⟨S16x10647, .f32⟩ : BufTy).Contents (Elt F) :=
  shapeCast S16x10647 ((b16 j s)) shapeCasts_S16x10647x1_S16x10647
def b18 (j : ℕ) (s : State F) : (⟨S16x1, .f32⟩ : BufTy).Contents (Elt F) :=
  broadcastInDim S16x1 ![0] bcast_S16_S16x1_0 ((b15 j s))
def b19 (j : ℕ) (s : State F) : (⟨S16x10647, .f32⟩ : BufTy).Contents (Elt F) :=
  broadcastInDim S16x10647 ![0, 1] bcast_S16x1_S16x10647_0_1 ((b18 j s))
def b20 (j : ℕ) (s : State F) : (⟨S16x10647, .f32⟩ : BufTy).Contents (Elt F) :=
  maximumf ((b19 j s)) ((b17 j s))
def b21 (j : ℕ) (s : State F) : (⟨S16x1, .f32⟩ : BufTy).Contents (Elt F) :=
  extractStridedSlice S16x1 ![0, 1] ((b13 j s)) slices_S16x4_S16x1_0_1
def b22 (j : ℕ) (s : State F) : (⟨S16, .f32⟩ : BufTy).Contents (Elt F) :=
  shapeCast S16 ((b21 j s)) shapeCasts_S16x1_S16
def b23 (j : ℕ) (s : State F) : (⟨S16x10647x1, .f32⟩ : BufTy).Contents (Elt F) :=
  extractStridedSlice S16x10647x1 ![0, 0, 1] (s.main_v25_0) slices_S16x10647x4_S16x10647x1_0_0_1
def b24 (j : ℕ) (s : State F) : (⟨S16x10647, .f32⟩ : BufTy).Contents (Elt F) :=
  shapeCast S16x10647 ((b23 j s)) shapeCasts_S16x10647x1_S16x10647
def b25 (j : ℕ) (s : State F) : (⟨S16x1, .f32⟩ : BufTy).Contents (Elt F) :=
  broadcastInDim S16x1 ![0] bcast_S16_S16x1_0 ((b22 j s))
def b26 (j : ℕ) (s : State F) : (⟨S16x10647, .f32⟩ : BufTy).Contents (Elt F) :=
  broadcastInDim S16x10647 ![0, 1] bcast_S16x1_S16x10647_0_1 ((b25 j s))
def b27 (j : ℕ) (s : State F) : (⟨S16x10647, .f32⟩ : BufTy).Contents (Elt F) :=
  maximumf ((b26 j s)) ((b24 j s))
def b28 (j : ℕ) (s : State F) : (⟨S16x1, .f32⟩ : BufTy).Contents (Elt F) :=
  extractStridedSlice S16x1 ![0, 2] ((b13 j s)) slices_S16x4_S16x1_0_2
def b29 (j : ℕ) (s : State F) : (⟨S16, .f32⟩ : BufTy).Contents (Elt F) :=
  shapeCast S16 ((b28 j s)) shapeCasts_S16x1_S16
def b30 (j : ℕ) (s : State F) : (⟨S16x10647x1, .f32⟩ : BufTy).Contents (Elt F) :=
  extractStridedSlice S16x10647x1 ![0, 0, 2] (s.main_v25_0) slices_S16x10647x4_S16x10647x1_0_0_2
def b31 (j : ℕ) (s : State F) : (⟨S16x10647, .f32⟩ : BufTy).Contents (Elt F) :=
  shapeCast S16x10647 ((b30 j s)) shapeCasts_S16x10647x1_S16x10647
def b32 (j : ℕ) (s : State F) : (⟨S16x1, .f32⟩ : BufTy).Contents (Elt F) :=
  broadcastInDim S16x1 ![0] bcast_S16_S16x1_0 ((b29 j s))
def b33 (j : ℕ) (s : State F) : (⟨S16x10647, .f32⟩ : BufTy).Contents (Elt F) :=
  broadcastInDim S16x10647 ![0, 1] bcast_S16x1_S16x10647_0_1 ((b32 j s))
def b34 (j : ℕ) (s : State F) : (⟨S16x10647, .f32⟩ : BufTy).Contents (Elt F) :=
  minimumf ((b33 j s)) ((b31 j s))
def b35 (j : ℕ) (s : State F) : (⟨S16x1, .f32⟩ : BufTy).Contents (Elt F) :=
  extractStridedSlice S16x1 ![0, 3] ((b13 j s)) slices_S16x4_S16x1_0_3
def b36 (j : ℕ) (s : State F) : (⟨S16, .f32⟩ : BufTy).Contents (Elt F) :=
  shapeCast S16 ((b35 j s)) shapeCasts_S16x1_S16
def b37 (j : ℕ) (s : State F) : (⟨S16x10647x1, .f32⟩ : BufTy).Contents (Elt F) :=
  extractStridedSlice S16x10647x1 ![0, 0, 3] (s.main_v25_0) slices_S16x10647x4_S16x10647x1_0_0_3
def b38 (j : ℕ) (s : State F) : (⟨S16x10647, .f32⟩ : BufTy).Contents (Elt F) :=
  shapeCast S16x10647 ((b37 j s)) shapeCasts_S16x10647x1_S16x10647
def b39 (j : ℕ) (s : State F) : (⟨S16x1, .f32⟩ : BufTy).Contents (Elt F) :=
  broadcastInDim S16x1 ![0] bcast_S16_S16x1_0 ((b36 j s))
def b40 (j : ℕ) (s : State F) : (⟨S16x10647, .f32⟩ : BufTy).Contents (Elt F) :=
  broadcastInDim S16x10647 ![0, 1] bcast_S16x1_S16x10647_0_1 ((b39 j s))
def b41 (j : ℕ) (s : State F) : (⟨S16x10647, .f32⟩ : BufTy).Contents (Elt F) :=
  minimumf ((b40 j s)) ((b38 j s))
def b42 (j : ℕ) (s : State F) : (⟨S16x10647, .f32⟩ : BufTy).Contents (Elt F) :=
  subf ((b34 j s)) ((b20 j s))
def b43 (j : ℕ) (s : State F) : (⟨S_, .f32⟩ : BufTy).Contents (Elt F) :=
  constant S_ .f32 0x00000000#32
def b44 (j : ℕ) (s : State F) : (⟨S16x10647, .f32⟩ : BufTy).Contents (Elt F) :=
  broadcastInDim S16x10647 ![] bcast_S_S16x10647 ((b43 j s))
def b45 (j : ℕ) (s : State F) : (⟨S16x10647, .f32⟩ : BufTy).Contents (Elt F) :=
  maximumf ((b44 j s)) ((b42 j s))
def b46 (j : ℕ) (s : State F) : (⟨S16x10647, .f32⟩ : BufTy).Contents (Elt F) :=
  subf ((b41 j s)) ((b27 j s))
def b47 (j : ℕ) (s : State F) : (⟨S_, .f32⟩ : BufTy).Contents (Elt F) :=
  constant S_ .f32 0x00000000#32
def b48 (j : ℕ) (s : State F) : (⟨S16x10647, .f32⟩ : BufTy).Contents (Elt F) :=
  broadcastInDim S16x10647 ![] bcast_S_S16x10647 ((b47 j s))
def b49 (j : ℕ) (s : State F) : (⟨S16x10647, .f32⟩ : BufTy).Contents (Elt F) :=
  maximumf ((b48 j s)) ((b46 j s))
def b50 (j : ℕ) (s : State F) : (⟨S16x10647, .f32⟩ : BufTy).Contents (Elt F) :=
  mulf ((b45 j s)) ((b49 j s))
def b51 (j : ℕ) (s : State F) : (⟨S16x1, .f32⟩ : BufTy).Contents (Elt F) :=
  extractStridedSlice S16x1 ![0, 2] ((b13 j s)) slices_S16x4_S16x1_0_2
def b52 (j : ℕ) (s : State F) : (⟨S16, .f32⟩ : BufTy).Contents (Elt F) :=
  shapeCast S16 ((b51 j s)) shapeCasts_S16x1_S16
def b53 (j : ℕ) (s : State F) : (⟨S16x1, .f32⟩ : BufTy).Contents (Elt F) :=
  extractStridedSlice S16x1 ![0, 0] ((b13 j s)) slices_S16x4_S16x1_0_0
def b54 (j : ℕ) (s : State F) : (⟨S16, .f32⟩ : BufTy).Contents (Elt F) :=
  shapeCast S16 ((b53 j s)) shapeCasts_S16x1_S16
def b55 (j : ℕ) (s : State F) : (⟨S16, .f32⟩ : BufTy).Contents (Elt F) :=
  subf ((b52 j s)) ((b54 j s))
def b56 (j : ℕ) (s : State F) : (⟨S_, .f32⟩ : BufTy).Contents (Elt F) :=
  constant S_ .f32 0x00000000#32
def b57 (j : ℕ) (s : State F) : (⟨S16, .f32⟩ : BufTy).Contents (Elt F) :=
  broadcastInDim S16 ![] bcast_S_S16 ((b56 j s))
def b58 (j : ℕ) (s : State F) : (⟨S16, .f32⟩ : BufTy).Contents (Elt F) :=
  maximumf ((b57 j s)) ((b55 j s))
def b59 (j : ℕ) (s : State F) : (⟨S16x1, .f32⟩ : BufTy).Contents (Elt F) :=
  extractStridedSlice S16x1 ![0, 3] ((b13 j s)) slices_S16x4_S16x1_0_3
def b60 (j : ℕ) (s : State F) : (⟨S16, .f32⟩ : BufTy).Contents (Elt F) :=
  shapeCast S16 ((b59 j s)) shapeCasts_S16x1_S16
def b61 (j : ℕ) (s : State F) : (⟨S16x1, .f32⟩ : BufTy).Contents (Elt F) :=
  extractStridedSlice S16x1 ![0, 1] ((b13 j s)) slices_S16x4_S16x1_0_1
def b62 (j : ℕ) (s : State F) : (⟨S16, .f32⟩ : BufTy).Contents (Elt F) :=
  shapeCast S16 ((b61 j s)) shapeCasts_S16x1_S16
def b63 (j : ℕ) (s : State F) : (⟨S16, .f32⟩ : BufTy).Contents (Elt F) :=
  subf ((b60 j s)) ((b62 j s))
def b64 (j : ℕ) (s : State F) : (⟨S_, .f32⟩ : BufTy).Contents (Elt F) :=
  constant S_ .f32 0x00000000#32
def b65 (j : ℕ) (s : State F) : (⟨S16, .f32⟩ : BufTy).Contents (Elt F) :=
  broadcastInDim S16 ![] bcast_S_S16 ((b64 j s))
def b66 (j : ℕ) (s : State F) : (⟨S16, .f32⟩ : BufTy).Contents (Elt F) :=
  maximumf ((b65 j s)) ((b63 j s))
def b67 (j : ℕ) (s : State F) : (⟨S16, .f32⟩ : BufTy).Contents (Elt F) :=
  mulf ((b58 j s)) ((b66 j s))
def b68 (j : ℕ) (s : State F) : (⟨S16x10647x1, .f32⟩ : BufTy).Contents (Elt F) :=
  extractStridedSlice S16x10647x1 ![0, 0, 2] (s.main_v25_0) slices_S16x10647x4_S16x10647x1_0_0_2
def b69 (j : ℕ) (s : State F) : (⟨S16x10647, .f32⟩ : BufTy).Contents (Elt F) :=
  shapeCast S16x10647 ((b68 j s)) shapeCasts_S16x10647x1_S16x10647
def b70 (j : ℕ) (s : State F) : (⟨S16x10647x1, .f32⟩ : BufTy).Contents (Elt F) :=
  extractStridedSlice S16x10647x1 ![0, 0, 0] (s.main_v25_0) slices_S16x10647x4_S16x10647x1_0_0_0
def b71 (j : ℕ) (s : State F) : (⟨S16x10647, .f32⟩ : BufTy).Contents (Elt F) :=
  shapeCast S16x10647 ((b70 j s)) shapeCasts_S16x10647x1_S16x10647
def b72 (j : ℕ) (s : State F) : (⟨S16x10647, .f32⟩ : BufTy).Contents (Elt F) :=
  subf ((b69 j s)) ((b71 j s))
def b73 (j : ℕ) (s : State F) : (⟨S_, .f32⟩ : BufTy).Contents (Elt F) :=
  constant S_ .f32 0x00000000#32
def b74 (j : ℕ) (s : State F) : (⟨S16x10647, .f32⟩ : BufTy).Contents (Elt F) :=
  broadcastInDim S16x10647 ![] bcast_S_S16x10647 ((b73 j s))
def b75 (j : ℕ) (s : State F) : (⟨S16x10647, .f32⟩ : BufTy).Contents (Elt F) :=
  maximumf ((b74 j s)) ((b72 j s))
def b76 (j : ℕ) (s : State F) : (⟨S16x10647x1, .f32⟩ : BufTy).Contents (Elt F) :=
  extractStridedSlice S16x10647x1 ![0, 0, 3] (s.main_v25_0) slices_S16x10647x4_S16x10647x1_0_0_3
def b77 (j : ℕ) (s : State F) : (⟨S16x10647, .f32⟩ : BufTy).Contents (Elt F) :=
  shapeCast S16x10647 ((b76 j s)) shapeCasts_S16x10647x1_S16x10647
def b78 (j : ℕ) (s : State F) : (⟨S16x10647x1, .f32⟩ : BufTy).Contents (Elt F) :=
  extractStridedSlice S16x10647x1 ![0, 0, 1] (s.main_v25_0) slices_S16x10647x4_S16x10647x1_0_0_1
def b79 (j : ℕ) (s : State F) : (⟨S16x10647, .f32⟩ : BufTy).Contents (Elt F) :=
  shapeCast S16x10647 ((b78 j s)) shapeCasts_S16x10647x1_S16x10647
def b80 (j : ℕ) (s : State F) : (⟨S16x10647, .f32⟩ : BufTy).Contents (Elt F) :=
  subf ((b77 j s)) ((b79 j s))
def b81 (j : ℕ) (s : State F) : (⟨S_, .f32⟩ : BufTy).Contents (Elt F) :=
  constant S_ .f32 0x00000000#32
def b82 (j : ℕ) (s : State F) : (⟨S16x10647, .f32⟩ : BufTy).Contents (Elt F) :=
  broadcastInDim S16x10647 ![] bcast_S_S16x10647 ((b81 j s))
def b83 (j : ℕ) (s : State F) : (⟨S16x10647, .f32⟩ : BufTy).Contents (Elt F) :=
  maximumf ((b82 j s)) ((b80 j s))
def b84 (j : ℕ) (s : State F) : (⟨S16x10647, .f32⟩ : BufTy).Contents (Elt F) :=
  mulf ((b75 j s)) ((b83 j s))
def b85 (j : ℕ) (s : State F) : (⟨S16x1, .f32⟩ : BufTy).Contents (Elt F) :=
  broadcastInDim S16x1 ![0] bcast_S16_S16x1_0 ((b67 j s))
def b86 (j : ℕ) (s : State F) : (⟨S16x10647, .f32⟩ : BufTy).Contents (Elt F) :=
  broadcastInDim S16x10647 ![0, 1] bcast_S16x1_S16x10647_0_1 ((b85 j s))
def b87 (j : ℕ) (s : State F) : (⟨S16x10647, .f32⟩ : BufTy).Contents (Elt F) :=
  addf ((b86 j s)) ((b84 j s))
def b88 (j : ℕ) (s : State F) : (⟨S16x10647, .f32⟩ : BufTy).Contents (Elt F) :=
  subf ((b87 j s)) ((b50 j s))
def b89 (j : ℕ) (s : State F) : (⟨S_, .f32⟩ : BufTy).Contents (Elt F) :=
  constant S_ .f32 0x00000000#32
def b90 (j : ℕ) (s : State F) : (⟨S16x10647, .f32⟩ : BufTy).Contents (Elt F) :=
  broadcastInDim S16x10647 ![] bcast_S_S16x10647 ((b89 j s))
def b91 (j : ℕ) (s : State F) : (⟨S16x10647, .i1⟩ : BufTy).Contents (Elt F) :=
  cmpf .ogt ((b88 j s)) ((b90 j s))
def b92 (j : ℕ) (s : State F) : (⟨S16x10647, .f32⟩ : BufTy).Contents (Elt F) :=
  Host.divf ((b50 j s)) ((b88 j s))
def b93 (j : ℕ) (s : State F) : (⟨S_, .f32⟩ : BufTy).Contents (Elt F) :=
  constant S_ .f32 0x00000000#32
def b94 (j : ℕ) (s : State F) : (⟨S_, .f32⟩ : BufTy).Contents (Elt F) := b93 j s
theorem b94_id (j : ℕ) (s : State F) : b94 j s = b93 j s := rfl
def b95 (j : ℕ) (s : State F) : (⟨S10647, .f32⟩ : BufTy).Contents (Elt F) :=
  broadcastInDim S10647 ![] bcast_S_S10647 ((b94 j s))
def b96 (j : ℕ) (s : State F) : (⟨S16x10647, .f32⟩ : BufTy).Contents (Elt F) :=
  broadcastInDim S16x10647 ![1] bcast_S10647_S16x10647_1 ((b95 j s))
def b97 (j : ℕ) (s : State F) : (⟨S16x10647, .f32⟩ : BufTy).Contents (Elt F) :=
  select ((b91 j s)) ((b92 j s)) ((b96 j s))
def b98 (j : ℕ) (s : State F) : (⟨S_, .f32⟩ : BufTy).Contents (Elt F) :=
  constant S_ .f32 0x3F000000#32
def b99 (j : ℕ) (s : State F) : (⟨S16x10647, .f32⟩ : BufTy).Contents (Elt F) :=
  broadcastInDim S16x10647 ![] bcast_S_S16x10647 ((b98 j s))
def b100 (j : ℕ) (s : State F) : (⟨S16x10647, .i1⟩ : BufTy).Contents (Elt F) :=
  cmpf .ogt ((b97 j s)) ((b99 j s))
def b101 (j : ℕ) (s : State F) : (⟨S_, .f32⟩ : BufTy).Contents (Elt F) :=
  constant S_ .f32 0xF149F2CA#32
def b102 (j : ℕ) (s : State F) : (⟨S_, .f32⟩ : BufTy).Contents (Elt F) := b101 j s
theorem b102_id (j : ℕ) (s : State F) : b102 j s = b101 j s := rfl
def b103 (j : ℕ) (s : State F) : (⟨S10647, .f32⟩ : BufTy).Contents (Elt F) :=
  broadcastInDim S10647 ![] bcast_S_S10647 ((b102 j s))
def b104 (j : ℕ) (s : State F) : (⟨S16x10647, .f32⟩ : BufTy).Contents (Elt F) :=
  broadcastInDim S16x10647 ![1] bcast_S10647_S16x10647_1 ((b103 j s))
def b105 (j : ℕ) (s : State F) : (⟨S16x10647, .f32⟩ : BufTy).Contents (Elt F) :=
  select ((b100 j s)) ((b104 j s)) (s.main_v25_3)
def b106 (j : ℕ) (s : State F) : (⟨S10647, .i32⟩ : BufTy).Contents (Elt F) :=
  iotaInDim S10647 32 0
def b107 (j : ℕ) (s : State F) : (⟨S1x10647, .i32⟩ : BufTy).Contents (Elt F) :=
  broadcastInDim S1x10647 ![1] bcast_S10647_S1x10647_1 ((b106 j s))
def b108 (j : ℕ) (s : State F) : (⟨S16x1, .i32⟩ : BufTy).Contents (Elt F) :=
  broadcastInDim S16x1 ![0] bcast_S16_S16x1_0 ((b6 j s))
def b109 (j : ℕ) (s : State F) : (⟨S16x10647, .i32⟩ : BufTy).Contents (Elt F) :=
  broadcastInDim S16x10647 ![0, 1] bcast_S1x10647_S16x10647_0_1 ((b107 j s))
def b110 (j : ℕ) (s : State F) : (⟨S16x10647, .i32⟩ : BufTy).Contents (Elt F) :=
  broadcastInDim S16x10647 ![0, 1] bcast_S16x1_S16x10647_0_1 ((b108 j s))
def b111 (j : ℕ) (s : State F) : (⟨S16x10647, .i1⟩ : BufTy).Contents (Elt F) :=
  cmpi .eq ((b109 j s)) ((b110 j s))
def b112 (j : ℕ) (s : State F) : (⟨S_, .f32⟩ : BufTy).Contents (Elt F) :=
  constant S_ .f32 0xF149F2CA#32
def b113 (j : ℕ) (s : State F) : (⟨S_, .f32⟩ : BufTy).Contents (Elt F) := b112 j s
theorem b113_id (j : ℕ) (s : State F) : b113 j s = b112 j s := rfl
def b114 (j : ℕ) (s : State F) : (⟨S10647, .f32⟩ : BufTy).Contents (Elt F) :=
  broadcastInDim S10647 ![] bcast_S_S10647 ((b113 j s))
def b115 (j : ℕ) (s : State F) : (⟨S16x10647, .f32⟩ : BufTy).Contents (Elt F) :=
  broadcastInDim S16x10647 ![1] bcast_S10647_S16x10647_1 ((b114 j s))
def b116 (j : ℕ) (s : State F) : (⟨S16x10647, .f32⟩ : BufTy).Contents (Elt F) :=
  select ((b111 j s)) ((b115 j s)) ((b105 j s))
def b117 (j : ℕ) (s : State F) : (⟨S16x10647, .i1⟩ : BufTy).Contents (Elt F) :=
  broadcastInDim S16x10647 ![0] bcast_S16_S16x10647_0 ((b11 j s))
def b118 (j : ℕ) (s : State F) : (⟨S16x10647, .f32⟩ : BufTy).Contents (Elt F) :=
  select ((b117 j s)) ((b116 j s)) (s.main_v25_3)
def b119 (j : ℕ) (s : State F) : (⟨S16, .f32⟩ : BufTy).Contents (Elt F) :=
  uitofp .f32 ((b11 j s))
def b120 (j : ℕ) (s : State F) : (⟨S_, .f32⟩ : BufTy).Contents (Elt F) :=
  constant S_ .f32 0x00000000#32
def b121 (j : ℕ) (s : State F) : (⟨S_, .f32⟩ : BufTy).Contents (Elt F) :=
  constant S_ .f32 0x3F800000#32
def b122 (j : ℕ) (s : State F) : (⟨S_, .f32⟩ : BufTy).Contents (Elt F) := b120 j s
theorem b122_id (j : ℕ) (s : State F) : b122 j s = b120 j s := rfl
def b123 (j : ℕ) (s : State F) : (⟨S16x4, .f32⟩ : BufTy).Contents (Elt F) :=
  broadcastInDim S16x4 ![] bcast_S_S16x4 ((b122 j s))
def b124 (j : ℕ) (s : State F) : (⟨S16x4, .f32⟩ : BufTy).Contents (Elt F) :=
  maximumf ((b123 j s)) ((b13 j s))
def b125 (j : ℕ) (s : State F) : (⟨S_, .f32⟩ : BufTy).Contents (Elt F) := b121 j s
theorem b125_id (j : ℕ) (s : State F) : b125 j s = b121 j s := rfl
def b126 (j : ℕ) (s : State F) : (⟨S16x4, .f32⟩ : BufTy).Contents (Elt F) :=
  broadcastInDim S16x4 ![] bcast_S_S16x4 ((b125 j s))
def b127 (j : ℕ) (s : State F) : (⟨S16x4, .f32⟩ : BufTy).Contents (Elt F) :=
  minimumf ((b126 j s)) ((b124 j s))
def b128 (j : ℕ) (s : State F) : (⟨S16x1, .f32⟩ : BufTy).Contents (Elt F) :=
  broadcastInDim S16x1 ![0] bcast_S16_S16x1_0 ((b119 j s))
def b129 (j : ℕ) (s : State F) : (⟨S16x4, .f32⟩ : BufTy).Contents (Elt F) :=
  broadcastInDim S16x4 ![0, 1] bcast_S16x1_S16x4_0_1 ((b128 j s))
def b130 (j : ℕ) (s : State F) : (⟨S16x4, .f32⟩ : BufTy).Contents (Elt F) :=
  mulf ((b129 j s)) ((b127 j s))
def b131 (j : ℕ) (s : State F) : (⟨S_, .i32⟩ : BufTy).Contents (Elt F) :=
  constantI S_ 32 0#32
def b132 (j : ℕ) (s : State F) : (⟨S_, .i1⟩ : BufTy).Contents (Elt F) :=
  cmpi .slt ((constantI S_ 32 (BitVec.ofNat 32 j) : (⟨S_, .i32⟩ : BufTy).Contents (Elt F))) ((b131 j s))
def b133 (j : ℕ) (s : State F) : (⟨S_, .i32⟩ : BufTy).Contents (Elt F) :=
  constantI S_ 32 100#32
def b134 (j : ℕ) (s : State F) : (⟨S_, .i32⟩ : BufTy).Contents (Elt F) :=
  addi ((constantI S_ 32 (BitVec.ofNat 32 j) : (⟨S_, .i32⟩ : BufTy).Contents (Elt F))) ((b133 j s))
def b135 (j : ℕ) (s : State F) : (⟨S_, .i32⟩ : BufTy).Contents (Elt F) :=
  select ((b132 j s)) ((b134 j s)) ((constantI S_ 32 (BitVec.ofNat 32 j) : (⟨S_, .i32⟩ : BufTy).Contents (Elt F)))
def b136 (j : ℕ) (s : State F) : (⟨S_, .i32⟩ : BufTy).Contents (Elt F) := b135 j s
theorem b136_id (j : ℕ) (s : State F) : b136 j s = b135 j s := rfl
def b137 (j : ℕ) (s : State F) : (⟨S1, .i32⟩ : BufTy).Contents (Elt F) :=
  broadcastInDim S1 ![] bcast_S_S1 ((b136 j s))
def b138 (j : ℕ) (s : State F) : (⟨S16x100x4, .f32⟩ : BufTy).Contents (Elt F) :=
  Host.scatter scatter_S16x100x4_S1_S16x4_01_1_1_0 (fun _ b => b) (s.main_v25_4) ((b137 j s)) ((b130 j s))
def b139 (j : ℕ) (s : State F) : (⟨S16, .f32⟩ : BufTy).Contents (Elt F) :=
  mulf ((b119 j s)) ((b8 j s))
def b140 (j : ℕ) (s : State F) : (⟨S_, .i32⟩ : BufTy).Contents (Elt F) :=
  constantI S_ 32 0#32
def b141 (j : ℕ) (s : State F) : (⟨S_, .i1⟩ : BufTy).Contents (Elt F) :=
  cmpi .slt ((constantI S_ 32 (BitVec.ofNat 32 j) : (⟨S_, .i32⟩ : BufTy).Contents (Elt F))) ((b140 j s))
def b142 (j : ℕ) (s : State F) : (⟨S_, .i32⟩ : BufTy).Contents (Elt F) :=
  constantI S_ 32 100#32
def b143 (j : ℕ) (s : State F) : (⟨S_, .i32⟩ : BufTy).Contents (Elt F) :=
  addi ((constantI S_ 32 (BitVec.ofNat 32 j) : (⟨S_, .i32⟩ : BufTy).Contents (Elt F))) ((b142 j s))
def b144 (j : ℕ) (s : State F) : (⟨S_, .i32⟩ : BufTy).Contents (Elt F) :=
  select ((b141 j s)) ((b143 j s)) ((constantI S_ 32 (BitVec.ofNat 32 j) : (⟨S_, .i32⟩ : BufTy).Contents (Elt F)))
def b145 (j : ℕ) (s : State F) : (⟨S_, .i32⟩ : BufTy).Contents (Elt F) := b144 j s
theorem b145_id (j : ℕ) (s : State F) : b145 j s = b144 j s := rfl
def b146 (j : ℕ) (s : State F) : (⟨S1, .i32⟩ : BufTy).Contents (Elt F) :=
  broadcastInDim S1 ![] bcast_S_S1 ((b145 j s))
def b147 (j : ℕ) (s : State F) : (⟨S16x100, .f32⟩ : BufTy).Contents (Elt F) :=
  Host.scatter scatter_S16x100_S1_S16_0_1_1_0 (fun _ b => b) (s.main_v25_5) ((b146 j s)) ((b139 j s))
def b148 (j : ℕ) (s : State F) : (⟨S_, .i32⟩ : BufTy).Contents (Elt F) :=
  constantI S_ 32 0#32
def b149 (j : ℕ) (s : State F) : (⟨S_, .i1⟩ : BufTy).Contents (Elt F) :=
  cmpi .slt ((constantI S_ 32 (BitVec.ofNat 32 j) : (⟨S_, .i32⟩ : BufTy).Contents (Elt F))) ((b148 j s))
def b150 (j : ℕ) (s : State F) : (⟨S_, .i32⟩ : BufTy).Contents (Elt F) :=
  constantI S_ 32 100#32
def b151 (j : ℕ) (s : State F) : (⟨S_, .i32⟩ : BufTy).Contents (Elt F) :=
  addi ((constantI S_ 32 (BitVec.ofNat 32 j) : (⟨S_, .i32⟩ : BufTy).Contents (Elt F))) ((b150 j s))
def b152 (j : ℕ) (s : State F) : (⟨S_, .i32⟩ : BufTy).Contents (Elt F) :=
  select ((b149 j s)) ((b151 j s)) ((constantI S_ 32 (BitVec.ofNat 32 j) : (⟨S_, .i32⟩ : BufTy).Contents (Elt F)))
def b153 (j : ℕ) (s : State F) : (⟨S_, .i32⟩ : BufTy).Contents (Elt F) := b152 j s
theorem b153_id (j : ℕ) (s : State F) : b153 j s = b152 j s := rfl
def b154 (j : ℕ) (s : State F) : (⟨S1, .i32⟩ : BufTy).Contents (Elt F) :=
  broadcastInDim S1 ![] bcast_S_S1 ((b153 j s))
def b155 (j : ℕ) (s : State F) : (⟨S_, .f32⟩ : BufTy).Contents (Elt F) :=
  constant S_ .f32 0x00000000#32
def b156 (j : ℕ) (s : State F) : (⟨S100, .f32⟩ : BufTy).Contents (Elt F) :=
  Host.scatter scatter_S100_S1_S__n_0_0_0 (fun _ b => b) (s.main_v25_6) ((b154 j s)) ((b155 j s))
def b157 (j : ℕ) (s : State F) : (⟨S16, .f32⟩ : BufTy).Contents (Elt F) :=
  addf (s.main_v25_7) ((b119 j s))

/-- The state @main hands the first trip, of the arguments it copies in or computes from. -/
def init (main_arg0 : (⟨S16x13x13x12, .f32⟩ : BufTy).Contents (Elt F)) (main_arg1 : (⟨S16x13x13x3, .f32⟩ : BufTy).Contents (Elt F)) (main_arg2 : (⟨S16x13x13x240, .f32⟩ : BufTy).Contents (Elt F)) (main_arg3 : (⟨S16x26x26x12, .f32⟩ : BufTy).Contents (Elt F)) (main_arg4 : (⟨S16x26x26x3, .f32⟩ : BufTy).Contents (Elt F)) (main_arg5 : (⟨S16x26x26x240, .f32⟩ : BufTy).Contents (Elt F)) (main_arg6 : (⟨S16x52x52x12, .f32⟩ : BufTy).Contents (Elt F)) (main_arg7 : (⟨S16x52x52x3, .f32⟩ : BufTy).Contents (Elt F)) (main_arg8 : (⟨S16x52x52x240, .f32⟩ : BufTy).Contents (Elt F)) : State F :=
  { main_v25_3 := A_main_v18 main_arg0 main_arg1 main_arg2 main_arg3 main_arg4 main_arg5 main_arg6 main_arg7 main_arg8, main_v25_4 := K_main_v22 (F := F), main_v25_5 := K_main_v23 (F := F), main_v25_6 := K_main_v21 (F := F), main_v25_7 := K_main_v24 (F := F), main_v25_0 := A_main_v3 main_arg0 main_arg1 main_arg2 main_arg3 main_arg4 main_arg5 main_arg6 main_arg7 main_arg8 }

/-- One trip. -/
def step (j : ℕ) (s : State F) : State F :=
  { main_v25_3 := b118 j s, main_v25_4 := b138 j s, main_v25_5 := b147 j s, main_v25_6 := b156 j s, main_v25_7 := b157 j s, main_v25_0 := s.main_v25_0 }
theorem step_main_v25_3 (j : ℕ) (s : State F) : (step j s).main_v25_3 = b118 j s := by unfold step; rfl
theorem step_main_v25_4 (j : ℕ) (s : State F) : (step j s).main_v25_4 = b138 j s := by unfold step; rfl
theorem step_main_v25_5 (j : ℕ) (s : State F) : (step j s).main_v25_5 = b147 j s := by unfold step; rfl
theorem step_main_v25_6 (j : ℕ) (s : State F) : (step j s).main_v25_6 = b156 j s := by unfold step; rfl
theorem step_main_v25_7 (j : ℕ) (s : State F) : (step j s).main_v25_7 = b157 j s := by unfold step; rfl

/-- `main_v29`, which the operations after the loop make, of the loop's last state. -/
def R_main_v29 (s : State F) : (⟨S16x100x6, .f32⟩ : BufTy).Contents (Elt F) :=
  (concatenate S16x100x6 2 [⟨S16x100x4, ((s.main_v25_4) : (⟨S16x100x4, .f32⟩ : BufTy).Contents (Elt F))⟩, ⟨S16x100x1, ((broadcastInDim S16x100x1 ![0, 1] bcast_S16x100_S16x100x1_0_1 (s.main_v25_5)) : (⟨S16x100x1, .f32⟩ : BufTy).Contents (Elt F))⟩, ⟨S16x100x1, ((broadcastInDim S16x100x1 ![0, 1] bcast_S16x100_S16x100x1_0_1 (broadcastInDim S16x100 ![1] bcast_S100_S16x100_1 (s.main_v25_6))) : (⟨S16x100x1, .f32⟩ : BufTy).Contents (Elt F))⟩] concatenates_S16x100x4_S16x100x1_S16x100x1_S16x100x6_d2 : (⟨S16x100x6, .f32⟩ : BufTy).Contents (Elt F))

/-- `main_v30`, which the operations after the loop make, of the loop's last state. -/
def R_main_v30 (s : State F) : (⟨S16, .i32⟩ : BufTy).Contents (Elt F) :=
  fptosi 32 (s.main_v25_7)

end Cert.ReferenceIdeal.Step

end
-- ==== Proof.Ref.StepRun.lean ====
/-
  The run of the reference stated over `Step.step`: a valuation that holds a state at the carried buffers holds, after
  one trip, the next state there — one lemma per value of the trip —, so the program's results are read from the
  hundredth state.
-/
module

public import proofs.«01_k».proof.Proof.Ref.Run
public import proofs.«01_k».proof.Proof.Ref.Step

@[expose] public section

set_option maxRecDepth 8192

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v25_3) = s.main_v25_3
  f_4 : V0 (Proc.devRef .tc main_v25_4) = s.main_v25_4
  f_5 : V0 (Proc.devRef .tc main_v25_5) = s.main_v25_5
  f_6 : V0 (Proc.devRef .tc main_v25_6) = s.main_v25_6
  f_7 : V0 (Proc.devRef .tc main_v25_7) = s.main_v25_7
  f_0 : V0 (Proc.devRef .tc main_v25_0) = s.main_v25_0
  n_1 : V0 (Proc.devRef .tc main_v25_1) = constantI S_ 32 (BitVec.ofNat 32 j)
  n_2 : V0 (Proc.devRef .tc main_v25_2) = constantI S_ 32 (BitVec.ofNat 32 j)

variable {V0 s j}

theorem al_0 (h : Holds V0 s j) : (constantI S_ 32 1#32 : (Proc.devRef .tc main_while0b_c_13 : DevRef τ sig).ty.Contents (Elt F)) = Cert.ReferenceIdeal.Step.b0 j s := by
  unfold Cert.ReferenceIdeal.Step.b0
  rfl
theorem al_1 (h : Holds V0 s j) : (addi (V0 (Proc.devRef .tc main_v25_2)) (constantI S_ 32 1#32) : (Proc.devRef .tc main_while0b_v31 : DevRef τ sig).ty.Contents (Elt F)) = Cert.ReferenceIdeal.Step.b1 j s := by
  unfold Cert.ReferenceIdeal.Step.b1
  rw [← al_0 h, h.n_2]
  try rfl
theorem al_2 (h : Holds V0 s j) : (res_main_while0b_call2_v0 V0 : (Proc.devRef .tc main_while0b_call2_v0 : DevRef τ sig).ty.Contents (Elt F)) = Cert.ReferenceIdeal.Step.b2 j s := by
  unfold res_main_while0b_call2_v0 Cert.ReferenceIdeal.Step.b2
  rfl
theorem al_3 (h : Holds V0 s j) : (res_main_while0b_call2_cst V0 : (Proc.devRef .tc main_while0b_call2_cst : DevRef τ sig).ty.Contents (Elt F)) = Cert.ReferenceIdeal.Step.b3 j s := by
  unfold res_main_while0b_call2_cst Cert.ReferenceIdeal.Step.b3
  rfl
theorem al_4 (h : Holds V0 s j) : (res_main_while0b_call2_c V0 : (Proc.devRef .tc main_while0b_call2_c : DevRef τ sig).ty.Contents (Elt F)) = Cert.ReferenceIdeal.Step.b4 j s := by
  unfold res_main_while0b_call2_c Cert.ReferenceIdeal.Step.b4
  rfl
theorem al_5 (h : Holds V0 s j) : ((fun j => (Host.argReduce reducer_argmax_f32_i32 (V0 (Proc.devRef .tc main_v25_3)) (res_main_while0b_call2_v0 V0) (res_main_while0b_call2_cst V0) (res_main_while0b_call2_c V0) reducesTo_S16x10647_S16_d1 h_S_ j).1) : (Proc.devRef .tc main_while0b_call2_v1_0 : DevRef τ sig).ty.Contents (Elt F)) = Cert.ReferenceIdeal.Step.b5 j s := by
  unfold Cert.ReferenceIdeal.Step.b5
  rw [← al_2 h, ← al_3 h, ← al_4 h, h.f_3]
  try rfl
theorem al_6 (h : Holds V0 s j) : (res_main_while0b_v32 V0 : (Proc.devRef .tc main_while0b_v32 : DevRef τ sig).ty.Contents (Elt F)) = Cert.ReferenceIdeal.Step.b6 j s := by
  unfold res_main_while0b_v32 Cert.ReferenceIdeal.Step.b6
  rw [← al_2 h, ← al_3 h, ← al_4 h, h.f_3]
  try rfl
theorem al_7 (h : Holds V0 s j) : (broadcastInDim S16x1 ![0] bcast_S16_S16x1_0 (res_main_while0b_v32 V0) : (Proc.devRef .tc main_while0b_call3_v0 : DevRef τ sig).ty.Contents (Elt F)) = Cert.ReferenceIdeal.Step.b7 j s := by
  unfold Cert.ReferenceIdeal.Step.b7
  rw [← al_6 h]
  try rfl
theorem al_8 (h : Holds V0 s j) : (res_main_while0b_v33 V0 : (Proc.devRef .tc main_while0b_v33 : DevRef τ sig).ty.Contents (Elt F)) = Cert.ReferenceIdeal.Step.b8 j s := by
  unfold res_main_while0b_v33 Cert.ReferenceIdeal.Step.b8
  rw [← al_7 h, h.f_3]
  try rfl
theorem al_9 (h : Holds V0 s j) : (constant S_ .f32 0xF0C9F2CA#32 : (Proc.devRef .tc main_while0b_cst_14 : DevRef τ sig).ty.Contents (Elt F)) = Cert.ReferenceIdeal.Step.b9 j s := by
  unfold Cert.ReferenceIdeal.Step.b9
  rfl
theorem al_10 (h : Holds V0 s j) : (broadcastInDim S16 ![] bcast_S_S16 (constant S_ .f32 0xF0C9F2CA#32) : (Proc.devRef .tc main_while0b_v34 : DevRef τ sig).ty.Contents (Elt F)) = Cert.ReferenceIdeal.Step.b10 j s := by
  unfold Cert.ReferenceIdeal.Step.b10
  rw [← al_9 h]
  try rfl
theorem al_11 (h : Holds V0 s j) : (res_main_while0b_v35 V0 : (Proc.devRef .tc main_while0b_v35 : DevRef τ sig).ty.Contents (Elt F)) = Cert.ReferenceIdeal.Step.b11 j s := by
  unfold res_main_while0b_v35 Cert.ReferenceIdeal.Step.b11
  rw [← al_8 h, ← al_10 h]
  try rfl
theorem al_12 (h : Holds V0 s j) : (broadcastInDim S16x1 ![0] bcast_S16_S16x1_0 (res_main_while0b_v32 V0) : (Proc.devRef .tc main_while0b_call4_v0 : DevRef τ sig).ty.Contents (Elt F)) = Cert.ReferenceIdeal.Step.b12 j s := by
  unfold Cert.ReferenceIdeal.Step.b12
  rw [← al_6 h]
  try rfl
theorem al_13 (h : Holds V0 s j) : (res_main_while0b_v36 V0 : (Proc.devRef .tc main_while0b_v36 : DevRef τ sig).ty.Contents (Elt F)) = Cert.ReferenceIdeal.Step.b13 j s := by
  unfold res_main_while0b_v36 Cert.ReferenceIdeal.Step.b13
  rw [← al_12 h, h.f_0]
  try rfl
theorem al_14 (h : Holds V0 s j) : (extractStridedSlice S16x1 ![0, 0] (res_main_while0b_v36 V0) slices_S16x4_S16x1_0_0 : (Proc.devRef .tc main_while0b_v37 : DevRef τ sig).ty.Contents (Elt F)) = Cert.ReferenceIdeal.Step.b14 j s := by
  unfold Cert.ReferenceIdeal.Step.b14
  rw [← al_13 h]
  try rfl
theorem al_15 (h : Holds V0 s j) : (shapeCast S16 (extractStridedSlice S16x1 ![0, 0] (res_main_while0b_v36 V0) slices_S16x4_S16x1_0_0) shapeCasts_S16x1_S16 : (Proc.devRef .tc main_while0b_v38 : DevRef τ sig).ty.Contents (Elt F)) = Cert.ReferenceIdeal.Step.b15 j s := by
  unfold Cert.ReferenceIdeal.Step.b15
  rw [← al_14 h]
  try rfl
theorem al_16 (h : Holds V0 s j) : (extractStridedSlice S16x10647x1 ![0, 0, 0] (V0 (Proc.devRef .tc main_v25_0)) slices_S16x10647x4_S16x10647x1_0_0_0 : (Proc.devRef .tc main_while0b_v39 : DevRef τ sig).ty.Contents (Elt F)) = Cert.ReferenceIdeal.Step.b16 j s := by
  unfold Cert.ReferenceIdeal.Step.b16
  rw [h.f_0]
  try rfl
theorem al_17 (h : Holds V0 s j) : (shapeCast S16x10647 (extractStridedSlice S16x10647x1 ![0, 0, 0] (V0 (Proc.devRef .tc main_v25_0)) slices_S16x10647x4_S16x10647x1_0_0_0) shapeCasts_S16x10647x1_S16x10647 : (Proc.devRef .tc main_while0b_v40 : DevRef τ sig).ty.Contents (Elt F)) = Cert.ReferenceIdeal.Step.b17 j s := by
  unfold Cert.ReferenceIdeal.Step.b17
  rw [← al_16 h]
  try rfl
theorem al_18 (h : Holds V0 s j) : (broadcastInDim S16x1 ![0] bcast_S16_S16x1_0 (shapeCast S16 (extractStridedSlice S16x1 ![0, 0] (res_main_while0b_v36 V0) slices_S16x4_S16x1_0_0) shapeCasts_S16x1_S16) : (Proc.devRef .tc main_while0b_v41 : DevRef τ sig).ty.Contents (Elt F)) = Cert.ReferenceIdeal.Step.b18 j s := by
  unfold Cert.ReferenceIdeal.Step.b18
  rw [← al_15 h]
  try rfl
theorem al_19 (h : Holds V0 s j) : (broadcastInDim S16x10647 ![0, 1] bcast_S16x1_S16x10647_0_1 (broadcastInDim S16x1 ![0] bcast_S16_S16x1_0 (shapeCast S16 (extractStridedSlice S16x1 ![0, 0] (res_main_while0b_v36 V0) slices_S16x4_S16x1_0_0) shapeCasts_S16x1_S16)) : (Proc.devRef .tc main_while0b_v42 : DevRef τ sig).ty.Contents (Elt F)) = Cert.ReferenceIdeal.Step.b19 j s := by
  unfold Cert.ReferenceIdeal.Step.b19
  rw [← al_18 h]
  try rfl
theorem al_20 (h : Holds V0 s j) : (maximumf (broadcastInDim S16x10647 ![0, 1] bcast_S16x1_S16x10647_0_1 (broadcastInDim S16x1 ![0] bcast_S16_S16x1_0 (shapeCast S16 (extractStridedSlice S16x1 ![0, 0] (res_main_while0b_v36 V0) slices_S16x4_S16x1_0_0) shapeCasts_S16x1_S16))) (shapeCast S16x10647 (extractStridedSlice S16x10647x1 ![0, 0, 0] (V0 (Proc.devRef .tc main_v25_0)) slices_S16x10647x4_S16x10647x1_0_0_0) shapeCasts_S16x10647x1_S16x10647) : (Proc.devRef .tc main_while0b_v43 : DevRef τ sig).ty.Contents (Elt F)) = Cert.ReferenceIdeal.Step.b20 j s := by
  unfold Cert.ReferenceIdeal.Step.b20
  rw [← al_19 h, ← al_17 h]
  try rfl
theorem al_21 (h : Holds V0 s j) : (extractStridedSlice S16x1 ![0, 1] (res_main_while0b_v36 V0) slices_S16x4_S16x1_0_1 : (Proc.devRef .tc main_while0b_v44 : DevRef τ sig).ty.Contents (Elt F)) = Cert.ReferenceIdeal.Step.b21 j s := by
  unfold Cert.ReferenceIdeal.Step.b21
  rw [← al_13 h]
  try rfl
theorem al_22 (h : Holds V0 s j) : (shapeCast S16 (extractStridedSlice S16x1 ![0, 1] (res_main_while0b_v36 V0) slices_S16x4_S16x1_0_1) shapeCasts_S16x1_S16 : (Proc.devRef .tc main_while0b_v45 : DevRef τ sig).ty.Contents (Elt F)) = Cert.ReferenceIdeal.Step.b22 j s := by
  unfold Cert.ReferenceIdeal.Step.b22
  rw [← al_21 h]
  try rfl
theorem al_23 (h : Holds V0 s j) : (extractStridedSlice S16x10647x1 ![0, 0, 1] (V0 (Proc.devRef .tc main_v25_0)) slices_S16x10647x4_S16x10647x1_0_0_1 : (Proc.devRef .tc main_while0b_v46 : DevRef τ sig).ty.Contents (Elt F)) = Cert.ReferenceIdeal.Step.b23 j s := by
  unfold Cert.ReferenceIdeal.Step.b23
  rw [h.f_0]
  try rfl
theorem al_24 (h : Holds V0 s j) : (shapeCast S16x10647 (extractStridedSlice S16x10647x1 ![0, 0, 1] (V0 (Proc.devRef .tc main_v25_0)) slices_S16x10647x4_S16x10647x1_0_0_1) shapeCasts_S16x10647x1_S16x10647 : (Proc.devRef .tc main_while0b_v47 : DevRef τ sig).ty.Contents (Elt F)) = Cert.ReferenceIdeal.Step.b24 j s := by
  unfold Cert.ReferenceIdeal.Step.b24
  rw [← al_23 h]
  try rfl
theorem al_25 (h : Holds V0 s j) : (broadcastInDim S16x1 ![0] bcast_S16_S16x1_0 (shapeCast S16 (extractStridedSlice S16x1 ![0, 1] (res_main_while0b_v36 V0) slices_S16x4_S16x1_0_1) shapeCasts_S16x1_S16) : (Proc.devRef .tc main_while0b_v48 : DevRef τ sig).ty.Contents (Elt F)) = Cert.ReferenceIdeal.Step.b25 j s := by
  unfold Cert.ReferenceIdeal.Step.b25
  rw [← al_22 h]
  try rfl
theorem al_26 (h : Holds V0 s j) : (broadcastInDim S16x10647 ![0, 1] bcast_S16x1_S16x10647_0_1 (broadcastInDim S16x1 ![0] bcast_S16_S16x1_0 (shapeCast S16 (extractStridedSlice S16x1 ![0, 1] (res_main_while0b_v36 V0) slices_S16x4_S16x1_0_1) shapeCasts_S16x1_S16)) : (Proc.devRef .tc main_while0b_v49 : DevRef τ sig).ty.Contents (Elt F)) = Cert.ReferenceIdeal.Step.b26 j s := by
  unfold Cert.ReferenceIdeal.Step.b26
  rw [← al_25 h]
  try rfl
theorem al_27 (h : Holds V0 s j) : (maximumf (broadcastInDim S16x10647 ![0, 1] bcast_S16x1_S16x10647_0_1 (broadcastInDim S16x1 ![0] bcast_S16_S16x1_0 (shapeCast S16 (extractStridedSlice S16x1 ![0, 1] (res_main_while0b_v36 V0) slices_S16x4_S16x1_0_1) shapeCasts_S16x1_S16))) (shapeCast S16x10647 (extractStridedSlice S16x10647x1 ![0, 0, 1] (V0 (Proc.devRef .tc main_v25_0)) slices_S16x10647x4_S16x10647x1_0_0_1) shapeCasts_S16x10647x1_S16x10647) : (Proc.devRef .tc main_while0b_v50 : DevRef τ sig).ty.Contents (Elt F)) = Cert.ReferenceIdeal.Step.b27 j s := by
  unfold Cert.ReferenceIdeal.Step.b27
  rw [← al_26 h, ← al_24 h]
  try rfl
theorem al_28 (h : Holds V0 s j) : (extractStridedSlice S16x1 ![0, 2] (res_main_while0b_v36 V0) slices_S16x4_S16x1_0_2 : (Proc.devRef .tc main_while0b_v51 : DevRef τ sig).ty.Contents (Elt F)) = Cert.ReferenceIdeal.Step.b28 j s := by
  unfold Cert.ReferenceIdeal.Step.b28
  rw [← al_13 h]
  try rfl
theorem al_29 (h : Holds V0 s j) : (shapeCast S16 (extractStridedSlice S16x1 ![0, 2] (res_main_while0b_v36 V0) slices_S16x4_S16x1_0_2) shapeCasts_S16x1_S16 : (Proc.devRef .tc main_while0b_v52 : DevRef τ sig).ty.Contents (Elt F)) = Cert.ReferenceIdeal.Step.b29 j s := by
  unfold Cert.ReferenceIdeal.Step.b29
  rw [← al_28 h]
  try rfl
theorem al_30 (h : Holds V0 s j) : (extractStridedSlice S16x10647x1 ![0, 0, 2] (V0 (Proc.devRef .tc main_v25_0)) slices_S16x10647x4_S16x10647x1_0_0_2 : (Proc.devRef .tc main_while0b_v53 : DevRef τ sig).ty.Contents (Elt F)) = Cert.ReferenceIdeal.Step.b30 j s := by
  unfold Cert.ReferenceIdeal.Step.b30
  rw [h.f_0]
  try rfl
theorem al_31 (h : Holds V0 s j) : (shapeCast S16x10647 (extractStridedSlice S16x10647x1 ![0, 0, 2] (V0 (Proc.devRef .tc main_v25_0)) slices_S16x10647x4_S16x10647x1_0_0_2) shapeCasts_S16x10647x1_S16x10647 : (Proc.devRef .tc main_while0b_v54 : DevRef τ sig).ty.Contents (Elt F)) = Cert.ReferenceIdeal.Step.b31 j s := by
  unfold Cert.ReferenceIdeal.Step.b31
  rw [← al_30 h]
  try rfl
theorem al_32 (h : Holds V0 s j) : (broadcastInDim S16x1 ![0] bcast_S16_S16x1_0 (shapeCast S16 (extractStridedSlice S16x1 ![0, 2] (res_main_while0b_v36 V0) slices_S16x4_S16x1_0_2) shapeCasts_S16x1_S16) : (Proc.devRef .tc main_while0b_v55 : DevRef τ sig).ty.Contents (Elt F)) = Cert.ReferenceIdeal.Step.b32 j s := by
  unfold Cert.ReferenceIdeal.Step.b32
  rw [← al_29 h]
  try rfl
theorem al_33 (h : Holds V0 s j) : (broadcastInDim S16x10647 ![0, 1] bcast_S16x1_S16x10647_0_1 (broadcastInDim S16x1 ![0] bcast_S16_S16x1_0 (shapeCast S16 (extractStridedSlice S16x1 ![0, 2] (res_main_while0b_v36 V0) slices_S16x4_S16x1_0_2) shapeCasts_S16x1_S16)) : (Proc.devRef .tc main_while0b_v56 : DevRef τ sig).ty.Contents (Elt F)) = Cert.ReferenceIdeal.Step.b33 j s := by
  unfold Cert.ReferenceIdeal.Step.b33
  rw [← al_32 h]
  try rfl
theorem al_34 (h : Holds V0 s j) : (minimumf (broadcastInDim S16x10647 ![0, 1] bcast_S16x1_S16x10647_0_1 (broadcastInDim S16x1 ![0] bcast_S16_S16x1_0 (shapeCast S16 (extractStridedSlice S16x1 ![0, 2] (res_main_while0b_v36 V0) slices_S16x4_S16x1_0_2) shapeCasts_S16x1_S16))) (shapeCast S16x10647 (extractStridedSlice S16x10647x1 ![0, 0, 2] (V0 (Proc.devRef .tc main_v25_0)) slices_S16x10647x4_S16x10647x1_0_0_2) shapeCasts_S16x10647x1_S16x10647) : (Proc.devRef .tc main_while0b_v57 : DevRef τ sig).ty.Contents (Elt F)) = Cert.ReferenceIdeal.Step.b34 j s := by
  unfold Cert.ReferenceIdeal.Step.b34
  rw [← al_33 h, ← al_31 h]
  try rfl
theorem al_35 (h : Holds V0 s j) : (extractStridedSlice S16x1 ![0, 3] (res_main_while0b_v36 V0) slices_S16x4_S16x1_0_3 : (Proc.devRef .tc main_while0b_v58 : DevRef τ sig).ty.Contents (Elt F)) = Cert.ReferenceIdeal.Step.b35 j s := by
  unfold Cert.ReferenceIdeal.Step.b35
  rw [← al_13 h]
  try rfl
theorem al_36 (h : Holds V0 s j) : (shapeCast S16 (extractStridedSlice S16x1 ![0, 3] (res_main_while0b_v36 V0) slices_S16x4_S16x1_0_3) shapeCasts_S16x1_S16 : (Proc.devRef .tc main_while0b_v59 : DevRef τ sig).ty.Contents (Elt F)) = Cert.ReferenceIdeal.Step.b36 j s := by
  unfold Cert.ReferenceIdeal.Step.b36
  rw [← al_35 h]
  try rfl
theorem al_37 (h : Holds V0 s j) : (extractStridedSlice S16x10647x1 ![0, 0, 3] (V0 (Proc.devRef .tc main_v25_0)) slices_S16x10647x4_S16x10647x1_0_0_3 : (Proc.devRef .tc main_while0b_v60 : DevRef τ sig).ty.Contents (Elt F)) = Cert.ReferenceIdeal.Step.b37 j s := by
  unfold Cert.ReferenceIdeal.Step.b37
  rw [h.f_0]
  try rfl
theorem al_38 (h : Holds V0 s j) : (shapeCast S16x10647 (extractStridedSlice S16x10647x1 ![0, 0, 3] (V0 (Proc.devRef .tc main_v25_0)) slices_S16x10647x4_S16x10647x1_0_0_3) shapeCasts_S16x10647x1_S16x10647 : (Proc.devRef .tc main_while0b_v61 : DevRef τ sig).ty.Contents (Elt F)) = Cert.ReferenceIdeal.Step.b38 j s := by
  unfold Cert.ReferenceIdeal.Step.b38
  rw [← al_37 h]
  try rfl
theorem al_39 (h : Holds V0 s j) : (broadcastInDim S16x1 ![0] bcast_S16_S16x1_0 (shapeCast S16 (extractStridedSlice S16x1 ![0, 3] (res_main_while0b_v36 V0) slices_S16x4_S16x1_0_3) shapeCasts_S16x1_S16) : (Proc.devRef .tc main_while0b_v62 : DevRef τ sig).ty.Contents (Elt F)) = Cert.ReferenceIdeal.Step.b39 j s := by
  unfold Cert.ReferenceIdeal.Step.b39
  rw [← al_36 h]
  try rfl
theorem al_40 (h : Holds V0 s j) : (broadcastInDim S16x10647 ![0, 1] bcast_S16x1_S16x10647_0_1 (broadcastInDim S16x1 ![0] bcast_S16_S16x1_0 (shapeCast S16 (extractStridedSlice S16x1 ![0, 3] (res_main_while0b_v36 V0) slices_S16x4_S16x1_0_3) shapeCasts_S16x1_S16)) : (Proc.devRef .tc main_while0b_v63 : DevRef τ sig).ty.Contents (Elt F)) = Cert.ReferenceIdeal.Step.b40 j s := by
  unfold Cert.ReferenceIdeal.Step.b40
  rw [← al_39 h]
  try rfl
theorem al_41 (h : Holds V0 s j) : (minimumf (broadcastInDim S16x10647 ![0, 1] bcast_S16x1_S16x10647_0_1 (broadcastInDim S16x1 ![0] bcast_S16_S16x1_0 (shapeCast S16 (extractStridedSlice S16x1 ![0, 3] (res_main_while0b_v36 V0) slices_S16x4_S16x1_0_3) shapeCasts_S16x1_S16))) (shapeCast S16x10647 (extractStridedSlice S16x10647x1 ![0, 0, 3] (V0 (Proc.devRef .tc main_v25_0)) slices_S16x10647x4_S16x10647x1_0_0_3) shapeCasts_S16x10647x1_S16x10647) : (Proc.devRef .tc main_while0b_v64 : DevRef τ sig).ty.Contents (Elt F)) = Cert.ReferenceIdeal.Step.b41 j s := by
  unfold Cert.ReferenceIdeal.Step.b41
  rw [← al_40 h, ← al_38 h]
  try rfl
theorem al_42 (h : Holds V0 s j) : (subf (minimumf (broadcastInDim S16x10647 ![0, 1] bcast_S16x1_S16x10647_0_1 (broadcastInDim S16x1 ![0] bcast_S16_S16x1_0 (shapeCast S16 (extractStridedSlice S16x1 ![0, 2] (res_main_while0b_v36 V0) slices_S16x4_S16x1_0_2) shapeCasts_S16x1_S16))) (shapeCast S16x10647 (extractStridedSlice S16x10647x1 ![0, 0, 2] (V0 (Proc.devRef .tc main_v25_0)) slices_S16x10647x4_S16x10647x1_0_0_2) shapeCasts_S16x10647x1_S16x10647)) (maximumf (broadcastInDim S16x10647 ![0, 1] bcast_S16x1_S16x10647_0_1 (broadcastInDim S16x1 ![0] bcast_S16_S16x1_0 (shapeCast S16 (extractStridedSlice S16x1 ![0, 0] (res_main_while0b_v36 V0) slices_S16x4_S16x1_0_0) shapeCasts_S16x1_S16))) (shapeCast S16x10647 (extractStridedSlice S16x10647x1 ![0, 0, 0] (V0 (Proc.devRef .tc main_v25_0)) slices_S16x10647x4_S16x10647x1_0_0_0) shapeCasts_S16x10647x1_S16x10647)) : (Proc.devRef .tc main_while0b_v65 : DevRef τ sig).ty.Contents (Elt F)) = Cert.ReferenceIdeal.Step.b42 j s := by
  unfold Cert.ReferenceIdeal.Step.b42
  rw [← al_34 h, ← al_20 h]
  try rfl
theorem al_43 (h : Holds V0 s j) : (constant S_ .f32 0x00000000#32 : (Proc.devRef .tc main_while0b_cst_15 : DevRef τ sig).ty.Contents (Elt F)) = Cert.ReferenceIdeal.Step.b43 j s := by
  unfold Cert.ReferenceIdeal.Step.b43
  rfl
theorem al_44 (h : Holds V0 s j) : (broadcastInDim S16x10647 ![] bcast_S_S16x10647 (constant S_ .f32 0x00000000#32) : (Proc.devRef .tc main_while0b_v66 : DevRef τ sig).ty.Contents (Elt F)) = Cert.ReferenceIdeal.Step.b44 j s := by
  unfold Cert.ReferenceIdeal.Step.b44
  rw [← al_43 h]
  try rfl
theorem al_45 (h : Holds V0 s j) : (maximumf (broadcastInDim S16x10647 ![] bcast_S_S16x10647 (constant S_ .f32 0x00000000#32)) (subf (minimumf (broadcastInDim S16x10647 ![0, 1] bcast_S16x1_S16x10647_0_1 (broadcastInDim S16x1 ![0] bcast_S16_S16x1_0 (shapeCast S16 (extractStridedSlice S16x1 ![0, 2] (res_main_while0b_v36 V0) slices_S16x4_S16x1_0_2) shapeCasts_S16x1_S16))) (shapeCast S16x10647 (extractStridedSlice S16x10647x1 ![0, 0, 2] (V0 (Proc.devRef .tc main_v25_0)) slices_S16x10647x4_S16x10647x1_0_0_2) shapeCasts_S16x10647x1_S16x10647)) (maximumf (broadcastInDim S16x10647 ![0, 1] bcast_S16x1_S16x10647_0_1 (broadcastInDim S16x1 ![0] bcast_S16_S16x1_0 (shapeCast S16 (extractStridedSlice S16x1 ![0, 0] (res_main_while0b_v36 V0) slices_S16x4_S16x1_0_0) shapeCasts_S16x1_S16))) (shapeCast S16x10647 (extractStridedSlice S16x10647x1 ![0, 0, 0] (V0 (Proc.devRef .tc main_v25_0)) slices_S16x10647x4_S16x10647x1_0_0_0) shapeCasts_S16x10647x1_S16x10647))) : (Proc.devRef .tc main_while0b_v67 : DevRef τ sig).ty.Contents (Elt F)) = Cert.ReferenceIdeal.Step.b45 j s := by
  unfold Cert.ReferenceIdeal.Step.b45
  rw [← al_44 h, ← al_42 h]
  try rfl
theorem al_46 (h : Holds V0 s j) : (subf (minimumf (broadcastInDim S16x10647 ![0, 1] bcast_S16x1_S16x10647_0_1 (broadcastInDim S16x1 ![0] bcast_S16_S16x1_0 (shapeCast S16 (extractStridedSlice S16x1 ![0, 3] (res_main_while0b_v36 V0) slices_S16x4_S16x1_0_3) shapeCasts_S16x1_S16))) (shapeCast S16x10647 (extractStridedSlice S16x10647x1 ![0, 0, 3] (V0 (Proc.devRef .tc main_v25_0)) slices_S16x10647x4_S16x10647x1_0_0_3) shapeCasts_S16x10647x1_S16x10647)) (maximumf (broadcastInDim S16x10647 ![0, 1] bcast_S16x1_S16x10647_0_1 (broadcastInDim S16x1 ![0] bcast_S16_S16x1_0 (shapeCast S16 (extractStridedSlice S16x1 ![0, 1] (res_main_while0b_v36 V0) slices_S16x4_S16x1_0_1) shapeCasts_S16x1_S16))) (shapeCast S16x10647 (extractStridedSlice S16x10647x1 ![0, 0, 1] (V0 (Proc.devRef .tc main_v25_0)) slices_S16x10647x4_S16x10647x1_0_0_1) shapeCasts_S16x10647x1_S16x10647)) : (Proc.devRef .tc main_while0b_v68 : DevRef τ sig).ty.Contents (Elt F)) = Cert.ReferenceIdeal.Step.b46 j s := by
  unfold Cert.ReferenceIdeal.Step.b46
  rw [← al_41 h, ← al_27 h]
  try rfl
theorem al_47 (h : Holds V0 s j) : (constant S_ .f32 0x00000000#32 : (Proc.devRef .tc main_while0b_cst_16 : DevRef τ sig).ty.Contents (Elt F)) = Cert.ReferenceIdeal.Step.b47 j s := by
  unfold Cert.ReferenceIdeal.Step.b47
  rfl
theorem al_48 (h : Holds V0 s j) : (broadcastInDim S16x10647 ![] bcast_S_S16x10647 (constant S_ .f32 0x00000000#32) : (Proc.devRef .tc main_while0b_v69 : DevRef τ sig).ty.Contents (Elt F)) = Cert.ReferenceIdeal.Step.b48 j s := by
  unfold Cert.ReferenceIdeal.Step.b48
  rw [← al_47 h]
  try rfl
theorem al_49 (h : Holds V0 s j) : (maximumf (broadcastInDim S16x10647 ![] bcast_S_S16x10647 (constant S_ .f32 0x00000000#32)) (subf (minimumf (broadcastInDim S16x10647 ![0, 1] bcast_S16x1_S16x10647_0_1 (broadcastInDim S16x1 ![0] bcast_S16_S16x1_0 (shapeCast S16 (extractStridedSlice S16x1 ![0, 3] (res_main_while0b_v36 V0) slices_S16x4_S16x1_0_3) shapeCasts_S16x1_S16))) (shapeCast S16x10647 (extractStridedSlice S16x10647x1 ![0, 0, 3] (V0 (Proc.devRef .tc main_v25_0)) slices_S16x10647x4_S16x10647x1_0_0_3) shapeCasts_S16x10647x1_S16x10647)) (maximumf (broadcastInDim S16x10647 ![0, 1] bcast_S16x1_S16x10647_0_1 (broadcastInDim S16x1 ![0] bcast_S16_S16x1_0 (shapeCast S16 (extractStridedSlice S16x1 ![0, 1] (res_main_while0b_v36 V0) slices_S16x4_S16x1_0_1) shapeCasts_S16x1_S16))) (shapeCast S16x10647 (extractStridedSlice S16x10647x1 ![0, 0, 1] (V0 (Proc.devRef .tc main_v25_0)) slices_S16x10647x4_S16x10647x1_0_0_1) shapeCasts_S16x10647x1_S16x10647))) : (Proc.devRef .tc main_while0b_v70 : DevRef τ sig).ty.Contents (Elt F)) = Cert.ReferenceIdeal.Step.b49 j s := by
  unfold Cert.ReferenceIdeal.Step.b49
  rw [← al_48 h, ← al_46 h]
  try rfl
theorem al_50 (h : Holds V0 s j) : (res_main_while0b_v71 V0 : (Proc.devRef .tc main_while0b_v71 : DevRef τ sig).ty.Contents (Elt F)) = Cert.ReferenceIdeal.Step.b50 j s := by
  unfold res_main_while0b_v71 Cert.ReferenceIdeal.Step.b50
  rw [← al_45 h, ← al_49 h]
  try rfl
theorem al_51 (h : Holds V0 s j) : (extractStridedSlice S16x1 ![0, 2] (res_main_while0b_v36 V0) slices_S16x4_S16x1_0_2 : (Proc.devRef .tc main_while0b_v72 : DevRef τ sig).ty.Contents (Elt F)) = Cert.ReferenceIdeal.Step.b51 j s := by
  unfold Cert.ReferenceIdeal.Step.b51
  rw [← al_13 h]
  try rfl
theorem al_52 (h : Holds V0 s j) : (shapeCast S16 (extractStridedSlice S16x1 ![0, 2] (res_main_while0b_v36 V0) slices_S16x4_S16x1_0_2) shapeCasts_S16x1_S16 : (Proc.devRef .tc main_while0b_v73 : DevRef τ sig).ty.Contents (Elt F)) = Cert.ReferenceIdeal.Step.b52 j s := by
  unfold Cert.ReferenceIdeal.Step.b52
  rw [← al_51 h]
  try rfl
theorem al_53 (h : Holds V0 s j) : (extractStridedSlice S16x1 ![0, 0] (res_main_while0b_v36 V0) slices_S16x4_S16x1_0_0 : (Proc.devRef .tc main_while0b_v74 : DevRef τ sig).ty.Contents (Elt F)) = Cert.ReferenceIdeal.Step.b53 j s := by
  unfold Cert.ReferenceIdeal.Step.b53
  rw [← al_13 h]
  try rfl
theorem al_54 (h : Holds V0 s j) : (shapeCast S16 (extractStridedSlice S16x1 ![0, 0] (res_main_while0b_v36 V0) slices_S16x4_S16x1_0_0) shapeCasts_S16x1_S16 : (Proc.devRef .tc main_while0b_v75 : DevRef τ sig).ty.Contents (Elt F)) = Cert.ReferenceIdeal.Step.b54 j s := by
  unfold Cert.ReferenceIdeal.Step.b54
  rw [← al_53 h]
  try rfl
theorem al_55 (h : Holds V0 s j) : (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16) : (Proc.devRef .tc main_while0b_v76 : DevRef τ sig).ty.Contents (Elt F)) = Cert.ReferenceIdeal.Step.b55 j s := by
  unfold Cert.ReferenceIdeal.Step.b55
  rw [← al_52 h, ← al_54 h]
  try rfl
theorem al_56 (h : Holds V0 s j) : (constant S_ .f32 0x00000000#32 : (Proc.devRef .tc main_while0b_cst_17 : DevRef τ sig).ty.Contents (Elt F)) = Cert.ReferenceIdeal.Step.b56 j s := by
  unfold Cert.ReferenceIdeal.Step.b56
  rfl
theorem al_57 (h : Holds V0 s j) : (broadcastInDim S16 ![] bcast_S_S16 (constant S_ .f32 0x00000000#32) : (Proc.devRef .tc main_while0b_v77 : DevRef τ sig).ty.Contents (Elt F)) = Cert.ReferenceIdeal.Step.b57 j s := by
  unfold Cert.ReferenceIdeal.Step.b57
  rw [← al_56 h]
  try rfl
theorem al_58 (h : Holds V0 s j) : (maximumf (broadcastInDim S16 ![] bcast_S_S16 (constant S_ .f32 0x00000000#32)) (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16)) : (Proc.devRef .tc main_while0b_v78 : DevRef τ sig).ty.Contents (Elt F)) = Cert.ReferenceIdeal.Step.b58 j s := by
  unfold Cert.ReferenceIdeal.Step.b58
  rw [← al_57 h, ← al_55 h]
  try rfl
theorem al_59 (h : Holds V0 s j) : (extractStridedSlice S16x1 ![0, 3] (res_main_while0b_v36 V0) slices_S16x4_S16x1_0_3 : (Proc.devRef .tc main_while0b_v79 : DevRef τ sig).ty.Contents (Elt F)) = Cert.ReferenceIdeal.Step.b59 j s := by
  unfold Cert.ReferenceIdeal.Step.b59
  rw [← al_13 h]
  try rfl
theorem al_60 (h : Holds V0 s j) : (shapeCast S16 (extractStridedSlice S16x1 ![0, 3] (res_main_while0b_v36 V0) slices_S16x4_S16x1_0_3) shapeCasts_S16x1_S16 : (Proc.devRef .tc main_while0b_v80 : DevRef τ sig).ty.Contents (Elt F)) = Cert.ReferenceIdeal.Step.b60 j s := by
  unfold Cert.ReferenceIdeal.Step.b60
  rw [← al_59 h]
  try rfl
theorem al_61 (h : Holds V0 s j) : (extractStridedSlice S16x1 ![0, 1] (res_main_while0b_v36 V0) slices_S16x4_S16x1_0_1 : (Proc.devRef .tc main_while0b_v81 : DevRef τ sig).ty.Contents (Elt F)) = Cert.ReferenceIdeal.Step.b61 j s := by
  unfold Cert.ReferenceIdeal.Step.b61
  rw [← al_13 h]
  try rfl
theorem al_62 (h : Holds V0 s j) : (shapeCast S16 (extractStridedSlice S16x1 ![0, 1] (res_main_while0b_v36 V0) slices_S16x4_S16x1_0_1) shapeCasts_S16x1_S16 : (Proc.devRef .tc main_while0b_v82 : DevRef τ sig).ty.Contents (Elt F)) = Cert.ReferenceIdeal.Step.b62 j s := by
  unfold Cert.ReferenceIdeal.Step.b62
  rw [← al_61 h]
  try rfl
theorem al_63 (h : Holds V0 s j) : (subf (shapeCast S16 (extractStridedSlice S16x1 ![0, 3] (res_main_while0b_v36 V0) slices_S16x4_S16x1_0_3) shapeCasts_S16x1_S16) (shapeCast S16 (extractStridedSlice S16x1 ![0, 1] (res_main_while0b_v36 V0) slices_S16x4_S16x1_0_1) shapeCasts_S16x1_S16) : (Proc.devRef .tc main_while0b_v83 : DevRef τ sig).ty.Contents (Elt F)) = Cert.ReferenceIdeal.Step.b63 j s := by
  unfold Cert.ReferenceIdeal.Step.b63
  rw [← al_60 h, ← al_62 h]
  try rfl
theorem al_64 (h : Holds V0 s j) : (constant S_ .f32 0x00000000#32 : (Proc.devRef .tc main_while0b_cst_18 : DevRef τ sig).ty.Contents (Elt F)) = Cert.ReferenceIdeal.Step.b64 j s := by
  unfold Cert.ReferenceIdeal.Step.b64
  rfl
theorem al_65 (h : Holds V0 s j) : (broadcastInDim S16 ![] bcast_S_S16 (constant S_ .f32 0x00000000#32) : (Proc.devRef .tc main_while0b_v84 : DevRef τ sig).ty.Contents (Elt F)) = Cert.ReferenceIdeal.Step.b65 j s := by
  unfold Cert.ReferenceIdeal.Step.b65
  rw [← al_64 h]
  try rfl
theorem al_66 (h : Holds V0 s j) : (maximumf (broadcastInDim S16 ![] bcast_S_S16 (constant S_ .f32 0x00000000#32)) (subf (shapeCast S16 (extractStridedSlice S16x1 ![0, 3] (res_main_while0b_v36 V0) slices_S16x4_S16x1_0_3) shapeCasts_S16x1_S16) (shapeCast S16 (extractStridedSlice S16x1 ![0, 1] (res_main_while0b_v36 V0) slices_S16x4_S16x1_0_1) shapeCasts_S16x1_S16)) : (Proc.devRef .tc main_while0b_v85 : DevRef τ sig).ty.Contents (Elt F)) = Cert.ReferenceIdeal.Step.b66 j s := by
  unfold Cert.ReferenceIdeal.Step.b66
  rw [← al_65 h, ← al_63 h]
  try rfl
theorem al_67 (h : Holds V0 s j) : (mulf (maximumf (broadcastInDim S16 ![] bcast_S_S16 (constant S_ .f32 0x00000000#32)) (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16))) (maximumf (broadcastInDim S16 ![] bcast_S_S16 (constant S_ .f32 0x00000000#32)) (subf (shapeCast S16 (extractStridedSlice S16x1 ![0, 3] (res_main_while0b_v36 V0) slices_S16x4_S16x1_0_3) shapeCasts_S16x1_S16) (shapeCast S16 (extractStridedSlice S16x1 ![0, 1] (res_main_while0b_v36 V0) slices_S16x4_S16x1_0_1) shapeCasts_S16x1_S16))) : (Proc.devRef .tc main_while0b_v86 : DevRef τ sig).ty.Contents (Elt F)) = Cert.ReferenceIdeal.Step.b67 j s := by
  unfold Cert.ReferenceIdeal.Step.b67
  rw [← al_58 h, ← al_66 h]
  try rfl
theorem al_68 (h : Holds V0 s j) : (extractStridedSlice S16x10647x1 ![0, 0, 2] (V0 (Proc.devRef .tc main_v25_0)) slices_S16x10647x4_S16x10647x1_0_0_2 : (Proc.devRef .tc main_while0b_v87 : DevRef τ sig).ty.Contents (Elt F)) = Cert.ReferenceIdeal.Step.b68 j s := by
  unfold Cert.ReferenceIdeal.Step.b68
  rw [h.f_0]
  try rfl
theorem al_69 (h : Holds V0 s j) : (shapeCast S16x10647 (extractStridedSlice S16x10647x1 ![0, 0, 2] (V0 (Proc.devRef .tc main_v25_0)) slices_S16x10647x4_S16x10647x1_0_0_2) shapeCasts_S16x10647x1_S16x10647 : (Proc.devRef .tc main_while0b_v88 : DevRef τ sig).ty.Contents (Elt F)) = Cert.ReferenceIdeal.Step.b69 j s := by
  unfold Cert.ReferenceIdeal.Step.b69
  rw [← al_68 h]
  try rfl
theorem al_70 (h : Holds V0 s j) : (extractStridedSlice S16x10647x1 ![0, 0, 0] (V0 (Proc.devRef .tc main_v25_0)) slices_S16x10647x4_S16x10647x1_0_0_0 : (Proc.devRef .tc main_while0b_v89 : DevRef τ sig).ty.Contents (Elt F)) = Cert.ReferenceIdeal.Step.b70 j s := by
  unfold Cert.ReferenceIdeal.Step.b70
  rw [h.f_0]
  try rfl
theorem al_71 (h : Holds V0 s j) : (shapeCast S16x10647 (extractStridedSlice S16x10647x1 ![0, 0, 0] (V0 (Proc.devRef .tc main_v25_0)) slices_S16x10647x4_S16x10647x1_0_0_0) shapeCasts_S16x10647x1_S16x10647 : (Proc.devRef .tc main_while0b_v90 : DevRef τ sig).ty.Contents (Elt F)) = Cert.ReferenceIdeal.Step.b71 j s := by
  unfold Cert.ReferenceIdeal.Step.b71
  rw [← al_70 h]
  try rfl
theorem al_72 (h : Holds V0 s j) : (subf (shapeCast S16x10647 (extractStridedSlice S16x10647x1 ![0, 0, 2] (V0 (Proc.devRef .tc main_v25_0)) slices_S16x10647x4_S16x10647x1_0_0_2) shapeCasts_S16x10647x1_S16x10647) (shapeCast S16x10647 (extractStridedSlice S16x10647x1 ![0, 0, 0] (V0 (Proc.devRef .tc main_v25_0)) slices_S16x10647x4_S16x10647x1_0_0_0) shapeCasts_S16x10647x1_S16x10647) : (Proc.devRef .tc main_while0b_v91 : DevRef τ sig).ty.Contents (Elt F)) = Cert.ReferenceIdeal.Step.b72 j s := by
  unfold Cert.ReferenceIdeal.Step.b72
  rw [← al_69 h, ← al_71 h]
  try rfl
theorem al_73 (h : Holds V0 s j) : (constant S_ .f32 0x00000000#32 : (Proc.devRef .tc main_while0b_cst_19 : DevRef τ sig).ty.Contents (Elt F)) = Cert.ReferenceIdeal.Step.b73 j s := by
  unfold Cert.ReferenceIdeal.Step.b73
  rfl
theorem al_74 (h : Holds V0 s j) : (broadcastInDim S16x10647 ![] bcast_S_S16x10647 (constant S_ .f32 0x00000000#32) : (Proc.devRef .tc main_while0b_v92 : DevRef τ sig).ty.Contents (Elt F)) = Cert.ReferenceIdeal.Step.b74 j s := by
  unfold Cert.ReferenceIdeal.Step.b74
  rw [← al_73 h]
  try rfl
theorem al_75 (h : Holds V0 s j) : (maximumf (broadcastInDim S16x10647 ![] bcast_S_S16x10647 (constant S_ .f32 0x00000000#32)) (subf (shapeCast S16x10647 (extractStridedSlice S16x10647x1 ![0, 0, 2] (V0 (Proc.devRef .tc main_v25_0)) slices_S16x10647x4_S16x10647x1_0_0_2) shapeCasts_S16x10647x1_S16x10647) (shapeCast S16x10647 (extractStridedSlice S16x10647x1 ![0, 0, 0] (V0 (Proc.devRef .tc main_v25_0)) slices_S16x10647x4_S16x10647x1_0_0_0) shapeCasts_S16x10647x1_S16x10647)) : (Proc.devRef .tc main_while0b_v93 : DevRef τ sig).ty.Contents (Elt F)) = Cert.ReferenceIdeal.Step.b75 j s := by
  unfold Cert.ReferenceIdeal.Step.b75
  rw [← al_74 h, ← al_72 h]
  try rfl
theorem al_76 (h : Holds V0 s j) : (extractStridedSlice S16x10647x1 ![0, 0, 3] (V0 (Proc.devRef .tc main_v25_0)) slices_S16x10647x4_S16x10647x1_0_0_3 : (Proc.devRef .tc main_while0b_v94 : DevRef τ sig).ty.Contents (Elt F)) = Cert.ReferenceIdeal.Step.b76 j s := by
  unfold Cert.ReferenceIdeal.Step.b76
  rw [h.f_0]
  try rfl
theorem al_77 (h : Holds V0 s j) : (shapeCast S16x10647 (extractStridedSlice S16x10647x1 ![0, 0, 3] (V0 (Proc.devRef .tc main_v25_0)) slices_S16x10647x4_S16x10647x1_0_0_3) shapeCasts_S16x10647x1_S16x10647 : (Proc.devRef .tc main_while0b_v95 : DevRef τ sig).ty.Contents (Elt F)) = Cert.ReferenceIdeal.Step.b77 j s := by
  unfold Cert.ReferenceIdeal.Step.b77
  rw [← al_76 h]
  try rfl
theorem al_78 (h : Holds V0 s j) : (extractStridedSlice S16x10647x1 ![0, 0, 1] (V0 (Proc.devRef .tc main_v25_0)) slices_S16x10647x4_S16x10647x1_0_0_1 : (Proc.devRef .tc main_while0b_v96 : DevRef τ sig).ty.Contents (Elt F)) = Cert.ReferenceIdeal.Step.b78 j s := by
  unfold Cert.ReferenceIdeal.Step.b78
  rw [h.f_0]
  try rfl
theorem al_79 (h : Holds V0 s j) : (shapeCast S16x10647 (extractStridedSlice S16x10647x1 ![0, 0, 1] (V0 (Proc.devRef .tc main_v25_0)) slices_S16x10647x4_S16x10647x1_0_0_1) shapeCasts_S16x10647x1_S16x10647 : (Proc.devRef .tc main_while0b_v97 : DevRef τ sig).ty.Contents (Elt F)) = Cert.ReferenceIdeal.Step.b79 j s := by
  unfold Cert.ReferenceIdeal.Step.b79
  rw [← al_78 h]
  try rfl
theorem al_80 (h : Holds V0 s j) : (subf (shapeCast S16x10647 (extractStridedSlice S16x10647x1 ![0, 0, 3] (V0 (Proc.devRef .tc main_v25_0)) slices_S16x10647x4_S16x10647x1_0_0_3) shapeCasts_S16x10647x1_S16x10647) (shapeCast S16x10647 (extractStridedSlice S16x10647x1 ![0, 0, 1] (V0 (Proc.devRef .tc main_v25_0)) slices_S16x10647x4_S16x10647x1_0_0_1) shapeCasts_S16x10647x1_S16x10647) : (Proc.devRef .tc main_while0b_v98 : DevRef τ sig).ty.Contents (Elt F)) = Cert.ReferenceIdeal.Step.b80 j s := by
  unfold Cert.ReferenceIdeal.Step.b80
  rw [← al_77 h, ← al_79 h]
  try rfl
theorem al_81 (h : Holds V0 s j) : (constant S_ .f32 0x00000000#32 : (Proc.devRef .tc main_while0b_cst_20 : DevRef τ sig).ty.Contents (Elt F)) = Cert.ReferenceIdeal.Step.b81 j s := by
  unfold Cert.ReferenceIdeal.Step.b81
  rfl
theorem al_82 (h : Holds V0 s j) : (broadcastInDim S16x10647 ![] bcast_S_S16x10647 (constant S_ .f32 0x00000000#32) : (Proc.devRef .tc main_while0b_v99 : DevRef τ sig).ty.Contents (Elt F)) = Cert.ReferenceIdeal.Step.b82 j s := by
  unfold Cert.ReferenceIdeal.Step.b82
  rw [← al_81 h]
  try rfl
theorem al_83 (h : Holds V0 s j) : (maximumf (broadcastInDim S16x10647 ![] bcast_S_S16x10647 (constant S_ .f32 0x00000000#32)) (subf (shapeCast S16x10647 (extractStridedSlice S16x10647x1 ![0, 0, 3] (V0 (Proc.devRef .tc main_v25_0)) slices_S16x10647x4_S16x10647x1_0_0_3) shapeCasts_S16x10647x1_S16x10647) (shapeCast S16x10647 (extractStridedSlice S16x10647x1 ![0, 0, 1] (V0 (Proc.devRef .tc main_v25_0)) slices_S16x10647x4_S16x10647x1_0_0_1) shapeCasts_S16x10647x1_S16x10647)) : (Proc.devRef .tc main_while0b_v100 : DevRef τ sig).ty.Contents (Elt F)) = Cert.ReferenceIdeal.Step.b83 j s := by
  unfold Cert.ReferenceIdeal.Step.b83
  rw [← al_82 h, ← al_80 h]
  try rfl
theorem al_84 (h : Holds V0 s j) : (mulf (maximumf (broadcastInDim S16x10647 ![] bcast_S_S16x10647 (constant S_ .f32 0x00000000#32)) (subf (shapeCast S16x10647 (extractStridedSlice S16x10647x1 ![0, 0, 2] (V0 (Proc.devRef .tc main_v25_0)) slices_S16x10647x4_S16x10647x1_0_0_2) shapeCasts_S16x10647x1_S16x10647) (shapeCast S16x10647 (extractStridedSlice S16x10647x1 ![0, 0, 0] (V0 (Proc.devRef .tc main_v25_0)) slices_S16x10647x4_S16x10647x1_0_0_0) shapeCasts_S16x10647x1_S16x10647))) (maximumf (broadcastInDim S16x10647 ![] bcast_S_S16x10647 (constant S_ .f32 0x00000000#32)) (subf (shapeCast S16x10647 (extractStridedSlice S16x10647x1 ![0, 0, 3] (V0 (Proc.devRef .tc main_v25_0)) slices_S16x10647x4_S16x10647x1_0_0_3) shapeCasts_S16x10647x1_S16x10647) (shapeCast S16x10647 (extractStridedSlice S16x10647x1 ![0, 0, 1] (V0 (Proc.devRef .tc main_v25_0)) slices_S16x10647x4_S16x10647x1_0_0_1) shapeCasts_S16x10647x1_S16x10647))) : (Proc.devRef .tc main_while0b_v101 : DevRef τ sig).ty.Contents (Elt F)) = Cert.ReferenceIdeal.Step.b84 j s := by
  unfold Cert.ReferenceIdeal.Step.b84
  rw [← al_75 h, ← al_83 h]
  try rfl
theorem al_85 (h : Holds V0 s j) : (broadcastInDim S16x1 ![0] bcast_S16_S16x1_0 (mulf (maximumf (broadcastInDim S16 ![] bcast_S_S16 (constant S_ .f32 0x00000000#32)) (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16))) (maximumf (broadcastInDim S16 ![] bcast_S_S16 (constant S_ .f32 0x00000000#32)) (subf (shapeCast S16 (extractStridedSlice S16x1 ![0, 3] (res_main_while0b_v36 V0) slices_S16x4_S16x1_0_3) shapeCasts_S16x1_S16) (shapeCast S16 (extractStridedSlice S16x1 ![0, 1] (res_main_while0b_v36 V0) slices_S16x4_S16x1_0_1) shapeCasts_S16x1_S16)))) : (Proc.devRef .tc main_while0b_v102 : DevRef τ sig).ty.Contents (Elt F)) = Cert.ReferenceIdeal.Step.b85 j s := by
  unfold Cert.ReferenceIdeal.Step.b85
  rw [← al_67 h]
  try rfl
theorem al_86 (h : Holds V0 s j) : (broadcastInDim S16x10647 ![0, 1] bcast_S16x1_S16x10647_0_1 (broadcastInDim S16x1 ![0] bcast_S16_S16x1_0 (mulf (maximumf (broadcastInDim S16 ![] bcast_S_S16 (constant S_ .f32 0x00000000#32)) (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16))) (maximumf (broadcastInDim S16 ![] bcast_S_S16 (constant S_ .f32 0x00000000#32)) (subf (shapeCast S16 (extractStridedSlice S16x1 ![0, 3] (res_main_while0b_v36 V0) slices_S16x4_S16x1_0_3) shapeCasts_S16x1_S16) (shapeCast S16 (extractStridedSlice S16x1 ![0, 1] (res_main_while0b_v36 V0) slices_S16x4_S16x1_0_1) shapeCasts_S16x1_S16))))) : (Proc.devRef .tc main_while0b_v103 : DevRef τ sig).ty.Contents (Elt F)) = Cert.ReferenceIdeal.Step.b86 j s := by
  unfold Cert.ReferenceIdeal.Step.b86
  rw [← al_85 h]
  try rfl
theorem al_87 (h : Holds V0 s j) : (addf (broadcastInDim S16x10647 ![0, 1] bcast_S16x1_S16x10647_0_1 (broadcastInDim S16x1 ![0] bcast_S16_S16x1_0 (mulf (maximumf (broadcastInDim S16 ![] bcast_S_S16 (constant S_ .f32 0x00000000#32)) (subf (shapeCast S16 (extractStridedSlice S16x1 ![0, 2] (res_main_while0b_v36 V0) slices_S16x4_S16x1_0_2) shapeCasts_S16x1_S16) (shapeCast S16 (extractStridedSlice S16x1 ![0, 0] (res_main_while0b_v36 V0) slices_S16x4_S16x1_0_0) shapeCasts_S16x1_S16))) (maximumf (broadcastInDim S16 ![] bcast_S_S16 (constant S_ .f32 0x00000000#32)) (subf (shapeCast S16 (extractStridedSlice S16x1 ![0, 3] (res_main_while0b_v36 V0) slices_S16x4_S16x1_0_3) shapeCasts_S16x1_S16) (shapeCast S16 (extractStridedSlice S16x1 ![0, 1] (res_main_while0b_v36 V0) slices_S16x4_S16x1_0_1) shapeCasts_S16x1_S16)))))) (mulf (maximumf (broadcastInDim S16x10647 ![] bcast_S_S16x10647 (constant S_ .f32 0x00000000#32)) (subf (shapeCast S16x10647 (extractStridedSlice S16x10647x1 ![0, 0, 2] (V0 (Proc.devRef .tc main_v25_0)) slices_S16x10647x4_S16x10647x1_0_0_2) shapeCasts_S16x10647x1_S16x10647) (shapeCast S16x10647 (extractStridedSlice S16x10647x1 ![0, 0, 0] (V0 (Proc.devRef .tc main_v25_0)) slices_S16x10647x4_S16x10647x1_0_0_0) shapeCasts_S16x10647x1_S16x10647))) (maximumf (broadcastInDim S16x10647 ![] bcast_S_S16x10647 (constant S_ .f32 0x00000000#32)) (subf (shapeCast S16x10647 (extractStridedSlice S16x10647x1 ![0, 0, 3] (V0 (Proc.devRef .tc main_v25_0)) slices_S16x10647x4_S16x10647x1_0_0_3) shapeCasts_S16x10647x1_S16x10647) (shapeCast S16x10647 (extractStridedSlice S16x10647x1 ![0, 0, 1] (V0 (Proc.devRef .tc main_v25_0)) slices_S16x10647x4_S16x10647x1_0_0_1) shapeCasts_S16x10647x1_S16x10647)))) : (Proc.devRef .tc main_while0b_v104 : DevRef τ sig).ty.Contents (Elt F)) = Cert.ReferenceIdeal.Step.b87 j s := by
  unfold Cert.ReferenceIdeal.Step.b87
  rw [← al_86 h, ← al_84 h]
  try rfl
theorem al_88 (h : Holds V0 s j) : (res_main_while0b_v105 V0 : (Proc.devRef .tc main_while0b_v105 : DevRef τ sig).ty.Contents (Elt F)) = Cert.ReferenceIdeal.Step.b88 j s := by
  unfold res_main_while0b_v105 Cert.ReferenceIdeal.Step.b88
  rw [← al_87 h, ← al_50 h]
  try rfl
theorem al_89 (h : Holds V0 s j) : (constant S_ .f32 0x00000000#32 : (Proc.devRef .tc main_while0b_cst_21 : DevRef τ sig).ty.Contents (Elt F)) = Cert.ReferenceIdeal.Step.b89 j s := by
  unfold Cert.ReferenceIdeal.Step.b89
  rfl
theorem al_90 (h : Holds V0 s j) : (broadcastInDim S16x10647 ![] bcast_S_S16x10647 (constant S_ .f32 0x00000000#32) : (Proc.devRef .tc main_while0b_v106 : DevRef τ sig).ty.Contents (Elt F)) = Cert.ReferenceIdeal.Step.b90 j s := by
  unfold Cert.ReferenceIdeal.Step.b90
  rw [← al_89 h]
  try rfl
theorem al_91 (h : Holds V0 s j) : (cmpf .ogt (res_main_while0b_v105 V0) (broadcastInDim S16x10647 ![] bcast_S_S16x10647 (constant S_ .f32 0x00000000#32)) : (Proc.devRef .tc main_while0b_v107 : DevRef τ sig).ty.Contents (Elt F)) = Cert.ReferenceIdeal.Step.b91 j s := by
  unfold Cert.ReferenceIdeal.Step.b91
  rw [← al_88 h, ← al_90 h]
  try rfl
theorem al_92 (h : Holds V0 s j) : (Host.divf (res_main_while0b_v71 V0) (res_main_while0b_v105 V0) : (Proc.devRef .tc main_while0b_v108 : DevRef τ sig).ty.Contents (Elt F)) = Cert.ReferenceIdeal.Step.b92 j s := by
  unfold Cert.ReferenceIdeal.Step.b92
  rw [← al_50 h, ← al_88 h]
  try rfl
theorem al_93 (h : Holds V0 s j) : (constant S_ .f32 0x00000000#32 : (Proc.devRef .tc main_while0b_cst_22 : DevRef τ sig).ty.Contents (Elt F)) = Cert.ReferenceIdeal.Step.b93 j s := by
  unfold Cert.ReferenceIdeal.Step.b93
  rfl
theorem al_94 (h : Holds V0 s j) : (id (constant S_ .f32 0x00000000#32) : (Proc.devRef .tc main_while0b_call5_v0 : DevRef τ sig).ty.Contents (Elt F)) = Cert.ReferenceIdeal.Step.b94 j s := by
  unfold Cert.ReferenceIdeal.Step.b94
  rw [← al_93 h]
  try rfl
theorem al_95 (h : Holds V0 s j) : (broadcastInDim S10647 ![] bcast_S_S10647 (id (constant S_ .f32 0x00000000#32)) : (Proc.devRef .tc main_while0b_call5_v1 : DevRef τ sig).ty.Contents (Elt F)) = Cert.ReferenceIdeal.Step.b95 j s := by
  unfold Cert.ReferenceIdeal.Step.b95
  rw [← al_94 h]
  try rfl
theorem al_96 (h : Holds V0 s j) : (broadcastInDim S16x10647 ![1] bcast_S10647_S16x10647_1 (broadcastInDim S10647 ![] bcast_S_S10647 (id (constant S_ .f32 0x00000000#32))) : (Proc.devRef .tc main_while0b_call5_v2 : DevRef τ sig).ty.Contents (Elt F)) = Cert.ReferenceIdeal.Step.b96 j s := by
  unfold Cert.ReferenceIdeal.Step.b96
  rw [← al_95 h]
  try rfl
theorem al_97 (h : Holds V0 s j) : (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32)))) : (Proc.devRef .tc main_while0b_v109 : DevRef τ sig).ty.Contents (Elt F)) = Cert.ReferenceIdeal.Step.b97 j s := by
  unfold Cert.ReferenceIdeal.Step.b97
  rw [← al_91 h, ← al_92 h, ← al_96 h]
  try rfl
theorem al_98 (h : Holds V0 s j) : (constant S_ .f32 0x3F000000#32 : (Proc.devRef .tc main_while0b_cst_23 : DevRef τ sig).ty.Contents (Elt F)) = Cert.ReferenceIdeal.Step.b98 j s := by
  unfold Cert.ReferenceIdeal.Step.b98
  rfl
theorem al_99 (h : Holds V0 s j) : (broadcastInDim S16x10647 ![] bcast_S_S16x10647 (constant S_ .f32 0x3F000000#32) : (Proc.devRef .tc main_while0b_v110 : DevRef τ sig).ty.Contents (Elt F)) = Cert.ReferenceIdeal.Step.b99 j s := by
  unfold Cert.ReferenceIdeal.Step.b99
  rw [← al_98 h]
  try rfl
theorem al_100 (h : Holds V0 s j) : (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32)) : (Proc.devRef .tc main_while0b_v111 : DevRef τ sig).ty.Contents (Elt F)) = Cert.ReferenceIdeal.Step.b100 j s := by
  unfold Cert.ReferenceIdeal.Step.b100
  rw [← al_97 h, ← al_99 h]
  try rfl
theorem al_101 (h : Holds V0 s j) : (constant S_ .f32 0xF149F2CA#32 : (Proc.devRef .tc main_while0b_cst_24 : DevRef τ sig).ty.Contents (Elt F)) = Cert.ReferenceIdeal.Step.b101 j s := by
  unfold Cert.ReferenceIdeal.Step.b101
  rfl
theorem al_102 (h : Holds V0 s j) : (id (constant S_ .f32 0xF149F2CA#32) : (Proc.devRef .tc main_while0b_call6_v0 : DevRef τ sig).ty.Contents (Elt F)) = Cert.ReferenceIdeal.Step.b102 j s := by
  unfold Cert.ReferenceIdeal.Step.b102
  rw [← al_101 h]
  try rfl
theorem al_103 (h : Holds V0 s j) : (broadcastInDim S10647 ![] bcast_S_S10647 (id (constant S_ .f32 0xF149F2CA#32)) : (Proc.devRef .tc main_while0b_call6_v1 : DevRef τ sig).ty.Contents (Elt F)) = Cert.ReferenceIdeal.Step.b103 j s := by
  unfold Cert.ReferenceIdeal.Step.b103
  rw [← al_102 h]
  try rfl
theorem al_104 (h : Holds V0 s j) : (broadcastInDim S16x10647 ![1] bcast_S10647_S16x10647_1 (broadcastInDim S10647 ![] bcast_S_S10647 (id (constant S_ .f32 0xF149F2CA#32))) : (Proc.devRef .tc main_while0b_call6_v2 : DevRef τ sig).ty.Contents (Elt F)) = Cert.ReferenceIdeal.Step.b104 j s := by
  unfold Cert.ReferenceIdeal.Step.b104
  rw [← al_103 h]
  try rfl
theorem al_105 (h : Holds V0 s j) : (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)) : (Proc.devRef .tc main_while0b_v112 : DevRef τ sig).ty.Contents (Elt F)) = Cert.ReferenceIdeal.Step.b105 j s := by
  unfold Cert.ReferenceIdeal.Step.b105
  rw [← al_100 h, ← al_104 h, h.f_3]
  try rfl
theorem al_106 (h : Holds V0 s j) : (iotaInDim S10647 32 0 : (Proc.devRef .tc main_while0b_v113 : DevRef τ sig).ty.Contents (Elt F)) = Cert.ReferenceIdeal.Step.b106 j s := by
  unfold Cert.ReferenceIdeal.Step.b106
  rfl
theorem al_107 (h : Holds V0 s j) : (broadcastInDim S1x10647 ![1] bcast_S10647_S1x10647_1 (iotaInDim S10647 32 0) : (Proc.devRef .tc main_while0b_v114 : DevRef τ sig).ty.Contents (Elt F)) = Cert.ReferenceIdeal.Step.b107 j s := by
  unfold Cert.ReferenceIdeal.Step.b107
  rw [← al_106 h]
  try rfl
theorem al_108 (h : Holds V0 s j) : (broadcastInDim S16x1 ![0] bcast_S16_S16x1_0 (res_main_while0b_v32 V0) : (Proc.devRef .tc main_while0b_v115 : DevRef τ sig).ty.Contents (Elt F)) = Cert.ReferenceIdeal.Step.b108 j s := by
  unfold Cert.ReferenceIdeal.Step.b108
  rw [← al_6 h]
  try rfl
theorem al_109 (h : Holds V0 s j) : (broadcastInDim S16x10647 ![0, 1] bcast_S1x10647_S16x10647_0_1 (broadcastInDim S1x10647 ![1] bcast_S10647_S1x10647_1 (iotaInDim S10647 32 0)) : (Proc.devRef .tc main_while0b_v116 : DevRef τ sig).ty.Contents (Elt F)) = Cert.ReferenceIdeal.Step.b109 j s := by
  unfold Cert.ReferenceIdeal.Step.b109
  rw [← al_107 h]
  try rfl
theorem al_110 (h : Holds V0 s j) : (broadcastInDim S16x10647 ![0, 1] bcast_S16x1_S16x10647_0_1 (broadcastInDim S16x1 ![0] bcast_S16_S16x1_0 (res_main_while0b_v32 V0)) : (Proc.devRef .tc main_while0b_v117 : DevRef τ sig).ty.Contents (Elt F)) = Cert.ReferenceIdeal.Step.b110 j s := by
  unfold Cert.ReferenceIdeal.Step.b110
  rw [← al_108 h]
  try rfl
theorem al_111 (h : Holds V0 s j) : (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0))) : (Proc.devRef .tc main_while0b_v118 : DevRef τ sig).ty.Contents (Elt F)) = Cert.ReferenceIdeal.Step.b111 j s := by
  unfold Cert.ReferenceIdeal.Step.b111
  rw [← al_109 h, ← al_110 h]
  try rfl
theorem al_112 (h : Holds V0 s j) : (constant S_ .f32 0xF149F2CA#32 : (Proc.devRef .tc main_while0b_cst_25 : DevRef τ sig).ty.Contents (Elt F)) = Cert.ReferenceIdeal.Step.b112 j s := by
  unfold Cert.ReferenceIdeal.Step.b112
  rfl
theorem al_113 (h : Holds V0 s j) : (id (constant S_ .f32 0xF149F2CA#32) : (Proc.devRef .tc main_while0b_call7_v0 : DevRef τ sig).ty.Contents (Elt F)) = Cert.ReferenceIdeal.Step.b113 j s := by
  unfold Cert.ReferenceIdeal.Step.b113
  rw [← al_112 h]
  try rfl
theorem al_114 (h : Holds V0 s j) : (broadcastInDim S10647 ![] bcast_S_S10647 (id (constant S_ .f32 0xF149F2CA#32)) : (Proc.devRef .tc main_while0b_call7_v1 : DevRef τ sig).ty.Contents (Elt F)) = Cert.ReferenceIdeal.Step.b114 j s := by
  unfold Cert.ReferenceIdeal.Step.b114
  rw [← al_113 h]
  try rfl
theorem al_115 (h : Holds V0 s j) : (broadcastInDim S16x10647 ![1] bcast_S10647_S16x10647_1 (broadcastInDim S10647 ![] bcast_S_S10647 (id (constant S_ .f32 0xF149F2CA#32))) : (Proc.devRef .tc main_while0b_call7_v2 : DevRef τ sig).ty.Contents (Elt F)) = Cert.ReferenceIdeal.Step.b115 j s := by
  unfold Cert.ReferenceIdeal.Step.b115
  rw [← al_114 h]
  try rfl
theorem al_116 (h : Holds V0 s j) : (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3))) : (Proc.devRef .tc main_while0b_v119 : DevRef τ sig).ty.Contents (Elt F)) = Cert.ReferenceIdeal.Step.b116 j s := by
  unfold Cert.ReferenceIdeal.Step.b116
  rw [← al_111 h, ← al_115 h, ← al_105 h]
  try rfl
theorem al_117 (h : Holds V0 s j) : (broadcastInDim S16x10647 ![0] bcast_S16_S16x10647_0 (res_main_while0b_v35 V0) : (Proc.devRef .tc main_while0b_call8_v0 : DevRef τ sig).ty.Contents (Elt F)) = Cert.ReferenceIdeal.Step.b117 j s := by
  unfold Cert.ReferenceIdeal.Step.b117
  rw [← al_11 h]
  try rfl
theorem al_118 (h : Holds V0 s j) : (select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3)) : (Proc.devRef .tc main_while0b_v120 : DevRef τ sig).ty.Contents (Elt F)) = Cert.ReferenceIdeal.Step.b118 j s := by
  unfold Cert.ReferenceIdeal.Step.b118
  rw [← al_117 h, ← al_116 h, h.f_3]
  try rfl
theorem al_119 (h : Holds V0 s j) : (res_main_while0b_v121 V0 : (Proc.devRef .tc main_while0b_v121 : DevRef τ sig).ty.Contents (Elt F)) = Cert.ReferenceIdeal.Step.b119 j s := by
  unfold res_main_while0b_v121 Cert.ReferenceIdeal.Step.b119
  rw [← al_11 h]
  try rfl
theorem al_120 (h : Holds V0 s j) : (constant S_ .f32 0x00000000#32 : (Proc.devRef .tc main_while0b_cst_26 : DevRef τ sig).ty.Contents (Elt F)) = Cert.ReferenceIdeal.Step.b120 j s := by
  unfold Cert.ReferenceIdeal.Step.b120
  rfl
theorem al_121 (h : Holds V0 s j) : (constant S_ .f32 0x3F800000#32 : (Proc.devRef .tc main_while0b_cst_27 : DevRef τ sig).ty.Contents (Elt F)) = Cert.ReferenceIdeal.Step.b121 j s := by
  unfold Cert.ReferenceIdeal.Step.b121
  rfl
theorem al_122 (h : Holds V0 s j) : (id (constant S_ .f32 0x00000000#32) : (Proc.devRef .tc main_while0b_call9_v0 : DevRef τ sig).ty.Contents (Elt F)) = Cert.ReferenceIdeal.Step.b122 j s := by
  unfold Cert.ReferenceIdeal.Step.b122
  rw [← al_120 h]
  try rfl
theorem al_123 (h : Holds V0 s j) : (broadcastInDim S16x4 ![] bcast_S_S16x4 (id (constant S_ .f32 0x00000000#32)) : (Proc.devRef .tc main_while0b_call9_v1 : DevRef τ sig).ty.Contents (Elt F)) = Cert.ReferenceIdeal.Step.b123 j s := by
  unfold Cert.ReferenceIdeal.Step.b123
  rw [← al_122 h]
  try rfl
theorem al_124 (h : Holds V0 s j) : (maximumf (broadcastInDim S16x4 ![] bcast_S_S16x4 (id (constant S_ .f32 0x00000000#32))) (res_main_while0b_v36 V0) : (Proc.devRef .tc main_while0b_call9_v2 : DevRef τ sig).ty.Contents (Elt F)) = Cert.ReferenceIdeal.Step.b124 j s := by
  unfold Cert.ReferenceIdeal.Step.b124
  rw [← al_123 h, ← al_13 h]
  try rfl
theorem al_125 (h : Holds V0 s j) : (id (constant S_ .f32 0x3F800000#32) : (Proc.devRef .tc main_while0b_call9_v3 : DevRef τ sig).ty.Contents (Elt F)) = Cert.ReferenceIdeal.Step.b125 j s := by
  unfold Cert.ReferenceIdeal.Step.b125
  rw [← al_121 h]
  try rfl
theorem al_126 (h : Holds V0 s j) : (broadcastInDim S16x4 ![] bcast_S_S16x4 (id (constant S_ .f32 0x3F800000#32)) : (Proc.devRef .tc main_while0b_call9_v4 : DevRef τ sig).ty.Contents (Elt F)) = Cert.ReferenceIdeal.Step.b126 j s := by
  unfold Cert.ReferenceIdeal.Step.b126
  rw [← al_125 h]
  try rfl
theorem al_127 (h : Holds V0 s j) : (minimumf (broadcastInDim S16x4 ![] bcast_S_S16x4 (id (constant S_ .f32 0x3F800000#32))) (maximumf (broadcastInDim S16x4 ![] bcast_S_S16x4 (id (constant S_ .f32 0x00000000#32))) (res_main_while0b_v36 V0)) : (Proc.devRef .tc main_while0b_v122 : DevRef τ sig).ty.Contents (Elt F)) = Cert.ReferenceIdeal.Step.b127 j s := by
  unfold Cert.ReferenceIdeal.Step.b127
  rw [← al_126 h, ← al_124 h]
  try rfl
theorem al_128 (h : Holds V0 s j) : (broadcastInDim S16x1 ![0] bcast_S16_S16x1_0 (res_main_while0b_v121 V0) : (Proc.devRef .tc main_while0b_v123 : DevRef τ sig).ty.Contents (Elt F)) = Cert.ReferenceIdeal.Step.b128 j s := by
  unfold Cert.ReferenceIdeal.Step.b128
  rw [← al_119 h]
  try rfl
theorem al_129 (h : Holds V0 s j) : (broadcastInDim S16x4 ![0, 1] bcast_S16x1_S16x4_0_1 (broadcastInDim S16x1 ![0] bcast_S16_S16x1_0 (res_main_while0b_v121 V0)) : (Proc.devRef .tc main_while0b_v124 : DevRef τ sig).ty.Contents (Elt F)) = Cert.ReferenceIdeal.Step.b129 j s := by
  unfold Cert.ReferenceIdeal.Step.b129
  rw [← al_128 h]
  try rfl
theorem al_130 (h : Holds V0 s j) : (mulf (broadcastInDim S16x4 ![0, 1] bcast_S16x1_S16x4_0_1 (broadcastInDim S16x1 ![0] bcast_S16_S16x1_0 (res_main_while0b_v121 V0))) (minimumf (broadcastInDim S16x4 ![] bcast_S_S16x4 (id (constant S_ .f32 0x3F800000#32))) (maximumf (broadcastInDim S16x4 ![] bcast_S_S16x4 (id (constant S_ .f32 0x00000000#32))) (res_main_while0b_v36 V0))) : (Proc.devRef .tc main_while0b_v125 : DevRef τ sig).ty.Contents (Elt F)) = Cert.ReferenceIdeal.Step.b130 j s := by
  unfold Cert.ReferenceIdeal.Step.b130
  rw [← al_129 h, ← al_127 h]
  try rfl
theorem al_131 (h : Holds V0 s j) : (constantI S_ 32 0#32 : (Proc.devRef .tc main_while0b_c_28 : DevRef τ sig).ty.Contents (Elt F)) = Cert.ReferenceIdeal.Step.b131 j s := by
  unfold Cert.ReferenceIdeal.Step.b131
  rfl
theorem al_132 (h : Holds V0 s j) : (cmpi .slt (V0 (Proc.devRef .tc main_v25_2)) (constantI S_ 32 0#32) : (Proc.devRef .tc main_while0b_v126 : DevRef τ sig).ty.Contents (Elt F)) = Cert.ReferenceIdeal.Step.b132 j s := by
  unfold Cert.ReferenceIdeal.Step.b132
  rw [← al_131 h, h.n_2]
  try rfl
theorem al_133 (h : Holds V0 s j) : (constantI S_ 32 100#32 : (Proc.devRef .tc main_while0b_c_29 : DevRef τ sig).ty.Contents (Elt F)) = Cert.ReferenceIdeal.Step.b133 j s := by
  unfold Cert.ReferenceIdeal.Step.b133
  rfl
theorem al_134 (h : Holds V0 s j) : (addi (V0 (Proc.devRef .tc main_v25_2)) (constantI S_ 32 100#32) : (Proc.devRef .tc main_while0b_v127 : DevRef τ sig).ty.Contents (Elt F)) = Cert.ReferenceIdeal.Step.b134 j s := by
  unfold Cert.ReferenceIdeal.Step.b134
  rw [← al_133 h, h.n_2]
  try rfl
theorem al_135 (h : Holds V0 s j) : (select (cmpi .slt (V0 (Proc.devRef .tc main_v25_2)) (constantI S_ 32 0#32)) (addi (V0 (Proc.devRef .tc main_v25_2)) (constantI S_ 32 100#32)) (V0 (Proc.devRef .tc main_v25_2)) : (Proc.devRef .tc main_while0b_v128 : DevRef τ sig).ty.Contents (Elt F)) = Cert.ReferenceIdeal.Step.b135 j s := by
  unfold Cert.ReferenceIdeal.Step.b135
  rw [← al_132 h, ← al_134 h, h.n_2]
  try rfl
theorem al_136 (h : Holds V0 s j) : (id (select (cmpi .slt (V0 (Proc.devRef .tc main_v25_2)) (constantI S_ 32 0#32)) (addi (V0 (Proc.devRef .tc main_v25_2)) (constantI S_ 32 100#32)) (V0 (Proc.devRef .tc main_v25_2))) : (Proc.devRef .tc main_while0b_v129 : DevRef τ sig).ty.Contents (Elt F)) = Cert.ReferenceIdeal.Step.b136 j s := by
  unfold Cert.ReferenceIdeal.Step.b136
  rw [← al_135 h]
  try rfl
theorem al_137 (h : Holds V0 s j) : (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2)))) : (Proc.devRef .tc main_while0b_v130 : DevRef τ sig).ty.Contents (Elt F)) = Cert.ReferenceIdeal.Step.b137 j s := by
  unfold Cert.ReferenceIdeal.Step.b137
  rw [← al_136 h]
  try rfl
theorem al_138 (h : Holds V0 s j) : (Host.scatter scatter_S16x100x4_S1_S16x4_01_1_1_0 (fun _ b => b) (V0 (Proc.devRef .tc main_v25_4)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (broadcastInDim S16x4 ![0, 1] bcast_S16x1_S16x4_0_1 (broadcastInDim S16x1 ![0] bcast_S16_S16x1_0 (res_main_while0b_v121 V0))) (minimumf (broadcastInDim S16x4 ![] bcast_S_S16x4 (id (constant S_ .f32 0x3F800000#32))) (maximumf (broadcastInDim S16x4 ![] bcast_S_S16x4 (id (constant S_ .f32 0x00000000#32))) (res_main_while0b_v36 V0)))) : (Proc.devRef .tc main_while0b_v131 : DevRef τ sig).ty.Contents (Elt F)) = Cert.ReferenceIdeal.Step.b138 j s := by
  unfold Cert.ReferenceIdeal.Step.b138
  rw [← al_137 h, ← al_130 h, h.f_4]
  try rfl
theorem al_139 (h : Holds V0 s j) : (mulf (res_main_while0b_v121 V0) (res_main_while0b_v33 V0) : (Proc.devRef .tc main_while0b_v132 : DevRef τ sig).ty.Contents (Elt F)) = Cert.ReferenceIdeal.Step.b139 j s := by
  unfold Cert.ReferenceIdeal.Step.b139
  rw [← al_119 h, ← al_8 h]
  try rfl
theorem al_140 (h : Holds V0 s j) : (constantI S_ 32 0#32 : (Proc.devRef .tc main_while0b_c_30 : DevRef τ sig).ty.Contents (Elt F)) = Cert.ReferenceIdeal.Step.b140 j s := by
  unfold Cert.ReferenceIdeal.Step.b140
  rfl
theorem al_141 (h : Holds V0 s j) : (cmpi .slt (V0 (Proc.devRef .tc main_v25_2)) (constantI S_ 32 0#32) : (Proc.devRef .tc main_while0b_v133 : DevRef τ sig).ty.Contents (Elt F)) = Cert.ReferenceIdeal.Step.b141 j s := by
  unfold Cert.ReferenceIdeal.Step.b141
  rw [← al_140 h, h.n_2]
  try rfl
theorem al_142 (h : Holds V0 s j) : (constantI S_ 32 100#32 : (Proc.devRef .tc main_while0b_c_31 : DevRef τ sig).ty.Contents (Elt F)) = Cert.ReferenceIdeal.Step.b142 j s := by
  unfold Cert.ReferenceIdeal.Step.b142
  rfl
theorem al_143 (h : Holds V0 s j) : (addi (V0 (Proc.devRef .tc main_v25_2)) (constantI S_ 32 100#32) : (Proc.devRef .tc main_while0b_v134 : DevRef τ sig).ty.Contents (Elt F)) = Cert.ReferenceIdeal.Step.b143 j s := by
  unfold Cert.ReferenceIdeal.Step.b143
  rw [← al_142 h, h.n_2]
  try rfl
theorem al_144 (h : Holds V0 s j) : (select (cmpi .slt (V0 (Proc.devRef .tc main_v25_2)) (constantI S_ 32 0#32)) (addi (V0 (Proc.devRef .tc main_v25_2)) (constantI S_ 32 100#32)) (V0 (Proc.devRef .tc main_v25_2)) : (Proc.devRef .tc main_while0b_v135 : DevRef τ sig).ty.Contents (Elt F)) = Cert.ReferenceIdeal.Step.b144 j s := by
  unfold Cert.ReferenceIdeal.Step.b144
  rw [← al_141 h, ← al_143 h, h.n_2]
  try rfl
theorem al_145 (h : Holds V0 s j) : (id (select (cmpi .slt (V0 (Proc.devRef .tc main_v25_2)) (constantI S_ 32 0#32)) (addi (V0 (Proc.devRef .tc main_v25_2)) (constantI S_ 32 100#32)) (V0 (Proc.devRef .tc main_v25_2))) : (Proc.devRef .tc main_while0b_v136 : DevRef τ sig).ty.Contents (Elt F)) = Cert.ReferenceIdeal.Step.b145 j s := by
  unfold Cert.ReferenceIdeal.Step.b145
  rw [← al_144 h]
  try rfl
theorem al_146 (h : Holds V0 s j) : (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2)))) : (Proc.devRef .tc main_while0b_v137 : DevRef τ sig).ty.Contents (Elt F)) = Cert.ReferenceIdeal.Step.b146 j s := by
  unfold Cert.ReferenceIdeal.Step.b146
  rw [← al_145 h]
  try rfl
theorem al_147 (h : Holds V0 s j) : (Host.scatter scatter_S16x100_S1_S16_0_1_1_0 (fun _ b => b) (V0 (Proc.devRef .tc main_v25_5)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (res_main_while0b_v121 V0) (res_main_while0b_v33 V0)) : (Proc.devRef .tc main_while0b_v138 : DevRef τ sig).ty.Contents (Elt F)) = Cert.ReferenceIdeal.Step.b147 j s := by
  unfold Cert.ReferenceIdeal.Step.b147
  rw [← al_146 h, ← al_139 h, h.f_5]
  try rfl
theorem al_148 (h : Holds V0 s j) : (constantI S_ 32 0#32 : (Proc.devRef .tc main_while0b_c_32 : DevRef τ sig).ty.Contents (Elt F)) = Cert.ReferenceIdeal.Step.b148 j s := by
  unfold Cert.ReferenceIdeal.Step.b148
  rfl
theorem al_149 (h : Holds V0 s j) : (cmpi .slt (V0 (Proc.devRef .tc main_v25_2)) (constantI S_ 32 0#32) : (Proc.devRef .tc main_while0b_v139 : DevRef τ sig).ty.Contents (Elt F)) = Cert.ReferenceIdeal.Step.b149 j s := by
  unfold Cert.ReferenceIdeal.Step.b149
  rw [← al_148 h, h.n_2]
  try rfl
theorem al_150 (h : Holds V0 s j) : (constantI S_ 32 100#32 : (Proc.devRef .tc main_while0b_c_33 : DevRef τ sig).ty.Contents (Elt F)) = Cert.ReferenceIdeal.Step.b150 j s := by
  unfold Cert.ReferenceIdeal.Step.b150
  rfl
theorem al_151 (h : Holds V0 s j) : (addi (V0 (Proc.devRef .tc main_v25_2)) (constantI S_ 32 100#32) : (Proc.devRef .tc main_while0b_v140 : DevRef τ sig).ty.Contents (Elt F)) = Cert.ReferenceIdeal.Step.b151 j s := by
  unfold Cert.ReferenceIdeal.Step.b151
  rw [← al_150 h, h.n_2]
  try rfl
theorem al_152 (h : Holds V0 s j) : (select (cmpi .slt (V0 (Proc.devRef .tc main_v25_2)) (constantI S_ 32 0#32)) (addi (V0 (Proc.devRef .tc main_v25_2)) (constantI S_ 32 100#32)) (V0 (Proc.devRef .tc main_v25_2)) : (Proc.devRef .tc main_while0b_v141 : DevRef τ sig).ty.Contents (Elt F)) = Cert.ReferenceIdeal.Step.b152 j s := by
  unfold Cert.ReferenceIdeal.Step.b152
  rw [← al_149 h, ← al_151 h, h.n_2]
  try rfl
theorem al_153 (h : Holds V0 s j) : (id (select (cmpi .slt (V0 (Proc.devRef .tc main_v25_2)) (constantI S_ 32 0#32)) (addi (V0 (Proc.devRef .tc main_v25_2)) (constantI S_ 32 100#32)) (V0 (Proc.devRef .tc main_v25_2))) : (Proc.devRef .tc main_while0b_v142 : DevRef τ sig).ty.Contents (Elt F)) = Cert.ReferenceIdeal.Step.b153 j s := by
  unfold Cert.ReferenceIdeal.Step.b153
  rw [← al_152 h]
  try rfl
theorem al_154 (h : Holds V0 s j) : (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2)))) : (Proc.devRef .tc main_while0b_v143 : DevRef τ sig).ty.Contents (Elt F)) = Cert.ReferenceIdeal.Step.b154 j s := by
  unfold Cert.ReferenceIdeal.Step.b154
  rw [← al_153 h]
  try rfl
theorem al_155 (h : Holds V0 s j) : (constant S_ .f32 0x00000000#32 : (Proc.devRef .tc main_while0b_cst_34 : DevRef τ sig).ty.Contents (Elt F)) = Cert.ReferenceIdeal.Step.b155 j s := by
  unfold Cert.ReferenceIdeal.Step.b155
  rfl
theorem al_156 (h : Holds V0 s j) : (Host.scatter scatter_S100_S1_S__n_0_0_0 (fun _ b => b) (V0 (Proc.devRef .tc main_v25_6)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (constant S_ .f32 0x00000000#32) : (Proc.devRef .tc main_while0b_v144 : DevRef τ sig).ty.Contents (Elt F)) = Cert.ReferenceIdeal.Step.b156 j s := by
  unfold Cert.ReferenceIdeal.Step.b156
  rw [← al_154 h, ← al_155 h, h.f_6]
  try rfl
theorem al_157 (h : Holds V0 s j) : (addf (V0 (Proc.devRef .tc main_v25_7)) (res_main_while0b_v121 V0) : (Proc.devRef .tc main_while0b_v145 : DevRef τ sig).ty.Contents (Elt F)) = Cert.ReferenceIdeal.Step.b157 j s := by
  unfold Cert.ReferenceIdeal.Step.b157
  rw [← al_119 h, h.f_7]
  try rfl

/-! One trip's step of the carried values is `step`, field by field; a counter steps to the next number. -/

theorem step_3 (h : Holds V0 s j) : step_main_v25_3 V0 = (step j s).main_v25_3 := by
  unfold step_main_v25_3 Cert.ReferenceIdeal.Step.step
  show id (select (broadcastInDim S16x10647 ![0] bcast_S16_S16x10647_0 (res_main_while0b_v35 V0)) (select (cmpi .eq (broadcastInDim S16x10647 ![0, 1] bcast_S1x10647_S16x10647_0_1 (broadcastInDim S1x10647 ![1] bcast_S10647_S1x10647_1 (iotaInDim S10647 32 0))) (broadcastInDim S16x10647 ![0, 1] bcast_S16x1_S16x10647_0_1 (broadcastInDim S16x1 ![0] bcast_S16_S16x1_0 (res_main_while0b_v32 V0)))) (broadcastInDim S16x10647 ![1] bcast_S10647_S16x10647_1 (broadcastInDim S10647 ![] bcast_S_S10647 (id (constant S_ .f32 0xF149F2CA#32)))) (select (cmpf .ogt (select (cmpf .ogt (res_main_while0b_v105 V0) (broadcastInDim S16x10647 ![] bcast_S_S16x10647 (constant S_ .f32 0x00000000#32))) (Host.divf (res_main_while0b_v71 V0) (res_main_while0b_v105 V0)) (broadcastInDim S16x10647 ![1] bcast_S10647_S16x10647_1 (broadcastInDim S10647 ![] bcast_S_S10647 (id (constant S_ .f32 0x00000000#32))))) (broadcastInDim S16x10647 ![] bcast_S_S16x10647 (constant S_ .f32 0x3F000000#32))) (broadcastInDim S16x10647 ![1] bcast_S10647_S16x10647_1 (broadcastInDim S10647 ![] bcast_S_S10647 (id (constant S_ .f32 0xF149F2CA#32)))) (V0 (Proc.devRef .tc main_v25_3)))) (V0 (Proc.devRef .tc main_v25_3))) = _
  rw [al_118 h]
  try rfl
theorem step_4 (h : Holds V0 s j) : step_main_v25_4 V0 = (step j s).main_v25_4 := by
  unfold step_main_v25_4 Cert.ReferenceIdeal.Step.step
  show id (Host.scatter scatter_S16x100x4_S1_S16x4_01_1_1_0 (fun _ b => b) (V0 (Proc.devRef .tc main_v25_4)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (broadcastInDim S16x4 ![0, 1] bcast_S16x1_S16x4_0_1 (broadcastInDim S16x1 ![0] bcast_S16_S16x1_0 (res_main_while0b_v121 V0))) (minimumf (broadcastInDim S16x4 ![] bcast_S_S16x4 (id (constant S_ .f32 0x3F800000#32))) (maximumf (broadcastInDim S16x4 ![] bcast_S_S16x4 (id (constant S_ .f32 0x00000000#32))) (res_main_while0b_v36 V0))))) = _
  refine (id_eq _).trans ?_
  show _ = Cert.ReferenceIdeal.Step.b138 j s
  exact al_138 h

theorem step_5 (h : Holds V0 s j) : step_main_v25_5 V0 = (step j s).main_v25_5 := by
  unfold step_main_v25_5 Cert.ReferenceIdeal.Step.step
  show id (Host.scatter scatter_S16x100_S1_S16_0_1_1_0 (fun _ b => b) (V0 (Proc.devRef .tc main_v25_5)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (mulf (res_main_while0b_v121 V0) (res_main_while0b_v33 V0))) = _
  refine (id_eq _).trans ?_
  show _ = Cert.ReferenceIdeal.Step.b147 j s
  exact al_147 h

theorem step_6 (h : Holds V0 s j) : step_main_v25_6 V0 = (step j s).main_v25_6 := by
  unfold step_main_v25_6 Cert.ReferenceIdeal.Step.step
  show id (Host.scatter scatter_S100_S1_S__n_0_0_0 (fun _ b => b) (V0 (Proc.devRef .tc main_v25_6)) (broadcastInDim S1 ![] bcast_S_S1 (id (select (cmpi .slt (V0 (Proc.devRef .tc main_v25_2)) (constantI S_ 32 0#32)) (addi (V0 (Proc.devRef .tc main_v25_2)) (constantI S_ 32 100#32)) (V0 (Proc.devRef .tc main_v25_2))))) (constant S_ .f32 0x00000000#32)) = _
  refine (id_eq _).trans ?_
  show _ = Cert.ReferenceIdeal.Step.b156 j s
  exact al_156 h

theorem step_7 (h : Holds V0 s j) : step_main_v25_7 V0 = (step j s).main_v25_7 := by
  unfold step_main_v25_7 Cert.ReferenceIdeal.Step.step
  show id (addf (V0 (Proc.devRef .tc main_v25_7)) (res_main_while0b_v121 V0)) = _
  rw [al_157 h]
  try rfl
theorem step_1 (h : Holds V0 s j) : step_main_v25_1 V0 = constantI S_ 32 (BitVec.ofNat 32 (j + 1)) := by
  unfold step_main_v25_1
  rw [h.n_1]
  funext i
  show BitVec.ofNat 32 j + 1#32 = BitVec.ofNat 32 (j + 1)
  simp only [BitVec.ofNat_add]
theorem step_2 (h : Holds V0 s j) : step_main_v25_2 V0 = constantI S_ 32 (BitVec.ofNat 32 (j + 1)) := by
  unfold step_main_v25_2
  rw [h.n_2]
  funext i
  show BitVec.ofNat 32 j + 1#32 = BitVec.ofNat 32 (j + 1)
  simp only [BitVec.ofNat_add]

theorem out_main_v29_holds (h : Holds V0 s j) : out_main_v29 V0 = Cert.ReferenceIdeal.Step.R_main_v29 s := by
  unfold out_main_v29 Cert.ReferenceIdeal.Step.R_main_v29
  rw [h.f_4, h.f_5, h.f_6]
  try rfl

theorem out_main_v30_holds (h : Holds V0 s j) : out_main_v30 V0 = Cert.ReferenceIdeal.Step.R_main_v30 s := by
  unfold out_main_v30 Cert.ReferenceIdeal.Step.R_main_v30
  rw [h.f_7]
  try rfl

/-- One trip keeps the valuation holding: `step` of the state, the same set-up values, the next number. -/
theorem holds_step (h : Holds V0 s j) : Holds (STEP V0) (step j s) (j + 1) where
  f_3 := (STEP_main_v25_3 V0).trans (step_3 h)
  f_4 := (STEP_main_v25_4 V0).trans (step_4 h)
  f_5 := (STEP_main_v25_5 V0).trans (step_5 h)
  f_6 := (STEP_main_v25_6 V0).trans (step_6 h)
  f_7 := (STEP_main_v25_7 V0).trans (step_7 h)
  n_1 := (STEP_main_v25_1 V0).trans (step_1 h)
  n_2 := (STEP_main_v25_2 V0).trans (step_2 h)
  f_0 := (STEP_main_v25_0 V0).trans h.f_0

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 100 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v29) = Cert.ReferenceIdeal.Step.R_main_v29 (it c 100)
      ∧ r.2.mem ((c.tc : Thread nD τ).loc main_v30) = Cert.ReferenceIdeal.Step.R_main_v30 (it c 100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 100
    ⟨(h c).1.trans (out_main_v29_holds hk), (h c).2.1.trans (out_main_v30_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.StepRun

end
-- ==== Proof.Frames.lean ====
/-
  The claims that the three programs run to the end, leave their arguments alone and end with every counter at zero.
-/
module

public import proofs.«01_k».proof.Defs
public import proofs.«01_k».proof.Proof.RunI.Launch
public import proofs.«01_k».proof.Proof.RunK.Launch
public import proofs.«01_k».proof.Proof.Ref.StepRun
public import proofs.«01_k».proof.Proof.Gen.Pre_finite_boxes
public import Idealize.ShloMosaic.Lib.Quiescent

@[expose] public section

noncomputable section

namespace Cert.Proof

open Idealize.ShloMosaic Idealize.SL.Sem

theorem kernel_quiet : quiescent_Kernel (hKernel := Cert.Kernel.Gen.facts) := fun m g _ => Cert.Kernel.Own.frame m g

theorem kernelIdeal_quiet : quiescent_KernelIdeal (hKernelIdeal := Cert.KernelIdeal.Gen.facts) := fun m g _ => Cert.KernelIdeal.Own.frame m g

theorem kernelIdeal_quiet_pre :
    quiescent_KernelIdeal_pre_finite_boxes (hKernelIdeal := Cert.KernelIdeal.Gen.facts) (hPre_finite_boxes := Cert.Pre_finite_boxes.Gen.facts) :=
  fun m g _ => Cert.KernelIdeal.Own.frame m g

/-- The states that the reference's loop runs through on a core. -/
def refIt (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.ReferenceIdeal.StepRun.initState m c
  | n + 1 => Cert.ReferenceIdeal.Step.step n (refIt m c n)

theorem reference_quiet : quiescent_ReferenceIdeal (hReferenceIdeal := Cert.ReferenceIdeal.Gen.facts) := fun m g _ =>
  (θ_run (Cert.ReferenceIdeal.defs (F := Ideal)) _ _).mono
    (fun r h => ⟨fun c => (h c).2.2, sem_eq_zero_of_no_sems (by decide) r.2⟩)
    (Cert.ReferenceIdeal.StepRun.run_iter m g (refIt m) (fun _ => rfl) (fun _ _ => rfl))

theorem reference_quiet_pre :
    quiescent_ReferenceIdeal_pre_finite_boxes (hReferenceIdeal := Cert.ReferenceIdeal.Gen.facts) (hPre_finite_boxes := Cert.Pre_finite_boxes.Gen.facts) := fun m g _ =>
  (θ_run (Cert.ReferenceIdeal.defs (F := Ideal)) _ _).mono
    (fun r h => ⟨fun c => (h c).2.2, sem_eq_zero_of_no_sems (by decide) r.2⟩)
    (Cert.ReferenceIdeal.StepRun.run_iter m g (refIt m) (fun _ => rfl) (fun _ _ => rfl))

end Cert.Proof

end
-- ==== Proof.Value.Math.lean ====
/-
  The mathematics that the two programs share, stated without either: the first place where a finite sequence attains its
  maximum, the two ways of finding it (a fold over pairs; a minimum of masked places), and the equivalence of the two
  tests by which an overlapping box is dropped.
-/
module

public import Idealize.ShloMosaic.Lib.Pointwise
public import Idealize.ShloMosaic.PureOps.Ideal.Laws

@[expose] public section

noncomputable section

namespace Cert.Detect

open Idealize.ShloMosaic

/-! ## The first place of the maximum -/

/-- `i` is the first place where `f` attains its maximum. -/
def FirstMax {n : ℕ} (f : Fin n → EReal) (i : Fin n) : Prop := ∀ j, f j < f i ∨ (f j = f i ∧ i ≤ j)

theorem FirstMax.le {n : ℕ} {f : Fin n → EReal} {i : Fin n} (h : FirstMax f i) (j : Fin n) : f j ≤ f i :=
  (h j).elim le_of_lt fun e => e.1.le

theorem FirstMax.unique {n : ℕ} {f : Fin n → EReal} {i j : Fin n} (hi : FirstMax f i) (hj : FirstMax f j) : i = j := by
  have e : f i = f j := le_antisymm (hj.le i) (hi.le j)
  rcases hi j with h | h
  · exact absurd h (by rw [e]; exact lt_irrefl _)
  · rcases hj i with h' | h'
    · exact absurd h' (by rw [e]; exact lt_irrefl _)
    · exact le_antisymm h.2 h'.2

theorem FirstMax.congr {n : ℕ} {f g : Fin n → EReal} {i : Fin n} (h : FirstMax f i) (e : ∀ j, g j = f j) : FirstMax g i := by
  intro j; rw [e, e]; exact h j

/-- Entries appended that are below every entry do not move the first place of the maximum. -/
theorem FirstMax.extend {n m : ℕ} (hnm : n ≤ m) {f : Fin n → EReal} {g : Fin m → EReal} {i : Fin n} (b : EReal) (hb : ∀ j, b ≤ f j)
    (h1 : ∀ j : Fin n, g (Fin.castLE hnm j) = f j) (h2 : ∀ j : Fin m, n ≤ j.val → g j = b) (h : FirstMax f i) :
    FirstMax g (Fin.castLE hnm i) := by
  intro j
  rw [h1]
  by_cases hj : j.val < n
  · have e : j = Fin.castLE hnm ⟨j.val, hj⟩ := Fin.ext rfl
    rw [e, h1]
    exact h ⟨j.val, hj⟩
  · rw [h2 j (by omega)]
    rcases lt_or_eq_of_le (hb i) with q | q
    · exact .inl q
    · refine .inr ⟨q, ?_⟩
      show i.val ≤ j.val
      have := i.isLt
      omega

theorem FirstMax.fold_eq {n : ℕ} {f : Fin n → EReal} {i : Fin n} (h : FirstMax f i) :
    (Finset.univ : Finset (Fin n)).fold max ⊥ f = f i := by
  apply le_antisymm
  · rw [Finset.fold_max_le]
    exact ⟨bot_le, fun j _ => h.le j⟩
  · rw [Finset.le_fold_max]
    exact .inr ⟨i, Finset.mem_univ _, le_rfl⟩

theorem exists_firstMax {n : ℕ} (hn : 0 < n) (f : Fin n → EReal) : ∃ i, FirstMax f i := by
  obtain ⟨i₀, -, h₀⟩ := Finset.exists_max_image (Finset.univ : Finset (Fin n)) f ⟨⟨0, hn⟩, Finset.mem_univ _⟩
  obtain ⟨i, hi, h⟩ := Finset.exists_min_image ((Finset.univ : Finset (Fin n)).filter fun j => f j = f i₀) (fun j => j)
    ⟨i₀, Finset.mem_filter.2 ⟨Finset.mem_univ _, rfl⟩⟩
  have hi' := (Finset.mem_filter.1 hi).2
  refine ⟨i, fun j => ?_⟩
  rw [hi']
  rcases lt_or_eq_of_le (h₀ j (Finset.mem_univ _)) with q | q
  · exact .inl q
  · exact .inr ⟨q, h j (Finset.mem_filter.2 ⟨Finset.mem_univ _, q⟩)⟩

/-! ## Words of small numbers -/

theorem toInt_ofNat {k : ℕ} (h : k < 2 ^ 31) : (BitVec.ofNat 32 k).toInt = (k : Int) := by
  rw [BitVec.toInt_eq_toNat_cond, BitVec.toNat_ofNat]
  have e : k % 2 ^ 32 = k := Nat.mod_eq_of_lt (by omega)
  rw [e, if_pos (by omega)]

theorem ofNat_inj {a b : ℕ} (ha : a < 2 ^ 31) (hb : b < 2 ^ 31) : BitVec.ofNat 32 a = BitVec.ofNat 32 b ↔ a = b := by
  constructor
  · intro h
    have := congrArg BitVec.toInt h
    rw [toInt_ofNat ha, toInt_ofNat hb] at this
    exact_mod_cast this
  · rintro rfl; rfl

theorem cmpi_eq_ofNat {a b : ℕ} (ha : a < 2 ^ 31) (hb : b < 2 ^ 31) :
    IntOp.cmpi .eq (BitVec.ofNat 32 a) (BitVec.ofNat 32 b) = BitVec.ofBool (decide (a = b)) := by
  by_cases h : a = b
  · subst h; simp [IntOp.cmpi]
  · have : ¬ BitVec.ofNat 32 a = BitVec.ofNat 32 b := fun e => h ((ofNat_inj ha hb).1 e)
    have e : (BitVec.ofNat 32 a == BitVec.ofNat 32 b) = false := beq_eq_false_iff_ne.2 this
    simp only [IntOp.cmpi, e, h, decide_false]

theorem cmpi_slt_ofNat {a b : ℕ} (ha : a < 2 ^ 31) (hb : b < 2 ^ 31) :
    IntOp.cmpi .slt (BitVec.ofNat 32 a) (BitVec.ofNat 32 b) = BitVec.ofBool (decide (a < b)) := by
  have : (BitVec.ofNat 32 a).slt (BitVec.ofNat 32 b) = decide (a < b) := by
    rw [BitVec.slt, toInt_ofNat ha, toInt_ofNat hb]
    exact decide_eq_decide.2 (by omega)
  simp [IntOp.cmpi, this]

theorem select_ofBool {α : Type} (c : Bool) (a b : α) : Scalar.select (BitVec.ofBool c) a b = if c then a else b := by
  cases c <;> rfl

/-! ## The minimum of the masked places -/

theorem minsi_eq (a b : BitVec 32) : IntOp.minsi a b = if a.slt b then a else b := rfl

/-- A fold of the signed minimum over words that are all at least the `i`-th, which is `i`'s own, is `i`'s. -/
theorem fold_minsi {n : ℕ} (hn : n < 2 ^ 31) (g : Fin n → BitVec 32) (i : Fin n) (hi : g i = BitVec.ofNat 32 i.val)
    (h : ∀ j, (i.val : Int) ≤ (g j).toInt) :
    (Finset.univ : Finset (Fin n)).fold IntOp.minsi 2147483647#32 g = BitVec.ofNat 32 i.val := by
  have key : ∀ s : Finset (Fin n), (i ∈ s → s.fold IntOp.minsi 2147483647#32 g = BitVec.ofNat 32 i.val)
      ∧ (i.val : Int) ≤ (s.fold IntOp.minsi 2147483647#32 g).toInt := by
    intro s
    have hin : i.val < 2 ^ 31 := lt_trans i.isLt hn
    induction s using Finset.induction_on with
    | empty =>
      refine ⟨fun h => absurd h (Finset.notMem_empty _), ?_⟩
      rw [Finset.fold_empty]
      have : (2147483647#32).toInt = 2147483647 := by decide
      omega
    | insert a s ha ih =>
      rw [Finset.fold_insert ha]
      obtain ⟨ih1, ih2⟩ := ih
      refine ⟨fun hm => ?_, ?_⟩
      · rcases Finset.mem_insert.1 hm with e | e
        · subst e
          rw [hi]
          rw [minsi_eq]
          by_cases q : (BitVec.ofNat 32 i.val).slt (Finset.fold IntOp.minsi 2147483647#32 g s)
          · rw [if_pos q]
          · rw [if_neg q]
            have q' : ¬ (i.val : Int) < (Finset.fold IntOp.minsi 2147483647#32 g s).toInt := by
              intro r; apply q; rw [BitVec.slt, toInt_ofNat hin]; exact decide_eq_true r
            apply BitVec.eq_of_toInt_eq
            rw [toInt_ofNat hin]; omega
        · rw [ih1 e]
          rw [minsi_eq]
          by_cases q : (g a).slt (BitVec.ofNat 32 i.val)
          · have q' : (g a).toInt < (i.val : Int) := by
              have := of_decide_eq_true q; rwa [toInt_ofNat hin] at this
            have := h a
            omega
          · rw [if_neg q]
      · rw [minsi_eq]
        split
        · exact h a
        · exact ih2
  exact (key Finset.univ).1 (Finset.mem_univ _)

/-- The minimum over the places, each masked by "attains the maximum" and else the length, is the first such place. -/
theorem FirstMax.fold_minsi {n : ℕ} (hn : n < 2 ^ 31) {f : Fin n → EReal} {i : Fin n} (h : FirstMax f i) (m : EReal) (hm : m = f i) :
    (Finset.univ : Finset (Fin n)).fold IntOp.minsi 2147483647#32
      (fun k => Scalar.select (Ideal.cmp .oeq (f k) m) (BitVec.ofNat 32 k.val) (BitVec.ofNat 32 n)) = BitVec.ofNat 32 i.val := by
  subst hm
  refine Detect.fold_minsi hn _ i ?_ fun j => ?_
  · simp [Ideal.cmp, Scalar.select]
  · rw [Ideal.cmp, select_ofBool]
    by_cases e : f j = f i
    · rw [if_pos (by simp [e]), toInt_ofNat (lt_trans j.isLt hn)]
      rcases h j with q | q
      · exact absurd q (by rw [e]; exact lt_irrefl _)
      · exact_mod_cast q.2
    · rw [if_neg (by simp [e]), toInt_ofNat hn]
      exact_mod_cast i.isLt.le

theorem FirstMax.fold_minsi' {n : ℕ} (hn : n < 2 ^ 31) {f : Fin n → EReal} {i : Fin n} (h : FirstMax f i) (m : EReal) (hm : m = f i) :
    (Finset.univ : Finset (Fin n)).fold IntOp.minsi 2147483647#32
      (fun k => if f k = m then BitVec.ofNat 32 k.val else BitVec.ofNat 32 n) = BitVec.ofNat 32 i.val := by
  rw [← h.fold_minsi hn m hm]
  congr 1
  funext k
  rw [Ideal.cmp, select_ofBool]
  by_cases e : f k = m
  · rw [if_pos e, if_pos (by simp [e])]
  · rw [if_neg e, if_neg (by simp [e])]

/-- A one-hot sum is the entry at its place. -/
theorem sum_oneHot {n : ℕ} (hn : n < 2 ^ 31) (y : Fin n → EReal) (i : Fin n) :
    (∑ k : Fin n, Scalar.select (IntOp.cmpi .eq (BitVec.ofNat 32 k.val) (BitVec.ofNat 32 i.val)) (y k) 0) = y i := by
  rw [Finset.sum_eq_single i]
  · rw [cmpi_eq_ofNat (lt_trans i.isLt hn) (lt_trans i.isLt hn), select_ofBool, if_pos (by simp)]
  · intro k _ hk
    rw [cmpi_eq_ofNat (lt_trans k.isLt hn) (lt_trans i.isLt hn), select_ofBool, if_neg (by simpa [Fin.ext_iff] using hk)]
  · exact fun h => absurd (Finset.mem_univ _) h

/-! ## The fold over pairs -/

/-- The step of the fold: the greater value, of equal values the smaller place. -/
def pick (a b : EReal × BitVec 32) : EReal × BitVec 32 :=
  (if b.1 < a.1 then a.1 else b.1, if b.1 < a.1 ∨ (a.1 = b.1 ∧ a.2.toInt < b.2.toInt) then a.2 else b.2)

/-- `r` is at least as good as `p`. -/
def Beats (r p : EReal × BitVec 32) : Prop := p.1 < r.1 ∨ (p.1 = r.1 ∧ r.2.toInt ≤ p.2.toInt)

theorem Beats.refl (p : EReal × BitVec 32) : Beats p p := .inr ⟨rfl, le_rfl⟩

theorem Beats.trans {p q r : EReal × BitVec 32} (h : Beats p q) (h' : Beats q r) : Beats p r := by
  rcases h with h | h <;> rcases h' with h' | h'
  · exact .inl (h'.trans h)
  · exact .inl (by rw [h'.1]; exact h)
  · exact .inl (by rw [← h.1]; exact h')
  · exact .inr ⟨h'.1.trans h.1, h.2.trans h'.2⟩

theorem pick_spec (a b : EReal × BitVec 32) : (pick a b = a ∨ pick a b = b) ∧ Beats (pick a b) a ∧ Beats (pick a b) b := by
  obtain ⟨a1, a2⟩ := a
  obtain ⟨b1, b2⟩ := b
  rcases lt_trichotomy b1 a1 with h | h | h
  · have e : pick (a1, a2) (b1, b2) = (a1, a2) := by simp [pick, h]
    rw [e]
    exact ⟨.inl rfl, .refl _, .inl h⟩
  · subst h
    by_cases q : a2.toInt < b2.toInt
    · have e : pick (b1, a2) (b1, b2) = (b1, a2) := by simp [pick, q]
      rw [e]
      exact ⟨.inl rfl, .refl _, .inr ⟨rfl, q.le⟩⟩
    · have e : pick (b1, a2) (b1, b2) = (b1, b2) := by simp [pick, q]
      rw [e]
      exact ⟨.inr rfl, .inr ⟨rfl, not_lt.1 q⟩, .refl _⟩
  · have e : pick (a1, a2) (b1, b2) = (b1, b2) := by simp [pick, not_lt.2 h.le, h.ne]
    rw [e]
    exact ⟨.inr rfl, .inl h, .refl _⟩

theorem foldl_pick (L : List (EReal × BitVec 32)) (a : EReal × BitVec 32) :
    (L.foldl pick a = a ∨ L.foldl pick a ∈ L) ∧ Beats (L.foldl pick a) a ∧ ∀ p ∈ L, Beats (L.foldl pick a) p := by
  induction L generalizing a with
  | nil => exact ⟨.inl rfl, .refl _, fun p hp => absurd hp List.not_mem_nil⟩
  | cons b L ih =>
    obtain ⟨h1, h2, h3⟩ := ih (pick a b)
    obtain ⟨s1, s2, s3⟩ := pick_spec a b
    refine ⟨?_, h2.trans s2, fun p hp => ?_⟩
    · rcases h1 with e | e
      · rcases s1 with s | s
        · exact .inl (e.trans s)
        · exact .inr (by rw [List.foldl_cons, e, s]; exact List.mem_cons_self)
      · exact .inr (List.mem_cons_of_mem _ e)
    · rcases List.mem_cons.1 hp with e | e
      · subst e; exact h2.trans s3
      · exact h3 p e

/-- A fold of the pairs of a sequence, in any order, from the least value at place 0, ends at the first place of the maximum. -/
theorem foldl_pick_firstMax {n : ℕ} (h0 : 0 < n) (hn : n < 2 ^ 31) (f : Fin n → EReal) (L : List (EReal × BitVec 32))
    (hL : ∀ p, p ∈ L ↔ ∃ i : Fin n, p = (f i, BitVec.ofNat 32 i.val)) :
    ∃ i : Fin n, (L.foldl pick (⊥, 0#32)).2 = BitVec.ofNat 32 i.val ∧ FirstMax f i := by
  obtain ⟨h1, -, h3⟩ := foldl_pick L (⊥, 0#32)
  have main : ∀ i : Fin n, L.foldl pick (⊥, 0#32) = (f i, BitVec.ofNat 32 i.val) → FirstMax f i := by
    intro i e j
    have := h3 (f j, BitVec.ofNat 32 j.val) ((hL _).2 ⟨j, rfl⟩)
    rw [e] at this
    rcases this with q | q
    · exact .inl q
    · refine .inr ⟨q.1, ?_⟩
      have := q.2
      simp only [toInt_ofNat (lt_trans i.isLt hn), toInt_ofNat (lt_trans j.isLt hn)] at this
      exact_mod_cast this
  rcases h1 with e | e
  · have b0 := h3 (f ⟨0, h0⟩, BitVec.ofNat 32 0) ((hL _).2 ⟨⟨0, h0⟩, rfl⟩)
    rw [e] at b0
    have f0 : f ⟨0, h0⟩ = ⊥ := by
      rcases b0 with q | q
      · exact absurd q not_lt_bot
      · exact q.1
    exact ⟨⟨0, h0⟩, by rw [e], main _ (by rw [e, f0])⟩
  · obtain ⟨i, hi⟩ := (hL _).1 e
    exact ⟨i, by rw [hi], main i hi⟩

/-! ## The two tests for an overlapping box -/

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- Of reals `0 ≤ i ≤ a, b`: twice the intersection exceeds the union exactly when their quotient, where the union is
    positive, exceeds a half. -/
theorem overlap_iff (i a b : ℝ) (hi : 0 ≤ i) (ha : i ≤ a) (hb : i ≤ b) :
    Ideal.cmp .ogt ((i : EReal) * 2) ((a : EReal) + b - i)
      = Ideal.cmp .ogt (Scalar.select (Ideal.cmp .ogt ((a : EReal) + b - i) 0) (Ideal.div i ((a : EReal) + b - i)) 0) ((1 / 2 : ℝ) : EReal) := by
  have e : ((a : EReal) + b - i) = ((a + b - i : ℝ) : EReal) := by push_cast; rfl
  have e2 : ((i : EReal) * 2) = ((i * 2 : ℝ) : EReal) := by push_cast; rfl
  rw [e, e2]
  set u := a + b - i with hu
  have hui : i ≤ u := by rw [hu]; linarith
  by_cases h : 0 < u
  · have h' : (0 : EReal) < (u : EReal) := by exact_mod_cast h
    have s : Scalar.select (Ideal.cmp .ogt (u : EReal) 0) (Ideal.div (i : EReal) (u : EReal)) 0 = ((i * (1 / u) : ℝ) : EReal) := by
      rw [Ideal.cmp, select_ofBool, if_pos (by simpa using h), Ideal.div_coe h.ne', ← EReal.coe_mul]
    rw [s]
    simp only [Ideal.cmp]
    congr 1
    apply decide_eq_decide.2
    rw [EReal.coe_lt_coe_iff, EReal.coe_lt_coe_iff, mul_one_div, lt_div_iff₀ h]
    constructor <;> intro q <;> linarith
  · have h0 : u = 0 := le_antisymm (not_lt.1 h) (hi.trans hui)
    have i0 : i = 0 := le_antisymm (by rw [← h0]; exact hui) hi
    have s : Scalar.select (Ideal.cmp .ogt (u : EReal) 0) (Ideal.div (i : EReal) (u : EReal)) 0 = 0 := by
      rw [Ideal.cmp, select_ofBool, if_neg (by simpa using h)]
    rw [s]
    simp only [Ideal.cmp]
    congr 1
    apply decide_eq_decide.2
    rw [h0, i0, EReal.coe_lt_coe_iff, ← EReal.coe_zero, EReal.coe_lt_coe_iff]
    constructor <;> intro q <;> exfalso <;> linarith

/-- A real among the extended reals. -/
def IsReal (x : EReal) : Prop := ∃ r : ℝ, x = r

/-- The area of a box, its sides cut at zero. -/
def area (y1 x1 y2 x2 : EReal) : EReal := max (y2 - y1) 0 * max (x2 - x1) 0

/-- The intersection of two boxes. -/
def inter (sy1 sx1 sy2 sx2 y1 x1 y2 x2 : EReal) : EReal :=
  max (min sy2 y2 - max sy1 y1) 0 * max (min sx2 x2 - max sx1 x1) 0

/-- The test by the quotient. -/
def overlapQ (sy1 sx1 sy2 sx2 y1 x1 y2 x2 : EReal) : BitVec 1 :=
  Ideal.cmp .ogt (Scalar.select (Ideal.cmp .ogt (area sy1 sx1 sy2 sx2 + area y1 x1 y2 x2 - inter sy1 sx1 sy2 sx2 y1 x1 y2 x2) 0)
    (Ideal.div (inter sy1 sx1 sy2 sx2 y1 x1 y2 x2) (area sy1 sx1 sy2 sx2 + area y1 x1 y2 x2 - inter sy1 sx1 sy2 sx2 y1 x1 y2 x2)) 0)
    ((1 / 2 : ℝ) : EReal)

/-- The test by the product. -/
def overlapP (sy1 sx1 sy2 sx2 y1 x1 y2 x2 : EReal) : BitVec 1 :=
  Ideal.cmp .ogt (inter sy1 sx1 sy2 sx2 y1 x1 y2 x2 * 2) (area sy1 sx1 sy2 sx2 + area y1 x1 y2 x2 - inter sy1 sx1 sy2 sx2 y1 x1 y2 x2)

/-- The two tests agree on boxes of real coordinates. -/
theorem overlapP_eq_overlapQ {sy1 sx1 sy2 sx2 y1 x1 y2 x2 : EReal} (h1 : IsReal sy1) (h2 : IsReal sx1) (h3 : IsReal sy2) (h4 : IsReal sx2)
    (h5 : IsReal y1) (h6 : IsReal x1) (h7 : IsReal y2) (h8 : IsReal x2) :
    overlapP sy1 sx1 sy2 sx2 y1 x1 y2 x2 = overlapQ sy1 sx1 sy2 sx2 y1 x1 y2 x2 := by
  obtain ⟨a, rfl⟩ := h1; obtain ⟨b, rfl⟩ := h2; obtain ⟨c, rfl⟩ := h3; obtain ⟨d, rfl⟩ := h4
  obtain ⟨e, rfl⟩ := h5; obtain ⟨f, rfl⟩ := h6; obtain ⟨g, rfl⟩ := h7; obtain ⟨h, rfl⟩ := h8
  have A : ∀ p q r s : ℝ, area (p : EReal) q r s = ((max (r - p) 0 * max (s - q) 0 : ℝ) : EReal) := by
    intro p q r s
    unfold area
    rw [← EReal.coe_sub, ← EReal.coe_sub, ← EReal.coe_zero, coe_max, coe_max, ← EReal.coe_mul]
  have I : inter (a : EReal) b c d e f g h = ((max (min c g - max a e) 0 * max (min d h - max b f) 0 : ℝ) : EReal) := by
    unfold inter
    rw [coe_min, coe_min, coe_max, coe_max, ← EReal.coe_sub, ← EReal.coe_sub, ← EReal.coe_zero, coe_max, coe_max, ← EReal.coe_mul]
  unfold overlapP overlapQ
  rw [A, A, I]
  refine overlap_iff _ _ _ (mul_nonneg (le_max_right _ _) (le_max_right _ _)) ?_ ?_
  · refine mul_le_mul (max_le_max ?_ le_rfl) (max_le_max ?_ le_rfl) (le_max_right _ _) (le_max_right _ _)
    · linarith [min_le_left c g, le_max_left a e]
    · linarith [min_le_left d h, le_max_left b f]
  · refine mul_le_mul (max_le_max ?_ le_rfl) (max_le_max ?_ le_rfl) (le_max_right _ _) (le_max_right _ _)
    · linarith [min_le_right c g, le_max_right a e]
    · linarith [min_le_right d h, le_max_right b f]

/-! ## The constants -/

/-- The score that stands for "no box". -/
def NEG : EReal := Ideal.ofBits .f32 0xF149F2CA#32

theorem ofBits_one : Ideal.ofBits .f32 0x3F800000#32 = 1 := by
  simp [Ideal.ofBits, Ideal.ieee]; rw [← EReal.coe_mul]; norm_num
theorem ofBits_two : Ideal.ofBits .f32 0x40000000#32 = 2 := by
  simp [Ideal.ofBits, Ideal.ieee]; rw [← EReal.coe_mul]; norm_num; rfl
theorem ofBits_half : Ideal.ofBits .f32 0x3F000000#32 = ((1 / 2 : ℝ) : EReal) := by
  simp [Ideal.ofBits, Ideal.ieee]; rw [← EReal.coe_mul]; norm_num
theorem ofBits_negInf : Ideal.ofBits .f32 0xFF800000#32 = ⊥ := by
  simp [Ideal.ofBits, Ideal.ieee]
theorem NEG_le_threshold : NEG ≤ Ideal.ofBits .f32 0x3E99999A#32 := by
  simp [NEG, Ideal.ofBits, Ideal.ieee]
  rw [← EReal.coe_mul]
  norm_cast
  norm_num

/-! ## The bits of a trip -/

/-- The bit at a place: it is `i`'s. -/
def isAt {n : ℕ} (k i : Fin n) : BitVec 1 := IntOp.cmpi .eq (BitVec.ofNat 32 k.val) (BitVec.ofNat 32 i.val)

/-- The bit of a best score: it is a box's. -/
def isBox (m : EReal) : BitVec 1 := Ideal.cmp .ogt m (Ideal.ofBits .f32 0xF0C9F2CA#32)

/-- A value kept between zero and one. -/
def clip (v : EReal) : EReal := min 1 (max 0 v)

end Cert.Detect

end
-- ==== Proof.Value.KernelStep.lean ====
/-
  One trip of the kernel's selection loop at one index, on the extended reals: where the scores of an image have their
  first maximum, the trip reads the box of that place, and drops the place and the boxes that overlap it.
-/
module

public import proofs.«01_k».proof.Proof.RunI.Body
public import proofs.«01_k».proof.Proof.Value.Math
public import Idealize.ShloMosaic.Lib.Pointwise

@[expose] public section

set_option maxRecDepth 16384

noncomputable section

namespace Cert.KernelIdeal.Own

open Cert.KernelIdeal Cert.KernelIdeal.Gen Cert.Detect
open Idealize.ShloMosaic Idealize.ShloMosaic.TcCoe

variable (x : FVec Ideal S16x10752 .f32) (b : Fin 16) (i : Fin 10752) (h : FirstMax (fun n => x (ix2 b n)) i)

include h

theorem best_at (z : Fin 1) : k1_pay1 x (ix2 b z) = x (ix2 b i) := by
  have e := h.fold_eq
  unfold k1_pay1
  pointwise
  rw [ofBits_negInf]
  exact e

theorem oneHot_at (n : Fin 10752) : k1_pay2 (F := Ideal) colB x (ix2 b n) = isAt n i := by
  have e2 := h.fold_minsi' (by decide) _ (best_at x b i h 0)
  unfold k1_pay2 isAt
  pointwise
  exact congrArg (IntOp.cmpi .eq (BitVec.ofNat 32 n.val)) e2

theorem pay3_at (y : FVec Ideal S16x10752 .f32) (z : Fin 1) : k1_pay3 colB y x (ix2 b z) = y (ix2 b i) := by
  have e := fun n => oneHot_at x b i h n
  unfold k1_pay3
  pointwise
  simp only [e]
  exact sum_oneHot (by decide) (fun n => y (ix2 b n)) i

theorem pay4_at (y : FVec Ideal S16x10752 .f32) (z : Fin 1) : k1_pay4 colB y x (ix2 b z) = y (ix2 b i) := by
  have e := fun n => oneHot_at x b i h n
  unfold k1_pay4
  pointwise
  simp only [e]
  exact sum_oneHot (by decide) (fun n => y (ix2 b n)) i

theorem pay5_at (y : FVec Ideal S16x10752 .f32) (z : Fin 1) : k1_pay5 colB y x (ix2 b z) = y (ix2 b i) := by
  have e := fun n => oneHot_at x b i h n
  unfold k1_pay5
  pointwise
  simp only [e]
  exact sum_oneHot (by decide) (fun n => y (ix2 b n)) i

theorem pay6_at (y : FVec Ideal S16x10752 .f32) (z : Fin 1) : k1_pay6 colB y x (ix2 b z) = y (ix2 b i) := by
  have e := fun n => oneHot_at x b i h n
  unfold k1_pay6
  pointwise
  simp only [e]
  exact sum_oneHot (by decide) (fun n => y (ix2 b n)) i

theorem valid_at (z : Fin 1) : k1_pay7 (F := Ideal) x (ix2 b z) = isBox (x (ix2 b i)) := by
  have e := fun z => best_at x b i h z
  unfold k1_pay7 isBox
  pointwise
  simp only [e]

theorem scratch_at (y1 x1 y2 x2 : FVec Ideal S16x10752 .f32) (n : Fin 10752) :
    nmsScratch y1 x1 y2 x2 x (ix2 b n)
      = Scalar.select (IntOp.andi (isBox (x (ix2 b i)))
          (IntOp.ori (overlapP (y1 (ix2 b i)) (x1 (ix2 b i)) (y2 (ix2 b i)) (x2 (ix2 b i)) (y1 (ix2 b n)) (x1 (ix2 b n)) (y2 (ix2 b n)) (x2 (ix2 b n)))
            (isAt n i))) NEG (x (ix2 b n)) := by
  have e2 := fun n => oneHot_at x b i h n
  have e3 := fun y z => pay3_at x b i h y z
  have e4 := fun y z => pay4_at x b i h y z
  have e5 := fun y z => pay5_at x b i h y z
  have e6 := fun y z => pay6_at x b i h y z
  have e7 := fun z => valid_at x b i h z
  unfold nmsScratch k1_pay13 k1_pay8 k1_pay9 k1_pay10 k1_pay11 k1_pay12 k1_pay24 k1_pay23 k1_pay22 k1_pay21 k1_pay20 overlapP inter area
  pointwise
  simp only [e2, e3, e4, e5, e6, e7, ofBits_two]
  rfl

variable (y1 x1 y2 x2 : FVec Ideal S16x10752 .f32) (k : ℕ) (a : Car Ideal)

/-- The bit of a lane: it is the trip's. -/
def isLane (l : Fin 128) (k : ℕ) : BitVec 1 := IntOp.cmpi .eq (BitVec.ofNat 32 l.val) (Scf.iv 0#32 1#32 k)

theorem yield1_at (l : Fin 128) : (nmsYield y1 x1 y2 x2 k a x).1 (ix2 b l)
    = Scalar.select (isLane l k) (Scalar.select (isBox (x (ix2 b i))) 1 0 * clip (y1 (ix2 b i))) (a.1 (ix2 b l)) := by
  have e3 := fun y z => pay3_at x b i h y z
  have e7 := fun z => valid_at x b i h z
  unfold nmsYield k1_pay16 k1_pay15 k1_pay14 k1_pay20 isLane clip
  pointwise
  simp only [e3, e7, ofBits_one, Ideal.ofBits_zero_f32]

theorem yield2_at (l : Fin 128) : (nmsYield y1 x1 y2 x2 k a x).2.1 (ix2 b l)
    = Scalar.select (isLane l k) (Scalar.select (isBox (x (ix2 b i))) 1 0 * clip (x1 (ix2 b i))) (a.2.1 (ix2 b l)) := by
  have e3 := fun y z => pay4_at x b i h y z
  have e7 := fun z => valid_at x b i h z
  unfold nmsYield k1_pay17 k1_pay15 k1_pay14 k1_pay21 isLane clip
  pointwise
  simp only [e3, e7, ofBits_one, Ideal.ofBits_zero_f32]

theorem yield3_at (l : Fin 128) : (nmsYield y1 x1 y2 x2 k a x).2.2.1 (ix2 b l)
    = Scalar.select (isLane l k) (Scalar.select (isBox (x (ix2 b i))) 1 0 * clip (y2 (ix2 b i))) (a.2.2.1 (ix2 b l)) := by
  have e3 := fun y z => pay5_at x b i h y z
  have e7 := fun z => valid_at x b i h z
  unfold nmsYield k1_pay27 k1_pay18 k1_pay15 k1_pay14 k1_pay22 isLane clip
  pointwise
  simp only [e3, e7, ofBits_one, Ideal.ofBits_zero_f32]

theorem yield4_at (l : Fin 128) : (nmsYield y1 x1 y2 x2 k a x).2.2.2.1 (ix2 b l)
    = Scalar.select (isLane l k) (Scalar.select (isBox (x (ix2 b i))) 1 0 * clip (x2 (ix2 b i))) (a.2.2.2.1 (ix2 b l)) := by
  have e3 := fun y z => pay6_at x b i h y z
  have e7 := fun z => valid_at x b i h z
  unfold nmsYield k1_pay28 k1_pay15 k1_pay14 k1_pay23 isLane clip
  pointwise
  simp only [e3, e7, ofBits_one, Ideal.ofBits_zero_f32]

theorem yield5_at (l : Fin 128) : (nmsYield y1 x1 y2 x2 k a x).2.2.2.2.1 (ix2 b l)
    = Scalar.select (isLane l k) (Scalar.select (isBox (x (ix2 b i))) 1 0 * x (ix2 b i)) (a.2.2.2.2.1 (ix2 b l)) := by
  have e3 := fun z => best_at x b i h z
  have e7 := fun z => valid_at x b i h z
  unfold nmsYield k1_pay29 k1_pay15 k1_pay14 isLane
  pointwise
  simp only [e3, e7, ofBits_one, Ideal.ofBits_zero_f32]

theorem yield6_at (z : Fin 1) : (nmsYield y1 x1 y2 x2 k a x).2.2.2.2.2 (ix2 b z)
    = a.2.2.2.2.2 (ix2 b z) + Scalar.select (isBox (x (ix2 b i))) 1 0 := by
  have e7 := fun z => valid_at x b i h z
  unfold nmsYield k1_pay30 k1_pay14
  pointwise
  simp only [e7, ofBits_one, Ideal.ofBits_zero_f32]

omit h in
theorem masked_at (y : FVec Ideal S16x10752 .f32) (n : Fin 10752) : k1_pay19 y (ix2 b n)
    = if n.val < 10647 then Scalar.select (Ideal.cmp .ogt (y (ix2 b n)) (Ideal.ofBits .f32 0x3E99999A#32)) (y (ix2 b n)) NEG else NEG := by
  have e := cmpi_slt_ofNat (a := n.val) (b := 10647) (lt_trans n.isLt (by decide)) (by decide)
  unfold k1_pay19
  pointwise
  rw [e]
  by_cases q : n.val < 10647
  · rw [if_pos q]
    by_cases r : Ideal.ofBits .f32 0x3E99999A#32 < y (ix2 b n) <;>
      simp [q, r, IntOp.andi, Scalar.select, NEG]
  · rw [if_neg q]
    simp only [q, decide_false]
    by_cases r : Ideal.ofBits .f32 0x3E99999A#32 < y (ix2 b n) <;>
      simp [r, IntOp.andi, Scalar.select, NEG]

end Cert.KernelIdeal.Own

end
-- ==== Proof.Value.Places.lean ====
/-
  What the reference's searches, look-ups and row writes are at one index: the place an arg-max finds, the entry a
  look-up along the boxes reads, and the row a write replaces.
-/
module

public import proofs.«01_k».proof.Proof.Ref.Step
public import proofs.«01_k».proof.Proof.Value.Math
public import Idealize.ShloMosaic.Lib.Pointwise
public import Idealize.ShloMosaic.Lib.Routing.OpsSet
public import Idealize.ShloMosaic.Lib.Routing.OpsOne

@[expose] public section

set_option maxRecDepth 16384

noncomputable section

namespace Cert.Detect

open Idealize.ShloMosaic Cert.ReferenceIdeal Cert.ReferenceIdeal.Gen

/-! ## The arg-max -/

theorem reducer_eq_pick : (reducer_argmax_f32_i32 : Ideal .f32 × BitVec 32 → Ideal .f32 × BitVec 32 → Ideal .f32 × BitVec 32) = pick := by
  funext a b
  obtain ⟨a1, a2⟩ := a
  obtain ⟨b1, b2⟩ := b
  have h1 : FloatOps.cmpf (F := Ideal) (φ := .f32) .une a1 a1 = 0#1 := by
    simp [Ideal.cmpf_def, Ideal.cmp]
  have h2 : FloatOps.cmpf (F := Ideal) (φ := .f32) .ogt a1 b1 = BitVec.ofBool (decide (b1 < a1)) := rfl
  have h3 : FloatOps.cmpf (F := Ideal) (φ := .f32) .oeq a1 b1 = BitVec.ofBool (decide (a1 = b1)) := rfl
  have h4 : IntOp.cmpi .slt a2 b2 = BitVec.ofBool (decide (a2.toInt < b2.toInt)) := rfl
  unfold reducer_argmax_f32_i32 pick
  simp only [h1, h2, h3, h4]
  by_cases q : b1 < a1 <;> by_cases r : a1 = b1 <;> by_cases t : a2.toInt < b2.toInt <;>
    simp [q, r, t, IntOp.ori, IntOp.andi, Scalar.select]

theorem argmax_boxes (x : FVec Ideal S16x10647 .f32) (b : Fin 16) :
    ∃ i : Fin 10647, (Host.argReduce reducer_argmax_f32_i32 x (iotaInDim S16x10647 32 1) (constant (F := Ideal) S_ .f32 0xFF800000#32) (constantI S_ 32 0#32)
        reducesTo_S16x10647_S16_d1 h_S_ (ix1 b)).2 = BitVec.ofNat 32 i.val ∧ FirstMax (fun j => x (ix2 b j)) i := by
  rw [Ideal.argReduce_eq_reduce2, Host.reduce2_eq_foldl_fiber, reducer_eq_pick]
  have e1 : constant (F := Ideal) S_ .f32 0xFF800000#32 (Shape.Idx.first h_S_) = ⊥ := ofBits_negInf
  have e2 : constantI S_ 32 0#32 (Shape.Idx.first h_S_) = 0#32 := rfl
  rw [e1, e2]
  refine foldl_pick_firstMax (by decide) (by decide) _ _ fun p => ?_
  rw [Host.argReduceFiber, List.mem_map]
  constructor
  · rintro ⟨n, hn, rfl⟩
    have hd := of_decide_eq_true (List.mem_filter.1 hn).2
    obtain ⟨k, hk⟩ := (reducesTo_S16x10647_S16_d1.fiber_r2_a1 _ _).1 hd
    exact ⟨k, by rw [← hk]; rfl⟩
  · rintro ⟨i, rfl⟩
    refine ⟨S16x10647.rowMajor (ix2 b i), List.mem_filter.2 ⟨List.mem_finRange _, decide_eq_true ?_⟩, ?_⟩
    · rw [Equiv.symm_apply_apply]
      exact (reducesTo_S16x10647_S16_d1.fiber_r2_a1 _ _).2 ⟨i, rfl⟩
    · rw [Equiv.symm_apply_apply]; rfl

theorem argmax_classes (x : FVec Ideal S16x10647x80 .f32) (b : Fin 16) (r : Fin 10647) :
    ∃ i : Fin 80, (Host.argReduce reducer_argmax_f32_i32 x (iotaInDim S16x10647x80 32 2) (constant (F := Ideal) S_ .f32 0xFF800000#32) (constantI S_ 32 0#32)
        reducesTo_S16x10647x80_S16x10647_d2 h_S_ (ix2 b r)).2 = BitVec.ofNat 32 i.val ∧ FirstMax (fun j => x (ix3 b r j)) i := by
  rw [Ideal.argReduce_eq_reduce2, Host.reduce2_eq_foldl_fiber, reducer_eq_pick]
  have e1 : constant (F := Ideal) S_ .f32 0xFF800000#32 (Shape.Idx.first h_S_) = ⊥ := ofBits_negInf
  have e2 : constantI S_ 32 0#32 (Shape.Idx.first h_S_) = 0#32 := rfl
  rw [e1, e2]
  refine foldl_pick_firstMax (by decide) (by decide) _ _ fun p => ?_
  rw [Host.argReduceFiber, List.mem_map]
  constructor
  · rintro ⟨n, hn, rfl⟩
    have hd := of_decide_eq_true (List.mem_filter.1 hn).2
    obtain ⟨k, hk⟩ := (reducesTo_S16x10647x80_S16x10647_d2.fiber_r3_a2 _ _).1 hd
    exact ⟨k, by rw [← hk]; rfl⟩
  · rintro ⟨i, rfl⟩
    refine ⟨S16x10647x80.rowMajor (ix3 b r i), List.mem_filter.2 ⟨List.mem_finRange _, decide_eq_true ?_⟩, ?_⟩
    · rw [Equiv.symm_apply_apply]
      exact (reducesTo_S16x10647x80_S16x10647_d2.fiber_r3_a2 _ _).2 ⟨i, rfl⟩
    · rw [Equiv.symm_apply_apply]; rfl

/-! ## The look-ups along the boxes -/

theorem lookup_score {α : Type} (x : S16x10647.Idx → α) (idx : IVec S16x1 32) (b : Fin 16) (i : Fin 10647)
    (hi : idx (ix2 b 0) = BitVec.ofNat 32 i.val) :
    Host.gather gather_S16x10647_S16x1_S16_n_1_0_0_1_1_11 x idx (ix1 b) = x (ix2 b i) := by
  unfold Host.gather
  congr 1
  funext a
  refine Fin.ext ?_
  set d := gather_S16x10647_S16x1_S16_n_1_0_0_1_1_11 with hd
  show d.start (ix1 b) idx a + d.batchCoord (ix1 b) a + d.offCoord (ix1 b) a = _
  match a with
  | ⟨0, h0⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show ⟨0, h0⟩ ∈ d.operandBatchingDims from List.mem_singleton.mpr rfl)]
    rfl
  | ⟨1, h1⟩ =>
    rw [GatherDims.batchCoord_eq_zero _ _ _ (fun h => by simp [hd, gather_S16x10647_S16x1_S16_n_1_0_0_1_1_11] at h),
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 2) ∈ d.startIndexMap from List.mem_singleton.mpr rfl)]
    have hsi : d.siIdx (ix1 b) ⟨List.idxOf (⟨1, h1⟩ : Fin 2) d.startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, hi, toInt_ofNat (lt_trans i.isLt (by decide))]
    show min (Int.toNat i.val) (10647 - 1) = i.val
    have := i.isLt
    omega

theorem lookup_box {α : Type} (x : S16x10647x4.Idx → α) (idx : IVec S16x1 32) (b : Fin 16) (q : Fin 4) (i : Fin 10647)
    (hi : idx (ix2 b 0) = BitVec.ofNat 32 i.val) :
    Host.gather gather_S16x10647x4_S16x1_S16x4_1_1_0_0_1_1_114 x idx (ix2 b q) = x (ix3 b i q) := by
  unfold Host.gather
  congr 1
  funext a
  refine Fin.ext ?_
  set d := gather_S16x10647x4_S16x1_S16x4_1_1_0_0_1_1_114 with hd
  show d.start (ix2 b q) idx a + d.batchCoord (ix2 b q) a + d.offCoord (ix2 b q) a = _
  match a with
  | ⟨0, h0⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show ⟨0, h0⟩ ∈ d.operandBatchingDims from List.mem_singleton.mpr rfl)]
    rfl
  | ⟨1, h1⟩ =>
    rw [GatherDims.batchCoord_eq_zero _ _ _ (fun h => by simp [hd, gather_S16x10647x4_S16x1_S16x4_1_1_0_0_1_1_114] at h),
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin 3) ∈ d.startIndexMap from List.mem_singleton.mpr rfl)]
    have hsi : d.siIdx (ix2 b q) ⟨List.idxOf (⟨1, h1⟩ : Fin 3) d.startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, hi, toInt_ofNat (lt_trans i.isLt (by decide))]
    show min (Int.toNat i.val) (10647 - 1) = i.val
    have := i.isLt
    omega
  | ⟨2, h2⟩ =>
    rw [GatherDims.batchCoord_eq_zero _ _ _ (fun h => by simp [hd, gather_S16x10647x4_S16x1_S16x4_1_1_0_0_1_1_114] at h)]
    have hs : d.start (ix2 b q) idx ⟨2, h2⟩ = 0 := by
      unfold GatherDims.start
      rw [dif_neg (fun h => by simp [hd, gather_S16x10647x4_S16x1_S16x4_1_1_0_0_1_1_114] at h)]
    rw [hs]
    simp only [Nat.zero_add, Nat.add_zero]
    unfold GatherDims.offCoord
    rw [dif_pos (by clear * -; revert h2; decide +kernel)]
    rfl

/-! ## The row writes -/

theorem write_score {α : Type} (x : S16x100.Idx → α) (idx : IVec S1 32) (upd : S16.Idx → α) (k : Fin 100)
    (hk : idx (ix1 0) = BitVec.ofNat 32 k.val) (b : Fin 16) (l : Fin 100) :
    Host.scatter scatter_S16x100_S1_S16_0_1_1_0 (fun _ y => y) x idx upd (ix2 b l) = if l = k then upd (ix1 b) else x (ix2 b l) := by
  have hk' : (idx (ix1 0)).toInt = (k.val : Int) := by rw [hk, toInt_ofNat (lt_trans k.isLt (by decide))]
  have lands : ∀ w', scatter_S16x100_S1_S16_0_1_1_0.resultIdx? (ix1 w') idx = some (ix2 b l) ↔ w' = b ∧ l = k :=
    fun w' => Routing.lands_col scatter_S16x100_S1_S16_0_1_1_0 rfl rfl idx k hk' w' b l
  by_cases h : l = k
  · rw [if_pos h]
    refine Routing.scatter_set_hit _ x idx upd _ _ (fun j hj => ?_) (ix1 b) ((lands b).2 ⟨rfl, h⟩)
    rw [eq_ix1 j] at hj ⊢
    rw [((lands _).1 hj).1]
  · rw [if_neg h]
    refine Routing.scatter_set_miss _ x idx upd _ fun j hj => h ?_
    rw [eq_ix1 j] at hj
    exact ((lands _).1 hj).2

theorem lands_box (idx : IVec S1 32) (k : Fin 100) (hk : (idx (ix1 0)).toInt = (k.val : Int)) (w : Fin 16) (p : Fin 4)
    (b : Fin 16) (l : Fin 100) (q : Fin 4) :
    scatter_S16x100x4_S1_S16x4_01_1_1_0.resultIdx? (ix2 w p) idx = some (ix3 b l q) ↔ w = b ∧ l = k ∧ p = q := by
  set d := scatter_S16x100x4_S1_S16x4_01_1_1_0 with hd
  have w0 : d.window (ix2 w p) ⟨0, by decide⟩ = w.val := by
    unfold ScatterDims.window
    rw [dif_pos (by decide +kernel)]
    rfl
  have w1 : d.window (ix2 w p) ⟨1, by decide⟩ = 0 := by
    unfold ScatterDims.window
    rw [dif_neg (by decide +kernel)]
  have w2 : d.window (ix2 w p) ⟨2, by decide⟩ = p.val := by
    unfold ScatterDims.window
    rw [dif_pos (by decide +kernel)]
    rfl
  have s0 : d.start (ix2 w p) idx ⟨0, by decide⟩ = 0 := by
    unfold ScatterDims.start
    rw [dif_neg (by decide +kernel)]
  have s2 : d.start (ix2 w p) idx ⟨2, by decide⟩ = 0 := by
    unfold ScatterDims.start
    rw [dif_neg (by decide +kernel)]
  have s1 : d.start (ix2 w p) idx ⟨1, by decide⟩ = (k.val : Int) := by
    unfold ScatterDims.start
    rw [dif_pos (by decide +kernel)]
    have e : ∀ i : S1.Idx, idx i = idx (ix1 0) := fun i => congrArg idx (by
      funext c
      match c with
      | ⟨0, _⟩ => exact Subsingleton.elim (α := Fin 1) _ _)
    rw [e, hk]
  have hw := w.isLt
  have hp := p.isLt
  have hkk := k.isLt
  have inside : ∀ a, 0 ≤ d.start (ix2 w p) idx a + d.window (ix2 w p) a
      ∧ d.start (ix2 w p) idx a + d.window (ix2 w p) a < S16x100x4.size a := by
    intro a
    match a with
    | ⟨0, _⟩ => rw [s0, w0]; show _ ∧ _ < ((16 : ℕ) : Int); omega
    | ⟨1, _⟩ => rw [s1, w1]; show _ ∧ _ < ((100 : ℕ) : Int); omega
    | ⟨2, _⟩ => rw [s2, w2]; show _ ∧ _ < ((4 : ℕ) : Int); omega
  unfold ScatterDims.resultIdx?
  rw [dif_pos inside]
  constructor
  · intro e
    have e' := Option.some.inj e
    have e0 := congrArg Fin.val (congrFun e' ⟨0, by decide⟩)
    have e1 := congrArg Fin.val (congrFun e' ⟨1, by decide⟩)
    have e2 := congrArg Fin.val (congrFun e' ⟨2, by decide⟩)
    dsimp only at e0 e1 e2
    rw [s0, w0] at e0
    rw [s1, w1] at e1
    rw [s2, w2] at e2
    have e0' : (0 + (w.val : Int)).toNat = b.val := e0
    have e1' : ((k.val : Int) + ((0 : ℕ) : Int)).toNat = l.val := e1
    have e2' : (0 + (p.val : Int)).toNat = q.val := e2
    exact ⟨Fin.ext (by omega), Fin.ext (by omega), Fin.ext (by omega)⟩
  · rintro ⟨rfl, rfl, rfl⟩
    congr 1
    funext a
    refine Fin.ext ?_
    match a with
    | ⟨0, _⟩ => dsimp only; rw [s0, w0]; show (0 + (w.val : Int)).toNat = w.val; omega
    | ⟨1, _⟩ => dsimp only; rw [s1, w1]; show ((l.val : Int) + ((0 : ℕ) : Int)).toNat = l.val; omega
    | ⟨2, _⟩ => dsimp only; rw [s2, w2]; show (0 + (p.val : Int)).toNat = p.val; omega

theorem write_box {α : Type} (x : S16x100x4.Idx → α) (idx : IVec S1 32) (upd : S16x4.Idx → α) (k : Fin 100)
    (hk : idx (ix1 0) = BitVec.ofNat 32 k.val) (b : Fin 16) (l : Fin 100) (q : Fin 4) :
    Host.scatter scatter_S16x100x4_S1_S16x4_01_1_1_0 (fun _ y => y) x idx upd (ix3 b l q)
      = if l = k then upd (ix2 b q) else x (ix3 b l q) := by
  have hk' : (idx (ix1 0)).toInt = (k.val : Int) := by rw [hk, toInt_ofNat (lt_trans k.isLt (by decide))]
  by_cases h : l = k
  · rw [if_pos h]
    refine Routing.scatter_set_hit _ x idx upd _ _ (fun j hj => ?_) (ix2 b q) ((lands_box idx k hk' b q b l q).2 ⟨rfl, h, rfl⟩)
    rw [eq_ix2 j] at hj ⊢
    have := (lands_box idx k hk' _ _ b l q).1 hj
    rw [this.1, this.2.2]
  · rw [if_neg h]
    refine Routing.scatter_set_miss _ x idx upd _ fun j hj => h ?_
    rw [eq_ix2 j] at hj
    exact ((lands_box idx k hk' _ _ b l q).1 hj).2.1

/-- Writes of a constant over an array of that constant leave it. -/
theorem write_same {α : Type} {s si u : Shape} (d : ScatterDims s si u) (x : s.Idx → α) (idx : IVec si 32) (upd : u.Idx → α) (v : α)
    (hx : ∀ i, x i = v) (hu : ∀ j, upd j = v) (i : s.Idx) : Host.scatter d (fun _ y => y) x idx upd i = v := by
  by_cases h : ∃ k, d.resultIdx? k idx = some i
  · obtain ⟨k, hk⟩ := h
    exact Routing.scatter_set_hit d x idx upd i v (fun j _ => hu j) k hk
  · rw [Routing.scatter_set_miss d x idx upd i fun k hk => h ⟨k, hk⟩]
    exact hx i

end Cert.Detect

end
-- ==== Proof.Value.RefStep.lean ====
/-
  One trip of the reference's loop at one index, on the extended reals: where the scores of an image have their first
  maximum, the trip reads the box of that place, and drops the place and the boxes that overlap it.
-/
module

public import proofs.«01_k».proof.Proof.Value.Places

@[expose] public section

set_option maxRecDepth 16384

noncomputable section

namespace Cert.ReferenceIdeal.Step

open Cert.ReferenceIdeal Cert.ReferenceIdeal.Gen Cert.Detect
open Idealize.ShloMosaic Idealize.ShloMosaic.TcCoe

theorem select_one_mul (v : BitVec 1) (c : EReal) : Scalar.select v 1 0 * c = Scalar.select v c 0 := by
  unfold Scalar.select
  split
  · exact one_mul c
  · exact zero_mul c

theorem uitofp_bit (v : BitVec 1) : FloatOps.uitofp (F := Ideal) .f32 v = Scalar.select v (1 : EReal) 0 := by
  show (((v.toNat : ℕ) : ℝ) : EReal) = _
  obtain rfl | rfl : v = 0#1 ∨ v = 1#1 := by
    revert v; decide
  · simp [Scalar.select]
  · simp [Scalar.select]

variable (j : ℕ) (s : State Ideal) (b : Fin 16) (i : Fin 10647) (h : FirstMax (fun n => s.main_v25_3 (ix2 b n)) i)

section Columns

theorem b17_at (n : Fin 10647) : b17 j s (ix2 b n) = s.main_v25_0 (ix3 b n 0) := by
  unfold b17 b16
  pointwise

theorem b24_at (n : Fin 10647) : b24 j s (ix2 b n) = s.main_v25_0 (ix3 b n 1) := by
  unfold b24 b23
  pointwise

theorem b31_at (n : Fin 10647) : b31 j s (ix2 b n) = s.main_v25_0 (ix3 b n 2) := by
  unfold b31 b30
  pointwise

theorem b38_at (n : Fin 10647) : b38 j s (ix2 b n) = s.main_v25_0 (ix3 b n 3) := by
  unfold b38 b37
  pointwise

theorem b84_at (n : Fin 10647) : b84 j s (ix2 b n)
    = area (s.main_v25_0 (ix3 b n 0)) (s.main_v25_0 (ix3 b n 1)) (s.main_v25_0 (ix3 b n 2)) (s.main_v25_0 (ix3 b n 3)) := by
  unfold b84 b83 b82 b81 b80 b79 b78 b77 b76 b75 b74 b73 b72 b71 b70 b69 b68 area
  pointwise
  simp only [max_comm (0 : EReal)]

end Columns

include h

theorem b6_at : b6 j s (ix1 b) = BitVec.ofNat 32 i.val := by
  obtain ⟨k, e, hk⟩ := argmax_boxes s.main_v25_3 b
  rw [h.unique hk]
  exact e

theorem b8_at : b8 j s (ix1 b) = s.main_v25_3 (ix2 b i) := by
  have e : b7 j s (ix2 b 0) = BitVec.ofNat 32 i.val := by
    rw [← b6_at j s b i h]
    unfold b7
    pointwise
  exact lookup_score s.main_v25_3 (b7 j s) b i e

theorem b13_at (q : Fin 4) : b13 j s (ix2 b q) = s.main_v25_0 (ix3 b i q) := by
  have e : b12 j s (ix2 b 0) = BitVec.ofNat 32 i.val := by
    rw [← b6_at j s b i h]
    unfold b12
    pointwise
  exact lookup_box s.main_v25_0 (b12 j s) b q i e

theorem b11_at : b11 j s (ix1 b) = isBox (s.main_v25_3 (ix2 b i)) := by
  have e := b8_at j s b i h
  unfold b11 b10 b9 isBox
  pointwise
  simp only [e]

theorem b15_at : b15 j s (ix1 b) = s.main_v25_0 (ix3 b i 0) := by
  have e := b13_at j s b i h
  unfold b15 b14
  pointwise
  simp only [e]

theorem b22_at : b22 j s (ix1 b) = s.main_v25_0 (ix3 b i 1) := by
  have e := b13_at j s b i h
  unfold b22 b21
  pointwise
  simp only [e]

theorem b29_at : b29 j s (ix1 b) = s.main_v25_0 (ix3 b i 2) := by
  have e := b13_at j s b i h
  unfold b29 b28
  pointwise
  simp only [e]

theorem b36_at : b36 j s (ix1 b) = s.main_v25_0 (ix3 b i 3) := by
  have e := b13_at j s b i h
  unfold b36 b35
  pointwise
  simp only [e]

theorem b67_at : b67 j s (ix1 b)
    = area (s.main_v25_0 (ix3 b i 0)) (s.main_v25_0 (ix3 b i 1)) (s.main_v25_0 (ix3 b i 2)) (s.main_v25_0 (ix3 b i 3)) := by
  have e := b13_at j s b i h
  unfold b67 b66 b65 b64 b63 b62 b61 b60 b59 b58 b57 b56 b55 b54 b53 b52 b51 area
  pointwise
  simp only [e, max_comm (0 : EReal)]

theorem b50_at (n : Fin 10647) : b50 j s (ix2 b n)
    = inter (s.main_v25_0 (ix3 b i 0)) (s.main_v25_0 (ix3 b i 1)) (s.main_v25_0 (ix3 b i 2)) (s.main_v25_0 (ix3 b i 3))
        (s.main_v25_0 (ix3 b n 0)) (s.main_v25_0 (ix3 b n 1)) (s.main_v25_0 (ix3 b n 2)) (s.main_v25_0 (ix3 b n 3)) := by
  have e0 := b15_at j s b i h
  have e1 := b22_at j s b i h
  have e2 := b29_at j s b i h
  have e3 := b36_at j s b i h
  have f0 := b17_at j s b n
  have f1 := b24_at j s b n
  have f2 := b31_at j s b n
  have f3 := b38_at j s b n
  unfold b50 b49 b48 b47 b46 b45 b44 b43 b42 b41 b40 b39 b34 b33 b32 b27 b26 b25 b20 b19 b18 inter
  pointwise
  simp only [e0, e1, e2, e3, f0, f1, f2, f3, max_comm (0 : EReal)]

theorem b100_at (n : Fin 10647) : b100 j s (ix2 b n)
    = overlapQ (s.main_v25_0 (ix3 b i 0)) (s.main_v25_0 (ix3 b i 1)) (s.main_v25_0 (ix3 b i 2)) (s.main_v25_0 (ix3 b i 3))
        (s.main_v25_0 (ix3 b n 0)) (s.main_v25_0 (ix3 b n 1)) (s.main_v25_0 (ix3 b n 2)) (s.main_v25_0 (ix3 b n 3)) := by
  have e0 := b50_at j s b i h n
  have e1 := b67_at j s b i h
  have e2 := b84_at j s b n
  unfold b100 b99 b98 b97 b96 b95 b94 b93 b92 b91 b90 b89 b88 b87 b86 b85 overlapQ
  pointwise
  simp only [e0, e1, e2, ofBits_half, Ideal.ofBits_zero_f32]

theorem b118_at (n : Fin 10647) : b118 j s (ix2 b n)
    = Scalar.select (isBox (s.main_v25_3 (ix2 b i)))
        (Scalar.select (isAt n i) NEG (Scalar.select
          (overlapQ (s.main_v25_0 (ix3 b i 0)) (s.main_v25_0 (ix3 b i 1)) (s.main_v25_0 (ix3 b i 2)) (s.main_v25_0 (ix3 b i 3))
            (s.main_v25_0 (ix3 b n 0)) (s.main_v25_0 (ix3 b n 1)) (s.main_v25_0 (ix3 b n 2)) (s.main_v25_0 (ix3 b n 3)))
          NEG (s.main_v25_3 (ix2 b n)))) (s.main_v25_3 (ix2 b n)) := by
  have e0 := b100_at j s b i h n
  have e1 := b11_at j s b i h
  have e2 := b6_at j s b i h
  unfold b118 b117 b116 b115 b114 b113 b112 b111 b110 b109 b108 b107 b106 b105 b104 b103 b102 b101 isAt NEG
  pointwise
  simp only [e0, e1, e2]

theorem b119_at : b119 j s (ix1 b) = Scalar.select (isBox (s.main_v25_3 (ix2 b i))) 1 0 := by
  have e1 := b11_at j s b i h
  unfold b119
  pointwise
  simp only [e1]
  exact uitofp_bit _

theorem b130_at (q : Fin 4) : b130 j s (ix2 b q) = Scalar.select (isBox (s.main_v25_3 (ix2 b i))) 1 0 * clip (s.main_v25_0 (ix3 b i q)) := by
  have e := b13_at j s b i h q
  have e1 := b119_at j s b i h
  unfold b130 b129 b128 b127 b126 b125 b124 b123 b122 b121 b120 clip
  pointwise
  simp only [e, e1, ofBits_one, Ideal.ofBits_zero_f32]
  exact select_one_mul _ _

theorem b139_at : b139 j s (ix1 b) = Scalar.select (isBox (s.main_v25_3 (ix2 b i))) 1 0 * s.main_v25_3 (ix2 b i) := by
  have e := b8_at j s b i h
  have e1 := b119_at j s b i h
  unfold b139
  pointwise
  simp only [e, e1]
  exact select_one_mul _ _

theorem b157_at : b157 j s (ix1 b) = s.main_v25_7 (ix1 b) + Scalar.select (isBox (s.main_v25_3 (ix2 b i))) 1 0 := by
  have e1 := b119_at j s b i h
  unfold b157
  pointwise
  simp only [e1]

omit h in
theorem b137_at (hj : j < 100) : b137 j s (ix1 0) = BitVec.ofNat 32 j := by
  have e := cmpi_slt_ofNat (a := j) (b := 0) (by omega) (by decide)
  unfold b137 b136 b135 b134 b133 b132 b131
  pointwise
  rw [e, select_ofBool, if_neg (by simp)]

omit h in
theorem b146_at (hj : j < 100) : b146 j s (ix1 0) = BitVec.ofNat 32 j := by
  have e := cmpi_slt_ofNat (a := j) (b := 0) (by omega) (by decide)
  unfold b146 b145 b144 b143 b142 b141 b140
  pointwise
  rw [e, select_ofBool, if_neg (by simp)]

theorem b138_at (hj : j < 100) (l : Fin 100) (q : Fin 4) : b138 j s (ix3 b l q)
    = if l.val = j then Scalar.select (isBox (s.main_v25_3 (ix2 b i))) 1 0 * clip (s.main_v25_0 (ix3 b i q)) else s.main_v25_4 (ix3 b l q) := by
  rw [← b130_at j s b i h q]
  have e := write_box s.main_v25_4 (b137 j s) (b130 j s) ⟨j, hj⟩ (b137_at j s hj) b l q
  refine e.trans ?_
  by_cases q : l.val = j
  · rw [if_pos q, if_pos (Fin.ext q)]
  · rw [if_neg q, if_neg (fun e => q (congrArg Fin.val e))]

theorem b147_at (hj : j < 100) (l : Fin 100) : b147 j s (ix2 b l)
    = if l.val = j then Scalar.select (isBox (s.main_v25_3 (ix2 b i))) 1 0 * s.main_v25_3 (ix2 b i) else s.main_v25_5 (ix2 b l) := by
  rw [← b139_at j s b i h]
  have e := write_score s.main_v25_5 (b146 j s) (b139 j s) ⟨j, hj⟩ (b146_at j s hj) b l
  refine e.trans ?_
  by_cases q : l.val = j
  · rw [if_pos q, if_pos (Fin.ext q)]
  · rw [if_neg q, if_neg (fun e => q (congrArg Fin.val e))]

omit h in
theorem b156_at (h6 : ∀ l, s.main_v25_6 l = 0) (l : S100.Idx) : b156 j s l = 0 :=
  write_same _ _ _ _ 0 h6 (fun _ => Ideal.ofBits_zero_f32) l

end Cert.ReferenceIdeal.Step

end
-- ==== Proof.Value.Iterate.lean ====
/-
  The two loops side by side, on the extended reals. After the same number of trips the kernel's scores are the
  reference's, followed by the score of "no box"; each of its five rows of selected values is the reference's, lane by
  lane; and the counts agree.
-/
module

public import proofs.«01_k».proof.Proof.Value.KernelStep
public import proofs.«01_k».proof.Proof.Value.RefStep

@[expose] public section

set_option maxRecDepth 16384

noncomputable section

namespace Cert.Detect

open Idealize.ShloMosaic Idealize.ShloMosaic.TcCoe
open Cert.KernelIdeal.Own Cert.ReferenceIdeal.Step

/-- A place among the boxes, as a place among the padded ones. -/
abbrev padded (n : Fin 10647) : Fin 10752 := Fin.castLE (by decide) n
/-- A place among the selected boxes, as a lane. -/
abbrev lane (l : Fin 100) : Fin 128 := Fin.castLE (by decide) l

/-- The kernel's state and the reference's agree. -/
structure Agree (x : St Ideal) (s : State Ideal) : Prop where
  score : ∀ b n, x.2 (ix2 b (padded n)) = s.main_v25_3 (ix2 b n)
  pad : ∀ b (n : Fin 10752), 10647 ≤ n.val → x.2 (ix2 b n) = NEG
  low : ∀ b n, NEG ≤ s.main_v25_3 (ix2 b n)
  row1 : ∀ b l, x.1.1 (ix2 b (lane l)) = s.main_v25_4 (ix3 b l 0)
  row2 : ∀ b l, x.1.2.1 (ix2 b (lane l)) = s.main_v25_4 (ix3 b l 1)
  row3 : ∀ b l, x.1.2.2.1 (ix2 b (lane l)) = s.main_v25_4 (ix3 b l 2)
  row4 : ∀ b l, x.1.2.2.2.1 (ix2 b (lane l)) = s.main_v25_4 (ix3 b l 3)
  best : ∀ b l, x.1.2.2.2.2.1 (ix2 b (lane l)) = s.main_v25_5 (ix2 b l)
  cls : ∀ l, s.main_v25_6 l = 0
  count : ∀ b, x.1.2.2.2.2.2 (ix2 b 0) = s.main_v25_7 (ix1 b)

theorem dropped (v p a : BitVec 1) (c : EReal) :
    Scalar.select (IntOp.andi v (IntOp.ori p a)) NEG c = Scalar.select v (Scalar.select a NEG (Scalar.select p NEG c)) c := by
  have bit : ∀ w : BitVec 1, w = 0#1 ∨ w = 1#1 := by decide
  rcases bit v with rfl | rfl <;> rcases bit p with rfl | rfl <;> rcases bit a with rfl | rfl <;>
    simp [Scalar.select, IntOp.andi, IntOp.ori]

theorem select_NEG (v : BitVec 1) : Scalar.select v NEG NEG = NEG := by
  unfold Scalar.select
  split <;> rfl

theorem NEG_le_select (v : BitVec 1) (a c : EReal) (ha : NEG ≤ a) (hc : NEG ≤ c) : NEG ≤ Scalar.select v a c := by
  unfold Scalar.select
  split
  · exact ha
  · exact hc

theorem isLane_eq (l : Fin 100) (k : ℕ) (hk : k < 100) : isLane (lane l) k = BitVec.ofBool (decide (l.val = k)) := by
  have e : Scf.iv 0#32 1#32 k = BitVec.ofNat 32 k := by
    simp [Scf.iv]
  unfold isLane
  rw [e]
  exact cmpi_eq_ofNat (lt_trans l.isLt (by decide)) (lt_trans hk (by decide))

theorem select_lane (l : Fin 100) (k : ℕ) (hk : k < 100) (a c : EReal) :
    Scalar.select (isLane (lane l) k) a c = if l.val = k then a else c := by
  rw [isLane_eq l k hk, select_ofBool]
  by_cases e : l.val = k
  · rw [if_pos (by simp [e]), if_pos e]
  · rw [if_neg (by simp [e]), if_neg e]

theorem Agree.step {x : St Ideal} {s : State Ideal} (A : Agree x s) (k : ℕ) (hk : k < 100)
    (y1 x1 y2 x2 : FVec Ideal Cert.KernelIdeal.S16x10752 .f32)
    (h1 : ∀ b n, y1 (ix2 b (padded n)) = s.main_v25_0 (ix3 b n 0)) (h2 : ∀ b n, x1 (ix2 b (padded n)) = s.main_v25_0 (ix3 b n 1))
    (h3 : ∀ b n, y2 (ix2 b (padded n)) = s.main_v25_0 (ix3 b n 2)) (h4 : ∀ b n, x2 (ix2 b (padded n)) = s.main_v25_0 (ix3 b n 3))
    (hr : ∀ b n q, IsReal (s.main_v25_0 (ix3 b n q))) :
    Agree (nmsYield y1 x1 y2 x2 k x.1 x.2, nmsScratch y1 x1 y2 x2 x.2) (Cert.ReferenceIdeal.Step.step k s) := by
  have first : ∀ b, ∃ i : Fin 10647, FirstMax (fun n => s.main_v25_3 (ix2 b n)) i ∧ FirstMax (fun n => x.2 (ix2 b n)) (padded i) := by
    intro b
    obtain ⟨i, hi⟩ := exists_firstMax (by decide) (fun n : Fin 10647 => s.main_v25_3 (ix2 b n))
    exact ⟨i, hi, hi.extend (by decide) NEG (A.low b) (A.score b) (A.pad b)⟩
  refine ⟨?_, ?_, ?_, ?_, ?_, ?_, ?_, ?_, ?_, ?_⟩
  · intro b n
    obtain ⟨i, hi, hi'⟩ := first b
    rw [step_main_v25_3, b118_at k s b i hi n]
    refine (scratch_at x.2 b (padded i) hi' y1 x1 y2 x2 (padded n)).trans ?_
    rw [h1, h1, h2, h2, h3, h3, h4, h4, A.score, A.score, dropped,
      overlapP_eq_overlapQ (hr _ _ _) (hr _ _ _) (hr _ _ _) (hr _ _ _) (hr _ _ _) (hr _ _ _) (hr _ _ _) (hr _ _ _)]
    rfl
  · intro b n hn
    obtain ⟨i, hi, hi'⟩ := first b
    refine (scratch_at x.2 b (padded i) hi' y1 x1 y2 x2 n).trans ?_
    rw [A.pad b n hn]
    exact select_NEG _
  · intro b n
    obtain ⟨i, hi, hi'⟩ := first b
    rw [step_main_v25_3, b118_at k s b i hi n]
    exact NEG_le_select _ _ _ (NEG_le_select _ _ _ le_rfl (NEG_le_select _ _ _ le_rfl (A.low b n))) (A.low b n)
  · intro b l
    obtain ⟨i, hi, hi'⟩ := first b
    rw [step_main_v25_4, b138_at k s b i hi hk l 0]
    refine (yield1_at x.2 b (padded i) hi' y1 x1 y2 x2 k x.1 (lane l)).trans ?_
    rw [select_lane l k hk, h1, A.score, A.row1]
  · intro b l
    obtain ⟨i, hi, hi'⟩ := first b
    rw [step_main_v25_4, b138_at k s b i hi hk l 1]
    refine (yield2_at x.2 b (padded i) hi' y1 x1 y2 x2 k x.1 (lane l)).trans ?_
    rw [select_lane l k hk, h2, A.score, A.row2]
  · intro b l
    obtain ⟨i, hi, hi'⟩ := first b
    rw [step_main_v25_4, b138_at k s b i hi hk l 2]
    refine (yield3_at x.2 b (padded i) hi' y1 x1 y2 x2 k x.1 (lane l)).trans ?_
    rw [select_lane l k hk, h3, A.score, A.row3]
  · intro b l
    obtain ⟨i, hi, hi'⟩ := first b
    rw [step_main_v25_4, b138_at k s b i hi hk l 3]
    refine (yield4_at x.2 b (padded i) hi' y1 x1 y2 x2 k x.1 (lane l)).trans ?_
    rw [select_lane l k hk, h4, A.score, A.row4]
  · intro b l
    obtain ⟨i, hi, hi'⟩ := first b
    rw [step_main_v25_5, b147_at k s b i hi hk l]
    refine (yield5_at x.2 b (padded i) hi' y1 x1 y2 x2 k x.1 (lane l)).trans ?_
    rw [select_lane l k hk, A.score, A.best]
  · intro l
    rw [step_main_v25_6]
    exact b156_at k s A.cls l
  · intro b
    obtain ⟨i, hi, hi'⟩ := first b
    rw [step_main_v25_7, b157_at k s b i hi]
    refine (yield6_at x.2 b (padded i) hi' y1 x1 y2 x2 k x.1 0).trans ?_
    rw [A.count, A.score]

/-- The states before the first trip agree, when the scores do. -/
theorem agree_start (sc y1 x1 y2 x2 : FVec Ideal Cert.KernelIdeal.S16x10752 .f32) (s : State Ideal)
    (hsc : ∀ b n, Scalar.select (Ideal.cmp .ogt (sc (ix2 b (padded n))) (Ideal.ofBits .f32 0x3E99999A#32)) (sc (ix2 b (padded n))) NEG = s.main_v25_3 (ix2 b n))
    (h4 : ∀ b l q, s.main_v25_4 (ix3 b l q) = 0) (h5 : ∀ b l, s.main_v25_5 (ix2 b l) = 0) (h6 : ∀ l, s.main_v25_6 l = 0)
    (h7 : ∀ b, s.main_v25_7 (ix1 b) = 0) : Agree (nmsIter sc y1 x1 y2 x2 0) s := by
  have z : ∀ b l, (Cert.KernelIdeal.Gen.k1_pay25 (F := Ideal)) (ix2 b l) = 0 := fun b l => Ideal.ofBits_zero_f32
  have z' : ∀ b l, (Cert.KernelIdeal.Gen.k1_pay26 (F := Ideal)) (ix2 b l) = 0 := fun b l => Ideal.ofBits_zero_f32
  refine ⟨?_, ?_, ?_, ?_, ?_, ?_, ?_, ?_, h6, ?_⟩
  · intro b n
    refine (masked_at b sc (padded n)).trans ?_
    exact (if_pos (show (padded n).val < 10647 from n.isLt)).trans (hsc b n)
  · intro b n hn
    refine (masked_at b sc n).trans ?_
    rw [if_neg (by omega)]
  · intro b n
    rw [← hsc, Ideal.cmp, select_ofBool]
    by_cases q : Ideal.ofBits .f32 0x3E99999A#32 < sc (ix2 b (padded n))
    · rw [if_pos (by simp [q])]
      exact NEG_le_threshold.trans q.le
    · rw [if_neg (by simp [q])]
  · intro b l; rw [h4]; exact z b (lane l)
  · intro b l; rw [h4]; exact z b (lane l)
  · intro b l; rw [h4]; exact z b (lane l)
  · intro b l; rw [h4]; exact z b (lane l)
  · intro b l; rw [h5]; exact z b (lane l)
  · intro b; rw [h7]; exact z' b 0

theorem boxes_fixed (it : ℕ → State Ideal) (hs : ∀ n, it (n + 1) = Cert.ReferenceIdeal.Step.step n (it n)) (k : ℕ) :
    (it k).main_v25_0 = (it 0).main_v25_0 := by
  induction k with
  | zero => rfl
  | succ k ih => rw [hs, ← ih]; rfl

/-- After `k ≤ 100` trips the states agree. -/
theorem agree_iter (sc y1 x1 y2 x2 : FVec Ideal Cert.KernelIdeal.S16x10752 .f32) (it : ℕ → State Ideal)
    (hs : ∀ n, it (n + 1) = Cert.ReferenceIdeal.Step.step n (it n)) (A : Agree (nmsIter sc y1 x1 y2 x2 0) (it 0))
    (h1 : ∀ b n, y1 (ix2 b (padded n)) = (it 0).main_v25_0 (ix3 b n 0)) (h2 : ∀ b n, x1 (ix2 b (padded n)) = (it 0).main_v25_0 (ix3 b n 1))
    (h3 : ∀ b n, y2 (ix2 b (padded n)) = (it 0).main_v25_0 (ix3 b n 2)) (h4 : ∀ b n, x2 (ix2 b (padded n)) = (it 0).main_v25_0 (ix3 b n 3))
    (hr : ∀ b n q, IsReal ((it 0).main_v25_0 (ix3 b n q))) (k : ℕ) (hk : k ≤ 100) : Agree (nmsIter sc y1 x1 y2 x2 k) (it k) := by
  induction k with
  | zero => exact A
  | succ k ih =>
    have e := boxes_fixed it hs k
    rw [hs, nmsIter_succ]
    exact (ih (by omega)).step k (by omega) y1 x1 y2 x2 (by rw [e]; exact h1) (by rw [e]; exact h2) (by rw [e]; exact h3)
      (by rw [e]; exact h4) (by rw [e]; exact hr)

end Cert.Detect

end
-- ==== Proof.Value.Host.lean ====
/-
  The host's stretches of the kernel's program, read at the buffers the proof needs: what the first stretch hands the
  score call, what the stretches between the calls hand the selection, and what the last one makes of its results.
-/
module

public import proofs.«01_k».proof.Proof.RunI.Launch
public import proofs.«01_k».proof.Proof.Ref.Step
public import proofs.«01_k».proof.Proof.Value.Iterate
public import Idealize.ShloMosaic.Lib.Pointwise
public import Idealize.ShloMosaic.Lib.StableHlo.RunRead
public import Idealize.ShloMosaic.Lib.StableHlo.RunClose

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.StableHlo

/-! ## Before the score call -/

section Before

variable {F : FTy → Type} [FloatOps F]
variable (m : (ℓ : Loc nD τ sig) → Buf (Elt F) ℓ) (c : Dev nD)

/-- The boxes, the confidences and the class scores of the arguments, as the reference joins them. -/
def boxesOf : S16x10647x4.Idx → Elt F .f32 :=
  Cert.ReferenceIdeal.Step.A_main_v3 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
def confsOf : S16x10647x1.Idx → Elt F .f32 :=
  Cert.ReferenceIdeal.Step.A_main_v7 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
def classesOf : S16x10647x80.Idx → Elt F .f32 :=
  Cert.ReferenceIdeal.Step.A_main_v11 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem V1_main_v3 : V1 m c (Proc.devRef .tc main_v3) = boxesOf m c := by
  unfold V1
  after_results_entrywise [cast_eq]

theorem V1_main_v7 : V1 m c (Proc.devRef .tc main_v7) = confsOf m c := by
  unfold V1
  after_results_entrywise [cast_eq]

theorem V1_main_v11 : V1 m c (Proc.devRef .tc main_v11) = classesOf m c := by
  unfold V1
  after_results_entrywise [cast_eq]

end Before

/-! ## Between the calls -/

section Between

variable (m : (ℓ : Loc nD τ sig) → Buf (Elt Ideal) ℓ) (S : S16x10752x1.Idx → Elt Ideal .f32) (c : Dev nD)

theorem entry1_main_v13 : entry1 m S c (Proc.devRef .tc main_v13) = shapeCast S16x10752 S shapeCasts_S16x10752x1_S16x10752 := by
  unfold entry1
  rw [V10_of _ _ _ main_v13 (by decide), V9_of _ _ _ main_v13 (by decide), V8_of _ _ _ main_v13 (by decide), V7_of _ _ _ main_v13 (by decide),
    V6_of _ _ _ main_v13 (by decide), V5_of _ _ _ main_v13 (by decide), V4_of _ _ _ main_v13 (by decide)]
  unfold V3
  rw [V2_eqA]
  have e : after0 (V1 m) c S (Proc.devRef .tc main_v12) = S := by
    unfold after0
    exact Function.update_self _ _ _
  after_results_entrywise [cast_eq, e]

theorem V2_main_v3 : V2 m (outsA m S) c (Proc.devRef .tc main_v3) = boxesOf m c := by
  rw [V2_of _ _ _ main_v3 (by decide)]
  exact V1_main_v3 m c

theorem entry1_main_v16 : entry1 m S c (Proc.devRef .tc main_v16)
    = pad S16x10752 ![0, 0] ![0, 105] ![0, 0] (shapeCast S16x10647 (extractStridedSlice S16x10647x1 ![0, 0, 0] (boxesOf m c) slices_S16x10647x4_S16x10647x1_0_0_0) shapeCasts_S16x10647x1_S16x10647)
        (sitofp (F := Ideal) .f32 (constantI S_ 32 0#32)) pads_S16x10647_S16x10752_000_01050 h_S_ := by
  have e : V2 m (outsA m S) c (Proc.devRef .tc main_v3) = boxesOf m c := V2_main_v3 m S c
  unfold entry1
  rw [V10_of _ _ _ main_v16 (by decide), V9_of _ _ _ main_v16 (by decide), V8_of _ _ _ main_v16 (by decide), V7_of _ _ _ main_v16 (by decide), V6_of _ _ _ main_v16 (by decide), V5_of _ _ _ main_v16 (by decide)]
  unfold V4 V3
  generalize V2 m (outsA m S) c = V at e ⊢
  after_results_entrywise [cast_eq, e]

theorem entry1_main_v19 : entry1 m S c (Proc.devRef .tc main_v19)
    = pad S16x10752 ![0, 0] ![0, 105] ![0, 0] (shapeCast S16x10647 (extractStridedSlice S16x10647x1 ![0, 0, 1] (boxesOf m c) slices_S16x10647x4_S16x10647x1_0_0_1) shapeCasts_S16x10647x1_S16x10647)
        (sitofp (F := Ideal) .f32 (constantI S_ 32 0#32)) pads_S16x10647_S16x10752_000_01050 h_S_ := by
  have e : V4 m (outsA m S) c (Proc.devRef .tc main_v3) = boxesOf m c := by
    rw [V4_of _ _ _ main_v3 (by decide), V3_of _ _ _ main_v3 (by decide)]
    exact V2_main_v3 m S c
  unfold entry1
  rw [V10_of _ _ _ main_v19 (by decide), V9_of _ _ _ main_v19 (by decide), V8_of _ _ _ main_v19 (by decide), V7_of _ _ _ main_v19 (by decide)]
  unfold V6 V5
  generalize V4 m (outsA m S) c = V at e ⊢
  after_results_entrywise [cast_eq, e]

theorem entry1_main_v22 : entry1 m S c (Proc.devRef .tc main_v22)
    = pad S16x10752 ![0, 0] ![0, 105] ![0, 0] (shapeCast S16x10647 (extractStridedSlice S16x10647x1 ![0, 0, 2] (boxesOf m c) slices_S16x10647x4_S16x10647x1_0_0_2) shapeCasts_S16x10647x1_S16x10647)
        (sitofp (F := Ideal) .f32 (constantI S_ 32 0#32)) pads_S16x10647_S16x10752_000_01050 h_S_ := by
  have e : V6 m (outsA m S) c (Proc.devRef .tc main_v3) = boxesOf m c := by
    rw [V6_of _ _ _ main_v3 (by decide), V5_of _ _ _ main_v3 (by decide), V4_of _ _ _ main_v3 (by decide), V3_of _ _ _ main_v3 (by decide)]
    exact V2_main_v3 m S c
  unfold entry1
  rw [V10_of _ _ _ main_v22 (by decide), V9_of _ _ _ main_v22 (by decide)]
  unfold V8 V7
  generalize V6 m (outsA m S) c = V at e ⊢
  after_results_entrywise [cast_eq, e]

theorem entry1_main_v25 : entry1 m S c (Proc.devRef .tc main_v25)
    = pad S16x10752 ![0, 0] ![0, 105] ![0, 0] (shapeCast S16x10647 (extractStridedSlice S16x10647x1 ![0, 0, 3] (boxesOf m c) slices_S16x10647x4_S16x10647x1_0_0_3) shapeCasts_S16x10647x1_S16x10647)
        (sitofp (F := Ideal) .f32 (constantI S_ 32 0#32)) pads_S16x10647_S16x10752_000_01050 h_S_ := by
  have e : V8 m (outsA m S) c (Proc.devRef .tc main_v3) = boxesOf m c := by
    rw [V8_of _ _ _ main_v3 (by decide), V7_of _ _ _ main_v3 (by decide), V6_of _ _ _ main_v3 (by decide), V5_of _ _ _ main_v3 (by decide), V4_of _ _ _ main_v3 (by decide), V3_of _ _ _ main_v3 (by decide)]
    exact V2_main_v3 m S c
  unfold entry1
  unfold V10 V9
  generalize V8 m (outsA m S) c = V at e ⊢
  after_results_entrywise [cast_eq, e]

theorem padded_column0 (X : S16x10647x4.Idx → Elt Ideal .f32) (v : S_.Idx → Elt Ideal .f32) (b : Fin 16) (n : Fin 10647) :
    pad S16x10752 ![0, 0] ![0, 105] ![0, 0] (shapeCast S16x10647 (extractStridedSlice S16x10647x1 ![0, 0, 0] X slices_S16x10647x4_S16x10647x1_0_0_0) shapeCasts_S16x10647x1_S16x10647)
        v pads_S16x10647_S16x10752_000_01050 h_S_ (ix2 b (Cert.Detect.padded n)) = X (ix3 b n 0) := by
  pointwise
  exact dif_pos (show (Cert.Detect.padded n).val < 10647 from n.isLt)

theorem padded_column1 (X : S16x10647x4.Idx → Elt Ideal .f32) (v : S_.Idx → Elt Ideal .f32) (b : Fin 16) (n : Fin 10647) :
    pad S16x10752 ![0, 0] ![0, 105] ![0, 0] (shapeCast S16x10647 (extractStridedSlice S16x10647x1 ![0, 0, 1] X slices_S16x10647x4_S16x10647x1_0_0_1) shapeCasts_S16x10647x1_S16x10647)
        v pads_S16x10647_S16x10752_000_01050 h_S_ (ix2 b (Cert.Detect.padded n)) = X (ix3 b n 1) := by
  pointwise
  exact dif_pos (show (Cert.Detect.padded n).val < 10647 from n.isLt)

theorem padded_column2 (X : S16x10647x4.Idx → Elt Ideal .f32) (v : S_.Idx → Elt Ideal .f32) (b : Fin 16) (n : Fin 10647) :
    pad S16x10752 ![0, 0] ![0, 105] ![0, 0] (shapeCast S16x10647 (extractStridedSlice S16x10647x1 ![0, 0, 2] X slices_S16x10647x4_S16x10647x1_0_0_2) shapeCasts_S16x10647x1_S16x10647)
        v pads_S16x10647_S16x10752_000_01050 h_S_ (ix2 b (Cert.Detect.padded n)) = X (ix3 b n 2) := by
  pointwise
  exact dif_pos (show (Cert.Detect.padded n).val < 10647 from n.isLt)

theorem padded_column3 (X : S16x10647x4.Idx → Elt Ideal .f32) (v : S_.Idx → Elt Ideal .f32) (b : Fin 16) (n : Fin 10647) :
    pad S16x10752 ![0, 0] ![0, 105] ![0, 0] (shapeCast S16x10647 (extractStridedSlice S16x10647x1 ![0, 0, 3] X slices_S16x10647x4_S16x10647x1_0_0_3) shapeCasts_S16x10647x1_S16x10647)
        v pads_S16x10647_S16x10752_000_01050 h_S_ (ix2 b (Cert.Detect.padded n)) = X (ix3 b n 3) := by
  pointwise
  exact dif_pos (show (Cert.Detect.padded n).val < 10647 from n.isLt)

end Between

end Cert.KernelIdeal.Own

end
-- ==== Proof.Value.Finish.lean ====
/-
  The last stretch of the kernel's program: its results over the selection's rows, and their agreement with the
  reference's results when the two loops' states agree.
-/
module

public import proofs.«01_k».proof.Proof.Value.Host

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.StableHlo

/-- The selected boxes, their scores and a column of zeros, joined. -/
def boxesOut (r1 r2 r3 r4 r5 : S16x128.Idx → Elt Ideal .f32) : S16x100x6.Idx → Elt Ideal .f32 :=
  concatenate S16x100x6 2
    [⟨S16x100x4, extractStridedSlice S16x100x4 ![0, 0, 0]
        (concatenate S16x128x4 2
          [⟨S16x128x1, broadcastInDim S16x128x1 ![0, 1] bcast_S16x128_S16x128x1_0_1 r1⟩,
           ⟨S16x128x1, broadcastInDim S16x128x1 ![0, 1] bcast_S16x128_S16x128x1_0_1 r2⟩,
           ⟨S16x128x1, broadcastInDim S16x128x1 ![0, 1] bcast_S16x128_S16x128x1_0_1 r3⟩,
           ⟨S16x128x1, broadcastInDim S16x128x1 ![0, 1] bcast_S16x128_S16x128x1_0_1 r4⟩]
          concatenates_S16x128x1_S16x128x1_S16x128x1_S16x128x1_S16x128x4_d2)
        slices_S16x128x4_S16x100x4_0_0_0⟩,
     ⟨S16x100x1, broadcastInDim S16x100x1 ![0, 1] bcast_S16x100_S16x100x1_0_1 (extractStridedSlice S16x100 ![0, 0] r5 slices_S16x128_S16x100_0_0)⟩,
     ⟨S16x100x1, broadcastInDim S16x100x1 ![] bcast_S_S16x100x1 (constant (F := Ideal) S_ .f32 0x00000000#32)⟩]
    concatenates_S16x100x4_S16x100x1_S16x100x1_S16x100x6_d2

/-- The counts, as whole numbers. -/
def countOut (r6 : S16x1.Idx → Elt Ideal .f32) : S16.Idx → Elt Ideal .i32 :=
  fptosi (F := Ideal) (φ := .f32) 32 (shapeCast S16 r6 shapeCasts_S16x1_S16)

section

variable (V : Valuation τ sig (Elt Ideal))

theorem after_main_v36 : StableHlo.after hostOps2 V (Proc.devRef .tc main_v36)
    = boxesOut (V (Proc.devRef .tc main_v26_0)) (V (Proc.devRef .tc main_v26_1)) (V (Proc.devRef .tc main_v26_2))
        (V (Proc.devRef .tc main_v26_3)) (V (Proc.devRef .tc main_v26_4)) := by
  unfold boxesOut
  after_results_entrywise (rounds := 2) []

theorem after_main_v38 : StableHlo.after hostOps2 V (Proc.devRef .tc main_v38) = countOut (V (Proc.devRef .tc main_v26_5)) := by
  unfold countOut
  after_results_entrywise []

end

open Cert.Detect Cert.ReferenceIdeal.Step in
theorem boxesOut_eq {x : St Ideal} {s : State Ideal} (A : Agree x s) :
    boxesOut x.1.1 x.1.2.1 x.1.2.2.1 x.1.2.2.2.1 x.1.2.2.2.2.1 = R_main_v29 s := by
  funext i
  rw [eq_ix3 i]
  generalize (i 0 : Fin 16) = b
  generalize (i 1 : Fin 100) = l
  generalize (i 2 : Fin 6) = q
  have r1 := A.row1 b l
  have r2 := A.row2 b l
  have r3 := A.row3 b l
  have r4 := A.row4 b l
  have r5 := A.best b l
  unfold boxesOut R_main_v29
  fin_cases q
  · pointwise
    exact r1
  · pointwise
    exact r2
  · pointwise
    exact r3
  · pointwise
    exact r4
  · pointwise
    exact r5
  · pointwise
    exact (A.cls _).symm

open Cert.Detect Cert.ReferenceIdeal.Step in
theorem countOut_eq {x : St Ideal} {s : State Ideal} (A : Agree x s) : countOut x.1.2.2.2.2.2 = R_main_v30 s := by
  funext i
  rw [eq_ix1 i]
  generalize (i 0 : Fin 16) = b
  have r := A.count b
  unfold countOut R_main_v30
  pointwise
  exact congrArg (FloatOps.fptosi (F := Ideal) (φ := .f32) 32) r

end Cert.KernelIdeal.Own

end
-- ==== Proof.Value.Select.lean ====
/-
  The selection call, read whole: what it fetches is its operands, and what it leaves in its results is the state after a
  hundred trips from them.
-/
module

public import proofs.«01_k».proof.Proof.Value.Finish
public import Idealize.ShloMosaic.Lib.Pipeline.ValueKit.Geometry

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.StableHlo

variable (W : Dev nD → Valuation τ sig (Elt Ideal)) (c : Dev nD)

theorem whole_entry {a n x : ℕ} (h : a = 0) : a * n + x = x := by
  rw [h, Nat.zero_mul, Nat.zero_add]

theorem blk1_0 : blk1 W c 0 = W c (Proc.devRef .tc main_v13) := by
  unfold blk1
  funext i
  blk_simp
  refine congrArg (W c (Proc.devRef .tc main_v13)) (funext fun a => Fin.ext ?_)
  fin_cases a <;> blk_simp
  · exact whole_entry rfl
  · exact whole_entry rfl

theorem blk1_1 : blk1 W c 1 = W c (Proc.devRef .tc main_v16) := by
  unfold blk1
  funext i
  blk_simp
  refine congrArg (W c (Proc.devRef .tc main_v16)) (funext fun a => Fin.ext ?_)
  fin_cases a <;> blk_simp
  · exact whole_entry rfl
  · exact whole_entry rfl

theorem blk1_2 : blk1 W c 2 = W c (Proc.devRef .tc main_v19) := by
  unfold blk1
  funext i
  blk_simp
  refine congrArg (W c (Proc.devRef .tc main_v19)) (funext fun a => Fin.ext ?_)
  fin_cases a <;> blk_simp
  · exact whole_entry rfl
  · exact whole_entry rfl

theorem blk1_3 : blk1 W c 3 = W c (Proc.devRef .tc main_v22) := by
  unfold blk1
  funext i
  blk_simp
  refine congrArg (W c (Proc.devRef .tc main_v22)) (funext fun a => Fin.ext ?_)
  fin_cases a <;> blk_simp
  · exact whole_entry rfl
  · exact whole_entry rfl

theorem blk1_4 : blk1 W c 4 = W c (Proc.devRef .tc main_v25) := by
  unfold blk1
  funext i
  blk_simp
  refine congrArg (W c (Proc.devRef .tc main_v25)) (funext fun a => Fin.ext ?_)
  fin_cases a <;> blk_simp
  · exact whole_entry rfl
  · exact whole_entry rfl

theorem left1_0 : Pipeline.afterRegion (dat1 W c) (W c) (Proc.devRef .tc main_v26_0) = (nmsEnd W c).1.1 := by
  refine (Pipeline.afterRegion_arr (dat1 W c) (W c) launch1.win.arr_inj 5).trans ?_
  refine (dat1 W c).arrAt_eq_of_after_last 5 t1_0 (by decide +kernel) _ fun j => ?_
  blk_simp
  rfl

theorem left1_1 : Pipeline.afterRegion (dat1 W c) (W c) (Proc.devRef .tc main_v26_1) = (nmsEnd W c).1.2.1 := by
  refine (Pipeline.afterRegion_arr (dat1 W c) (W c) launch1.win.arr_inj 6).trans ?_
  refine (dat1 W c).arrAt_eq_of_after_last 6 t1_0 (by decide +kernel) _ fun j => ?_
  blk_simp
  rfl

theorem left1_2 : Pipeline.afterRegion (dat1 W c) (W c) (Proc.devRef .tc main_v26_2) = (nmsEnd W c).1.2.2.1 := by
  refine (Pipeline.afterRegion_arr (dat1 W c) (W c) launch1.win.arr_inj 7).trans ?_
  refine (dat1 W c).arrAt_eq_of_after_last 7 t1_0 (by decide +kernel) _ fun j => ?_
  blk_simp
  rfl

theorem left1_3 : Pipeline.afterRegion (dat1 W c) (W c) (Proc.devRef .tc main_v26_3) = (nmsEnd W c).1.2.2.2.1 := by
  refine (Pipeline.afterRegion_arr (dat1 W c) (W c) launch1.win.arr_inj 8).trans ?_
  refine (dat1 W c).arrAt_eq_of_after_last 8 t1_0 (by decide +kernel) _ fun j => ?_
  blk_simp
  rfl

theorem left1_4 : Pipeline.afterRegion (dat1 W c) (W c) (Proc.devRef .tc main_v26_4) = (nmsEnd W c).1.2.2.2.2.1 := by
  refine (Pipeline.afterRegion_arr (dat1 W c) (W c) launch1.win.arr_inj 9).trans ?_
  refine (dat1 W c).arrAt_eq_of_after_last 9 t1_0 (by decide +kernel) _ fun j => ?_
  blk_simp
  rfl

theorem left1_5 : Pipeline.afterRegion (dat1 W c) (W c) (Proc.devRef .tc main_v26_5) = (nmsEnd W c).1.2.2.2.2.2 := by
  refine (Pipeline.afterRegion_arr (dat1 W c) (W c) launch1.win.arr_inj 10).trans ?_
  refine (dat1 W c).arrAt_eq_of_after_last 10 t1_0 (by decide +kernel) _ fun j => ?_
  blk_simp
  rfl

end Cert.KernelIdeal.Own

end
-- ==== Proof.Value.Score.lean ====
/-
  The score call's result. A block's score at a row is the confidence times the place of the first largest class score;
  of the last block only the rows inside the array are spoken of.
-/
module

public import proofs.«01_k».proof.Proof.RunI.Launch
public import proofs.«01_k».proof.Proof.Value.Iterate
public import Idealize.ShloMosaic.Lib.Pointwise
public import Idealize.ShloMosaic.Lib.Pipeline.ValueKit.Geometry
public import Idealize.ShloMosaic.Lib.Pipeline.ArrRel
public import Idealize.ShloMosaic.Lib.Pipeline.Covers

@[expose] public section

set_option maxRecDepth 16384

noncomputable section

namespace Cert.KernelIdeal.Own

open Cert.KernelIdeal Cert.KernelIdeal.Gen Cert.Detect
open Idealize.ShloMosaic Idealize.ShloMosaic.TcCoe Idealize.ShloMosaic.Tactic
open Idealize.ShloMosaic.Pipeline (Dat RDat Window)

/-! ## One block -/

/-- The score of a row whose class scores have their first maximum at `i`. -/
theorem score_at (v0 : Vec Ideal S1x1344x80 .f32) (v11 : Vec Ideal S1x1344x1 .f32) (r : Fin 1344) (i : Fin 80)
    (h : FirstMax (fun j => v0 (ix3 0 r j)) i) :
    k0_pay1 v0 v11 (ix3 0 r 0) = v11 (ix3 0 r 0) * FloatOps.sitofp (F := Ideal) .f32 (BitVec.ofNat 32 i.val) := by
  have e := h.fold_eq
  unfold k0_pay1
  pointwise
  rw [ofBits_negInf]
  rw [h.fold_minsi' (by decide) _ e]

/-! ## Where the blocks lie -/

theorem point_of (p : Fin 16) (q : Fin 8) : ∃ t : Fin cfg0.N, grid0.coords t 0 = p ∧ grid0.coords t 1 = q := by
  obtain ⟨t, ht⟩ := grid0.coords_surjective (Fin.cons p (Fin.cons q finZeroElim) : grid0.Coords)
  exact ⟨t, congrFun ht 0, congrFun ht 1⟩

theorem toNat_small {n : ℕ} (h : n < 2 ^ 32) : (BitVec.ofNat 32 n).toNat = n := by
  rw [BitVec.toNat_ofNat]
  exact Nat.mod_eq_of_lt h

theorem block0_0 (t : Fin cfg0.N) : win0_0.index t = ![(grid0.coords t 0).val, (grid0.coords t 1).val, 0] := by
  have h0 : (grid0.coords t 0).val < 2 ^ 32 := lt_trans (show (grid0.coords t 0).val < 16 from (grid0.coords t 0).isLt) (by decide)
  have h1 : (grid0.coords t 1).val < 2 ^ 32 := lt_trans (show (grid0.coords t 1).val < 8 from (grid0.coords t 1).isLt) (by decide)
  show ![(BitVec.ofNat 32 (grid0.coords t 0).val).toNat, (BitVec.ofNat 32 (grid0.coords t 1).val).toNat, (0#32).toNat] = _
  rw [toNat_small h0, toNat_small h1]
  rfl

theorem block0_1 (t : Fin cfg0.N) : win0_1.index t = ![(grid0.coords t 0).val, (grid0.coords t 1).val, 0] := block0_0 t

theorem block0_2 (t : Fin cfg0.N) : win0_2.index t = ![(grid0.coords t 0).val, (grid0.coords t 1).val, 0] := block0_0 t

/-- A row of a block that lies inside the array is among the rows that the fetch moves. -/
theorem lt_extent {ix k d j : ℕ} (hj : j < k) (h : ix * k + j < d) : j < (Pipeline.Clip.of ix k d).extent k := by
  unfold Pipeline.Clip.of
  split
  · exact hj
  · show j < d - ix * k
    omega

variable (W : Dev nD → Valuation τ sig (Elt Ideal)) (c : Dev nD)

theorem moved0_0 (t : Fin cfg0.N) (x : S1x1344x80.Idx)
    (h : ∀ a : Fin 3, win0_0.index t a * S1x1344x80.size a + (x a).val < S16x10647x80.size a) : (cfg0.win 0).moved (cfg0.grid.coords t) x = true := by
  refine ((cfg0.win 0).moved_iff _ _).mpr fun a => ?_
  show (x a).val < (Pipeline.Clip.of (win0_0.index t a) (S1x1344x80.size a) (S16x10647x80.size a)).extent (S1x1344x80.size a)
  exact lt_extent (x a).isLt (h a)

theorem moved0_1 (t : Fin cfg0.N) (x : S1x1344x1.Idx)
    (h : ∀ a : Fin 3, win0_1.index t a * S1x1344x1.size a + (x a).val < S16x10647x1.size a) : (cfg0.win 1).moved (cfg0.grid.coords t) x = true := by
  refine ((cfg0.win 1).moved_iff _ _).mpr fun a => ?_
  show (x a).val < (Pipeline.Clip.of (win0_1.index t a) (S1x1344x1.size a) (S16x10647x1.size a)).extent (S1x1344x1.size a)
  exact lt_extent (x a).isLt (h a)

theorem fetched_classes (Rl) (t : Fin cfg0.N) (d) (r : Fin 1344) (j : Fin 80) (h : (grid0.coords t 1).val * 1344 + r.val < 10647) :
    (rd0 W Rl c).fetched 0 t d (ix3 0 r j) = W c (Proc.devRef .tc main_v11) (ix3 (grid0.coords t 0) ⟨_, h⟩ j) := by
  unfold RDat.fetched Window.fill
  rw [dif_pos (moved0_0 t (ix3 0 r j) ?_)]
  · unfold RDat.blockOf
    blk_simp
    show W c (Proc.devRef .tc main_v11) _ = _
    refine congrArg (W c (Proc.devRef .tc main_v11)) (funext fun a => Fin.ext ?_)
    fin_cases a <;> blk_simp [block0_0] <;> rfl
  · intro a
    rw [block0_0]
    fin_cases a
    · have e : (grid0.coords t 0).val < 16 := (grid0.coords t 0).isLt
      show (grid0.coords t 0).val * 1 + 0 < 16
      omega
    · exact h
    · show 0 * 80 + j.val < 80
      omega

theorem fetched_confidence (Rl) (t : Fin cfg0.N) (d) (r : Fin 1344) (h : (grid0.coords t 1).val * 1344 + r.val < 10647) :
    (rd0 W Rl c).fetched 1 t d (ix3 0 r 0) = W c (Proc.devRef .tc main_v7) (ix3 (grid0.coords t 0) ⟨_, h⟩ 0) := by
  unfold RDat.fetched Window.fill
  rw [dif_pos (moved0_1 t (ix3 0 r 0) ?_)]
  · unfold RDat.blockOf
    blk_simp
    show W c (Proc.devRef .tc main_v7) _ = _
    refine congrArg (W c (Proc.devRef .tc main_v7)) (funext fun a => Fin.ext ?_)
    fin_cases a <;> blk_simp [block0_1] <;> rfl
  · intro a
    rw [block0_1]
    fin_cases a
    · have e : (grid0.coords t 0).val < 16 := (grid0.coords t 0).isLt
      show (grid0.coords t 0).val * 1 + 0 < 16
      omega
    · exact h
    · show 0 * 1 + 0 < 1
      omega

/-! ## The whole result -/

/-- The class scores and the confidences that the call reads. -/
abbrev clsIn (c : Dev nD) : S16x10647x80.Idx → EReal := W c (Proc.devRef .tc main_v11)
abbrev confIn (c : Dev nD) : S16x10647x1.Idx → EReal := W c (Proc.devRef .tc main_v7)

/-- What the score call leaves in a block, at the rows inside the array. -/
def Scores (c : Dev nD) (t : Fin cfg0.N) (X : S1x1344x1.Idx → Elt Ideal .f32) : Prop :=
  ∀ (r : Fin 1344) (h : (grid0.coords t 1).val * 1344 + r.val < 10647) (i : Fin 80),
    FirstMax (fun j => clsIn W c (ix3 (grid0.coords t 0) ⟨_, h⟩ j)) i →
    X (ix3 0 r 0) = confIn W c (ix3 (grid0.coords t 0) ⟨_, h⟩ 0)
      * FloatOps.sitofp (F := Ideal) .f32 (BitVec.ofNat 32 i.val)

theorem scores_admitted : Admits W (Scores W) := by
  rintro c t Y0 Y1 ⟨d0, rfl⟩ ⟨d1, rfl⟩ r h i hi
  refine (score_at _ _ r i ?_).trans ?_
  · refine hi.congr fun j => ?_
    exact fetched_classes W c _ t d0 r j h
  · rw [fetched_confidence W c _ t d1 r h]

theorem flush0_2 (t : Fin cfg0.N) : (cfg0.win 2).flush t = true := by
  revert t
  decide +kernel

theorem index0_2_inj (t t' : Fin cfg0.N) (e : (cfg0.win 2).index t = (cfg0.win 2).index t') : t = t' := by
  revert t t'
  decide +kernel

/-- The score of a box: its confidence times its class. -/
theorem scores_left (G : S16x10752x1.Idx → Elt Ideal .f32) (hG : (rd0 W (Scores W) c).ArrAt 2 cfg0.N G) (b : Fin 16) (n : Fin 10647) (i : Fin 80)
    (hi : FirstMax (fun j => clsIn W c (ix3 b n j)) i) :
    G (ix3 b (padded n) 0) = confIn W c (ix3 b n 0)
      * FloatOps.sitofp (F := Ideal) .f32 (BitVec.ofNat 32 i.val) := by
  obtain ⟨X, hX, hA⟩ := hG.exists_exact
  obtain ⟨t, rfl, hq⟩ := point_of b ⟨n.val / 1344, by omega⟩
  have hqv : (grid0.coords t 1).val = n.val / 1344 := congrArg Fin.val hq
  have hr : (grid0.coords t 1).val * 1344 + n.val % 1344 = n.val := by
    rw [hqv]
    omega
  have hrn : n.val % 1344 < 1344 := Nat.mod_lt _ (by decide)
  obtain ⟨Y, -, hY⟩ := hX t t.isLt (flush0_2 t)
  have hs : Scores W c t (X t) := hY
  have hn : (⟨(grid0.coords t 1).val * 1344 + n.val % 1344, by omega⟩ : Fin 10647) = n := Fin.ext hr
  have key := hs ⟨n.val % 1344, hrn⟩ (by show (grid0.coords t 1).val * 1344 + n.val % 1344 < 10647; omega) i
  rw [hn] at key
  let left : (w : Fin cfg0.W) → Fin cfg0.N → (cfg0.win w).block.Idx → Elt Ideal (cfg0.win w).elt := Function.update Dat.unnamed 2 X
  have hleft : left 2 = X := dif_pos rfl
  rw [hA left fun u _ _ => congrFun hleft u]
  have hdisj := (cfg0.win 2).hdisj_of_index_inj fun t t' _ _ e => index0_2_inj t t' e
  have hl := Dat.arrAt_emb_eq_flushed ((rd0 W (Scores W) c).withAfter left) 2 hdisj t (flush0_2 t) (ix3 0 ⟨n.val % 1344, hrn⟩ 0)
  have he : ((cfg0.win 2).blk t).view.emb (ix3 0 ⟨n.val % 1344, hrn⟩ 0) = ix3 (grid0.coords t 0) (padded n) 0 := by
    refine funext fun a => Fin.ext ?_
    fin_cases a <;> blk_simp [block0_2]
    · rfl
    · exact hr
  rw [he] at hl
  exact hl.trans ((congrFun (congrFun hleft t) _).trans (key hi))

end Cert.KernelIdeal.Own

end
-- ==== Proof.Value.Start.lean ====
/-
  What the reference has before its loop, on the extended reals: a box's score, the boxes' coordinates as real numbers
  where the arguments' are, and the zeros that the loop starts from.
-/
module

public import proofs.«01_k».proof.Proof.Value.Places
public import proofs.«01_k».proof.Proof.Gen.Pre_finite_boxes
public import Idealize.ShloMosaic.Lib.Pointwise
public import Idealize.ShloMosaic.Lib.ReduceAll

@[expose] public section

set_option maxRecDepth 16384

noncomputable section

namespace Cert.ReferenceIdeal.Step

open Cert.ReferenceIdeal Cert.ReferenceIdeal.Gen Cert.Detect
open Idealize.ShloMosaic Idealize.ShloMosaic.TcCoe

variable (a0 : (⟨S16x13x13x12, .f32⟩ : BufTy).Contents (Elt Ideal)) (a1 : (⟨S16x13x13x3, .f32⟩ : BufTy).Contents (Elt Ideal))
  (a2 : (⟨S16x13x13x240, .f32⟩ : BufTy).Contents (Elt Ideal)) (a3 : (⟨S16x26x26x12, .f32⟩ : BufTy).Contents (Elt Ideal))
  (a4 : (⟨S16x26x26x3, .f32⟩ : BufTy).Contents (Elt Ideal)) (a5 : (⟨S16x26x26x240, .f32⟩ : BufTy).Contents (Elt Ideal))
  (a6 : (⟨S16x52x52x12, .f32⟩ : BufTy).Contents (Elt Ideal)) (a7 : (⟨S16x52x52x3, .f32⟩ : BufTy).Contents (Elt Ideal))
  (a8 : (⟨S16x52x52x240, .f32⟩ : BufTy).Contents (Elt Ideal))

/-! ## Scores -/

/-- The first largest class of a box, for operands that are the operation's own. -/
theorem class_place (x : FVec Ideal S16x10647x80 .f32) (y : IVec S16x10647x80 32) (z : FVec Ideal S_ .f32) (w : IVec S_ 32)
    (hy : y = iotaInDim S16x10647x80 32 2) (hz : z = constant (F := Ideal) S_ .f32 0xFF800000#32) (hw : w = constantI S_ 32 0#32) (b : Fin 16) (n : Fin 10647) :
    ∃ i : Fin 80, (Host.argReduce reducer_argmax_f32_i32 x y z w
        reducesTo_S16x10647x80_S16x10647_d2 h_S_ (ix2 b n)).2 = BitVec.ofNat 32 i.val ∧ FirstMax (fun j => x (ix3 b n j)) i := by
  subst hy hz hw
  exact argmax_classes x b n

/-- The three operands that the search starts from. -/
theorem places_eq : @Eq (IVec S16x10647x80 32) (K_main_call0_v0 (F := Ideal)) (iotaInDim S16x10647x80 32 2) := rfl
theorem lowest_eq : @Eq (FVec Ideal S_ .f32) (K_main_call0_cst (F := Ideal)) (constant (F := Ideal) S_ .f32 0xFF800000#32) := rfl
theorem zero_eq : @Eq (IVec S_ 32) (K_main_call0_c (F := Ideal)) (constantI S_ 32 0#32) := rfl

/-- The same of a function that is given as an equation. -/
theorem class_place_of (f : IVec S16x10647 32) (x : FVec Ideal S16x10647x80 .f32) (y : IVec S16x10647x80 32) (z : FVec Ideal S_ .f32) (w : IVec S_ 32)
    (hy : y = iotaInDim S16x10647x80 32 2) (hz : z = constant (F := Ideal) S_ .f32 0xFF800000#32) (hw : w = constantI S_ 32 0#32)
    (hf : f = fun jj => (Host.argReduce (reducer_argmax_f32_i32 (F := Ideal)) x y z w reducesTo_S16x10647x80_S16x10647_d2 h_S_ jj).2) (b : Fin 16) (n : Fin 10647) :
    ∃ i : Fin 80, f (ix2 b n) = BitVec.ofNat 32 i.val ∧ FirstMax (fun j => x (ix3 b n j)) i := by
  obtain ⟨i, e, h⟩ := class_place x y z w hy hz hw b n
  exact ⟨i, (congrFun hf (ix2 b n)).trans e, h⟩

/-- The place of the first largest class score, as the reference finds it. -/
theorem class_eq (b : Fin 16) (n : Fin 10647) :
    ∃ i : Fin 80, A_main_v12 (F := Ideal) a0 a1 a2 a3 a4 a5 a6 a7 a8 (ix2 b n) = BitVec.ofNat 32 i.val
      ∧ FirstMax (fun j => A_main_v11 (F := Ideal) a0 a1 a2 a3 a4 a5 a6 a7 a8 (ix3 b n j)) i :=
  class_place_of (A_main_v12 (F := Ideal) a0 a1 a2 a3 a4 a5 a6 a7 a8) (A_main_v11 (F := Ideal) a0 a1 a2 a3 a4 a5 a6 a7 a8) _ _ _ places_eq lowest_eq zero_eq (by delta A_main_v12; exact rfl) b n

theorem product_at (p : (⟨S16x10647, .i32⟩ : BufTy).Contents (Elt Ideal)) (q : (⟨S16x10647x1, .f32⟩ : BufTy).Contents (Elt Ideal)) (b : Fin 16) (n : Fin 10647) :
    mulf (F := Ideal) (φ := .f32) (shapeCast S16x10647 q shapeCasts_S16x10647x1_S16x10647) (sitofp (F := Ideal) .f32 p) (ix2 b n)
      = q (ix3 b n 0) * FloatOps.sitofp (F := Ideal) .f32 (p (ix2 b n)) := by
  pointwise

/-- A box's score: its confidence times the place of its first largest class score. -/
theorem score_eq (b : Fin 16) (n : Fin 10647) :
    ∃ i : Fin 80, FirstMax (fun j => A_main_v11 (F := Ideal) a0 a1 a2 a3 a4 a5 a6 a7 a8 (ix3 b n j)) i
      ∧ A_main_v15 (F := Ideal) a0 a1 a2 a3 a4 a5 a6 a7 a8 (ix2 b n)
        = A_main_v7 (F := Ideal) a0 a1 a2 a3 a4 a5 a6 a7 a8 (ix3 b n 0) * FloatOps.sitofp (F := Ideal) .f32 (BitVec.ofNat 32 i.val) := by
  obtain ⟨i, e, hi⟩ := class_eq a0 a1 a2 a3 a4 a5 a6 a7 a8 b n
  refine ⟨i, hi, ?_⟩
  rw [← e]
  unfold A_main_v15 A_main_v14 A_main_v13
  exact product_at _ _ b n

/-- Before the loop a score below the threshold is that of "no box". -/
theorem start_score (b : Fin 16) (n : Fin 10647) :
    A_main_v18 (F := Ideal) a0 a1 a2 a3 a4 a5 a6 a7 a8 (ix2 b n)
      = Scalar.select (Ideal.cmp .ogt (A_main_v15 (F := Ideal) a0 a1 a2 a3 a4 a5 a6 a7 a8 (ix2 b n)) (Ideal.ofBits .f32 0x3E99999A#32))
          (A_main_v15 (F := Ideal) a0 a1 a2 a3 a4 a5 a6 a7 a8 (ix2 b n)) NEG := by
  unfold A_main_v18 A_main_v17
  generalize A_main_v15 (F := Ideal) a0 a1 a2 a3 a4 a5 a6 a7 a8 = p
  rfl

theorem start_boxes (b : Fin 16) (l : Fin 100) (q : Fin 4) : K_main_v22 (F := Ideal) (ix3 b l q) = 0 := Ideal.ofBits_zero_f32
theorem start_best (b : Fin 16) (l : Fin 100) : K_main_v23 (F := Ideal) (ix2 b l) = 0 := Ideal.ofBits_zero_f32
theorem start_class (l : S100.Idx) : K_main_v21 (F := Ideal) l = 0 := Ideal.ofBits_zero_f32
theorem start_count (b : Fin 16) : K_main_v24 (F := Ideal) (ix1 b) = 0 := Ideal.ofBits_zero_f32

/-! ## Real coordinates -/

/-- What holds of every entry of the parts holds of every entry of the joined array. -/
theorem concatenate_all {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) : P (concatenate t a xs h j) := by
  unfold concatenate
  exact hP _ (List.getElem_mem _) _

theorem boxes_real (h0 : ∀ i, IsReal (a0 i)) (h3 : ∀ i, IsReal (a3 i)) (h6 : ∀ i, IsReal (a6 i)) (j : S16x10647x4.Idx) :
    IsReal (A_main_v3 (F := Ideal) a0 a1 a2 a3 a4 a5 a6 a7 a8 j) := by
  unfold A_main_v3
  refine concatenate_all IsReal _ _ _ _ (fun p hp => ?_) j
  simp only [List.mem_cons, List.not_mem_nil, or_false] at hp
  rcases hp with rfl | rfl | rfl
  · exact fun i => h0 _
  · exact fun i => h3 _
  · exact fun i => h6 _

/-- An extended real whose absolute value lies below the largest is a real number. -/
theorem isReal_of_abs (x : EReal) (h : Ideal.cmp .olt (FloatOps.absf (F := Ideal) (φ := .f32) x) (Ideal.ofBits .f32 0x7F800000#32) = 1#1) : IsReal x := by
  have top : Ideal.ofBits .f32 0x7F800000#32 = ⊤ := by
    simp [Ideal.ofBits, Ideal.ieee]
  rw [top] at h
  induction x with
  | bot => exact absurd h (by simp [Ideal.cmp, FloatOps.absf])
  | top => exact absurd h (by simp [Ideal.cmp, FloatOps.absf])
  | coe r => exact ⟨r, rfl⟩

/-- The bits of "the absolute value lies below the largest" are all set: every entry is a real number. -/
theorem all_real {s : Shape} {axes : List (Fin s.rank)} (x : FVec Ideal s .f32) (y : FVec Ideal s .f32)
    (hy : ∀ i, y i = Ideal.ofBits .f32 0x7F800000#32) (init : S_.Idx → BitVec 1) (h : s.ReducesTo axes S_) (hu : 0 < S_.numel) (j : S_.Idx)
    (e : Host.reduce IntOp.andi (cmpf .olt (Host.absf x) y) init h hu j = 1#1) (i : s.Idx) : IsReal (x i) := by
  have hs : Subsingleton S_.Idx := ⟨fun a b => funext fun k => k.elim0⟩
  have b := Host.reduce_andi_all _ init h hu j e i
  refine isReal_of_abs (x i) ?_
  rw [← hy i]
  exact b

theorem finite_real (h : Cert.Pre_finite_boxes.fn (F := Ideal) a0 a1 a2 a3 a4 a5 a6 a7 a8 = fun _ => 1#1) :
    (∀ i, IsReal (a0 i)) ∧ (∀ i, IsReal (a3 i)) ∧ (∀ i, IsReal (a6 i)) := by
  have j : S_.Idx := fun k => k.elim0
  have e := congrFun h j
  unfold Cert.Pre_finite_boxes.fn at e
  obtain ⟨e', e6⟩ := IntOp.andi_eq_one.mp e
  obtain ⟨e0, e3⟩ := IntOp.andi_eq_one.mp e'
  exact ⟨all_real a0 _ (fun _ => rfl) _ _ _ j e0, all_real a3 _ (fun _ => rfl) _ _ _ j e3, all_real a6 _ (fun _ => rfl) _ _ _ j e6⟩

end Cert.ReferenceIdeal.Step

end
-- ==== Proof.Value.Result.lean ====
/-
  What the kernel's program leaves in its two results: what the reference makes of its loop's last state, when the
  boxes' coordinates are real numbers.
-/
module

public import proofs.«01_k».proof.Proof.Value.Host
public import proofs.«01_k».proof.Proof.Value.Finish
public import proofs.«01_k».proof.Proof.Value.Select
public import proofs.«01_k».proof.Proof.Value.Score
public import proofs.«01_k».proof.Proof.Value.Start

@[expose] public section

set_option maxRecDepth 16384

noncomputable section

namespace Cert.KernelIdeal.Own

open Cert.KernelIdeal Cert.KernelIdeal.Gen Cert.Detect
open Cert.ReferenceIdeal.Step (State init step R_main_v29 R_main_v30)
open Idealize.ShloMosaic Idealize.ShloMosaic.TcCoe

variable (m : (ℓ : Loc nD τ sig) → Buf (Elt Ideal) ℓ) (c : Dev nD)

/-- The state that the reference's loop starts from, for the kernel's arguments. -/
def startOf : State Ideal :=
  init (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The states that the reference's loop runs through. -/
def stateOf : ℕ → State Ideal
  | 0 => startOf m c
  | n + 1 => step n (stateOf n)

/-- The scores that the reference's loop starts from, for the kernel's arguments. -/
def scoresOf : S16x10647.Idx → Elt Ideal .f32 :=
  Cert.ReferenceIdeal.Step.A_main_v15 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem start_main_v25_3 (b : Fin 16) (n : Fin 10647) : (startOf m c).main_v25_3 (ix2 b n)
    = Scalar.select (Ideal.cmp .ogt (scoresOf m c (ix2 b n)) (Ideal.ofBits .f32 0x3E99999A#32)) (scoresOf m c (ix2 b n)) NEG :=
  Cert.ReferenceIdeal.Step.start_score _ _ _ _ _ _ _ _ _ b n

theorem start_main_v25_0 : (startOf m c).main_v25_0 = boxesOf m c := by
  unfold startOf init boxesOf
  with_reducible rfl

variable (S : S16x10752x1.Idx → Elt Ideal .f32)

/-- The score call leaves the reference's scores. -/
theorem scores_eq (hS : (rd0 (V1 m) (Scores (V1 m)) c).ArrAt 2 cfg0.N S) (b : Fin 16) (n : Fin 10647) :
    S (ix3 b (padded n) 0) = scoresOf m c (ix2 b n) := by
  obtain ⟨i, hi, e⟩ := Cert.ReferenceIdeal.Step.score_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b n
  have hc : clsIn (V1 m) c = classesOf m c := V1_main_v11 m c
  have hf : confIn (V1 m) c = confsOf m c := V1_main_v7 m c
  have h := scores_left (V1 m) c S hS b n i (by rw [hc]; exact hi)
  rw [h, hf]
  exact e.symm

/-- What the selection reads as scores. -/
theorem entry_score (hS : (rd0 (V1 m) (Scores (V1 m)) c).ArrAt 2 cfg0.N S) (b : Fin 16) (n : Fin 10647) :
    blk1 (entry1 m S) c 0 (ix2 b (padded n)) = scoresOf m c (ix2 b n) := by
  rw [blk1_0, entry1_main_v13, ← scores_eq m c S hS b n]
  pointwise

theorem entry_column0 (b : Fin 16) (n : Fin 10647) : blk1 (entry1 m S) c 1 (ix2 b (padded n)) = (stateOf m c 0).main_v25_0 (ix3 b n 0) := by
  rw [blk1_1, entry1_main_v16, padded_column0]
  exact (congrFun (start_main_v25_0 m c) (ix3 b n 0)).symm

theorem entry_column1 (b : Fin 16) (n : Fin 10647) : blk1 (entry1 m S) c 2 (ix2 b (padded n)) = (stateOf m c 0).main_v25_0 (ix3 b n 1) := by
  rw [blk1_2, entry1_main_v19, padded_column1]
  exact (congrFun (start_main_v25_0 m c) (ix3 b n 1)).symm

theorem entry_column2 (b : Fin 16) (n : Fin 10647) : blk1 (entry1 m S) c 3 (ix2 b (padded n)) = (stateOf m c 0).main_v25_0 (ix3 b n 2) := by
  rw [blk1_3, entry1_main_v22, padded_column2]
  exact (congrFun (start_main_v25_0 m c) (ix3 b n 2)).symm

theorem entry_column3 (b : Fin 16) (n : Fin 10647) : blk1 (entry1 m S) c 4 (ix2 b (padded n)) = (stateOf m c 0).main_v25_0 (ix3 b n 3) := by
  rw [blk1_4, entry1_main_v25, padded_column3]
  exact (congrFun (start_main_v25_0 m c) (ix3 b n 3)).symm

/-- After a hundred trips the kernel and the reference agree. -/
theorem agree_end (hS : (rd0 (V1 m) (Scores (V1 m)) c).ArrAt 2 cfg0.N S) (hr : ∀ j, IsReal (boxesOf m c j)) :
    Agree (nmsEnd (entry1 m S) c) (stateOf m c 100) := by
  unfold nmsEnd
  refine agree_iter _ _ _ _ _ (stateOf m c) (fun _ => rfl) ?_ (entry_column0 m c S) (entry_column1 m c S) (entry_column2 m c S) (entry_column3 m c S)
    (fun b n q => ?_) 100 le_rfl
  · refine agree_start _ _ _ _ _ _ (fun b n => ?_) Cert.ReferenceIdeal.Step.start_boxes Cert.ReferenceIdeal.Step.start_best
      Cert.ReferenceIdeal.Step.start_class Cert.ReferenceIdeal.Step.start_count
    rw [entry_score m c S hS b n]
    exact (start_main_v25_3 m c b n).symm
  · have e := congrFun (start_main_v25_0 m c) (ix3 b n q)
    show IsReal ((startOf m c).main_v25_0 (ix3 b n q))
    rw [e]
    exact hr _

/-- The selected boxes. -/
theorem result_boxes (hS : (rd0 (V1 m) (Scores (V1 m)) c).ArrAt 2 cfg0.N S) (hr : ∀ j, IsReal (boxesOf m c j)) :
    V12 m (outsOf m S) c (Proc.devRef .tc main_v36) = R_main_v29 (stateOf m c 100) := by
  rw [← boxesOut_eq (agree_end m c S hS hr), ← left1_0, ← left1_1, ← left1_2, ← left1_3, ← left1_4, ← V11_eq, ← V11_eq, ← V11_eq, ← V11_eq, ← V11_eq]
  unfold V12
  exact after_main_v36 _

/-- How many there are. -/
theorem result_count (hS : (rd0 (V1 m) (Scores (V1 m)) c).ArrAt 2 cfg0.N S) (hr : ∀ j, IsReal (boxesOf m c j)) :
    V12 m (outsOf m S) c (Proc.devRef .tc main_v38) = R_main_v30 (stateOf m c 100) := by
  rw [← countOut_eq (agree_end m c S hS hr), ← left1_5, ← V11_eq]
  unfold V12
  exact after_main_v38 _

end Cert.KernelIdeal.Own

end
-- ==== Proof.Equal.lean ====
/-
  The claim that the kernel's results are the reference's, on the extended reals, when the boxes' coordinates are finite.
-/
module

public import proofs.«01_k».proof.Proof.Frames
public import proofs.«01_k».proof.Proof.Value.Result

@[expose] public section

set_option maxRecDepth 16384

noncomputable section

namespace Cert.Proof

open Idealize.ShloMosaic Idealize.SL.Sem Cert.Detect

variable (m : (ℓ : Loc Cert.KernelIdeal.nD Cert.KernelIdeal.τ Cert.KernelIdeal.sig) → Buf (Elt Ideal) ℓ)

/-- The precondition makes every coordinate of the joined boxes a real number. -/
theorem boxes_of_pre (h : Pre_KernelIdeal_finite_boxes (hPre_finite_boxes := Cert.Pre_finite_boxes.Gen.facts) m) (c : Dev Cert.KernelIdeal.nD)
    (j : Cert.KernelIdeal.S16x10647x4.Idx) : IsReal (Cert.KernelIdeal.Own.boxesOf m c j) := by
  obtain ⟨h0, h3, h6⟩ := Cert.ReferenceIdeal.Step.finite_real _ _ _ _ _ _ _ _ _ (h c)
  exact Cert.ReferenceIdeal.Step.boxes_real _ _ _ _ _ _ _ _ _ h0 h3 h6 j

/-- The kernel's two results and its arguments, at the end. -/
theorem kernel_results (g : Dev Cert.KernelIdeal.nD → PrngReg)
    (h : Pre_KernelIdeal_finite_boxes (hPre_finite_boxes := Cert.Pre_finite_boxes.Gen.facts) m) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem ((c.tc : Thread Cert.KernelIdeal.nD Cert.KernelIdeal.τ).loc Cert.KernelIdeal.main_v36)
          = Cert.ReferenceIdeal.Step.R_main_v29 (Cert.KernelIdeal.Own.stateOf m c 100)
        ∧ r.2.mem ((c.tc : Thread Cert.KernelIdeal.nD Cert.KernelIdeal.τ).loc Cert.KernelIdeal.main_v38)
          = Cert.ReferenceIdeal.Step.R_main_v30 (Cert.KernelIdeal.Own.stateOf m c 100)
        ∧ ∃ S, ∀ b ∈ Pipeline.ucRefs Cert.KernelIdeal.τ Cert.KernelIdeal.sig,
            r.2.mem (c, b) = Cert.KernelIdeal.Gen.V12 m (Cert.KernelIdeal.Own.outsOf m S) c b :=
  (θ_run _ _ _).mono (fun _ q c => by
    obtain ⟨S, hS, hv⟩ := q.1 c
    exact ⟨(hv _ (Cert.KernelIdeal.Own.mem_ucRefs Cert.KernelIdeal.main_v36 rfl)).trans
        (Cert.KernelIdeal.Own.result_boxes m c S hS (boxes_of_pre m h c)),
      (hv _ (Cert.KernelIdeal.Own.mem_ucRefs Cert.KernelIdeal.main_v38 rfl)).trans
        (Cert.KernelIdeal.Own.result_count m c S hS (boxes_of_pre m h c)), S, hv⟩)
    (Cert.KernelIdeal.Own.run m (Cert.KernelIdeal.Own.Scores (Cert.KernelIdeal.Gen.V1 m))
      (Cert.KernelIdeal.Own.scores_admitted (Cert.KernelIdeal.Gen.V1 m)) g)

/-- With the same arguments the reference's loop runs through the same states. -/
theorem refIt_eq (m' : (ℓ : Loc Cert.ReferenceIdeal.nD Cert.ReferenceIdeal.τ Cert.ReferenceIdeal.sig) → Buf (Elt Ideal) ℓ)
    (c : Dev Cert.KernelIdeal.nD) (e : Cert.ReferenceIdeal.StepRun.initState m' c = Cert.KernelIdeal.Own.startOf m c) :
    ∀ n, refIt m' c n = Cert.KernelIdeal.Own.stateOf m c n
  | 0 => e
  | n + 1 => congrArg (Cert.ReferenceIdeal.Step.step n) (refIt_eq m' c e n)

theorem kernel_equal : algebraic_KernelIdeal_ReferenceIdeal_pre_finite_boxes (hKernelIdeal := Cert.KernelIdeal.Gen.facts)
    (hReferenceIdeal := Cert.ReferenceIdeal.Gen.facts) (hPre_finite_boxes := Cert.Pre_finite_boxes.Gen.facts) := by
  intro m g m' g' hp ha
  refine ⟨fun c => Cert.ReferenceIdeal.Step.R_main_v29 (Cert.KernelIdeal.Own.stateOf m c 100),
    fun c => Cert.ReferenceIdeal.Step.R_main_v30 (Cert.KernelIdeal.Own.stateOf m c 100), ?_, ?_⟩
  · refine (θ_run _ _ _).mono (fun r q c => ?_) (kernel_results m g hp)
    obtain ⟨e, e', S, hv⟩ := q c
    exact ⟨e, e',
      (hv _ (Cert.KernelIdeal.Own.mem_ucRefs Cert.KernelIdeal.main_arg0 rfl)).trans (Cert.KernelIdeal.Gen.V12_main_arg0 m _ c),
      (hv _ (Cert.KernelIdeal.Own.mem_ucRefs Cert.KernelIdeal.main_arg1 rfl)).trans (Cert.KernelIdeal.Gen.V12_main_arg1 m _ c),
      (hv _ (Cert.KernelIdeal.Own.mem_ucRefs Cert.KernelIdeal.main_arg2 rfl)).trans (Cert.KernelIdeal.Gen.V12_main_arg2 m _ c),
      (hv _ (Cert.KernelIdeal.Own.mem_ucRefs Cert.KernelIdeal.main_arg3 rfl)).trans (Cert.KernelIdeal.Gen.V12_main_arg3 m _ c),
      (hv _ (Cert.KernelIdeal.Own.mem_ucRefs Cert.KernelIdeal.main_arg4 rfl)).trans (Cert.KernelIdeal.Gen.V12_main_arg4 m _ c),
      (hv _ (Cert.KernelIdeal.Own.mem_ucRefs Cert.KernelIdeal.main_arg5 rfl)).trans (Cert.KernelIdeal.Gen.V12_main_arg5 m _ c),
      (hv _ (Cert.KernelIdeal.Own.mem_ucRefs Cert.KernelIdeal.main_arg6 rfl)).trans (Cert.KernelIdeal.Gen.V12_main_arg6 m _ c),
      (hv _ (Cert.KernelIdeal.Own.mem_ucRefs Cert.KernelIdeal.main_arg7 rfl)).trans (Cert.KernelIdeal.Gen.V12_main_arg7 m _ c),
      (hv _ (Cert.KernelIdeal.Own.mem_ucRefs Cert.KernelIdeal.main_arg8 rfl)).trans (Cert.KernelIdeal.Gen.V12_main_arg8 m _ c)⟩
  · have es : ∀ c, refIt m' c 100 = Cert.KernelIdeal.Own.stateOf m c 100 := fun c => by
      refine refIt_eq m m' c ?_ 100
      obtain ⟨h0, h1, h2, h3, h4, h5, h6, h7, h8⟩ := ha c
      unfold Cert.ReferenceIdeal.StepRun.initState Cert.KernelIdeal.Own.startOf
      rw [h0, h1, h2, h3, h4, h5, h6, h7, h8]
    refine (θ_run _ _ _).mono (fun r q c => ?_) (Cert.ReferenceIdeal.StepRun.run_iter m' g' (refIt m') (fun _ => rfl) (fun _ _ => rfl))
    obtain ⟨e, e', hargs⟩ := q c
    exact ⟨e.trans (congrArg Cert.ReferenceIdeal.Step.R_main_v29 (es c)), e'.trans (congrArg Cert.ReferenceIdeal.Step.R_main_v30 (es c)), hargs⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_boxes
public import proofs.«01_k».proof.Proof.Frames
public import proofs.«01_k».proof.Proof.Equal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_finite_boxes.Gen.facts,
    kernel_quiet, kernelIdeal_quiet, kernelIdeal_quiet_pre, reference_quiet, reference_quiet_pre, trivial, kernel_equal⟩

end Cert.Proof

end
